-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_ProjAttn (m : (ℓ : Loc Cert.ProjAttn.nD Cert.ProjAttn.τ Cert.ProjAttn.sig) → Buf (Elt Bits) ℓ) : Prop :=
  True

def Pre_ProjAttnIdeal (m : (ℓ : Loc Cert.ProjAttnIdeal.nD Cert.ProjAttnIdeal.τ Cert.ProjAttnIdeal.sig) → Buf (Elt Ideal) ℓ) : Prop :=
  True

def Pre_ProjAttnRefIdeal (m : (ℓ : Loc Cert.ProjAttnRefIdeal.nD Cert.ProjAttnRefIdeal.τ Cert.ProjAttnRefIdeal.sig) → Buf (Elt Ideal) ℓ) : Prop :=
  True

def Pre_ProjDn (m : (ℓ : Loc Cert.ProjDn.nD Cert.ProjDn.τ Cert.ProjDn.sig) → Buf (Elt Bits) ℓ) : Prop :=
  True

def Pre_ProjDnIdeal (m : (ℓ : Loc Cert.ProjDnIdeal.nD Cert.ProjDnIdeal.τ Cert.ProjDnIdeal.sig) → Buf (Elt Ideal) ℓ) : Prop :=
  True

def Pre_ProjDnRefIdeal (m : (ℓ : Loc Cert.ProjDnRefIdeal.nD Cert.ProjDnRefIdeal.τ Cert.ProjDnRefIdeal.sig) → Buf (Elt Ideal) ℓ) : Prop :=
  True

def Pre_ProjAb (m : (ℓ : Loc Cert.ProjAb.nD Cert.ProjAb.τ Cert.ProjAb.sig) → Buf (Elt Bits) ℓ) : Prop :=
  True

def Pre_ProjAbIdeal (m : (ℓ : Loc Cert.ProjAbIdeal.nD Cert.ProjAbIdeal.τ Cert.ProjAbIdeal.sig) → Buf (Elt Ideal) ℓ) : Prop :=
  True

def Pre_ProjAbRefIdeal (m : (ℓ : Loc Cert.ProjAbRefIdeal.nD Cert.ProjAbRefIdeal.τ Cert.ProjAbRefIdeal.sig) → Buf (Elt Ideal) ℓ) : Prop :=
  True

def Pre_ProjGate (m : (ℓ : Loc Cert.ProjGate.nD Cert.ProjGate.τ Cert.ProjGate.sig) → Buf (Elt Bits) ℓ) : Prop :=
  True

def Pre_ProjGateIdeal (m : (ℓ : Loc Cert.ProjGateIdeal.nD Cert.ProjGateIdeal.τ Cert.ProjGateIdeal.sig) → Buf (Elt Ideal) ℓ) : Prop :=
  True

def Pre_ProjGateRefIdeal (m : (ℓ : Loc Cert.ProjGateRefIdeal.nD Cert.ProjGateRefIdeal.τ Cert.ProjGateRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_PeerQ (m : (ℓ : Loc Cert.PeerQ.nD Cert.PeerQ.τ Cert.PeerQ.sig) → Buf (Elt Bits) ℓ) : Prop :=
  True

def Pre_PeerQIdeal (m : (ℓ : Loc Cert.PeerQIdeal.nD Cert.PeerQIdeal.τ Cert.PeerQIdeal.sig) → Buf (Elt Ideal) ℓ) : Prop :=
  True

def Pre_PeerQRefIdeal (m : (ℓ : Loc Cert.PeerQRefIdeal.nD Cert.PeerQRefIdeal.τ Cert.PeerQRefIdeal.sig) → Buf (Elt Ideal) ℓ) : Prop :=
  True

def Pre_LastPrompt (m : (ℓ : Loc Cert.LastPrompt.nD Cert.LastPrompt.τ Cert.LastPrompt.sig) → Buf (Elt Bits) ℓ) : Prop :=
  True

def Pre_LastPromptIdeal (m : (ℓ : Loc Cert.LastPromptIdeal.nD Cert.LastPromptIdeal.τ Cert.LastPromptIdeal.sig) → Buf (Elt Ideal) ℓ) : Prop :=
  True

def Pre_LastPromptRefIdeal (m : (ℓ : Loc Cert.LastPromptRefIdeal.nD Cert.LastPromptRefIdeal.τ Cert.LastPromptRefIdeal.sig) → Buf (Elt Ideal) ℓ) : Prop :=
  True

def Pre_LastSample (m : (ℓ : Loc Cert.LastSample.nD Cert.LastSample.τ Cert.LastSample.sig) → Buf (Elt Bits) ℓ) : Prop :=
  True

def Pre_LastSampleIdeal (m : (ℓ : Loc Cert.LastSampleIdeal.nD Cert.LastSampleIdeal.τ Cert.LastSampleIdeal.sig) → Buf (Elt Ideal) ℓ) : Prop :=
  True

def Pre_LastSampleRefIdeal (m : (ℓ : Loc Cert.LastSampleRefIdeal.nD Cert.LastSampleRefIdeal.τ Cert.LastSampleRefIdeal.sig) → Buf (Elt Ideal) ℓ) : Prop :=
  True

def Pre_LnMod (m : (ℓ : Loc Cert.LnMod.nD Cert.LnMod.τ Cert.LnMod.sig) → Buf (Elt Bits) ℓ) : Prop :=
  True

def Pre_LnModIdeal (m : (ℓ : Loc Cert.LnModIdeal.nD Cert.LnModIdeal.τ Cert.LnModIdeal.sig) → Buf (Elt Ideal) ℓ) : Prop :=
  True

def Pre_LnModRefIdeal (m : (ℓ : Loc Cert.LnModRefIdeal.nD Cert.LnModRefIdeal.τ Cert.LnModRefIdeal.sig) → Buf (Elt Ideal) ℓ) : Prop :=
  True

def Pre_FirstRes (m : (ℓ : Loc Cert.FirstRes.nD Cert.FirstRes.τ Cert.FirstRes.sig) → Buf (Elt Bits) ℓ) : Prop :=
  True

def Pre_FirstResIdeal (m : (ℓ : Loc Cert.FirstResIdeal.nD Cert.FirstResIdeal.τ Cert.FirstResIdeal.sig) → Buf (Elt Ideal) ℓ) : Prop :=
  True

def Pre_FirstResRefIdeal (m : (ℓ : Loc Cert.FirstResRefIdeal.nD Cert.FirstResRefIdeal.τ Cert.FirstResRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutRefIdeal (m : (ℓ : Loc Cert.GdnOutRefIdeal.nD Cert.GdnOutRefIdeal.τ Cert.GdnOutRefIdeal.sig) → Buf (Elt Ideal) ℓ) : Prop :=
  True

def Pre_PeerDense (m : (ℓ : Loc Cert.PeerDense.nD Cert.PeerDense.τ Cert.PeerDense.sig) → Buf (Elt Bits) ℓ) : Prop :=
  True

def Pre_PeerDenseIdeal (m : (ℓ : Loc Cert.PeerDenseIdeal.nD Cert.PeerDenseIdeal.τ Cert.PeerDenseIdeal.sig) → Buf (Elt Ideal) ℓ) : Prop :=
  True

def Pre_PeerDenseRefIdeal (m : (ℓ : Loc Cert.PeerDenseRefIdeal.nD Cert.PeerDenseRefIdeal.τ Cert.PeerDenseRefIdeal.sig) → Buf (Elt Ideal) ℓ) : Prop :=
  True

def Pre_DnConv (m : (ℓ : Loc Cert.DnConv.nD Cert.DnConv.τ Cert.DnConv.sig) → Buf (Elt Bits) ℓ) : Prop :=
  True

def Pre_DnConvIdeal (m : (ℓ : Loc Cert.DnConvIdeal.nD Cert.DnConvIdeal.τ Cert.DnConvIdeal.sig) → Buf (Elt Ideal) ℓ) : Prop :=
  True

def Pre_DnConvRefIdeal (m : (ℓ : Loc Cert.DnConvRefIdeal.nD Cert.DnConvRefIdeal.τ Cert.DnConvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ProjAttn [hProjAttn : Cert.ProjAttn.Facts] : Prop :=
  ∀ (m : (ℓ : Loc Cert.ProjAttn.nD Cert.ProjAttn.τ Cert.ProjAttn.sig) → Buf (Elt Bits) ℓ) (g : Dev Cert.ProjAttn.nD → PrngReg), Pre_ProjAttn m →
    θ_run (Cert.ProjAttn.defs (F := Bits)) (onTc (τ := Cert.ProjAttn.τ) (Cert.ProjAttn.main (F := Bits))) ⟨m, fun _ => 0, g⟩ (fun r => (∀ c : Dev Cert.ProjAttn.nD,
      r.2.mem ((c.tc : Thread Cert.ProjAttn.nD Cert.ProjAttn.τ).loc Cert.ProjAttn.main_arg0) = m ((c.tc : Thread Cert.ProjAttn.nD Cert.ProjAttn.τ).loc Cert.ProjAttn.main_arg0)
      ∧ r.2.mem ((c.tc : Thread Cert.ProjAttn.nD Cert.ProjAttn.τ).loc Cert.ProjAttn.main_arg1) = m ((c.tc : Thread Cert.ProjAttn.nD Cert.ProjAttn.τ).loc Cert.ProjAttn.main_arg1))
      ∧ r.2.sem = fun _ => 0)

def quiescent_ProjAttnIdeal [hProjAttnIdeal : Cert.ProjAttnIdeal.Facts] : Prop :=
  ∀ (m : (ℓ : Loc Cert.ProjAttnIdeal.nD Cert.ProjAttnIdeal.τ Cert.ProjAttnIdeal.sig) → Buf (Elt Ideal) ℓ) (g : Dev Cert.ProjAttnIdeal.nD → PrngReg), Pre_ProjAttnIdeal m →
    θ_run (Cert.ProjAttnIdeal.defs (F := Ideal)) (onTc (τ := Cert.ProjAttnIdeal.τ) (Cert.ProjAttnIdeal.main (F := Ideal))) ⟨m, fun _ => 0, g⟩ (fun r => (∀ c : Dev Cert.ProjAttnIdeal.nD,
      r.2.mem ((c.tc : Thread Cert.ProjAttnIdeal.nD Cert.ProjAttnIdeal.τ).loc Cert.ProjAttnIdeal.main_arg0) = m ((c.tc : Thread Cert.ProjAttnIdeal.nD Cert.ProjAttnIdeal.τ).loc Cert.ProjAttnIdeal.main_arg0)
      ∧ r.2.mem ((c.tc : Thread Cert.ProjAttnIdeal.nD Cert.ProjAttnIdeal.τ).loc Cert.ProjAttnIdeal.main_arg1) = m ((c.tc : Thread Cert.ProjAttnIdeal.nD Cert.ProjAttnIdeal.τ).loc Cert.ProjAttnIdeal.main_arg1))
      ∧ r.2.sem = fun _ => 0)

def quiescent_ProjAttnRefIdeal [hProjAttnRefIdeal : Cert.ProjAttnRefIdeal.Facts] : Prop :=
  ∀ (m : (ℓ : Loc Cert.ProjAttnRefIdeal.nD Cert.ProjAttnRefIdeal.τ Cert.ProjAttnRefIdeal.sig) → Buf (Elt Ideal) ℓ) (g : Dev Cert.ProjAttnRefIdeal.nD → PrngReg), Pre_ProjAttnRefIdeal m →
    θ_run (Cert.ProjAttnRefIdeal.defs (F := Ideal)) (onTc (τ := Cert.ProjAttnRefIdeal.τ) (Cert.ProjAttnRefIdeal.main (F := Ideal))) ⟨m, fun _ => 0, g⟩ (fun r => (∀ c : Dev Cert.ProjAttnRefIdeal.nD,
      r.2.mem ((c.tc : Thread Cert.ProjAttnRefIdeal.nD Cert.ProjAttnRefIdeal.τ).loc Cert.ProjAttnRefIdeal.main_arg0) = m ((c.tc : Thread Cert.ProjAttnRefIdeal.nD Cert.ProjAttnRefIdeal.τ).loc Cert.ProjAttnRefIdeal.main_arg0)
      ∧ r.2.mem ((c.tc : Thread Cert.ProjAttnRefIdeal.nD Cert.ProjAttnRefIdeal.τ).loc Cert.ProjAttnRefIdeal.main_arg1) = m ((c.tc : Thread Cert.ProjAttnRefIdeal.nD Cert.ProjAttnRefIdeal.τ).loc Cert.ProjAttnRefIdeal.main_arg1))
      ∧ r.2.sem = fun _ => 0)

def quiescent_ProjDn [hProjDn : Cert.ProjDn.Facts] : Prop :=
  ∀ (m : (ℓ : Loc Cert.ProjDn.nD Cert.ProjDn.τ Cert.ProjDn.sig) → Buf (Elt Bits) ℓ) (g : Dev Cert.ProjDn.nD → PrngReg), Pre_ProjDn m →
    θ_run (Cert.ProjDn.defs (F := Bits)) (onTc (τ := Cert.ProjDn.τ) (Cert.ProjDn.main (F := Bits))) ⟨m, fun _ => 0, g⟩ (fun r => (∀ c : Dev Cert.ProjDn.nD,
      r.2.mem ((c.tc : Thread Cert.ProjDn.nD Cert.ProjDn.τ).loc Cert.ProjDn.main_arg0) = m ((c.tc : Thread Cert.ProjDn.nD Cert.ProjDn.τ).loc Cert.ProjDn.main_arg0)
      ∧ r.2.mem ((c.tc : Thread Cert.ProjDn.nD Cert.ProjDn.τ).loc Cert.ProjDn.main_arg1) = m ((c.tc : Thread Cert.ProjDn.nD Cert.ProjDn.τ).loc Cert.ProjDn.main_arg1))
      ∧ r.2.sem = fun _ => 0)

def quiescent_ProjDnIdeal [hProjDnIdeal : Cert.ProjDnIdeal.Facts] : Prop :=
  ∀ (m : (ℓ : Loc Cert.ProjDnIdeal.nD Cert.ProjDnIdeal.τ Cert.ProjDnIdeal.sig) → Buf (Elt Ideal) ℓ) (g : Dev Cert.ProjDnIdeal.nD → PrngReg), Pre_ProjDnIdeal m →
    θ_run (Cert.ProjDnIdeal.defs (F := Ideal)) (onTc (τ := Cert.ProjDnIdeal.τ) (Cert.ProjDnIdeal.main (F := Ideal))) ⟨m, fun _ => 0, g⟩ (fun r => (∀ c : Dev Cert.ProjDnIdeal.nD,
      r.2.mem ((c.tc : Thread Cert.ProjDnIdeal.nD Cert.ProjDnIdeal.τ).loc Cert.ProjDnIdeal.main_arg0) = m ((c.tc : Thread Cert.ProjDnIdeal.nD Cert.ProjDnIdeal.τ).loc Cert.ProjDnIdeal.main_arg0)
      ∧ r.2.mem ((c.tc : Thread Cert.ProjDnIdeal.nD Cert.ProjDnIdeal.τ).loc Cert.ProjDnIdeal.main_arg1) = m ((c.tc : Thread Cert.ProjDnIdeal.nD Cert.ProjDnIdeal.τ).loc Cert.ProjDnIdeal.main_arg1))
      ∧ r.2.sem = fun _ => 0)

def quiescent_ProjDnRefIdeal [hProjDnRefIdeal : Cert.ProjDnRefIdeal.Facts] : Prop :=
  ∀ (m : (ℓ : Loc Cert.ProjDnRefIdeal.nD Cert.ProjDnRefIdeal.τ Cert.ProjDnRefIdeal.sig) → Buf (Elt Ideal) ℓ) (g : Dev Cert.ProjDnRefIdeal.nD → PrngReg), Pre_ProjDnRefIdeal m →
    θ_run (Cert.ProjDnRefIdeal.defs (F := Ideal)) (onTc (τ := Cert.ProjDnRefIdeal.τ) (Cert.ProjDnRefIdeal.main (F := Ideal))) ⟨m, fun _ => 0, g⟩ (fun r => (∀ c : Dev Cert.ProjDnRefIdeal.nD,
      r.2.mem ((c.tc : Thread Cert.ProjDnRefIdeal.nD Cert.ProjDnRefIdeal.τ).loc Cert.ProjDnRefIdeal.main_arg0) = m ((c.tc : Thread Cert.ProjDnRefIdeal.nD Cert.ProjDnRefIdeal.τ).loc Cert.ProjDnRefIdeal.main_arg0)
      ∧ r.2.mem ((c.tc : Thread Cert.ProjDnRefIdeal.nD Cert.ProjDnRefIdeal.τ).loc Cert.ProjDnRefIdeal.main_arg1) = m ((c.tc : Thread Cert.ProjDnRefIdeal.nD Cert.ProjDnRefIdeal.τ).loc Cert.ProjDnRefIdeal.main_arg1))
      ∧ r.2.sem = fun _ => 0)

def quiescent_ProjAb [hProjAb : Cert.ProjAb.Facts] : Prop :=
  ∀ (m : (ℓ : Loc Cert.ProjAb.nD Cert.ProjAb.τ Cert.ProjAb.sig) → Buf (Elt Bits) ℓ) (g : Dev Cert.ProjAb.nD → PrngReg), Pre_ProjAb m →
    θ_run (Cert.ProjAb.defs (F := Bits)) (onTc (τ := Cert.ProjAb.τ) (Cert.ProjAb.main (F := Bits))) ⟨m, fun _ => 0, g⟩ (fun r => (∀ c : Dev Cert.ProjAb.nD,
      r.2.mem ((c.tc : Thread Cert.ProjAb.nD Cert.ProjAb.τ).loc Cert.ProjAb.main_arg0) = m ((c.tc : Thread Cert.ProjAb.nD Cert.ProjAb.τ).loc Cert.ProjAb.main_arg0)
      ∧ r.2.mem ((c.tc : Thread Cert.ProjAb.nD Cert.ProjAb.τ).loc Cert.ProjAb.main_arg1) = m ((c.tc : Thread Cert.ProjAb.nD Cert.ProjAb.τ).loc Cert.ProjAb.main_arg1))
      ∧ r.2.sem = fun _ => 0)

def quiescent_ProjAbIdeal [hProjAbIdeal : Cert.ProjAbIdeal.Facts] : Prop :=
  ∀ (m : (ℓ : Loc Cert.ProjAbIdeal.nD Cert.ProjAbIdeal.τ Cert.ProjAbIdeal.sig) → Buf (Elt Ideal) ℓ) (g : Dev Cert.ProjAbIdeal.nD → PrngReg), Pre_ProjAbIdeal m →
    θ_run (Cert.ProjAbIdeal.defs (F := Ideal)) (onTc (τ := Cert.ProjAbIdeal.τ) (Cert.ProjAbIdeal.main (F := Ideal))) ⟨m, fun _ => 0, g⟩ (fun r => (∀ c : Dev Cert.ProjAbIdeal.nD,
      r.2.mem ((c.tc : Thread Cert.ProjAbIdeal.nD Cert.ProjAbIdeal.τ).loc Cert.ProjAbIdeal.main_arg0) = m ((c.tc : Thread Cert.ProjAbIdeal.nD Cert.ProjAbIdeal.τ).loc Cert.ProjAbIdeal.main_arg0)
      ∧ r.2.mem ((c.tc : Thread Cert.ProjAbIdeal.nD Cert.ProjAbIdeal.τ).loc Cert.ProjAbIdeal.main_arg1) = m ((c.tc : Thread Cert.ProjAbIdeal.nD Cert.ProjAbIdeal.τ).loc Cert.ProjAbIdeal.main_arg1))
      ∧ r.2.sem = fun _ => 0)

def quiescent_ProjAbRefIdeal [hProjAbRefIdeal : Cert.ProjAbRefIdeal.Facts] : Prop :=
  ∀ (m : (ℓ : Loc Cert.ProjAbRefIdeal.nD Cert.ProjAbRefIdeal.τ Cert.ProjAbRefIdeal.sig) → Buf (Elt Ideal) ℓ) (g : Dev Cert.ProjAbRefIdeal.nD → PrngReg), Pre_ProjAbRefIdeal m →
    θ_run (Cert.ProjAbRefIdeal.defs (F := Ideal)) (onTc (τ := Cert.ProjAbRefIdeal.τ) (Cert.ProjAbRefIdeal.main (F := Ideal))) ⟨m, fun _ => 0, g⟩ (fun r => (∀ c : Dev Cert.ProjAbRefIdeal.nD,
      r.2.mem ((c.tc : Thread Cert.ProjAbRefIdeal.nD Cert.ProjAbRefIdeal.τ).loc Cert.ProjAbRefIdeal.main_arg0) = m ((c.tc : Thread Cert.ProjAbRefIdeal.nD Cert.ProjAbRefIdeal.τ).loc Cert.ProjAbRefIdeal.main_arg0)
      ∧ r.2.mem ((c.tc : Thread Cert.ProjAbRefIdeal.nD Cert.ProjAbRefIdeal.τ).loc Cert.ProjAbRefIdeal.main_arg1) = m ((c.tc : Thread Cert.ProjAbRefIdeal.nD Cert.ProjAbRefIdeal.τ).loc Cert.ProjAbRefIdeal.main_arg1))
      ∧ r.2.sem = fun _ => 0)

def quiescent_ProjGate [hProjGate : Cert.ProjGate.Facts] : Prop :=
  ∀ (m : (ℓ : Loc Cert.ProjGate.nD Cert.ProjGate.τ Cert.ProjGate.sig) → Buf (Elt Bits) ℓ) (g : Dev Cert.ProjGate.nD → PrngReg), Pre_ProjGate m →
    θ_run (Cert.ProjGate.defs (F := Bits)) (onTc (τ := Cert.ProjGate.τ) (Cert.ProjGate.main (F := Bits))) ⟨m, fun _ => 0, g⟩ (fun r => (∀ c : Dev Cert.ProjGate.nD,
      r.2.mem ((c.tc : Thread Cert.ProjGate.nD Cert.ProjGate.τ).loc Cert.ProjGate.main_arg0) = m ((c.tc : Thread Cert.ProjGate.nD Cert.ProjGate.τ).loc Cert.ProjGate.main_arg0)
      ∧ r.2.mem ((c.tc : Thread Cert.ProjGate.nD Cert.ProjGate.τ).loc Cert.ProjGate.main_arg1) = m ((c.tc : Thread Cert.ProjGate.nD Cert.ProjGate.τ).loc Cert.ProjGate.main_arg1))
      ∧ r.2.sem = fun _ => 0)

def quiescent_ProjGateIdeal [hProjGateIdeal : Cert.ProjGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg), Pre_ProjGateIdeal m →
    θ_run (Cert.ProjGateIdeal.defs (F := Ideal)) (onTc (τ := Cert.ProjGateIdeal.τ) (Cert.ProjGateIdeal.main (F := Ideal))) ⟨m, fun _ => 0, g⟩ (fun r => (∀ c : Dev Cert.ProjGateIdeal.nD,
      r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
      ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ r.2.sem = fun _ => 0)

def quiescent_ProjGateRefIdeal [hProjGateRefIdeal : Cert.ProjGateRefIdeal.Facts] : Prop :=
  ∀ (m : (ℓ : Loc Cert.ProjGateRefIdeal.nD Cert.ProjGateRefIdeal.τ Cert.ProjGateRefIdeal.sig) → Buf (Elt Ideal) ℓ) (g : Dev Cert.ProjGateRefIdeal.nD → PrngReg), Pre_ProjGateRefIdeal m →
    θ_run (Cert.ProjGateRefIdeal.defs (F := Ideal)) (onTc (τ := Cert.ProjGateRefIdeal.τ) (Cert.ProjGateRefIdeal.main (F := Ideal))) ⟨m, fun _ => 0, g⟩ (fun r => (∀ c : Dev Cert.ProjGateRefIdeal.nD,
      r.2.mem ((c.tc : Thread Cert.ProjGateRefIdeal.nD Cert.ProjGateRefIdeal.τ).loc Cert.ProjGateRefIdeal.main_arg0) = m ((c.tc : Thread Cert.ProjGateRefIdeal.nD Cert.ProjGateRefIdeal.τ).loc Cert.ProjGateRefIdeal.main_arg0)
      ∧ r.2.mem ((c.tc : Thread Cert.ProjGateRefIdeal.nD Cert.ProjGateRefIdeal.τ).loc Cert.ProjGateRefIdeal.main_arg1) = m ((c.tc : Thread Cert.ProjGateRefIdeal.nD Cert.ProjGateRefIdeal.τ).loc Cert.ProjGateRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_PeerQ [hPeerQ : Cert.PeerQ.Facts] : Prop :=
  ∀ (m : (ℓ : Loc Cert.PeerQ.nD Cert.PeerQ.τ Cert.PeerQ.sig) → Buf (Elt Bits) ℓ) (g : Dev Cert.PeerQ.nD → PrngReg), Pre_PeerQ m →
    θ_run (Cert.PeerQ.defs (F := Bits)) (onTc (τ := Cert.PeerQ.τ) (Cert.PeerQ.main (F := Bits))) ⟨m, fun _ => 0, g⟩ (fun r => (∀ c : Dev Cert.PeerQ.nD,
      r.2.mem ((c.tc : Thread Cert.PeerQ.nD Cert.PeerQ.τ).loc Cert.PeerQ.main_arg0) = m ((c.tc : Thread Cert.PeerQ.nD Cert.PeerQ.τ).loc Cert.PeerQ.main_arg0)
      ∧ r.2.mem ((c.tc : Thread Cert.PeerQ.nD Cert.PeerQ.τ).loc Cert.PeerQ.main_arg1) = m ((c.tc : Thread Cert.PeerQ.nD Cert.PeerQ.τ).loc Cert.PeerQ.main_arg1))
      ∧ r.2.sem = fun _ => 0)

def quiescent_PeerQIdeal [hPeerQIdeal : Cert.PeerQIdeal.Facts] : Prop :=
  ∀ (m : (ℓ : Loc Cert.PeerQIdeal.nD Cert.PeerQIdeal.τ Cert.PeerQIdeal.sig) → Buf (Elt Ideal) ℓ) (g : Dev Cert.PeerQIdeal.nD → PrngReg), Pre_PeerQIdeal m →
    θ_run (Cert.PeerQIdeal.defs (F := Ideal)) (onTc (τ := Cert.PeerQIdeal.τ) (Cert.PeerQIdeal.main (F := Ideal))) ⟨m, fun _ => 0, g⟩ (fun r => (∀ c : Dev Cert.PeerQIdeal.nD,
      r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
      ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1))
      ∧ r.2.sem = fun _ => 0)

def quiescent_PeerQRefIdeal [hPeerQRefIdeal : Cert.PeerQRefIdeal.Facts] : Prop :=
  ∀ (m : (ℓ : Loc Cert.PeerQRefIdeal.nD Cert.PeerQRefIdeal.τ Cert.PeerQRefIdeal.sig) → Buf (Elt Ideal) ℓ) (g : Dev Cert.PeerQRefIdeal.nD → PrngReg), Pre_PeerQRefIdeal m →
    θ_run (Cert.PeerQRefIdeal.defs (F := Ideal)) (onTc (τ := Cert.PeerQRefIdeal.τ) (Cert.PeerQRefIdeal.main (F := Ideal))) ⟨m, fun _ => 0, g⟩ (fun r => (∀ c : Dev Cert.PeerQRefIdeal.nD,
      r.2.mem ((c.tc : Thread Cert.PeerQRefIdeal.nD Cert.PeerQRefIdeal.τ).loc Cert.PeerQRefIdeal.main_arg0) = m ((c.tc : Thread Cert.PeerQRefIdeal.nD Cert.PeerQRefIdeal.τ).loc Cert.PeerQRefIdeal.main_arg0)
      ∧ r.2.mem ((c.tc : Thread Cert.PeerQRefIdeal.nD Cert.PeerQRefIdeal.τ).loc Cert.PeerQRefIdeal.main_arg1) = m ((c.tc : Thread Cert.PeerQRefIdeal.nD Cert.PeerQRefIdeal.τ).loc Cert.PeerQRefIdeal.main_arg1))
      ∧ r.2.sem = fun _ => 0)

def quiescent_LastPrompt [hLastPrompt : Cert.LastPrompt.Facts] : Prop :=
  ∀ (m : (ℓ : Loc Cert.LastPrompt.nD Cert.LastPrompt.τ Cert.LastPrompt.sig) → Buf (Elt Bits) ℓ) (g : Dev Cert.LastPrompt.nD → PrngReg), Pre_LastPrompt m →
    θ_run (Cert.LastPrompt.defs (F := Bits)) (onTc (τ := Cert.LastPrompt.τ) (Cert.LastPrompt.main (F := Bits))) ⟨m, fun _ => 0, g⟩ (fun r => (∀ c : Dev Cert.LastPrompt.nD,
      r.2.mem ((c.tc : Thread Cert.LastPrompt.nD Cert.LastPrompt.τ).loc Cert.LastPrompt.main_arg0) = m ((c.tc : Thread Cert.LastPrompt.nD Cert.LastPrompt.τ).loc Cert.LastPrompt.main_arg0)
      ∧ r.2.mem ((c.tc : Thread Cert.LastPrompt.nD Cert.LastPrompt.τ).loc Cert.LastPrompt.main_arg1) = m ((c.tc : Thread Cert.LastPrompt.nD Cert.LastPrompt.τ).loc Cert.LastPrompt.main_arg1)
      ∧ r.2.mem ((c.tc : Thread Cert.LastPrompt.nD Cert.LastPrompt.τ).loc Cert.LastPrompt.main_arg2) = m ((c.tc : Thread Cert.LastPrompt.nD Cert.LastPrompt.τ).loc Cert.LastPrompt.main_arg2)
      ∧ r.2.mem ((c.tc : Thread Cert.LastPrompt.nD Cert.LastPrompt.τ).loc Cert.LastPrompt.main_arg3) = m ((c.tc : Thread Cert.LastPrompt.nD Cert.LastPrompt.τ).loc Cert.LastPrompt.main_arg3)
      ∧ r.2.mem ((c.tc : Thread Cert.LastPrompt.nD Cert.LastPrompt.τ).loc Cert.LastPrompt.main_arg4) = m ((c.tc : Thread Cert.LastPrompt.nD Cert.LastPrompt.τ).loc Cert.LastPrompt.main_arg4))
      ∧ r.2.sem = fun _ => 0)

def quiescent_LastPromptIdeal [hLastPromptIdeal : Cert.LastPromptIdeal.Facts] : Prop :=
  ∀ (m : (ℓ : Loc Cert.LastPromptIdeal.nD Cert.LastPromptIdeal.τ Cert.LastPromptIdeal.sig) → Buf (Elt Ideal) ℓ) (g : Dev Cert.LastPromptIdeal.nD → PrngReg), Pre_LastPromptIdeal m →
    θ_run (Cert.LastPromptIdeal.defs (F := Ideal)) (onTc (τ := Cert.LastPromptIdeal.τ) (Cert.LastPromptIdeal.main (F := Ideal))) ⟨m, fun _ => 0, g⟩ (fun r => (∀ c : Dev Cert.LastPromptIdeal.nD,
      r.2.mem ((c.tc : Thread Cert.LastPromptIdeal.nD Cert.LastPromptIdeal.τ).loc Cert.LastPromptIdeal.main_arg0) = m ((c.tc : Thread Cert.LastPromptIdeal.nD Cert.LastPromptIdeal.τ).loc Cert.LastPromptIdeal.main_arg0)
      ∧ r.2.mem ((c.tc : Thread Cert.LastPromptIdeal.nD Cert.LastPromptIdeal.τ).loc Cert.LastPromptIdeal.main_arg1) = m ((c.tc : Thread Cert.LastPromptIdeal.nD Cert.LastPromptIdeal.τ).loc Cert.LastPromptIdeal.main_arg1)
      ∧ r.2.mem ((c.tc : Thread Cert.LastPromptIdeal.nD Cert.LastPromptIdeal.τ).loc Cert.LastPromptIdeal.main_arg2) = m ((c.tc : Thread Cert.LastPromptIdeal.nD Cert.LastPromptIdeal.τ).loc Cert.LastPromptIdeal.main_arg2)
      ∧ r.2.mem ((c.tc : Thread Cert.LastPromptIdeal.nD Cert.LastPromptIdeal.τ).loc Cert.LastPromptIdeal.main_arg3) = m ((c.tc : Thread Cert.LastPromptIdeal.nD Cert.LastPromptIdeal.τ).loc Cert.LastPromptIdeal.main_arg3)
      ∧ r.2.mem ((c.tc : Thread Cert.LastPromptIdeal.nD Cert.LastPromptIdeal.τ).loc Cert.LastPromptIdeal.main_arg4) = m ((c.tc : Thread Cert.LastPromptIdeal.nD Cert.LastPromptIdeal.τ).loc Cert.LastPromptIdeal.main_arg4))
      ∧ r.2.sem = fun _ => 0)

def quiescent_LastPromptRefIdeal [hLastPromptRefIdeal : Cert.LastPromptRefIdeal.Facts] : Prop :=
  ∀ (m : (ℓ : Loc Cert.LastPromptRefIdeal.nD Cert.LastPromptRefIdeal.τ Cert.LastPromptRefIdeal.sig) → Buf (Elt Ideal) ℓ) (g : Dev Cert.LastPromptRefIdeal.nD → PrngReg), Pre_LastPromptRefIdeal m →
    θ_run (Cert.LastPromptRefIdeal.defs (F := Ideal)) (onTc (τ := Cert.LastPromptRefIdeal.τ) (Cert.LastPromptRefIdeal.main (F := Ideal))) ⟨m, fun _ => 0, g⟩ (fun r => (∀ c : Dev Cert.LastPromptRefIdeal.nD,
      r.2.mem ((c.tc : Thread Cert.LastPromptRefIdeal.nD Cert.LastPromptRefIdeal.τ).loc Cert.LastPromptRefIdeal.main_arg0) = m ((c.tc : Thread Cert.LastPromptRefIdeal.nD Cert.LastPromptRefIdeal.τ).loc Cert.LastPromptRefIdeal.main_arg0)
      ∧ r.2.mem ((c.tc : Thread Cert.LastPromptRefIdeal.nD Cert.LastPromptRefIdeal.τ).loc Cert.LastPromptRefIdeal.main_arg1) = m ((c.tc : Thread Cert.LastPromptRefIdeal.nD Cert.LastPromptRefIdeal.τ).loc Cert.LastPromptRefIdeal.main_arg1)
      ∧ r.2.mem ((c.tc : Thread Cert.LastPromptRefIdeal.nD Cert.LastPromptRefIdeal.τ).loc Cert.LastPromptRefIdeal.main_arg2) = m ((c.tc : Thread Cert.LastPromptRefIdeal.nD Cert.LastPromptRefIdeal.τ).loc Cert.LastPromptRefIdeal.main_arg2)
      ∧ r.2.mem ((c.tc : Thread Cert.LastPromptRefIdeal.nD Cert.LastPromptRefIdeal.τ).loc Cert.LastPromptRefIdeal.main_arg3) = m ((c.tc : Thread Cert.LastPromptRefIdeal.nD Cert.LastPromptRefIdeal.τ).loc Cert.LastPromptRefIdeal.main_arg3)
      ∧ r.2.mem ((c.tc : Thread Cert.LastPromptRefIdeal.nD Cert.LastPromptRefIdeal.τ).loc Cert.LastPromptRefIdeal.main_arg4) = m ((c.tc : Thread Cert.LastPromptRefIdeal.nD Cert.LastPromptRefIdeal.τ).loc Cert.LastPromptRefIdeal.main_arg4))
      ∧ r.2.sem = fun _ => 0)

def quiescent_LastSample [hLastSample : Cert.LastSample.Facts] : Prop :=
  ∀ (m : (ℓ : Loc Cert.LastSample.nD Cert.LastSample.τ Cert.LastSample.sig) → Buf (Elt Bits) ℓ) (g : Dev Cert.LastSample.nD → PrngReg), Pre_LastSample m →
    θ_run (Cert.LastSample.defs (F := Bits)) (onTc (τ := Cert.LastSample.τ) (Cert.LastSample.main (F := Bits))) ⟨m, fun _ => 0, g⟩ (fun r => (∀ c : Dev Cert.LastSample.nD,
      r.2.mem ((c.tc : Thread Cert.LastSample.nD Cert.LastSample.τ).loc Cert.LastSample.main_arg0) = m ((c.tc : Thread Cert.LastSample.nD Cert.LastSample.τ).loc Cert.LastSample.main_arg0)
      ∧ r.2.mem ((c.tc : Thread Cert.LastSample.nD Cert.LastSample.τ).loc Cert.LastSample.main_arg1) = m ((c.tc : Thread Cert.LastSample.nD Cert.LastSample.τ).loc Cert.LastSample.main_arg1)
      ∧ r.2.mem ((c.tc : Thread Cert.LastSample.nD Cert.LastSample.τ).loc Cert.LastSample.main_arg2) = m ((c.tc : Thread Cert.LastSample.nD Cert.LastSample.τ).loc Cert.LastSample.main_arg2)
      ∧ r.2.mem ((c.tc : Thread Cert.LastSample.nD Cert.LastSample.τ).loc Cert.LastSample.main_arg3) = m ((c.tc : Thread Cert.LastSample.nD Cert.LastSample.τ).loc Cert.LastSample.main_arg3)
      ∧ r.2.mem ((c.tc : Thread Cert.LastSample.nD Cert.LastSample.τ).loc Cert.LastSample.main_arg4) = m ((c.tc : Thread Cert.LastSample.nD Cert.LastSample.τ).loc Cert.LastSample.main_arg4))
      ∧ r.2.sem = fun _ => 0)

def quiescent_LastSampleIdeal [hLastSampleIdeal : Cert.LastSampleIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg), Pre_LastSampleIdeal m →
    θ_run (Cert.LastSampleIdeal.defs (F := Ideal)) (onTc (τ := Cert.LastSampleIdeal.τ) (Cert.LastSampleIdeal.main (F := Ideal))) ⟨m, fun _ => 0, g⟩ (fun r => (∀ c : Dev Cert.LastSampleIdeal.nD,
      r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
      ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
      ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
      ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
      ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4))
      ∧ r.2.sem = fun _ => 0)

def quiescent_LastSampleRefIdeal [hLastSampleRefIdeal : Cert.LastSampleRefIdeal.Facts] : Prop :=
  ∀ (m : (ℓ : Loc Cert.LastSampleRefIdeal.nD Cert.LastSampleRefIdeal.τ Cert.LastSampleRefIdeal.sig) → Buf (Elt Ideal) ℓ) (g : Dev Cert.LastSampleRefIdeal.nD → PrngReg), Pre_LastSampleRefIdeal m →
    θ_run (Cert.LastSampleRefIdeal.defs (F := Ideal)) (onTc (τ := Cert.LastSampleRefIdeal.τ) (Cert.LastSampleRefIdeal.main (F := Ideal))) ⟨m, fun _ => 0, g⟩ (fun r => (∀ c : Dev Cert.LastSampleRefIdeal.nD,
      r.2.mem ((c.tc : Thread Cert.LastSampleRefIdeal.nD Cert.LastSampleRefIdeal.τ).loc Cert.LastSampleRefIdeal.main_arg0) = m ((c.tc : Thread Cert.LastSampleRefIdeal.nD Cert.LastSampleRefIdeal.τ).loc Cert.LastSampleRefIdeal.main_arg0)
      ∧ r.2.mem ((c.tc : Thread Cert.LastSampleRefIdeal.nD Cert.LastSampleRefIdeal.τ).loc Cert.LastSampleRefIdeal.main_arg1) = m ((c.tc : Thread Cert.LastSampleRefIdeal.nD Cert.LastSampleRefIdeal.τ).loc Cert.LastSampleRefIdeal.main_arg1)
      ∧ r.2.mem ((c.tc : Thread Cert.LastSampleRefIdeal.nD Cert.LastSampleRefIdeal.τ).loc Cert.LastSampleRefIdeal.main_arg2) = m ((c.tc : Thread Cert.LastSampleRefIdeal.nD Cert.LastSampleRefIdeal.τ).loc Cert.LastSampleRefIdeal.main_arg2)
      ∧ r.2.mem ((c.tc : Thread Cert.LastSampleRefIdeal.nD Cert.LastSampleRefIdeal.τ).loc Cert.LastSampleRefIdeal.main_arg3) = m ((c.tc : Thread Cert.LastSampleRefIdeal.nD Cert.LastSampleRefIdeal.τ).loc Cert.LastSampleRefIdeal.main_arg3)
      ∧ r.2.mem ((c.tc : Thread Cert.LastSampleRefIdeal.nD Cert.LastSampleRefIdeal.τ).loc Cert.LastSampleRefIdeal.main_arg4) = m ((c.tc : Thread Cert.LastSampleRefIdeal.nD Cert.LastSampleRefIdeal.τ).loc Cert.LastSampleRefIdeal.main_arg4))
      ∧ r.2.sem = fun _ => 0)

def quiescent_LnMod [hLnMod : Cert.LnMod.Facts] : Prop :=
  ∀ (m : (ℓ : Loc Cert.LnMod.nD Cert.LnMod.τ Cert.LnMod.sig) → Buf (Elt Bits) ℓ) (g : Dev Cert.LnMod.nD → PrngReg), Pre_LnMod m →
    θ_run (Cert.LnMod.defs (F := Bits)) (onTc (τ := Cert.LnMod.τ) (Cert.LnMod.main (F := Bits))) ⟨m, fun _ => 0, g⟩ (fun r => (∀ c : Dev Cert.LnMod.nD,
      r.2.mem ((c.tc : Thread Cert.LnMod.nD Cert.LnMod.τ).loc Cert.LnMod.main_arg0) = m ((c.tc : Thread Cert.LnMod.nD Cert.LnMod.τ).loc Cert.LnMod.main_arg0)
      ∧ r.2.mem ((c.tc : Thread Cert.LnMod.nD Cert.LnMod.τ).loc Cert.LnMod.main_arg1) = m ((c.tc : Thread Cert.LnMod.nD Cert.LnMod.τ).loc Cert.LnMod.main_arg1)
      ∧ r.2.mem ((c.tc : Thread Cert.LnMod.nD Cert.LnMod.τ).loc Cert.LnMod.main_arg2) = m ((c.tc : Thread Cert.LnMod.nD Cert.LnMod.τ).loc Cert.LnMod.main_arg2))
      ∧ r.2.sem = fun _ => 0)

def quiescent_LnModIdeal [hLnModIdeal : Cert.LnModIdeal.Facts] : Prop :=
  ∀ (m : (ℓ : Loc Cert.LnModIdeal.nD Cert.LnModIdeal.τ Cert.LnModIdeal.sig) → Buf (Elt Ideal) ℓ) (g : Dev Cert.LnModIdeal.nD → PrngReg), Pre_LnModIdeal m →
    θ_run (Cert.LnModIdeal.defs (F := Ideal)) (onTc (τ := Cert.LnModIdeal.τ) (Cert.LnModIdeal.main (F := Ideal))) ⟨m, fun _ => 0, g⟩ (fun r => (∀ c : Dev Cert.LnModIdeal.nD,
      r.2.mem ((c.tc : Thread Cert.LnModIdeal.nD Cert.LnModIdeal.τ).loc Cert.LnModIdeal.main_arg0) = m ((c.tc : Thread Cert.LnModIdeal.nD Cert.LnModIdeal.τ).loc Cert.LnModIdeal.main_arg0)
      ∧ r.2.mem ((c.tc : Thread Cert.LnModIdeal.nD Cert.LnModIdeal.τ).loc Cert.LnModIdeal.main_arg1) = m ((c.tc : Thread Cert.LnModIdeal.nD Cert.LnModIdeal.τ).loc Cert.LnModIdeal.main_arg1)
      ∧ r.2.mem ((c.tc : Thread Cert.LnModIdeal.nD Cert.LnModIdeal.τ).loc Cert.LnModIdeal.main_arg2) = m ((c.tc : Thread Cert.LnModIdeal.nD Cert.LnModIdeal.τ).loc Cert.LnModIdeal.main_arg2))
      ∧ r.2.sem = fun _ => 0)

def quiescent_LnModRefIdeal [hLnModRefIdeal : Cert.LnModRefIdeal.Facts] : Prop :=
  ∀ (m : (ℓ : Loc Cert.LnModRefIdeal.nD Cert.LnModRefIdeal.τ Cert.LnModRefIdeal.sig) → Buf (Elt Ideal) ℓ) (g : Dev Cert.LnModRefIdeal.nD → PrngReg), Pre_LnModRefIdeal m →
    θ_run (Cert.LnModRefIdeal.defs (F := Ideal)) (onTc (τ := Cert.LnModRefIdeal.τ) (Cert.LnModRefIdeal.main (F := Ideal))) ⟨m, fun _ => 0, g⟩ (fun r => (∀ c : Dev Cert.LnModRefIdeal.nD,
      r.2.mem ((c.tc : Thread Cert.LnModRefIdeal.nD Cert.LnModRefIdeal.τ).loc Cert.LnModRefIdeal.main_arg0) = m ((c.tc : Thread Cert.LnModRefIdeal.nD Cert.LnModRefIdeal.τ).loc Cert.LnModRefIdeal.main_arg0)
      ∧ r.2.mem ((c.tc : Thread Cert.LnModRefIdeal.nD Cert.LnModRefIdeal.τ).loc Cert.LnModRefIdeal.main_arg1) = m ((c.tc : Thread Cert.LnModRefIdeal.nD Cert.LnModRefIdeal.τ).loc Cert.LnModRefIdeal.main_arg1)
      ∧ r.2.mem ((c.tc : Thread Cert.LnModRefIdeal.nD Cert.LnModRefIdeal.τ).loc Cert.LnModRefIdeal.main_arg2) = m ((c.tc : Thread Cert.LnModRefIdeal.nD Cert.LnModRefIdeal.τ).loc Cert.LnModRefIdeal.main_arg2))
      ∧ r.2.sem = fun _ => 0)

def quiescent_FirstRes [hFirstRes : Cert.FirstRes.Facts] : Prop :=
  ∀ (m : (ℓ : Loc Cert.FirstRes.nD Cert.FirstRes.τ Cert.FirstRes.sig) → Buf (Elt Bits) ℓ) (g : Dev Cert.FirstRes.nD → PrngReg), Pre_FirstRes m →
    θ_run (Cert.FirstRes.defs (F := Bits)) (onTc (τ := Cert.FirstRes.τ) (Cert.FirstRes.main (F := Bits))) ⟨m, fun _ => 0, g⟩ (fun r => (∀ c : Dev Cert.FirstRes.nD,
      r.2.mem ((c.tc : Thread Cert.FirstRes.nD Cert.FirstRes.τ).loc Cert.FirstRes.main_arg0) = m ((c.tc : Thread Cert.FirstRes.nD Cert.FirstRes.τ).loc Cert.FirstRes.main_arg0)
      ∧ r.2.mem ((c.tc : Thread Cert.FirstRes.nD Cert.FirstRes.τ).loc Cert.FirstRes.main_arg1) = m ((c.tc : Thread Cert.FirstRes.nD Cert.FirstRes.τ).loc Cert.FirstRes.main_arg1)
      ∧ r.2.mem ((c.tc : Thread Cert.FirstRes.nD Cert.FirstRes.τ).loc Cert.FirstRes.main_arg2) = m ((c.tc : Thread Cert.FirstRes.nD Cert.FirstRes.τ).loc Cert.FirstRes.main_arg2)
      ∧ r.2.mem ((c.tc : Thread Cert.FirstRes.nD Cert.FirstRes.τ).loc Cert.FirstRes.main_arg3) = m ((c.tc : Thread Cert.FirstRes.nD Cert.FirstRes.τ).loc Cert.FirstRes.main_arg3)
      ∧ r.2.mem ((c.tc : Thread Cert.FirstRes.nD Cert.FirstRes.τ).loc Cert.FirstRes.main_arg4) = m ((c.tc : Thread Cert.FirstRes.nD Cert.FirstRes.τ).loc Cert.FirstRes.main_arg4)
      ∧ r.2.mem ((c.tc : Thread Cert.FirstRes.nD Cert.FirstRes.τ).loc Cert.FirstRes.main_arg5) = m ((c.tc : Thread Cert.FirstRes.nD Cert.FirstRes.τ).loc Cert.FirstRes.main_arg5)
      ∧ r.2.mem ((c.tc : Thread Cert.FirstRes.nD Cert.FirstRes.τ).loc Cert.FirstRes.main_arg6) = m ((c.tc : Thread Cert.FirstRes.nD Cert.FirstRes.τ).loc Cert.FirstRes.main_arg6))
      ∧ r.2.sem = fun _ => 0)

def quiescent_FirstResIdeal [hFirstResIdeal : Cert.FirstResIdeal.Facts] : Prop :=
  ∀ (m : (ℓ : Loc Cert.FirstResIdeal.nD Cert.FirstResIdeal.τ Cert.FirstResIdeal.sig) → Buf (Elt Ideal) ℓ) (g : Dev Cert.FirstResIdeal.nD → PrngReg), Pre_FirstResIdeal m →
    θ_run (Cert.FirstResIdeal.defs (F := Ideal)) (onTc (τ := Cert.FirstResIdeal.τ) (Cert.FirstResIdeal.main (F := Ideal))) ⟨m, fun _ => 0, g⟩ (fun r => (∀ c : Dev Cert.FirstResIdeal.nD,
      r.2.mem ((c.tc : Thread Cert.FirstResIdeal.nD Cert.FirstResIdeal.τ).loc Cert.FirstResIdeal.main_arg0) = m ((c.tc : Thread Cert.FirstResIdeal.nD Cert.FirstResIdeal.τ).loc Cert.FirstResIdeal.main_arg0)
      ∧ r.2.mem ((c.tc : Thread Cert.FirstResIdeal.nD Cert.FirstResIdeal.τ).loc Cert.FirstResIdeal.main_arg1) = m ((c.tc : Thread Cert.FirstResIdeal.nD Cert.FirstResIdeal.τ).loc Cert.FirstResIdeal.main_arg1)
      ∧ r.2.mem ((c.tc : Thread Cert.FirstResIdeal.nD Cert.FirstResIdeal.τ).loc Cert.FirstResIdeal.main_arg2) = m ((c.tc : Thread Cert.FirstResIdeal.nD Cert.FirstResIdeal.τ).loc Cert.FirstResIdeal.main_arg2)
      ∧ r.2.mem ((c.tc : Thread Cert.FirstResIdeal.nD Cert.FirstResIdeal.τ).loc Cert.FirstResIdeal.main_arg3) = m ((c.tc : Thread Cert.FirstResIdeal.nD Cert.FirstResIdeal.τ).loc Cert.FirstResIdeal.main_arg3)
      ∧ r.2.mem ((c.tc : Thread Cert.FirstResIdeal.nD Cert.FirstResIdeal.τ).loc Cert.FirstResIdeal.main_arg4) = m ((c.tc : Thread Cert.FirstResIdeal.nD Cert.FirstResIdeal.τ).loc Cert.FirstResIdeal.main_arg4)
      ∧ r.2.mem ((c.tc : Thread Cert.FirstResIdeal.nD Cert.FirstResIdeal.τ).loc Cert.FirstResIdeal.main_arg5) = m ((c.tc : Thread Cert.FirstResIdeal.nD Cert.FirstResIdeal.τ).loc Cert.FirstResIdeal.main_arg5)
      ∧ r.2.mem ((c.tc : Thread Cert.FirstResIdeal.nD Cert.FirstResIdeal.τ).loc Cert.FirstResIdeal.main_arg6) = m ((c.tc : Thread Cert.FirstResIdeal.nD Cert.FirstResIdeal.τ).loc Cert.FirstResIdeal.main_arg6))
      ∧ r.2.sem = fun _ => 0)

def quiescent_FirstResRefIdeal [hFirstResRefIdeal : Cert.FirstResRefIdeal.Facts] : Prop :=
  ∀ (m : (ℓ : Loc Cert.FirstResRefIdeal.nD Cert.FirstResRefIdeal.τ Cert.FirstResRefIdeal.sig) → Buf (Elt Ideal) ℓ) (g : Dev Cert.FirstResRefIdeal.nD → PrngReg), Pre_FirstResRefIdeal m →
    θ_run (Cert.FirstResRefIdeal.defs (F := Ideal)) (onTc (τ := Cert.FirstResRefIdeal.τ) (Cert.FirstResRefIdeal.main (F := Ideal))) ⟨m, fun _ => 0, g⟩ (fun r => (∀ c : Dev Cert.FirstResRefIdeal.nD,
      r.2.mem ((c.tc : Thread Cert.FirstResRefIdeal.nD Cert.FirstResRefIdeal.τ).loc Cert.FirstResRefIdeal.main_arg0) = m ((c.tc : Thread Cert.FirstResRefIdeal.nD Cert.FirstResRefIdeal.τ).loc Cert.FirstResRefIdeal.main_arg0)
      ∧ r.2.mem ((c.tc : Thread Cert.FirstResRefIdeal.nD Cert.FirstResRefIdeal.τ).loc Cert.FirstResRefIdeal.main_arg1) = m ((c.tc : Thread Cert.FirstResRefIdeal.nD Cert.FirstResRefIdeal.τ).loc Cert.FirstResRefIdeal.main_arg1)
      ∧ r.2.mem ((c.tc : Thread Cert.FirstResRefIdeal.nD Cert.FirstResRefIdeal.τ).loc Cert.FirstResRefIdeal.main_arg2) = m ((c.tc : Thread Cert.FirstResRefIdeal.nD Cert.FirstResRefIdeal.τ).loc Cert.FirstResRefIdeal.main_arg2)
      ∧ r.2.mem ((c.tc : Thread Cert.FirstResRefIdeal.nD Cert.FirstResRefIdeal.τ).loc Cert.FirstResRefIdeal.main_arg3) = m ((c.tc : Thread Cert.FirstResRefIdeal.nD Cert.FirstResRefIdeal.τ).loc Cert.FirstResRefIdeal.main_arg3)
      ∧ r.2.mem ((c.tc : Thread Cert.FirstResRefIdeal.nD Cert.FirstResRefIdeal.τ).loc Cert.FirstResRefIdeal.main_arg4) = m ((c.tc : Thread Cert.FirstResRefIdeal.nD Cert.FirstResRefIdeal.τ).loc Cert.FirstResRefIdeal.main_arg4)
      ∧ r.2.mem ((c.tc : Thread Cert.FirstResRefIdeal.nD Cert.FirstResRefIdeal.τ).loc Cert.FirstResRefIdeal.main_arg5) = m ((c.tc : Thread Cert.FirstResRefIdeal.nD Cert.FirstResRefIdeal.τ).loc Cert.FirstResRefIdeal.main_arg5)
      ∧ r.2.mem ((c.tc : Thread Cert.FirstResRefIdeal.nD Cert.FirstResRefIdeal.τ).loc Cert.FirstResRefIdeal.main_arg6) = m ((c.tc : Thread Cert.FirstResRefIdeal.nD Cert.FirstResRefIdeal.τ).loc Cert.FirstResRefIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2)
      ∧ r.2.mem ((c.tc : Thread Cert.GdnOut.nD Cert.GdnOut.τ).loc Cert.GdnOut.main_arg3) = m ((c.tc : Thread Cert.GdnOut.nD Cert.GdnOut.τ).loc Cert.GdnOut.main_arg3))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
      ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3))
      ∧ r.2.sem = fun _ => 0)

def quiescent_GdnOutRefIdeal [hGdnOutRefIdeal : Cert.GdnOutRefIdeal.Facts] : Prop :=
  ∀ (m : (ℓ : Loc Cert.GdnOutRefIdeal.nD Cert.GdnOutRefIdeal.τ Cert.GdnOutRefIdeal.sig) → Buf (Elt Ideal) ℓ) (g : Dev Cert.GdnOutRefIdeal.nD → PrngReg), Pre_GdnOutRefIdeal m →
    θ_run (Cert.GdnOutRefIdeal.defs (F := Ideal)) (onTc (τ := Cert.GdnOutRefIdeal.τ) (Cert.GdnOutRefIdeal.main (F := Ideal))) ⟨m, fun _ => 0, g⟩ (fun r => (∀ c : Dev Cert.GdnOutRefIdeal.nD,
      r.2.mem ((c.tc : Thread Cert.GdnOutRefIdeal.nD Cert.GdnOutRefIdeal.τ).loc Cert.GdnOutRefIdeal.main_arg0) = m ((c.tc : Thread Cert.GdnOutRefIdeal.nD Cert.GdnOutRefIdeal.τ).loc Cert.GdnOutRefIdeal.main_arg0)
      ∧ r.2.mem ((c.tc : Thread Cert.GdnOutRefIdeal.nD Cert.GdnOutRefIdeal.τ).loc Cert.GdnOutRefIdeal.main_arg1) = m ((c.tc : Thread Cert.GdnOutRefIdeal.nD Cert.GdnOutRefIdeal.τ).loc Cert.GdnOutRefIdeal.main_arg1)
      ∧ r.2.mem ((c.tc : Thread Cert.GdnOutRefIdeal.nD Cert.GdnOutRefIdeal.τ).loc Cert.GdnOutRefIdeal.main_arg2) = m ((c.tc : Thread Cert.GdnOutRefIdeal.nD Cert.GdnOutRefIdeal.τ).loc Cert.GdnOutRefIdeal.main_arg2)
      ∧ r.2.mem ((c.tc : Thread Cert.GdnOutRefIdeal.nD Cert.GdnOutRefIdeal.τ).loc Cert.GdnOutRefIdeal.main_arg3) = m ((c.tc : Thread Cert.GdnOutRefIdeal.nD Cert.GdnOutRefIdeal.τ).loc Cert.GdnOutRefIdeal.main_arg3))
      ∧ r.2.sem = fun _ => 0)

def quiescent_PeerDense [hPeerDense : Cert.PeerDense.Facts] : Prop :=
  ∀ (m : (ℓ : Loc Cert.PeerDense.nD Cert.PeerDense.τ Cert.PeerDense.sig) → Buf (Elt Bits) ℓ) (g : Dev Cert.PeerDense.nD → PrngReg), Pre_PeerDense m →
    θ_run (Cert.PeerDense.defs (F := Bits)) (onTc (τ := Cert.PeerDense.τ) (Cert.PeerDense.main (F := Bits))) ⟨m, fun _ => 0, g⟩ (fun r => (∀ c : Dev Cert.PeerDense.nD,
      r.2.mem ((c.tc : Thread Cert.PeerDense.nD Cert.PeerDense.τ).loc Cert.PeerDense.main_arg0) = m ((c.tc : Thread Cert.PeerDense.nD Cert.PeerDense.τ).loc Cert.PeerDense.main_arg0)
      ∧ r.2.mem ((c.tc : Thread Cert.PeerDense.nD Cert.PeerDense.τ).loc Cert.PeerDense.main_arg1) = m ((c.tc : Thread Cert.PeerDense.nD Cert.PeerDense.τ).loc Cert.PeerDense.main_arg1)
      ∧ r.2.mem ((c.tc : Thread Cert.PeerDense.nD Cert.PeerDense.τ).loc Cert.PeerDense.main_arg2) = m ((c.tc : Thread Cert.PeerDense.nD Cert.PeerDense.τ).loc Cert.PeerDense.main_arg2)
      ∧ r.2.mem ((c.tc : Thread Cert.PeerDense.nD Cert.PeerDense.τ).loc Cert.PeerDense.main_arg3) = m ((c.tc : Thread Cert.PeerDense.nD Cert.PeerDense.τ).loc Cert.PeerDense.main_arg3))
      ∧ r.2.sem = fun _ => 0)

def quiescent_PeerDenseIdeal [hPeerDenseIdeal : Cert.PeerDenseIdeal.Facts] : Prop :=
  ∀ (m : (ℓ : Loc Cert.PeerDenseIdeal.nD Cert.PeerDenseIdeal.τ Cert.PeerDenseIdeal.sig) → Buf (Elt Ideal) ℓ) (g : Dev Cert.PeerDenseIdeal.nD → PrngReg), Pre_PeerDenseIdeal m →
    θ_run (Cert.PeerDenseIdeal.defs (F := Ideal)) (onTc (τ := Cert.PeerDenseIdeal.τ) (Cert.PeerDenseIdeal.main (F := Ideal))) ⟨m, fun _ => 0, g⟩ (fun r => (∀ c : Dev Cert.PeerDenseIdeal.nD,
      r.2.mem ((c.tc : Thread Cert.PeerDenseIdeal.nD Cert.PeerDenseIdeal.τ).loc Cert.PeerDenseIdeal.main_arg0) = m ((c.tc : Thread Cert.PeerDenseIdeal.nD Cert.PeerDenseIdeal.τ).loc Cert.PeerDenseIdeal.main_arg0)
      ∧ r.2.mem ((c.tc : Thread Cert.PeerDenseIdeal.nD Cert.PeerDenseIdeal.τ).loc Cert.PeerDenseIdeal.main_arg1) = m ((c.tc : Thread Cert.PeerDenseIdeal.nD Cert.PeerDenseIdeal.τ).loc Cert.PeerDenseIdeal.main_arg1)
      ∧ r.2.mem ((c.tc : Thread Cert.PeerDenseIdeal.nD Cert.PeerDenseIdeal.τ).loc Cert.PeerDenseIdeal.main_arg2) = m ((c.tc : Thread Cert.PeerDenseIdeal.nD Cert.PeerDenseIdeal.τ).loc Cert.PeerDenseIdeal.main_arg2)
      ∧ r.2.mem ((c.tc : Thread Cert.PeerDenseIdeal.nD Cert.PeerDenseIdeal.τ).loc Cert.PeerDenseIdeal.main_arg3) = m ((c.tc : Thread Cert.PeerDenseIdeal.nD Cert.PeerDenseIdeal.τ).loc Cert.PeerDenseIdeal.main_arg3))
      ∧ r.2.sem = fun _ => 0)

def quiescent_PeerDenseRefIdeal [hPeerDenseRefIdeal : Cert.PeerDenseRefIdeal.Facts] : Prop :=
  ∀ (m : (ℓ : Loc Cert.PeerDenseRefIdeal.nD Cert.PeerDenseRefIdeal.τ Cert.PeerDenseRefIdeal.sig) → Buf (Elt Ideal) ℓ) (g : Dev Cert.PeerDenseRefIdeal.nD → PrngReg), Pre_PeerDenseRefIdeal m →
    θ_run (Cert.PeerDenseRefIdeal.defs (F := Ideal)) (onTc (τ := Cert.PeerDenseRefIdeal.τ) (Cert.PeerDenseRefIdeal.main (F := Ideal))) ⟨m, fun _ => 0, g⟩ (fun r => (∀ c : Dev Cert.PeerDenseRefIdeal.nD,
      r.2.mem ((c.tc : Thread Cert.PeerDenseRefIdeal.nD Cert.PeerDenseRefIdeal.τ).loc Cert.PeerDenseRefIdeal.main_arg0) = m ((c.tc : Thread Cert.PeerDenseRefIdeal.nD Cert.PeerDenseRefIdeal.τ).loc Cert.PeerDenseRefIdeal.main_arg0)
      ∧ r.2.mem ((c.tc : Thread Cert.PeerDenseRefIdeal.nD Cert.PeerDenseRefIdeal.τ).loc Cert.PeerDenseRefIdeal.main_arg1) = m ((c.tc : Thread Cert.PeerDenseRefIdeal.nD Cert.PeerDenseRefIdeal.τ).loc Cert.PeerDenseRefIdeal.main_arg1)
      ∧ r.2.mem ((c.tc : Thread Cert.PeerDenseRefIdeal.nD Cert.PeerDenseRefIdeal.τ).loc Cert.PeerDenseRefIdeal.main_arg2) = m ((c.tc : Thread Cert.PeerDenseRefIdeal.nD Cert.PeerDenseRefIdeal.τ).loc Cert.PeerDenseRefIdeal.main_arg2)
      ∧ r.2.mem ((c.tc : Thread Cert.PeerDenseRefIdeal.nD Cert.PeerDenseRefIdeal.τ).loc Cert.PeerDenseRefIdeal.main_arg3) = m ((c.tc : Thread Cert.PeerDenseRefIdeal.nD Cert.PeerDenseRefIdeal.τ).loc Cert.PeerDenseRefIdeal.main_arg3))
      ∧ r.2.sem = fun _ => 0)

def quiescent_DnConv [hDnConv : Cert.DnConv.Facts] : Prop :=
  ∀ (m : (ℓ : Loc Cert.DnConv.nD Cert.DnConv.τ Cert.DnConv.sig) → Buf (Elt Bits) ℓ) (g : Dev Cert.DnConv.nD → PrngReg), Pre_DnConv m →
    θ_run (Cert.DnConv.defs (F := Bits)) (onTc (τ := Cert.DnConv.τ) (Cert.DnConv.main (F := Bits))) ⟨m, fun _ => 0, g⟩ (fun r => (∀ c : Dev Cert.DnConv.nD,
      r.2.mem ((c.tc : Thread Cert.DnConv.nD Cert.DnConv.τ).loc Cert.DnConv.main_arg0) = m ((c.tc : Thread Cert.DnConv.nD Cert.DnConv.τ).loc Cert.DnConv.main_arg0)
      ∧ r.2.mem ((c.tc : Thread Cert.DnConv.nD Cert.DnConv.τ).loc Cert.DnConv.main_arg1) = m ((c.tc : Thread Cert.DnConv.nD Cert.DnConv.τ).loc Cert.DnConv.main_arg1))
      ∧ r.2.sem = fun _ => 0)

def quiescent_DnConvIdeal [hDnConvIdeal : Cert.DnConvIdeal.Facts] : Prop :=
  ∀ (m : (ℓ : Loc Cert.DnConvIdeal.nD Cert.DnConvIdeal.τ Cert.DnConvIdeal.sig) → Buf (Elt Ideal) ℓ) (g : Dev Cert.DnConvIdeal.nD → PrngReg), Pre_DnConvIdeal m →
    θ_run (Cert.DnConvIdeal.defs (F := Ideal)) (onTc (τ := Cert.DnConvIdeal.τ) (Cert.DnConvIdeal.main (F := Ideal))) ⟨m, fun _ => 0, g⟩ (fun r => (∀ c : Dev Cert.DnConvIdeal.nD,
      r.2.mem ((c.tc : Thread Cert.DnConvIdeal.nD Cert.DnConvIdeal.τ).loc Cert.DnConvIdeal.main_arg0) = m ((c.tc : Thread Cert.DnConvIdeal.nD Cert.DnConvIdeal.τ).loc Cert.DnConvIdeal.main_arg0)
      ∧ r.2.mem ((c.tc : Thread Cert.DnConvIdeal.nD Cert.DnConvIdeal.τ).loc Cert.DnConvIdeal.main_arg1) = m ((c.tc : Thread Cert.DnConvIdeal.nD Cert.DnConvIdeal.τ).loc Cert.DnConvIdeal.main_arg1))
      ∧ r.2.sem = fun _ => 0)

def quiescent_DnConvRefIdeal [hDnConvRefIdeal : Cert.DnConvRefIdeal.Facts] : Prop :=
  ∀ (m : (ℓ : Loc Cert.DnConvRefIdeal.nD Cert.DnConvRefIdeal.τ Cert.DnConvRefIdeal.sig) → Buf (Elt Ideal) ℓ) (g : Dev Cert.DnConvRefIdeal.nD → PrngReg), Pre_DnConvRefIdeal m →
    θ_run (Cert.DnConvRefIdeal.defs (F := Ideal)) (onTc (τ := Cert.DnConvRefIdeal.τ) (Cert.DnConvRefIdeal.main (F := Ideal))) ⟨m, fun _ => 0, g⟩ (fun r => (∀ c : Dev Cert.DnConvRefIdeal.nD,
      r.2.mem ((c.tc : Thread Cert.DnConvRefIdeal.nD Cert.DnConvRefIdeal.τ).loc Cert.DnConvRefIdeal.main_arg0) = m ((c.tc : Thread Cert.DnConvRefIdeal.nD Cert.DnConvRefIdeal.τ).loc Cert.DnConvRefIdeal.main_arg0)
      ∧ r.2.mem ((c.tc : Thread Cert.DnConvRefIdeal.nD Cert.DnConvRefIdeal.τ).loc Cert.DnConvRefIdeal.main_arg1) = m ((c.tc : Thread Cert.DnConvRefIdeal.nD Cert.DnConvRefIdeal.τ).loc Cert.DnConvRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_ProjAttn_ProjAttnIdeal : Prop :=
  True

def algebraic_ProjAttnIdeal_ProjAttnRefIdeal [hProjAttnIdeal : Cert.ProjAttnIdeal.Facts] [hProjAttnRefIdeal : Cert.ProjAttnRefIdeal.Facts] : Prop :=
  ∀ (m : (ℓ : Loc Cert.ProjAttnIdeal.nD Cert.ProjAttnIdeal.τ Cert.ProjAttnIdeal.sig) → Buf (Elt Ideal) ℓ) (g : Dev Cert.ProjAttnIdeal.nD → PrngReg)
    (m' : (ℓ : Loc Cert.ProjAttnRefIdeal.nD Cert.ProjAttnRefIdeal.τ Cert.ProjAttnRefIdeal.sig) → Buf (Elt Ideal) ℓ) (g' : Dev Cert.ProjAttnRefIdeal.nD → PrngReg), Pre_ProjAttnIdeal m →
    (∀ c : Dev Cert.ProjAttnIdeal.nD,
      m' ((c.tc : Thread Cert.ProjAttnRefIdeal.nD Cert.ProjAttnRefIdeal.τ).loc Cert.ProjAttnRefIdeal.main_arg0) = m ((c.tc : Thread Cert.ProjAttnIdeal.nD Cert.ProjAttnIdeal.τ).loc Cert.ProjAttnIdeal.main_arg0)
      ∧ m' ((c.tc : Thread Cert.ProjAttnRefIdeal.nD Cert.ProjAttnRefIdeal.τ).loc Cert.ProjAttnRefIdeal.main_arg1) = m ((c.tc : Thread Cert.ProjAttnIdeal.nD Cert.ProjAttnIdeal.τ).loc Cert.ProjAttnIdeal.main_arg1)) →
    ∃ (v0 : (c : Dev Cert.ProjAttnIdeal.nD) → Buf (Elt Ideal) ((c.tc : Thread Cert.ProjAttnIdeal.nD Cert.ProjAttnIdeal.τ).loc Cert.ProjAttnIdeal.main_v0)),
      θ_run (Cert.ProjAttnIdeal.defs (F := Ideal)) (onTc (τ := Cert.ProjAttnIdeal.τ) (Cert.ProjAttnIdeal.main (F := Ideal))) ⟨m, fun _ => 0, g⟩ (fun r => ∀ c : Dev Cert.ProjAttnIdeal.nD,
          r.2.mem ((c.tc : Thread Cert.ProjAttnIdeal.nD Cert.ProjAttnIdeal.τ).loc Cert.ProjAttnIdeal.main_v0) = v0 c
          ∧ r.2.mem ((c.tc : Thread Cert.ProjAttnIdeal.nD Cert.ProjAttnIdeal.τ).loc Cert.ProjAttnIdeal.main_arg0) = m ((c.tc : Thread Cert.ProjAttnIdeal.nD Cert.ProjAttnIdeal.τ).loc Cert.ProjAttnIdeal.main_arg0)
          ∧ r.2.mem ((c.tc : Thread Cert.ProjAttnIdeal.nD Cert.ProjAttnIdeal.τ).loc Cert.ProjAttnIdeal.main_arg1) = m ((c.tc : Thread Cert.ProjAttnIdeal.nD Cert.ProjAttnIdeal.τ).loc Cert.ProjAttnIdeal.main_arg1))
      ∧ θ_run (Cert.ProjAttnRefIdeal.defs (F := Ideal)) (onTc (τ := Cert.ProjAttnRefIdeal.τ) (Cert.ProjAttnRefIdeal.main (F := Ideal))) ⟨m', fun _ => 0, g'⟩ (fun r => ∀ c : Dev Cert.ProjAttnRefIdeal.nD,
          r.2.mem ((c.tc : Thread Cert.ProjAttnRefIdeal.nD Cert.ProjAttnRefIdeal.τ).loc Cert.ProjAttnRefIdeal.main_v4) = v0 c
          ∧ r.2.mem ((c.tc : Thread Cert.ProjAttnRefIdeal.nD Cert.ProjAttnRefIdeal.τ).loc Cert.ProjAttnRefIdeal.main_arg0) = m' ((c.tc : Thread Cert.ProjAttnRefIdeal.nD Cert.ProjAttnRefIdeal.τ).loc Cert.ProjAttnRefIdeal.main_arg0)
          ∧ r.2.mem ((c.tc : Thread Cert.ProjAttnRefIdeal.nD Cert.ProjAttnRefIdeal.τ).loc Cert.ProjAttnRefIdeal.main_arg1) = m' ((c.tc : Thread Cert.ProjAttnRefIdeal.nD Cert.ProjAttnRefIdeal.τ).loc Cert.ProjAttnRefIdeal.main_arg1))

def preserves_ProjDn_ProjDnIdeal : Prop :=
  True

def algebraic_ProjDnIdeal_ProjDnRefIdeal [hProjDnIdeal : Cert.ProjDnIdeal.Facts] [hProjDnRefIdeal : Cert.ProjDnRefIdeal.Facts] : Prop :=
  ∀ (m : (ℓ : Loc Cert.ProjDnIdeal.nD Cert.ProjDnIdeal.τ Cert.ProjDnIdeal.sig) → Buf (Elt Ideal) ℓ) (g : Dev Cert.ProjDnIdeal.nD → PrngReg)
    (m' : (ℓ : Loc Cert.ProjDnRefIdeal.nD Cert.ProjDnRefIdeal.τ Cert.ProjDnRefIdeal.sig) → Buf (Elt Ideal) ℓ) (g' : Dev Cert.ProjDnRefIdeal.nD → PrngReg), Pre_ProjDnIdeal m →
    (∀ c : Dev Cert.ProjDnIdeal.nD,
      m' ((c.tc : Thread Cert.ProjDnRefIdeal.nD Cert.ProjDnRefIdeal.τ).loc Cert.ProjDnRefIdeal.main_arg0) = m ((c.tc : Thread Cert.ProjDnIdeal.nD Cert.ProjDnIdeal.τ).loc Cert.ProjDnIdeal.main_arg0)
      ∧ m' ((c.tc : Thread Cert.ProjDnRefIdeal.nD Cert.ProjDnRefIdeal.τ).loc Cert.ProjDnRefIdeal.main_arg1) = m ((c.tc : Thread Cert.ProjDnIdeal.nD Cert.ProjDnIdeal.τ).loc Cert.ProjDnIdeal.main_arg1)) →
    ∃ (v0 : (c : Dev Cert.ProjDnIdeal.nD) → Buf (Elt Ideal) ((c.tc : Thread Cert.ProjDnIdeal.nD Cert.ProjDnIdeal.τ).loc Cert.ProjDnIdeal.main_v0)),
      θ_run (Cert.ProjDnIdeal.defs (F := Ideal)) (onTc (τ := Cert.ProjDnIdeal.τ) (Cert.ProjDnIdeal.main (F := Ideal))) ⟨m, fun _ => 0, g⟩ (fun r => ∀ c : Dev Cert.ProjDnIdeal.nD,
          r.2.mem ((c.tc : Thread Cert.ProjDnIdeal.nD Cert.ProjDnIdeal.τ).loc Cert.ProjDnIdeal.main_v0) = v0 c
          ∧ r.2.mem ((c.tc : Thread Cert.ProjDnIdeal.nD Cert.ProjDnIdeal.τ).loc Cert.ProjDnIdeal.main_arg0) = m ((c.tc : Thread Cert.ProjDnIdeal.nD Cert.ProjDnIdeal.τ).loc Cert.ProjDnIdeal.main_arg0)
          ∧ r.2.mem ((c.tc : Thread Cert.ProjDnIdeal.nD Cert.ProjDnIdeal.τ).loc Cert.ProjDnIdeal.main_arg1) = m ((c.tc : Thread Cert.ProjDnIdeal.nD Cert.ProjDnIdeal.τ).loc Cert.ProjDnIdeal.main_arg1))
      ∧ θ_run (Cert.ProjDnRefIdeal.defs (F := Ideal)) (onTc (τ := Cert.ProjDnRefIdeal.τ) (Cert.ProjDnRefIdeal.main (F := Ideal))) ⟨m', fun _ => 0, g'⟩ (fun r => ∀ c : Dev Cert.ProjDnRefIdeal.nD,
          r.2.mem ((c.tc : Thread Cert.ProjDnRefIdeal.nD Cert.ProjDnRefIdeal.τ).loc Cert.ProjDnRefIdeal.main_v4) = v0 c
          ∧ r.2.mem ((c.tc : Thread Cert.ProjDnRefIdeal.nD Cert.ProjDnRefIdeal.τ).loc Cert.ProjDnRefIdeal.main_arg0) = m' ((c.tc : Thread Cert.ProjDnRefIdeal.nD Cert.ProjDnRefIdeal.τ).loc Cert.ProjDnRefIdeal.main_arg0)
          ∧ r.2.mem ((c.tc : Thread Cert.ProjDnRefIdeal.nD Cert.ProjDnRefIdeal.τ).loc Cert.ProjDnRefIdeal.main_arg1) = m' ((c.tc : Thread Cert.ProjDnRefIdeal.nD Cert.ProjDnRefIdeal.τ).loc Cert.ProjDnRefIdeal.main_arg1))

def preserves_ProjAb_ProjAbIdeal : Prop :=
  True

def algebraic_ProjAbIdeal_ProjAbRefIdeal [hProjAbIdeal : Cert.ProjAbIdeal.Facts] [hProjAbRefIdeal : Cert.ProjAbRefIdeal.Facts] : Prop :=
  ∀ (m : (ℓ : Loc Cert.ProjAbIdeal.nD Cert.ProjAbIdeal.τ Cert.ProjAbIdeal.sig) → Buf (Elt Ideal) ℓ) (g : Dev Cert.ProjAbIdeal.nD → PrngReg)
    (m' : (ℓ : Loc Cert.ProjAbRefIdeal.nD Cert.ProjAbRefIdeal.τ Cert.ProjAbRefIdeal.sig) → Buf (Elt Ideal) ℓ) (g' : Dev Cert.ProjAbRefIdeal.nD → PrngReg), Pre_ProjAbIdeal m →
    (∀ c : Dev Cert.ProjAbIdeal.nD,
      m' ((c.tc : Thread Cert.ProjAbRefIdeal.nD Cert.ProjAbRefIdeal.τ).loc Cert.ProjAbRefIdeal.main_arg0) = m ((c.tc : Thread Cert.ProjAbIdeal.nD Cert.ProjAbIdeal.τ).loc Cert.ProjAbIdeal.main_arg0)
      ∧ m' ((c.tc : Thread Cert.ProjAbRefIdeal.nD Cert.ProjAbRefIdeal.τ).loc Cert.ProjAbRefIdeal.main_arg1) = m ((c.tc : Thread Cert.ProjAbIdeal.nD Cert.ProjAbIdeal.τ).loc Cert.ProjAbIdeal.main_arg1)) →
    ∃ (v0 : (c : Dev Cert.ProjAbIdeal.nD) → Buf (Elt Ideal) ((c.tc : Thread Cert.ProjAbIdeal.nD Cert.ProjAbIdeal.τ).loc Cert.ProjAbIdeal.main_v0)),
      θ_run (Cert.ProjAbIdeal.defs (F := Ideal)) (onTc (τ := Cert.ProjAbIdeal.τ) (Cert.ProjAbIdeal.main (F := Ideal))) ⟨m, fun _ => 0, g⟩ (fun r => ∀ c : Dev Cert.ProjAbIdeal.nD,
          r.2.mem ((c.tc : Thread Cert.ProjAbIdeal.nD Cert.ProjAbIdeal.τ).loc Cert.ProjAbIdeal.main_v0) = v0 c
          ∧ r.2.mem ((c.tc : Thread Cert.ProjAbIdeal.nD Cert.ProjAbIdeal.τ).loc Cert.ProjAbIdeal.main_arg0) = m ((c.tc : Thread Cert.ProjAbIdeal.nD Cert.ProjAbIdeal.τ).loc Cert.ProjAbIdeal.main_arg0)
          ∧ r.2.mem ((c.tc : Thread Cert.ProjAbIdeal.nD Cert.ProjAbIdeal.τ).loc Cert.ProjAbIdeal.main_arg1) = m ((c.tc : Thread Cert.ProjAbIdeal.nD Cert.ProjAbIdeal.τ).loc Cert.ProjAbIdeal.main_arg1))
      ∧ θ_run (Cert.ProjAbRefIdeal.defs (F := Ideal)) (onTc (τ := Cert.ProjAbRefIdeal.τ) (Cert.ProjAbRefIdeal.main (F := Ideal))) ⟨m', fun _ => 0, g'⟩ (fun r => ∀ c : Dev Cert.ProjAbRefIdeal.nD,
          r.2.mem ((c.tc : Thread Cert.ProjAbRefIdeal.nD Cert.ProjAbRefIdeal.τ).loc Cert.ProjAbRefIdeal.main_v3) = v0 c
          ∧ r.2.mem ((c.tc : Thread Cert.ProjAbRefIdeal.nD Cert.ProjAbRefIdeal.τ).loc Cert.ProjAbRefIdeal.main_arg0) = m' ((c.tc : Thread Cert.ProjAbRefIdeal.nD Cert.ProjAbRefIdeal.τ).loc Cert.ProjAbRefIdeal.main_arg0)
          ∧ r.2.mem ((c.tc : Thread Cert.ProjAbRefIdeal.nD Cert.ProjAbRefIdeal.τ).loc Cert.ProjAbRefIdeal.main_arg1) = m' ((c.tc : Thread Cert.ProjAbRefIdeal.nD Cert.ProjAbRefIdeal.τ).loc Cert.ProjAbRefIdeal.main_arg1))

def preserves_ProjGate_ProjGateIdeal : Prop :=
  True

def algebraic_ProjGateIdeal_ProjGateRefIdeal [hProjGateIdeal : Cert.ProjGateIdeal.Facts] [hProjGateRefIdeal : Cert.ProjGateRefIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg)
    (m' : (ℓ : Loc Cert.ProjGateRefIdeal.nD Cert.ProjGateRefIdeal.τ Cert.ProjGateRefIdeal.sig) → Buf (Elt Ideal) ℓ) (g' : Dev Cert.ProjGateRefIdeal.nD → PrngReg), Pre_ProjGateIdeal m →
    (∀ c : Dev Cert.ProjGateIdeal.nD,
      m' ((c.tc : Thread Cert.ProjGateRefIdeal.nD Cert.ProjGateRefIdeal.τ).loc Cert.ProjGateRefIdeal.main_arg0) = m ((c.tc : Thread Cert.ProjGateIdeal.nD Cert.ProjGateIdeal.τ).loc Cert.ProjGateIdeal.main_arg0)
      ∧ m' ((c.tc : Thread Cert.ProjGateRefIdeal.nD Cert.ProjGateRefIdeal.τ).loc Cert.ProjGateRefIdeal.main_arg1) = m ((c.tc : Thread Cert.ProjGateIdeal.nD Cert.ProjGateIdeal.τ).loc Cert.ProjGateIdeal.main_arg1)) →
    ∃ (v0 : (c : Dev Cert.ProjGateIdeal.nD) → Buf (Elt Ideal) ((c.tc : Thread Cert.ProjGateIdeal.nD Cert.ProjGateIdeal.τ).loc Cert.ProjGateIdeal.main_v1)),
      θ_run (Cert.ProjGateIdeal.defs (F := Ideal)) (onTc (τ := Cert.ProjGateIdeal.τ) (Cert.ProjGateIdeal.main (F := Ideal))) ⟨m, fun _ => 0, g⟩ (fun r => ∀ c : Dev Cert.ProjGateIdeal.nD,
          r.2.mem ((c.tc : Thread Cert.ProjGateIdeal.nD Cert.ProjGateIdeal.τ).loc Cert.ProjGateIdeal.main_v1) = v0 c
          ∧ r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
          ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ θ_run (Cert.ProjGateRefIdeal.defs (F := Ideal)) (onTc (τ := Cert.ProjGateRefIdeal.τ) (Cert.ProjGateRefIdeal.main (F := Ideal))) ⟨m', fun _ => 0, g'⟩ (fun r => ∀ c : Dev Cert.ProjGateRefIdeal.nD,
          r.2.mem ((c.tc : Thread Cert.ProjGateRefIdeal.nD Cert.ProjGateRefIdeal.τ).loc Cert.ProjGateRefIdeal.main_v4) = v0 c
          ∧ r.2.mem ((c.tc : Thread Cert.ProjGateRefIdeal.nD Cert.ProjGateRefIdeal.τ).loc Cert.ProjGateRefIdeal.main_arg0) = m' ((c.tc : Thread Cert.ProjGateRefIdeal.nD Cert.ProjGateRefIdeal.τ).loc Cert.ProjGateRefIdeal.main_arg0)
          ∧ r.2.mem ((c.tc : Thread Cert.ProjGateRefIdeal.nD Cert.ProjGateRefIdeal.τ).loc Cert.ProjGateRefIdeal.main_arg1) = m' ((c.tc : Thread Cert.ProjGateRefIdeal.nD Cert.ProjGateRefIdeal.τ).loc Cert.ProjGateRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v24) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_PeerQ_PeerQIdeal : Prop :=
  True

def algebraic_PeerQIdeal_PeerQRefIdeal [hPeerQIdeal : Cert.PeerQIdeal.Facts] [hPeerQRefIdeal : Cert.PeerQRefIdeal.Facts] : Prop :=
  ∀ (m : (ℓ : Loc Cert.PeerQIdeal.nD Cert.PeerQIdeal.τ Cert.PeerQIdeal.sig) → Buf (Elt Ideal) ℓ) (g : Dev Cert.PeerQIdeal.nD → PrngReg)
    (m' : (ℓ : Loc Cert.PeerQRefIdeal.nD Cert.PeerQRefIdeal.τ Cert.PeerQRefIdeal.sig) → Buf (Elt Ideal) ℓ) (g' : Dev Cert.PeerQRefIdeal.nD → PrngReg), Pre_PeerQIdeal m →
    (∀ c : Dev Cert.PeerQIdeal.nD,
      m' ((c.tc : Thread Cert.PeerQRefIdeal.nD Cert.PeerQRefIdeal.τ).loc Cert.PeerQRefIdeal.main_arg0) = m ((c.tc : Thread Cert.PeerQIdeal.nD Cert.PeerQIdeal.τ).loc Cert.PeerQIdeal.main_arg0)
      ∧ m' ((c.tc : Thread Cert.PeerQRefIdeal.nD Cert.PeerQRefIdeal.τ).loc Cert.PeerQRefIdeal.main_arg1) = m ((c.tc : Thread Cert.PeerQIdeal.nD Cert.PeerQIdeal.τ).loc Cert.PeerQIdeal.main_arg1)) →
    ∃ (v0 : (c : Dev Cert.PeerQIdeal.nD) → Buf (Elt Ideal) ((c.tc : Thread Cert.PeerQIdeal.nD Cert.PeerQIdeal.τ).loc Cert.PeerQIdeal.main_v0)),
      θ_run (Cert.PeerQIdeal.defs (F := Ideal)) (onTc (τ := Cert.PeerQIdeal.τ) (Cert.PeerQIdeal.main (F := Ideal))) ⟨m, fun _ => 0, g⟩ (fun r => ∀ c : Dev Cert.PeerQIdeal.nD,
          r.2.mem ((c.tc : Thread Cert.PeerQIdeal.nD Cert.PeerQIdeal.τ).loc Cert.PeerQIdeal.main_v0) = v0 c
          ∧ r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
          ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1))
      ∧ θ_run (Cert.PeerQRefIdeal.defs (F := Ideal)) (onTc (τ := Cert.PeerQRefIdeal.τ) (Cert.PeerQRefIdeal.main (F := Ideal))) ⟨m', fun _ => 0, g'⟩ (fun r => ∀ c : Dev Cert.PeerQRefIdeal.nD,
          r.2.mem ((c.tc : Thread Cert.PeerQRefIdeal.nD Cert.PeerQRefIdeal.τ).loc Cert.PeerQRefIdeal.main_v2) = v0 c
          ∧ r.2.mem ((c.tc : Thread Cert.PeerQRefIdeal.nD Cert.PeerQRefIdeal.τ).loc Cert.PeerQRefIdeal.main_arg0) = m' ((c.tc : Thread Cert.PeerQRefIdeal.nD Cert.PeerQRefIdeal.τ).loc Cert.PeerQRefIdeal.main_arg0)
          ∧ r.2.mem ((c.tc : Thread Cert.PeerQRefIdeal.nD Cert.PeerQRefIdeal.τ).loc Cert.PeerQRefIdeal.main_arg1) = m' ((c.tc : Thread Cert.PeerQRefIdeal.nD Cert.PeerQRefIdeal.τ).loc Cert.PeerQRefIdeal.main_arg1))

def preserves_LastPrompt_LastPromptIdeal : Prop :=
  True

def algebraic_LastPromptIdeal_LastPromptRefIdeal [hLastPromptIdeal : Cert.LastPromptIdeal.Facts] [hLastPromptRefIdeal : Cert.LastPromptRefIdeal.Facts] : Prop :=
  ∀ (m : (ℓ : Loc Cert.LastPromptIdeal.nD Cert.LastPromptIdeal.τ Cert.LastPromptIdeal.sig) → Buf (Elt Ideal) ℓ) (g : Dev Cert.LastPromptIdeal.nD → PrngReg)
    (m' : (ℓ : Loc Cert.LastPromptRefIdeal.nD Cert.LastPromptRefIdeal.τ Cert.LastPromptRefIdeal.sig) → Buf (Elt Ideal) ℓ) (g' : Dev Cert.LastPromptRefIdeal.nD → PrngReg), Pre_LastPromptIdeal m →
    (∀ c : Dev Cert.LastPromptIdeal.nD,
      m' ((c.tc : Thread Cert.LastPromptRefIdeal.nD Cert.LastPromptRefIdeal.τ).loc Cert.LastPromptRefIdeal.main_arg0) = m ((c.tc : Thread Cert.LastPromptIdeal.nD Cert.LastPromptIdeal.τ).loc Cert.LastPromptIdeal.main_arg0)
      ∧ m' ((c.tc : Thread Cert.LastPromptRefIdeal.nD Cert.LastPromptRefIdeal.τ).loc Cert.LastPromptRefIdeal.main_arg1) = m ((c.tc : Thread Cert.LastPromptIdeal.nD Cert.LastPromptIdeal.τ).loc Cert.LastPromptIdeal.main_arg1)
      ∧ m' ((c.tc : Thread Cert.LastPromptRefIdeal.nD Cert.LastPromptRefIdeal.τ).loc Cert.LastPromptRefIdeal.main_arg2) = m ((c.tc : Thread Cert.LastPromptIdeal.nD Cert.LastPromptIdeal.τ).loc Cert.LastPromptIdeal.main_arg2)
      ∧ m' ((c.tc : Thread Cert.LastPromptRefIdeal.nD Cert.LastPromptRefIdeal.τ).loc Cert.LastPromptRefIdeal.main_arg3) = m ((c.tc : Thread Cert.LastPromptIdeal.nD Cert.LastPromptIdeal.τ).loc Cert.LastPromptIdeal.main_arg3)
      ∧ m' ((c.tc : Thread Cert.LastPromptRefIdeal.nD Cert.LastPromptRefIdeal.τ).loc Cert.LastPromptRefIdeal.main_arg4) = m ((c.tc : Thread Cert.LastPromptIdeal.nD Cert.LastPromptIdeal.τ).loc Cert.LastPromptIdeal.main_arg4)) →
    ∃ (v0 : (c : Dev Cert.LastPromptIdeal.nD) → Buf (Elt Ideal) ((c.tc : Thread Cert.LastPromptIdeal.nD Cert.LastPromptIdeal.τ).loc Cert.LastPromptIdeal.main_v2)),
      θ_run (Cert.LastPromptIdeal.defs (F := Ideal)) (onTc (τ := Cert.LastPromptIdeal.τ) (Cert.LastPromptIdeal.main (F := Ideal))) ⟨m, fun _ => 0, g⟩ (fun r => ∀ c : Dev Cert.LastPromptIdeal.nD,
          r.2.mem ((c.tc : Thread Cert.LastPromptIdeal.nD Cert.LastPromptIdeal.τ).loc Cert.LastPromptIdeal.main_v2) = v0 c
          ∧ r.2.mem ((c.tc : Thread Cert.LastPromptIdeal.nD Cert.LastPromptIdeal.τ).loc Cert.LastPromptIdeal.main_arg0) = m ((c.tc : Thread Cert.LastPromptIdeal.nD Cert.LastPromptIdeal.τ).loc Cert.LastPromptIdeal.main_arg0)
          ∧ r.2.mem ((c.tc : Thread Cert.LastPromptIdeal.nD Cert.LastPromptIdeal.τ).loc Cert.LastPromptIdeal.main_arg1) = m ((c.tc : Thread Cert.LastPromptIdeal.nD Cert.LastPromptIdeal.τ).loc Cert.LastPromptIdeal.main_arg1)
          ∧ r.2.mem ((c.tc : Thread Cert.LastPromptIdeal.nD Cert.LastPromptIdeal.τ).loc Cert.LastPromptIdeal.main_arg2) = m ((c.tc : Thread Cert.LastPromptIdeal.nD Cert.LastPromptIdeal.τ).loc Cert.LastPromptIdeal.main_arg2)
          ∧ r.2.mem ((c.tc : Thread Cert.LastPromptIdeal.nD Cert.LastPromptIdeal.τ).loc Cert.LastPromptIdeal.main_arg3) = m ((c.tc : Thread Cert.LastPromptIdeal.nD Cert.LastPromptIdeal.τ).loc Cert.LastPromptIdeal.main_arg3)
          ∧ r.2.mem ((c.tc : Thread Cert.LastPromptIdeal.nD Cert.LastPromptIdeal.τ).loc Cert.LastPromptIdeal.main_arg4) = m ((c.tc : Thread Cert.LastPromptIdeal.nD Cert.LastPromptIdeal.τ).loc Cert.LastPromptIdeal.main_arg4))
      ∧ θ_run (Cert.LastPromptRefIdeal.defs (F := Ideal)) (onTc (τ := Cert.LastPromptRefIdeal.τ) (Cert.LastPromptRefIdeal.main (F := Ideal))) ⟨m', fun _ => 0, g'⟩ (fun r => ∀ c : Dev Cert.LastPromptRefIdeal.nD,
          r.2.mem ((c.tc : Thread Cert.LastPromptRefIdeal.nD Cert.LastPromptRefIdeal.τ).loc Cert.LastPromptRefIdeal.main_v31) = v0 c
          ∧ r.2.mem ((c.tc : Thread Cert.LastPromptRefIdeal.nD Cert.LastPromptRefIdeal.τ).loc Cert.LastPromptRefIdeal.main_arg0) = m' ((c.tc : Thread Cert.LastPromptRefIdeal.nD Cert.LastPromptRefIdeal.τ).loc Cert.LastPromptRefIdeal.main_arg0)
          ∧ r.2.mem ((c.tc : Thread Cert.LastPromptRefIdeal.nD Cert.LastPromptRefIdeal.τ).loc Cert.LastPromptRefIdeal.main_arg1) = m' ((c.tc : Thread Cert.LastPromptRefIdeal.nD Cert.LastPromptRefIdeal.τ).loc Cert.LastPromptRefIdeal.main_arg1)
          ∧ r.2.mem ((c.tc : Thread Cert.LastPromptRefIdeal.nD Cert.LastPromptRefIdeal.τ).loc Cert.LastPromptRefIdeal.main_arg2) = m' ((c.tc : Thread Cert.LastPromptRefIdeal.nD Cert.LastPromptRefIdeal.τ).loc Cert.LastPromptRefIdeal.main_arg2)
          ∧ r.2.mem ((c.tc : Thread Cert.LastPromptRefIdeal.nD Cert.LastPromptRefIdeal.τ).loc Cert.LastPromptRefIdeal.main_arg3) = m' ((c.tc : Thread Cert.LastPromptRefIdeal.nD Cert.LastPromptRefIdeal.τ).loc Cert.LastPromptRefIdeal.main_arg3)
          ∧ r.2.mem ((c.tc : Thread Cert.LastPromptRefIdeal.nD Cert.LastPromptRefIdeal.τ).loc Cert.LastPromptRefIdeal.main_arg4) = m' ((c.tc : Thread Cert.LastPromptRefIdeal.nD Cert.LastPromptRefIdeal.τ).loc Cert.LastPromptRefIdeal.main_arg4))

def preserves_LastSample_LastSampleIdeal : Prop :=
  True

def algebraic_LastSampleIdeal_LastSampleRefIdeal [hLastSampleIdeal : Cert.LastSampleIdeal.Facts] [hLastSampleRefIdeal : Cert.LastSampleRefIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg)
    (m' : (ℓ : Loc Cert.LastSampleRefIdeal.nD Cert.LastSampleRefIdeal.τ Cert.LastSampleRefIdeal.sig) → Buf (Elt Ideal) ℓ) (g' : Dev Cert.LastSampleRefIdeal.nD → PrngReg), Pre_LastSampleIdeal m →
    (∀ c : Dev Cert.LastSampleIdeal.nD,
      m' ((c.tc : Thread Cert.LastSampleRefIdeal.nD Cert.LastSampleRefIdeal.τ).loc Cert.LastSampleRefIdeal.main_arg0) = m ((c.tc : Thread Cert.LastSampleIdeal.nD Cert.LastSampleIdeal.τ).loc Cert.LastSampleIdeal.main_arg0)
      ∧ m' ((c.tc : Thread Cert.LastSampleRefIdeal.nD Cert.LastSampleRefIdeal.τ).loc Cert.LastSampleRefIdeal.main_arg1) = m ((c.tc : Thread Cert.LastSampleIdeal.nD Cert.LastSampleIdeal.τ).loc Cert.LastSampleIdeal.main_arg1)
      ∧ m' ((c.tc : Thread Cert.LastSampleRefIdeal.nD Cert.LastSampleRefIdeal.τ).loc Cert.LastSampleRefIdeal.main_arg2) = m ((c.tc : Thread Cert.LastSampleIdeal.nD Cert.LastSampleIdeal.τ).loc Cert.LastSampleIdeal.main_arg2)
      ∧ m' ((c.tc : Thread Cert.LastSampleRefIdeal.nD Cert.LastSampleRefIdeal.τ).loc Cert.LastSampleRefIdeal.main_arg3) = m ((c.tc : Thread Cert.LastSampleIdeal.nD Cert.LastSampleIdeal.τ).loc Cert.LastSampleIdeal.main_arg3)
      ∧ m' ((c.tc : Thread Cert.LastSampleRefIdeal.nD Cert.LastSampleRefIdeal.τ).loc Cert.LastSampleRefIdeal.main_arg4) = m ((c.tc : Thread Cert.LastSampleIdeal.nD Cert.LastSampleIdeal.τ).loc Cert.LastSampleIdeal.main_arg4)) →
    ∃ (v0 : (c : Dev Cert.LastSampleIdeal.nD) → Buf (Elt Ideal) ((c.tc : Thread Cert.LastSampleIdeal.nD Cert.LastSampleIdeal.τ).loc Cert.LastSampleIdeal.main_v2)),
      θ_run (Cert.LastSampleIdeal.defs (F := Ideal)) (onTc (τ := Cert.LastSampleIdeal.τ) (Cert.LastSampleIdeal.main (F := Ideal))) ⟨m, fun _ => 0, g⟩ (fun r => ∀ c : Dev Cert.LastSampleIdeal.nD,
          r.2.mem ((c.tc : Thread Cert.LastSampleIdeal.nD Cert.LastSampleIdeal.τ).loc Cert.LastSampleIdeal.main_v2) = v0 c
          ∧ r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
          ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
          ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
          ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
          ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4))
      ∧ θ_run (Cert.LastSampleRefIdeal.defs (F := Ideal)) (onTc (τ := Cert.LastSampleRefIdeal.τ) (Cert.LastSampleRefIdeal.main (F := Ideal))) ⟨m', fun _ => 0, g'⟩ (fun r => ∀ c : Dev Cert.LastSampleRefIdeal.nD,
          r.2.mem ((c.tc : Thread Cert.LastSampleRefIdeal.nD Cert.LastSampleRefIdeal.τ).loc Cert.LastSampleRefIdeal.main_v31) = v0 c
          ∧ r.2.mem ((c.tc : Thread Cert.LastSampleRefIdeal.nD Cert.LastSampleRefIdeal.τ).loc Cert.LastSampleRefIdeal.main_arg0) = m' ((c.tc : Thread Cert.LastSampleRefIdeal.nD Cert.LastSampleRefIdeal.τ).loc Cert.LastSampleRefIdeal.main_arg0)
          ∧ r.2.mem ((c.tc : Thread Cert.LastSampleRefIdeal.nD Cert.LastSampleRefIdeal.τ).loc Cert.LastSampleRefIdeal.main_arg1) = m' ((c.tc : Thread Cert.LastSampleRefIdeal.nD Cert.LastSampleRefIdeal.τ).loc Cert.LastSampleRefIdeal.main_arg1)
          ∧ r.2.mem ((c.tc : Thread Cert.LastSampleRefIdeal.nD Cert.LastSampleRefIdeal.τ).loc Cert.LastSampleRefIdeal.main_arg2) = m' ((c.tc : Thread Cert.LastSampleRefIdeal.nD Cert.LastSampleRefIdeal.τ).loc Cert.LastSampleRefIdeal.main_arg2)
          ∧ r.2.mem ((c.tc : Thread Cert.LastSampleRefIdeal.nD Cert.LastSampleRefIdeal.τ).loc Cert.LastSampleRefIdeal.main_arg3) = m' ((c.tc : Thread Cert.LastSampleRefIdeal.nD Cert.LastSampleRefIdeal.τ).loc Cert.LastSampleRefIdeal.main_arg3)
          ∧ r.2.mem ((c.tc : Thread Cert.LastSampleRefIdeal.nD Cert.LastSampleRefIdeal.τ).loc Cert.LastSampleRefIdeal.main_arg4) = m' ((c.tc : Thread Cert.LastSampleRefIdeal.nD Cert.LastSampleRefIdeal.τ).loc Cert.LastSampleRefIdeal.main_arg4))

def preserves_LnMod_LnModIdeal : Prop :=
  True

def algebraic_LnModIdeal_LnModRefIdeal [hLnModIdeal : Cert.LnModIdeal.Facts] [hLnModRefIdeal : Cert.LnModRefIdeal.Facts] : Prop :=
  ∀ (m : (ℓ : Loc Cert.LnModIdeal.nD Cert.LnModIdeal.τ Cert.LnModIdeal.sig) → Buf (Elt Ideal) ℓ) (g : Dev Cert.LnModIdeal.nD → PrngReg)
    (m' : (ℓ : Loc Cert.LnModRefIdeal.nD Cert.LnModRefIdeal.τ Cert.LnModRefIdeal.sig) → Buf (Elt Ideal) ℓ) (g' : Dev Cert.LnModRefIdeal.nD → PrngReg), Pre_LnModIdeal m →
    (∀ c : Dev Cert.LnModIdeal.nD,
      m' ((c.tc : Thread Cert.LnModRefIdeal.nD Cert.LnModRefIdeal.τ).loc Cert.LnModRefIdeal.main_arg0) = m ((c.tc : Thread Cert.LnModIdeal.nD Cert.LnModIdeal.τ).loc Cert.LnModIdeal.main_arg0)
      ∧ m' ((c.tc : Thread Cert.LnModRefIdeal.nD Cert.LnModRefIdeal.τ).loc Cert.LnModRefIdeal.main_arg1) = m ((c.tc : Thread Cert.LnModIdeal.nD Cert.LnModIdeal.τ).loc Cert.LnModIdeal.main_arg1)
      ∧ m' ((c.tc : Thread Cert.LnModRefIdeal.nD Cert.LnModRefIdeal.τ).loc Cert.LnModRefIdeal.main_arg2) = m ((c.tc : Thread Cert.LnModIdeal.nD Cert.LnModIdeal.τ).loc Cert.LnModIdeal.main_arg2)) →
    ∃ (v0 : (c : Dev Cert.LnModIdeal.nD) → Buf (Elt Ideal) ((c.tc : Thread Cert.LnModIdeal.nD Cert.LnModIdeal.τ).loc Cert.LnModIdeal.main_v0)),
      θ_run (Cert.LnModIdeal.defs (F := Ideal)) (onTc (τ := Cert.LnModIdeal.τ) (Cert.LnModIdeal.main (F := Ideal))) ⟨m, fun _ => 0, g⟩ (fun r => ∀ c : Dev Cert.LnModIdeal.nD,
          r.2.mem ((c.tc : Thread Cert.LnModIdeal.nD Cert.LnModIdeal.τ).loc Cert.LnModIdeal.main_v0) = v0 c
          ∧ r.2.mem ((c.tc : Thread Cert.LnModIdeal.nD Cert.LnModIdeal.τ).loc Cert.LnModIdeal.main_arg0) = m ((c.tc : Thread Cert.LnModIdeal.nD Cert.LnModIdeal.τ).loc Cert.LnModIdeal.main_arg0)
          ∧ r.2.mem ((c.tc : Thread Cert.LnModIdeal.nD Cert.LnModIdeal.τ).loc Cert.LnModIdeal.main_arg1) = m ((c.tc : Thread Cert.LnModIdeal.nD Cert.LnModIdeal.τ).loc Cert.LnModIdeal.main_arg1)
          ∧ r.2.mem ((c.tc : Thread Cert.LnModIdeal.nD Cert.LnModIdeal.τ).loc Cert.LnModIdeal.main_arg2) = m ((c.tc : Thread Cert.LnModIdeal.nD Cert.LnModIdeal.τ).loc Cert.LnModIdeal.main_arg2))
      ∧ θ_run (Cert.LnModRefIdeal.defs (F := Ideal)) (onTc (τ := Cert.LnModRefIdeal.τ) (Cert.LnModRefIdeal.main (F := Ideal))) ⟨m', fun _ => 0, g'⟩ (fun r => ∀ c : Dev Cert.LnModRefIdeal.nD,
          r.2.mem ((c.tc : Thread Cert.LnModRefIdeal.nD Cert.LnModRefIdeal.τ).loc Cert.LnModRefIdeal.main_v24) = v0 c
          ∧ r.2.mem ((c.tc : Thread Cert.LnModRefIdeal.nD Cert.LnModRefIdeal.τ).loc Cert.LnModRefIdeal.main_arg0) = m' ((c.tc : Thread Cert.LnModRefIdeal.nD Cert.LnModRefIdeal.τ).loc Cert.LnModRefIdeal.main_arg0)
          ∧ r.2.mem ((c.tc : Thread Cert.LnModRefIdeal.nD Cert.LnModRefIdeal.τ).loc Cert.LnModRefIdeal.main_arg1) = m' ((c.tc : Thread Cert.LnModRefIdeal.nD Cert.LnModRefIdeal.τ).loc Cert.LnModRefIdeal.main_arg1)
          ∧ r.2.mem ((c.tc : Thread Cert.LnModRefIdeal.nD Cert.LnModRefIdeal.τ).loc Cert.LnModRefIdeal.main_arg2) = m' ((c.tc : Thread Cert.LnModRefIdeal.nD Cert.LnModRefIdeal.τ).loc Cert.LnModRefIdeal.main_arg2))

def preserves_FirstRes_FirstResIdeal : Prop :=
  True

def algebraic_FirstResIdeal_FirstResRefIdeal [hFirstResIdeal : Cert.FirstResIdeal.Facts] [hFirstResRefIdeal : Cert.FirstResRefIdeal.Facts] : Prop :=
  ∀ (m : (ℓ : Loc Cert.FirstResIdeal.nD Cert.FirstResIdeal.τ Cert.FirstResIdeal.sig) → Buf (Elt Ideal) ℓ) (g : Dev Cert.FirstResIdeal.nD → PrngReg)
    (m' : (ℓ : Loc Cert.FirstResRefIdeal.nD Cert.FirstResRefIdeal.τ Cert.FirstResRefIdeal.sig) → Buf (Elt Ideal) ℓ) (g' : Dev Cert.FirstResRefIdeal.nD → PrngReg), Pre_FirstResIdeal m →
    (∀ c : Dev Cert.FirstResIdeal.nD,
      m' ((c.tc : Thread Cert.FirstResRefIdeal.nD Cert.FirstResRefIdeal.τ).loc Cert.FirstResRefIdeal.main_arg0) = m ((c.tc : Thread Cert.FirstResIdeal.nD Cert.FirstResIdeal.τ).loc Cert.FirstResIdeal.main_arg0)
      ∧ m' ((c.tc : Thread Cert.FirstResRefIdeal.nD Cert.FirstResRefIdeal.τ).loc Cert.FirstResRefIdeal.main_arg1) = m ((c.tc : Thread Cert.FirstResIdeal.nD Cert.FirstResIdeal.τ).loc Cert.FirstResIdeal.main_arg1)
      ∧ m' ((c.tc : Thread Cert.FirstResRefIdeal.nD Cert.FirstResRefIdeal.τ).loc Cert.FirstResRefIdeal.main_arg2) = m ((c.tc : Thread Cert.FirstResIdeal.nD Cert.FirstResIdeal.τ).loc Cert.FirstResIdeal.main_arg2)
      ∧ m' ((c.tc : Thread Cert.FirstResRefIdeal.nD Cert.FirstResRefIdeal.τ).loc Cert.FirstResRefIdeal.main_arg3) = m ((c.tc : Thread Cert.FirstResIdeal.nD Cert.FirstResIdeal.τ).loc Cert.FirstResIdeal.main_arg3)
      ∧ m' ((c.tc : Thread Cert.FirstResRefIdeal.nD Cert.FirstResRefIdeal.τ).loc Cert.FirstResRefIdeal.main_arg4) = m ((c.tc : Thread Cert.FirstResIdeal.nD Cert.FirstResIdeal.τ).loc Cert.FirstResIdeal.main_arg4)
      ∧ m' ((c.tc : Thread Cert.FirstResRefIdeal.nD Cert.FirstResRefIdeal.τ).loc Cert.FirstResRefIdeal.main_arg5) = m ((c.tc : Thread Cert.FirstResIdeal.nD Cert.FirstResIdeal.τ).loc Cert.FirstResIdeal.main_arg5)
      ∧ m' ((c.tc : Thread Cert.FirstResRefIdeal.nD Cert.FirstResRefIdeal.τ).loc Cert.FirstResRefIdeal.main_arg6) = m ((c.tc : Thread Cert.FirstResIdeal.nD Cert.FirstResIdeal.τ).loc Cert.FirstResIdeal.main_arg6)) →
    ∃ (v0 : (c : Dev Cert.FirstResIdeal.nD) → Buf (Elt Ideal) ((c.tc : Thread Cert.FirstResIdeal.nD Cert.FirstResIdeal.τ).loc Cert.FirstResIdeal.main_v2_0)) (v1 : (c : Dev Cert.FirstResIdeal.nD) → Buf (Elt Ideal) ((c.tc : Thread Cert.FirstResIdeal.nD Cert.FirstResIdeal.τ).loc Cert.FirstResIdeal.main_v2_1)),
      θ_run (Cert.FirstResIdeal.defs (F := Ideal)) (onTc (τ := Cert.FirstResIdeal.τ) (Cert.FirstResIdeal.main (F := Ideal))) ⟨m, fun _ => 0, g⟩ (fun r => ∀ c : Dev Cert.FirstResIdeal.nD,
          r.2.mem ((c.tc : Thread Cert.FirstResIdeal.nD Cert.FirstResIdeal.τ).loc Cert.FirstResIdeal.main_v2_0) = v0 c
          ∧ r.2.mem ((c.tc : Thread Cert.FirstResIdeal.nD Cert.FirstResIdeal.τ).loc Cert.FirstResIdeal.main_v2_1) = v1 c
          ∧ r.2.mem ((c.tc : Thread Cert.FirstResIdeal.nD Cert.FirstResIdeal.τ).loc Cert.FirstResIdeal.main_arg0) = m ((c.tc : Thread Cert.FirstResIdeal.nD Cert.FirstResIdeal.τ).loc Cert.FirstResIdeal.main_arg0)
          ∧ r.2.mem ((c.tc : Thread Cert.FirstResIdeal.nD Cert.FirstResIdeal.τ).loc Cert.FirstResIdeal.main_arg1) = m ((c.tc : Thread Cert.FirstResIdeal.nD Cert.FirstResIdeal.τ).loc Cert.FirstResIdeal.main_arg1)
          ∧ r.2.mem ((c.tc : Thread Cert.FirstResIdeal.nD Cert.FirstResIdeal.τ).loc Cert.FirstResIdeal.main_arg2) = m ((c.tc : Thread Cert.FirstResIdeal.nD Cert.FirstResIdeal.τ).loc Cert.FirstResIdeal.main_arg2)
          ∧ r.2.mem ((c.tc : Thread Cert.FirstResIdeal.nD Cert.FirstResIdeal.τ).loc Cert.FirstResIdeal.main_arg3) = m ((c.tc : Thread Cert.FirstResIdeal.nD Cert.FirstResIdeal.τ).loc Cert.FirstResIdeal.main_arg3)
          ∧ r.2.mem ((c.tc : Thread Cert.FirstResIdeal.nD Cert.FirstResIdeal.τ).loc Cert.FirstResIdeal.main_arg4) = m ((c.tc : Thread Cert.FirstResIdeal.nD Cert.FirstResIdeal.τ).loc Cert.FirstResIdeal.main_arg4)
          ∧ r.2.mem ((c.tc : Thread Cert.FirstResIdeal.nD Cert.FirstResIdeal.τ).loc Cert.FirstResIdeal.main_arg5) = m ((c.tc : Thread Cert.FirstResIdeal.nD Cert.FirstResIdeal.τ).loc Cert.FirstResIdeal.main_arg5)
          ∧ r.2.mem ((c.tc : Thread Cert.FirstResIdeal.nD Cert.FirstResIdeal.τ).loc Cert.FirstResIdeal.main_arg6) = m ((c.tc : Thread Cert.FirstResIdeal.nD Cert.FirstResIdeal.τ).loc Cert.FirstResIdeal.main_arg6))
      ∧ θ_run (Cert.FirstResRefIdeal.defs (F := Ideal)) (onTc (τ := Cert.FirstResRefIdeal.τ) (Cert.FirstResRefIdeal.main (F := Ideal))) ⟨m', fun _ => 0, g'⟩ (fun r => ∀ c : Dev Cert.FirstResRefIdeal.nD,
          r.2.mem ((c.tc : Thread Cert.FirstResRefIdeal.nD Cert.FirstResRefIdeal.τ).loc Cert.FirstResRefIdeal.main_v28) = v0 c
          ∧ r.2.mem ((c.tc : Thread Cert.FirstResRefIdeal.nD Cert.FirstResRefIdeal.τ).loc Cert.FirstResRefIdeal.main_v53) = v1 c
          ∧ r.2.mem ((c.tc : Thread Cert.FirstResRefIdeal.nD Cert.FirstResRefIdeal.τ).loc Cert.FirstResRefIdeal.main_arg0) = m' ((c.tc : Thread Cert.FirstResRefIdeal.nD Cert.FirstResRefIdeal.τ).loc Cert.FirstResRefIdeal.main_arg0)
          ∧ r.2.mem ((c.tc : Thread Cert.FirstResRefIdeal.nD Cert.FirstResRefIdeal.τ).loc Cert.FirstResRefIdeal.main_arg1) = m' ((c.tc : Thread Cert.FirstResRefIdeal.nD Cert.FirstResRefIdeal.τ).loc Cert.FirstResRefIdeal.main_arg1)
          ∧ r.2.mem ((c.tc : Thread Cert.FirstResRefIdeal.nD Cert.FirstResRefIdeal.τ).loc Cert.FirstResRefIdeal.main_arg2) = m' ((c.tc : Thread Cert.FirstResRefIdeal.nD Cert.FirstResRefIdeal.τ).loc Cert.FirstResRefIdeal.main_arg2)
          ∧ r.2.mem ((c.tc : Thread Cert.FirstResRefIdeal.nD Cert.FirstResRefIdeal.τ).loc Cert.FirstResRefIdeal.main_arg3) = m' ((c.tc : Thread Cert.FirstResRefIdeal.nD Cert.FirstResRefIdeal.τ).loc Cert.FirstResRefIdeal.main_arg3)
          ∧ r.2.mem ((c.tc : Thread Cert.FirstResRefIdeal.nD Cert.FirstResRefIdeal.τ).loc Cert.FirstResRefIdeal.main_arg4) = m' ((c.tc : Thread Cert.FirstResRefIdeal.nD Cert.FirstResRefIdeal.τ).loc Cert.FirstResRefIdeal.main_arg4)
          ∧ r.2.mem ((c.tc : Thread Cert.FirstResRefIdeal.nD Cert.FirstResRefIdeal.τ).loc Cert.FirstResRefIdeal.main_arg5) = m' ((c.tc : Thread Cert.FirstResRefIdeal.nD Cert.FirstResRefIdeal.τ).loc Cert.FirstResRefIdeal.main_arg5)
          ∧ r.2.mem ((c.tc : Thread Cert.FirstResRefIdeal.nD Cert.FirstResRefIdeal.τ).loc Cert.FirstResRefIdeal.main_arg6) = m' ((c.tc : Thread Cert.FirstResRefIdeal.nD Cert.FirstResRefIdeal.τ).loc Cert.FirstResRefIdeal.main_arg6))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v8) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_GdnOut_GdnOutIdeal : Prop :=
  True

def algebraic_GdnOutIdeal_GdnOutRefIdeal [hGdnOutIdeal : Cert.GdnOutIdeal.Facts] [hGdnOutRefIdeal : Cert.GdnOutRefIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutRefIdeal.nD Cert.GdnOutRefIdeal.τ Cert.GdnOutRefIdeal.sig) → Buf (Elt Ideal) ℓ) (g' : Dev Cert.GdnOutRefIdeal.nD → PrngReg), Pre_GdnOutIdeal m →
    (∀ c : Dev Cert.GdnOutIdeal.nD,
      m' ((c.tc : Thread Cert.GdnOutRefIdeal.nD Cert.GdnOutRefIdeal.τ).loc Cert.GdnOutRefIdeal.main_arg0) = m ((c.tc : Thread Cert.GdnOutIdeal.nD Cert.GdnOutIdeal.τ).loc Cert.GdnOutIdeal.main_arg0)
      ∧ m' ((c.tc : Thread Cert.GdnOutRefIdeal.nD Cert.GdnOutRefIdeal.τ).loc Cert.GdnOutRefIdeal.main_arg1) = m ((c.tc : Thread Cert.GdnOutIdeal.nD Cert.GdnOutIdeal.τ).loc Cert.GdnOutIdeal.main_arg1)
      ∧ m' ((c.tc : Thread Cert.GdnOutRefIdeal.nD Cert.GdnOutRefIdeal.τ).loc Cert.GdnOutRefIdeal.main_arg2) = m ((c.tc : Thread Cert.GdnOutIdeal.nD Cert.GdnOutIdeal.τ).loc Cert.GdnOutIdeal.main_arg2)
      ∧ m' ((c.tc : Thread Cert.GdnOutRefIdeal.nD Cert.GdnOutRefIdeal.τ).loc Cert.GdnOutRefIdeal.main_arg3) = m ((c.tc : Thread Cert.GdnOutIdeal.nD Cert.GdnOutIdeal.τ).loc Cert.GdnOutIdeal.main_arg3)) →
    ∃ (v0 : (c : Dev Cert.GdnOutIdeal.nD) → Buf (Elt Ideal) ((c.tc : Thread Cert.GdnOutIdeal.nD Cert.GdnOutIdeal.τ).loc Cert.GdnOutIdeal.main_v1)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v1) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
          ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3))
      ∧ θ_run (Cert.GdnOutRefIdeal.defs (F := Ideal)) (onTc (τ := Cert.GdnOutRefIdeal.τ) (Cert.GdnOutRefIdeal.main (F := Ideal))) ⟨m', fun _ => 0, g'⟩ (fun r => ∀ c : Dev Cert.GdnOutRefIdeal.nD,
          r.2.mem ((c.tc : Thread Cert.GdnOutRefIdeal.nD Cert.GdnOutRefIdeal.τ).loc Cert.GdnOutRefIdeal.main_v21) = v0 c
          ∧ r.2.mem ((c.tc : Thread Cert.GdnOutRefIdeal.nD Cert.GdnOutRefIdeal.τ).loc Cert.GdnOutRefIdeal.main_arg0) = m' ((c.tc : Thread Cert.GdnOutRefIdeal.nD Cert.GdnOutRefIdeal.τ).loc Cert.GdnOutRefIdeal.main_arg0)
          ∧ r.2.mem ((c.tc : Thread Cert.GdnOutRefIdeal.nD Cert.GdnOutRefIdeal.τ).loc Cert.GdnOutRefIdeal.main_arg1) = m' ((c.tc : Thread Cert.GdnOutRefIdeal.nD Cert.GdnOutRefIdeal.τ).loc Cert.GdnOutRefIdeal.main_arg1)
          ∧ r.2.mem ((c.tc : Thread Cert.GdnOutRefIdeal.nD Cert.GdnOutRefIdeal.τ).loc Cert.GdnOutRefIdeal.main_arg2) = m' ((c.tc : Thread Cert.GdnOutRefIdeal.nD Cert.GdnOutRefIdeal.τ).loc Cert.GdnOutRefIdeal.main_arg2)
          ∧ r.2.mem ((c.tc : Thread Cert.GdnOutRefIdeal.nD Cert.GdnOutRefIdeal.τ).loc Cert.GdnOutRefIdeal.main_arg3) = m' ((c.tc : Thread Cert.GdnOutRefIdeal.nD Cert.GdnOutRefIdeal.τ).loc Cert.GdnOutRefIdeal.main_arg3))

def preserves_PeerDense_PeerDenseIdeal : Prop :=
  True

def algebraic_PeerDenseIdeal_PeerDenseRefIdeal [hPeerDenseIdeal : Cert.PeerDenseIdeal.Facts] [hPeerDenseRefIdeal : Cert.PeerDenseRefIdeal.Facts] : Prop :=
  ∀ (m : (ℓ : Loc Cert.PeerDenseIdeal.nD Cert.PeerDenseIdeal.τ Cert.PeerDenseIdeal.sig) → Buf (Elt Ideal) ℓ) (g : Dev Cert.PeerDenseIdeal.nD → PrngReg)
    (m' : (ℓ : Loc Cert.PeerDenseRefIdeal.nD Cert.PeerDenseRefIdeal.τ Cert.PeerDenseRefIdeal.sig) → Buf (Elt Ideal) ℓ) (g' : Dev Cert.PeerDenseRefIdeal.nD → PrngReg), Pre_PeerDenseIdeal m →
    (∀ c : Dev Cert.PeerDenseIdeal.nD,
      m' ((c.tc : Thread Cert.PeerDenseRefIdeal.nD Cert.PeerDenseRefIdeal.τ).loc Cert.PeerDenseRefIdeal.main_arg0) = m ((c.tc : Thread Cert.PeerDenseIdeal.nD Cert.PeerDenseIdeal.τ).loc Cert.PeerDenseIdeal.main_arg0)
      ∧ m' ((c.tc : Thread Cert.PeerDenseRefIdeal.nD Cert.PeerDenseRefIdeal.τ).loc Cert.PeerDenseRefIdeal.main_arg1) = m ((c.tc : Thread Cert.PeerDenseIdeal.nD Cert.PeerDenseIdeal.τ).loc Cert.PeerDenseIdeal.main_arg1)
      ∧ m' ((c.tc : Thread Cert.PeerDenseRefIdeal.nD Cert.PeerDenseRefIdeal.τ).loc Cert.PeerDenseRefIdeal.main_arg2) = m ((c.tc : Thread Cert.PeerDenseIdeal.nD Cert.PeerDenseIdeal.τ).loc Cert.PeerDenseIdeal.main_arg2)
      ∧ m' ((c.tc : Thread Cert.PeerDenseRefIdeal.nD Cert.PeerDenseRefIdeal.τ).loc Cert.PeerDenseRefIdeal.main_arg3) = m ((c.tc : Thread Cert.PeerDenseIdeal.nD Cert.PeerDenseIdeal.τ).loc Cert.PeerDenseIdeal.main_arg3)) →
    ∃ (v0 : (c : Dev Cert.PeerDenseIdeal.nD) → Buf (Elt Ideal) ((c.tc : Thread Cert.PeerDenseIdeal.nD Cert.PeerDenseIdeal.τ).loc Cert.PeerDenseIdeal.main_v0)),
      θ_run (Cert.PeerDenseIdeal.defs (F := Ideal)) (onTc (τ := Cert.PeerDenseIdeal.τ) (Cert.PeerDenseIdeal.main (F := Ideal))) ⟨m, fun _ => 0, g⟩ (fun r => ∀ c : Dev Cert.PeerDenseIdeal.nD,
          r.2.mem ((c.tc : Thread Cert.PeerDenseIdeal.nD Cert.PeerDenseIdeal.τ).loc Cert.PeerDenseIdeal.main_v0) = v0 c
          ∧ r.2.mem ((c.tc : Thread Cert.PeerDenseIdeal.nD Cert.PeerDenseIdeal.τ).loc Cert.PeerDenseIdeal.main_arg0) = m ((c.tc : Thread Cert.PeerDenseIdeal.nD Cert.PeerDenseIdeal.τ).loc Cert.PeerDenseIdeal.main_arg0)
          ∧ r.2.mem ((c.tc : Thread Cert.PeerDenseIdeal.nD Cert.PeerDenseIdeal.τ).loc Cert.PeerDenseIdeal.main_arg1) = m ((c.tc : Thread Cert.PeerDenseIdeal.nD Cert.PeerDenseIdeal.τ).loc Cert.PeerDenseIdeal.main_arg1)
          ∧ r.2.mem ((c.tc : Thread Cert.PeerDenseIdeal.nD Cert.PeerDenseIdeal.τ).loc Cert.PeerDenseIdeal.main_arg2) = m ((c.tc : Thread Cert.PeerDenseIdeal.nD Cert.PeerDenseIdeal.τ).loc Cert.PeerDenseIdeal.main_arg2)
          ∧ r.2.mem ((c.tc : Thread Cert.PeerDenseIdeal.nD Cert.PeerDenseIdeal.τ).loc Cert.PeerDenseIdeal.main_arg3) = m ((c.tc : Thread Cert.PeerDenseIdeal.nD Cert.PeerDenseIdeal.τ).loc Cert.PeerDenseIdeal.main_arg3))
      ∧ θ_run (Cert.PeerDenseRefIdeal.defs (F := Ideal)) (onTc (τ := Cert.PeerDenseRefIdeal.τ) (Cert.PeerDenseRefIdeal.main (F := Ideal))) ⟨m', fun _ => 0, g'⟩ (fun r => ∀ c : Dev Cert.PeerDenseRefIdeal.nD,
          r.2.mem ((c.tc : Thread Cert.PeerDenseRefIdeal.nD Cert.PeerDenseRefIdeal.τ).loc Cert.PeerDenseRefIdeal.main_v14) = v0 c
          ∧ r.2.mem ((c.tc : Thread Cert.PeerDenseRefIdeal.nD Cert.PeerDenseRefIdeal.τ).loc Cert.PeerDenseRefIdeal.main_arg0) = m' ((c.tc : Thread Cert.PeerDenseRefIdeal.nD Cert.PeerDenseRefIdeal.τ).loc Cert.PeerDenseRefIdeal.main_arg0)
          ∧ r.2.mem ((c.tc : Thread Cert.PeerDenseRefIdeal.nD Cert.PeerDenseRefIdeal.τ).loc Cert.PeerDenseRefIdeal.main_arg1) = m' ((c.tc : Thread Cert.PeerDenseRefIdeal.nD Cert.PeerDenseRefIdeal.τ).loc Cert.PeerDenseRefIdeal.main_arg1)
          ∧ r.2.mem ((c.tc : Thread Cert.PeerDenseRefIdeal.nD Cert.PeerDenseRefIdeal.τ).loc Cert.PeerDenseRefIdeal.main_arg2) = m' ((c.tc : Thread Cert.PeerDenseRefIdeal.nD Cert.PeerDenseRefIdeal.τ).loc Cert.PeerDenseRefIdeal.main_arg2)
          ∧ r.2.mem ((c.tc : Thread Cert.PeerDenseRefIdeal.nD Cert.PeerDenseRefIdeal.τ).loc Cert.PeerDenseRefIdeal.main_arg3) = m' ((c.tc : Thread Cert.PeerDenseRefIdeal.nD Cert.PeerDenseRefIdeal.τ).loc Cert.PeerDenseRefIdeal.main_arg3))

def preserves_DnConv_DnConvIdeal : Prop :=
  True

def algebraic_DnConvIdeal_DnConvRefIdeal [hDnConvIdeal : Cert.DnConvIdeal.Facts] [hDnConvRefIdeal : Cert.DnConvRefIdeal.Facts] : Prop :=
  ∀ (m : (ℓ : Loc Cert.DnConvIdeal.nD Cert.DnConvIdeal.τ Cert.DnConvIdeal.sig) → Buf (Elt Ideal) ℓ) (g : Dev Cert.DnConvIdeal.nD → PrngReg)
    (m' : (ℓ : Loc Cert.DnConvRefIdeal.nD Cert.DnConvRefIdeal.τ Cert.DnConvRefIdeal.sig) → Buf (Elt Ideal) ℓ) (g' : Dev Cert.DnConvRefIdeal.nD → PrngReg), Pre_DnConvIdeal m →
    (∀ c : Dev Cert.DnConvIdeal.nD,
      m' ((c.tc : Thread Cert.DnConvRefIdeal.nD Cert.DnConvRefIdeal.τ).loc Cert.DnConvRefIdeal.main_arg0) = m ((c.tc : Thread Cert.DnConvIdeal.nD Cert.DnConvIdeal.τ).loc Cert.DnConvIdeal.main_arg0)
      ∧ m' ((c.tc : Thread Cert.DnConvRefIdeal.nD Cert.DnConvRefIdeal.τ).loc Cert.DnConvRefIdeal.main_arg1) = m ((c.tc : Thread Cert.DnConvIdeal.nD Cert.DnConvIdeal.τ).loc Cert.DnConvIdeal.main_arg1)) →
    ∃ (v0 : (c : Dev Cert.DnConvIdeal.nD) → Buf (Elt Ideal) ((c.tc : Thread Cert.DnConvIdeal.nD Cert.DnConvIdeal.τ).loc Cert.DnConvIdeal.main_v0)),
      θ_run (Cert.DnConvIdeal.defs (F := Ideal)) (onTc (τ := Cert.DnConvIdeal.τ) (Cert.DnConvIdeal.main (F := Ideal))) ⟨m, fun _ => 0, g⟩ (fun r => ∀ c : Dev Cert.DnConvIdeal.nD,
          r.2.mem ((c.tc : Thread Cert.DnConvIdeal.nD Cert.DnConvIdeal.τ).loc Cert.DnConvIdeal.main_v0) = v0 c
          ∧ r.2.mem ((c.tc : Thread Cert.DnConvIdeal.nD Cert.DnConvIdeal.τ).loc Cert.DnConvIdeal.main_arg0) = m ((c.tc : Thread Cert.DnConvIdeal.nD Cert.DnConvIdeal.τ).loc Cert.DnConvIdeal.main_arg0)
          ∧ r.2.mem ((c.tc : Thread Cert.DnConvIdeal.nD Cert.DnConvIdeal.τ).loc Cert.DnConvIdeal.main_arg1) = m ((c.tc : Thread Cert.DnConvIdeal.nD Cert.DnConvIdeal.τ).loc Cert.DnConvIdeal.main_arg1))
      ∧ θ_run (Cert.DnConvRefIdeal.defs (F := Ideal)) (onTc (τ := Cert.DnConvRefIdeal.τ) (Cert.DnConvRefIdeal.main (F := Ideal))) ⟨m', fun _ => 0, g'⟩ (fun r => ∀ c : Dev Cert.DnConvRefIdeal.nD,
          r.2.mem ((c.tc : Thread Cert.DnConvRefIdeal.nD Cert.DnConvRefIdeal.τ).loc Cert.DnConvRefIdeal.main_v68) = v0 c
          ∧ r.2.mem ((c.tc : Thread Cert.DnConvRefIdeal.nD Cert.DnConvRefIdeal.τ).loc Cert.DnConvRefIdeal.main_arg0) = m' ((c.tc : Thread Cert.DnConvRefIdeal.nD Cert.DnConvRefIdeal.τ).loc Cert.DnConvRefIdeal.main_arg0)
          ∧ r.2.mem ((c.tc : Thread Cert.DnConvRefIdeal.nD Cert.DnConvRefIdeal.τ).loc Cert.DnConvRefIdeal.main_arg1) = m' ((c.tc : Thread Cert.DnConvRefIdeal.nD Cert.DnConvRefIdeal.τ).loc Cert.DnConvRefIdeal.main_arg1))

def Claim : Prop :=
  ∃ (hKernel : Cert.Kernel.Facts) (hKernelIdeal : Cert.KernelIdeal.Facts) (hReferenceIdeal : Cert.ReferenceIdeal.Facts) (hProjAttn : Cert.ProjAttn.Facts) (hProjAttnIdeal : Cert.ProjAttnIdeal.Facts) (hProjAttnRefIdeal : Cert.ProjAttnRefIdeal.Facts) (hProjDn : Cert.ProjDn.Facts) (hProjDnIdeal : Cert.ProjDnIdeal.Facts) (hProjDnRefIdeal : Cert.ProjDnRefIdeal.Facts) (hProjAb : Cert.ProjAb.Facts) (hProjAbIdeal : Cert.ProjAbIdeal.Facts) (hProjAbRefIdeal : Cert.ProjAbRefIdeal.Facts) (hProjGate : Cert.ProjGate.Facts) (hProjGateIdeal : Cert.ProjGateIdeal.Facts) (hProjGateRefIdeal : Cert.ProjGateRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hPeerQ : Cert.PeerQ.Facts) (hPeerQIdeal : Cert.PeerQIdeal.Facts) (hPeerQRefIdeal : Cert.PeerQRefIdeal.Facts) (hLastPrompt : Cert.LastPrompt.Facts) (hLastPromptIdeal : Cert.LastPromptIdeal.Facts) (hLastPromptRefIdeal : Cert.LastPromptRefIdeal.Facts) (hLastSample : Cert.LastSample.Facts) (hLastSampleIdeal : Cert.LastSampleIdeal.Facts) (hLastSampleRefIdeal : Cert.LastSampleRefIdeal.Facts) (hLnMod : Cert.LnMod.Facts) (hLnModIdeal : Cert.LnModIdeal.Facts) (hLnModRefIdeal : Cert.LnModRefIdeal.Facts) (hFirstRes : Cert.FirstRes.Facts) (hFirstResIdeal : Cert.FirstResIdeal.Facts) (hFirstResRefIdeal : Cert.FirstResRefIdeal.Facts) (hAda : Cert.Ada.Facts) (hAdaIdeal : Cert.AdaIdeal.Facts) (hAdaRefIdeal : Cert.AdaRefIdeal.Facts) (hGdnOut : Cert.GdnOut.Facts) (hGdnOutIdeal : Cert.GdnOutIdeal.Facts) (hGdnOutRefIdeal : Cert.GdnOutRefIdeal.Facts) (hPeerDense : Cert.PeerDense.Facts) (hPeerDenseIdeal : Cert.PeerDenseIdeal.Facts) (hPeerDenseRefIdeal : Cert.PeerDenseRefIdeal.Facts) (hDnConv : Cert.DnConv.Facts) (hDnConvIdeal : Cert.DnConvIdeal.Facts) (hDnConvRefIdeal : Cert.DnConvRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ProjAttn (hProjAttn := hProjAttn)
    ∧ quiescent_ProjAttnIdeal (hProjAttnIdeal := hProjAttnIdeal)
    ∧ quiescent_ProjAttnRefIdeal (hProjAttnRefIdeal := hProjAttnRefIdeal)
    ∧ quiescent_ProjDn (hProjDn := hProjDn)
    ∧ quiescent_ProjDnIdeal (hProjDnIdeal := hProjDnIdeal)
    ∧ quiescent_ProjDnRefIdeal (hProjDnRefIdeal := hProjDnRefIdeal)
    ∧ quiescent_ProjAb (hProjAb := hProjAb)
    ∧ quiescent_ProjAbIdeal (hProjAbIdeal := hProjAbIdeal)
    ∧ quiescent_ProjAbRefIdeal (hProjAbRefIdeal := hProjAbRefIdeal)
    ∧ quiescent_ProjGate (hProjGate := hProjGate)
    ∧ quiescent_ProjGateIdeal (hProjGateIdeal := hProjGateIdeal)
    ∧ quiescent_ProjGateRefIdeal (hProjGateRefIdeal := hProjGateRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_PeerQ (hPeerQ := hPeerQ)
    ∧ quiescent_PeerQIdeal (hPeerQIdeal := hPeerQIdeal)
    ∧ quiescent_PeerQRefIdeal (hPeerQRefIdeal := hPeerQRefIdeal)
    ∧ quiescent_LastPrompt (hLastPrompt := hLastPrompt)
    ∧ quiescent_LastPromptIdeal (hLastPromptIdeal := hLastPromptIdeal)
    ∧ quiescent_LastPromptRefIdeal (hLastPromptRefIdeal := hLastPromptRefIdeal)
    ∧ quiescent_LastSample (hLastSample := hLastSample)
    ∧ quiescent_LastSampleIdeal (hLastSampleIdeal := hLastSampleIdeal)
    ∧ quiescent_LastSampleRefIdeal (hLastSampleRefIdeal := hLastSampleRefIdeal)
    ∧ quiescent_LnMod (hLnMod := hLnMod)
    ∧ quiescent_LnModIdeal (hLnModIdeal := hLnModIdeal)
    ∧ quiescent_LnModRefIdeal (hLnModRefIdeal := hLnModRefIdeal)
    ∧ quiescent_FirstRes (hFirstRes := hFirstRes)
    ∧ quiescent_FirstResIdeal (hFirstResIdeal := hFirstResIdeal)
    ∧ quiescent_FirstResRefIdeal (hFirstResRefIdeal := hFirstResRefIdeal)
    ∧ quiescent_Ada (hAda := hAda)
    ∧ quiescent_AdaIdeal (hAdaIdeal := hAdaIdeal)
    ∧ quiescent_AdaRefIdeal (hAdaRefIdeal := hAdaRefIdeal)
    ∧ quiescent_GdnOut (hGdnOut := hGdnOut)
    ∧ quiescent_GdnOutIdeal (hGdnOutIdeal := hGdnOutIdeal)
    ∧ quiescent_GdnOutRefIdeal (hGdnOutRefIdeal := hGdnOutRefIdeal)
    ∧ quiescent_PeerDense (hPeerDense := hPeerDense)
    ∧ quiescent_PeerDenseIdeal (hPeerDenseIdeal := hPeerDenseIdeal)
    ∧ quiescent_PeerDenseRefIdeal (hPeerDenseRefIdeal := hPeerDenseRefIdeal)
    ∧ quiescent_DnConv (hDnConv := hDnConv)
    ∧ quiescent_DnConvIdeal (hDnConvIdeal := hDnConvIdeal)
    ∧ quiescent_DnConvRefIdeal (hDnConvRefIdeal := hDnConvRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_ProjAttn_ProjAttnIdeal
    ∧ algebraic_ProjAttnIdeal_ProjAttnRefIdeal (hProjAttnIdeal := hProjAttnIdeal) (hProjAttnRefIdeal := hProjAttnRefIdeal)
    ∧ preserves_ProjDn_ProjDnIdeal
    ∧ algebraic_ProjDnIdeal_ProjDnRefIdeal (hProjDnIdeal := hProjDnIdeal) (hProjDnRefIdeal := hProjDnRefIdeal)
    ∧ preserves_ProjAb_ProjAbIdeal
    ∧ algebraic_ProjAbIdeal_ProjAbRefIdeal (hProjAbIdeal := hProjAbIdeal) (hProjAbRefIdeal := hProjAbRefIdeal)
    ∧ preserves_ProjGate_ProjGateIdeal
    ∧ algebraic_ProjGateIdeal_ProjGateRefIdeal (hProjGateIdeal := hProjGateIdeal) (hProjGateRefIdeal := hProjGateRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_PeerQ_PeerQIdeal
    ∧ algebraic_PeerQIdeal_PeerQRefIdeal (hPeerQIdeal := hPeerQIdeal) (hPeerQRefIdeal := hPeerQRefIdeal)
    ∧ preserves_LastPrompt_LastPromptIdeal
    ∧ algebraic_LastPromptIdeal_LastPromptRefIdeal (hLastPromptIdeal := hLastPromptIdeal) (hLastPromptRefIdeal := hLastPromptRefIdeal)
    ∧ preserves_LastSample_LastSampleIdeal
    ∧ algebraic_LastSampleIdeal_LastSampleRefIdeal (hLastSampleIdeal := hLastSampleIdeal) (hLastSampleRefIdeal := hLastSampleRefIdeal)
    ∧ preserves_LnMod_LnModIdeal
    ∧ algebraic_LnModIdeal_LnModRefIdeal (hLnModIdeal := hLnModIdeal) (hLnModRefIdeal := hLnModRefIdeal)
    ∧ preserves_FirstRes_FirstResIdeal
    ∧ algebraic_FirstResIdeal_FirstResRefIdeal (hFirstResIdeal := hFirstResIdeal) (hFirstResRefIdeal := hFirstResRefIdeal)
    ∧ preserves_Ada_AdaIdeal
    ∧ algebraic_AdaIdeal_AdaRefIdeal (hAdaIdeal := hAdaIdeal) (hAdaRefIdeal := hAdaRefIdeal)
    ∧ preserves_GdnOut_GdnOutIdeal
    ∧ algebraic_GdnOutIdeal_GdnOutRefIdeal (hGdnOutIdeal := hGdnOutIdeal) (hGdnOutRefIdeal := hGdnOutRefIdeal)
    ∧ preserves_PeerDense_PeerDenseIdeal
    ∧ algebraic_PeerDenseIdeal_PeerDenseRefIdeal (hPeerDenseIdeal := hPeerDenseIdeal) (hPeerDenseRefIdeal := hPeerDenseRefIdeal)
    ∧ preserves_DnConv_DnConvIdeal
    ∧ algebraic_DnConvIdeal_DnConvRefIdeal (hDnConvIdeal := hDnConvIdeal) (hDnConvRefIdeal := hDnConvRefIdeal)
-- ==== Pre_finite.lean ====
abbrev S3x8192x6144 : Shape := ⟨3, ![3, 8192, 6144]⟩
abbrev S3x8192x128 : Shape := ⟨3, ![3, 8192, 128]⟩
abbrev S2x16 : Shape := ⟨2, ![2, 16]⟩
abbrev S_ : Shape := ⟨0, ![]⟩

class Facts : Prop where
  bitsLt_bf16_f32 : FTy.bits .bf16 < FTy.bits .f32
  bcast_S_S3x8192x6144 : S_.BroadcastsInDim S3x8192x6144 (![] : Fin 0 → Fin S3x8192x6144.rank)
  bcast_S_S3x8192x128 : S_.BroadcastsInDim S3x8192x128 (![] : Fin 0 → Fin S3x8192x128.rank)
  bcast_S_S2x16 : S_.BroadcastsInDim S2x16 (![] : Fin 0 → Fin S2x16.rank)

variable [Facts]

def fn {F : FTy → Type} [FloatOps F] (main_arg0 : FVec F S3x8192x6144 .bf16) (main_arg1 : FVec F S3x8192x128 .f32) (main_arg2 : FVec F S2x16 .f32) (main_arg3 : FVec F S2x16 .f32) : IVec S3x8192x6144 1 × IVec S3x8192x128 1 × IVec S2x16 1 × IVec S2x16 1 :=
  let main_v0 : FVec F S3x8192x6144 .f32 := (extf .f32 · bitsLt_bf16_f32) main_arg0
  let main_v1 : FVec F S3x8192x6144 .f32 := Host.absf main_v0
  let main_cst : FVec F S_ .f32 := constant S_ .f32 0x7F800000#32
  let main_v2 : FVec F S3x8192x6144 .f32 := broadcastInDim S3x8192x6144 ![] bcast_S_S3x8192x6144 main_cst
  let main_v3 : IVec S3x8192x6144 1 := cmpf .olt main_v1 main_v2
  let main_v4 : FVec F S3x8192x128 .f32 := Host.absf main_arg1
  let main_cst_0 : FVec F S_ .f32 := constant S_ .f32 0x7F800000#32
  let main_v5 : FVec F S3x8192x128 .f32 := broadcastInDim S3x8192x128 ![] bcast_S_S3x8192x128 main_cst_0
  let main_v6 : IVec S3x8192x128 1 := cmpf .olt main_v4 main_v5
  let main_v7 : FVec F S2x16 .f32 := Host.absf main_arg2
  let main_cst_1 : FVec F S_ .f32 := constant S_ .f32 0x7F800000#32
  let main_v8 : FVec F S2x16 .f32 := broadcastInDim S2x16 ![] bcast_S_S2x16 main_cst_1
  let main_v9 : IVec S2x16 1 := cmpf .olt main_v7 main_v8
  let main_v10 : FVec F S2x16 .f32 := Host.absf main_arg3
  let main_cst_2 : FVec F S_ .f32 := constant S_ .f32 0x7F800000#32
  let main_v11 : FVec F S2x16 .f32 := broadcastInDim S2x16 ![] bcast_S_S2x16 main_cst_2
  let main_v12 : IVec S2x16 1 := cmpf .olt main_v10 main_v11
  (main_v3, main_v6, main_v9, main_v12)
-- ==== Kernel.lean ====
abbrev S3x8192x6144 : Shape := ⟨3, ![3, 8192, 6144]⟩
abbrev S3x8192x128 : Shape := ⟨3, ![3, 8192, 128]⟩
abbrev S2x16 : Shape := ⟨2, ![2, 16]⟩
abbrev S2x16x1x1 : Shape := ⟨4, ![2, 16, 1, 1]⟩
abbrev S3x8192x2048 : Shape := ⟨3, ![3, 8192, 2048]⟩
abbrev S1x1024x256 : Shape := ⟨3, ![1, 1024, 256]⟩
abbrev S1x1024x128 : Shape := ⟨3, ![1, 1024, 128]⟩
abbrev S2x2x1x1 : Shape := ⟨4, ![2, 2, 1, 1]⟩
abbrev S4x128x128 : Shape := ⟨3, ![4, 128, 128]⟩
abbrev S1x128 : Shape := ⟨2, ![1, 128]⟩
abbrev S256x256 : Shape := ⟨2, ![256, 256]⟩
abbrev S1x1x1x1 : Shape := ⟨4, ![1, 1, 1, 1]⟩
abbrev S1x1 : Shape := ⟨2, ![1, 1]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S64x128 : Shape := ⟨2, ![64, 128]⟩
abbrev S128x256 : Shape := ⟨2, ![128, 256]⟩
abbrev S1x256 : Shape := ⟨2, ![1, 256]⟩
abbrev S1x128x128 : Shape := ⟨3, ![1, 128, 128]⟩
abbrev S128x128 : Shape := ⟨2, ![128, 128]⟩
abbrev S1x64x128 : Shape := ⟨3, ![1, 64, 128]⟩
abbrev S64x256 : Shape := ⟨2, ![64, 256]⟩

abbrev nBuf : Space → Nat
  | .hbm => 8
  | .vmem => 25
  | .smem => 0
  | _ => 0

abbrev bufTy : (tb : Table) → Fin (tcTables nBuf tb) → BufTy
  | .hbm, ⟨0, _⟩ => ⟨S3x8192x6144, .bf16⟩
  | .hbm, ⟨1, _⟩ => ⟨S3x8192x128, .f32⟩
  | .hbm, ⟨2, _⟩ => ⟨S2x16, .f32⟩
  | .hbm, ⟨3, _⟩ => ⟨S2x16, .f32⟩
  | .hbm, ⟨4, _⟩ => ⟨S2x16x1x1, .f32⟩
  | .hbm, ⟨5, _⟩ => ⟨S2x16x1x1, .f32⟩
  | .hbm, ⟨6, _⟩ => ⟨S3x8192x2048, .f32⟩
  | .hbm, ⟨7, _⟩ => ⟨S3x8192x2048, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x128, .f32⟩
  | .local _ .vmem, ⟨13, _⟩ => ⟨S1x1024x128, .f32⟩
  | .local _ .vmem, ⟨14, _⟩ => ⟨S1x1024x128, .f32⟩
  | .local _ .vmem, ⟨15, _⟩ => ⟨S1x1024x128, .f32⟩
  | .local _ .vmem, ⟨16, _⟩ => ⟨S2x2x1x1, .f32⟩
  | .local _ .vmem, ⟨17, _⟩ => ⟨S2x2x1x1, .f32⟩
  | .local _ .vmem, ⟨18, _⟩ => ⟨S2x2x1x1, .f32⟩
  | .local _ .vmem, ⟨19, _⟩ => ⟨S2x2x1x1, .f32⟩
  | .local _ .vmem, ⟨20, _⟩ => ⟨S1x1024x256, .f32⟩
  | .local _ .vmem, ⟨21, _⟩ => ⟨S1x1024x256, .f32⟩
  | .local _ .vmem, ⟨22, _⟩ => ⟨S1x1024x256, .f32⟩
  | .local _ .vmem, ⟨23, _⟩ => ⟨S1x1024x256, .f32⟩
  | .local _ .vmem, ⟨24, _⟩ => ⟨S4x128x128, .f32⟩
  | _, _ => ⟨S3x8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![3, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c0_i32 : BitVec 32 := 0#32
  ![arg0.toNat, v0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c8_i32 : BitVec 32 := 8#32
  let v1 : BitVec 32 := Scalar.addi c8_i32 arg1
  let c0_i32 : BitVec 32 := 0#32
  ![arg0.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c16_i32 : BitVec 32 := 16#32
  let v1 : BitVec 32 := Scalar.addi c16_i32 arg1
  let c0_i32 : BitVec 32 := 0#32
  ![arg0.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c0_i32 : BitVec 32 := 0#32
  let c0_i32_0 : BitVec 32 := 0#32
  ![arg0.toNat, v0.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c0_i32 : BitVec 32 := 0#32
  ![arg0.toNat, v0.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S2x2x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S2x2x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== ReferenceIdeal.lean ====
abbrev S3x8192x6144 : Shape := ⟨3, ![3, 8192, 6144]⟩
abbrev S3x8192x128 : Shape := ⟨3, ![3, 8192, 128]⟩
abbrev S2x16 : Shape := ⟨2, ![2, 16]⟩
abbrev S3x8192x2048 : Shape := ⟨3, ![3, 8192, 2048]⟩
abbrev S3x8192x16x128 : Shape := ⟨4, ![3, 8192, 16, 128]⟩
abbrev S3x16x8192x128 : Shape := ⟨4, ![3, 16, 8192, 128]⟩
abbrev S3x8192x32 : Shape := ⟨3, ![3, 8192, 32]⟩
abbrev S3x8192x2x16 : Shape := ⟨4, ![3, 8192, 2, 16]⟩
abbrev S1x1x2x16 : Shape := ⟨4, ![1, 1, 2, 16]⟩
abbrev S_ : Shape := ⟨0, ![]⟩
abbrev S2x3x16x8192 : Shape := ⟨4, ![2, 3, 16, 8192]⟩
abbrev S1x3x16x8192x128 : Shape := ⟨5, ![1, 3, 16, 8192, 128]⟩
abbrev S2x3x16x8192x128 : Shape := ⟨5, ![2, 3, 16, 8192, 128]⟩
abbrev S1x3x16x8192 : Shape := ⟨4, ![1, 3, 16, 8192]⟩
abbrev S3x16x8192 : Shape := ⟨3, ![3, 16, 8192]⟩
abbrev S8192x2x3x16x128 : Shape := ⟨5, ![8192, 2, 3, 16, 128]⟩
abbrev S8192x2x3x16 : Shape := ⟨4, ![8192, 2, 3, 16]⟩
abbrev S2x3x16x128x128 : Shape := ⟨5, ![2, 3, 16, 128, 128]⟩
abbrev S1x2x3x16x128 : Shape := ⟨5, ![1, 2, 3, 16, 128]⟩
abbrev S2x3x16x128 : Shape := ⟨4, ![2, 3, 16, 128]⟩
abbrev S1x2x3x16 : Shape := ⟨4, ![1, 2, 3, 16]⟩
abbrev S2x3x16 : Shape := ⟨3, ![2, 3, 16]⟩
abbrev S2x3x16x1 : Shape := ⟨4, ![2, 3, 16, 1]⟩
abbrev S2x3x16x1x1 : Shape := ⟨5, ![2, 3, 16, 1, 1]⟩
abbrev S2x3x16x128x1 : Shape := ⟨5, ![2, 3, 16, 128, 1]⟩
abbrev S2x3x16x1x128 : Shape := ⟨5, ![2, 3, 16, 1, 128]⟩

abbrev nBuf : Space → Nat
  | .hbm => 165
  | .vmem => 0
  | .smem => 0
  | _ => 0

abbrev hbmTy0_0 (i : Nat) : BufTy := match i % 128 with
  | 0 => ⟨S3x8192x6144, .bf16⟩
  | 1 => ⟨S3x8192x128, .f32⟩
  | 2 => ⟨S2x16, .f32⟩
  | 3 => ⟨S2x16, .f32⟩
  | 4 => ⟨S3x8192x6144, .f32⟩
  | 5 => ⟨S3x8192x2048, .f32⟩
  | 6 => ⟨S3x8192x2048, .f32⟩
  | 7 => ⟨S3x8192x2048, .f32⟩
  | 8 => ⟨S3x8192x16x128, .f32⟩
  | 9 => ⟨S3x16x8192x128, .f32⟩
  | 10 => ⟨S3x8192x16x128, .f32⟩
  | 11 => ⟨S3x16x8192x128, .f32⟩
  | 12 => ⟨S3x8192x16x128, .f32⟩
  | 13 => ⟨S3x16x8192x128, .f32⟩
  | 14 => ⟨S3x8192x32, .f32⟩
  | 15 => ⟨S3x8192x2x16, .f32⟩
  | 16 => ⟨S3x8192x32, .f32⟩
  | 17 => ⟨S3x8192x2x16, .f32⟩
  | 18 => ⟨S2x16, .f32⟩
  | 19 => ⟨S2x16, .f32⟩
  | 20 => ⟨S1x1x2x16, .f32⟩
  | 21 => ⟨S3x8192x2x16, .f32⟩
  | 22 => ⟨S3x8192x2x16, .f32⟩
  | 23 => ⟨S_, .f32⟩
  | 24 => ⟨S3x8192x2x16, .f32⟩
  | 25 => ⟨S3x8192x2x16, .f32⟩
  | 26 => ⟨S3x8192x2x16, .f32⟩
  | 27 => ⟨S3x8192x2x16, .f32⟩
  | 28 => ⟨S3x8192x2x16, .i1⟩
  | 29 => ⟨S3x8192x2x16, .f32⟩
  | 30 => ⟨S3x8192x2x16, .f32⟩
  | 31 => ⟨S3x8192x2x16, .f32⟩
  | 32 => ⟨S3x8192x2x16, .f32⟩
  | 33 => ⟨S3x8192x2x16, .f32⟩
  | 34 => ⟨S3x8192x2x16, .f32⟩
  | 35 => ⟨S3x8192x2x16, .f32⟩
  | 36 => ⟨S3x8192x2x16, .f32⟩
  | 37 => ⟨S1x1x2x16, .f32⟩
  | 38 => ⟨S3x8192x2x16, .f32⟩
  | 39 => ⟨S3x8192x2x16, .f32⟩
  | 40 => ⟨S3x8192x2x16, .f32⟩
  | 41 => ⟨S3x8192x2x16, .f32⟩
  | 42 => ⟨S_, .f32⟩
  | 43 => ⟨S3x8192x2x16, .f32⟩
  | 44 => ⟨S3x8192x2x16, .f32⟩
  | 45 => ⟨S_, .f32⟩
  | 46 => ⟨S3x8192x2x16, .f32⟩
  | 47 => ⟨S3x8192x2x16, .f32⟩
  | 48 => ⟨S2x3x16x8192, .f32⟩
  | 49 => ⟨S2x3x16x8192, .f32⟩
  | 50 => ⟨S3x16x8192x128, .f32⟩
  | 51 => ⟨S1x3x16x8192x128, .f32⟩
  | 52 => ⟨S1x3x16x8192x128, .f32⟩
  | 53 => ⟨S2x3x16x8192x128, .f32⟩
  | 54 => ⟨S3x16x8192x128, .f32⟩
  | 55 => ⟨S1x3x16x8192x128, .f32⟩
  | 56 => ⟨S1x3x16x8192x128, .f32⟩
  | 57 => ⟨S2x3x16x8192x128, .f32⟩
  | 58 => ⟨S3x16x8192x128, .f32⟩
  | 59 => ⟨S1x3x16x8192x128, .f32⟩
  | 60 => ⟨S1x3x16x8192x128, .f32⟩
  | 61 => ⟨S2x3x16x8192x128, .f32⟩
  | 62 => ⟨S1x3x16x8192, .f32⟩
  | 63 => ⟨S3x16x8192, .f32⟩
  | 64 => ⟨S1x3x16x8192, .f32⟩
  | 65 => ⟨S3x16x8192, .f32⟩
  | 66 => ⟨S3x16x8192, .f32⟩
  | 67 => ⟨S1x3x16x8192, .f32⟩
  | 68 => ⟨S1x3x16x8192, .f32⟩
  | 69 => ⟨S2x3x16x8192, .f32⟩
  | 70 => ⟨S1x3x16x8192, .f32⟩
  | 71 => ⟨S3x16x8192, .f32⟩
  | 72 => ⟨S1x3x16x8192, .f32⟩
  | 73 => ⟨S3x16x8192, .f32⟩
  | 74 => ⟨S3x16x8192, .f32⟩
  | 75 => ⟨S1x3x16x8192, .f32⟩
  | 76 => ⟨S1x3x16x8192, .f32⟩
  | 77 => ⟨S2x3x16x8192, .f32⟩
  | 78 => ⟨S8192x2x3x16x128, .f32⟩
  | 79 => ⟨S8192x2x3x16x128, .f32⟩
  | 80 => ⟨S8192x2x3x16x128, .f32⟩
  | 81 => ⟨S8192x2x3x16, .f32⟩
  | 82 => ⟨S8192x2x3x16, .f32⟩
  | 83 => ⟨S_, .f32⟩
  | 84 => ⟨S2x3x16x128x128, .f32⟩
  | 85 => ⟨S_, .f32⟩
  | 86 => ⟨S8192x2x3x16x128, .f32⟩
  | 87 => ⟨S_, .i32⟩
  | 88 => ⟨S8192x2x3x16x128, .f32⟩
  | 89 => ⟨S8192x2x3x16x128, .f32⟩
  | 90 => ⟨S8192x2x3x16x128, .f32⟩
  | 91 => ⟨S8192x2x3x16, .f32⟩
  | 92 => ⟨S8192x2x3x16, .f32⟩
  | 93 => ⟨S_, .i32⟩
  | 94 => ⟨S2x3x16x128x128, .f32⟩
  | 95 => ⟨S8192x2x3x16x128, .f32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S1x2x3x16x128, .f32⟩
  | 103 => ⟨S2x3x16x128, .f32⟩
  | 104 => ⟨S_, .i32⟩
  | 105 => ⟨S_, .i32⟩
  | 106 => ⟨S_, .i32⟩
  | 107 => ⟨S_, .i32⟩
  | 108 => ⟨S1x2x3x16x128, .f32⟩
  | 109 => ⟨S2x3x16x128, .f32⟩
  | 110 => ⟨S_, .i32⟩
  | 111 => ⟨S_, .i32⟩
  | 112 => ⟨S_, .i32⟩
  | 113 => ⟨S_, .i32⟩
  | 114 => ⟨S1x2x3x16x128, .f32⟩
  | 115 => ⟨S2x3x16x128, .f32⟩
  | 116 => ⟨S_, .i32⟩
  | 117 => ⟨S_, .i32⟩
  | 118 => ⟨S_, .i32⟩
  | 119 => ⟨S1x2x3x16, .f32⟩
  | 120 => ⟨S2x3x16, .f32⟩
  | 121 => ⟨S_, .i32⟩
  | 122 => ⟨S_, .i32⟩
  | 123 => ⟨S_, .i32⟩
  | 124 => ⟨S1x2x3x16, .f32⟩
  | 125 => ⟨S2x3x16, .f32⟩
  | 126 => ⟨S2x3x16x1, .f32⟩
  | 127 => ⟨S2x3x16x128, .f32⟩
  | _ => ⟨S3x8192x6144, .bf16⟩

abbrev hbmTy0_1 (i : Nat) : BufTy := match i % 128 with
  | 0 => ⟨S2x3x16x128, .f32⟩
  | 1 => ⟨S2x3x16x128, .f32⟩
  | 2 => ⟨S2x3x16, .f32⟩
  | 3 => ⟨S2x3x16x1x1, .f32⟩
  | 4 => ⟨S2x3x16x128x1, .f32⟩
  | 5 => ⟨S2x3x16x1x128, .f32⟩
  | 6 => ⟨S2x3x16x128x128, .f32⟩
  | 7 => ⟨S2x3x16x128x128, .f32⟩
  | 8 => ⟨S2x3x16x128x128, .f32⟩
  | 9 => ⟨S2x3x16x128x128, .f32⟩
  | 10 => ⟨S2x3x16x128x128, .f32⟩
  | 11 => ⟨S2x3x16x128x128, .f32⟩
  | 12 => ⟨S2x3x16x128x1, .f32⟩
  | 13 => ⟨S2x3x16x1x128, .f32⟩
  | 14 => ⟨S2x3x16x128x128, .f32⟩
  | 15 => ⟨S2x3x16x128x128, .f32⟩
  | 16 => ⟨S2x3x16x128x128, .f32⟩
  | 17 => ⟨S2x3x16x128x128, .f32⟩
  | 18 => ⟨S2x3x16x128, .f32⟩
  | 19 => ⟨S1x2x3x16x128, .f32⟩
  | 20 => ⟨S_, .i32⟩
  | 21 => ⟨S_, .i32⟩
  | 22 => ⟨S_, .i32⟩
  | 23 => ⟨S_, .i32⟩
  | 24 => ⟨S8192x2x3x16x128, .f32⟩
  | 25 => ⟨S_, .i32⟩
  | 26 => ⟨S_, .i32⟩
  | 27 => ⟨S2x3x16x8192x128, .f32⟩
  | 28 => ⟨S1x3x16x8192x128, .f32⟩
  | 29 => ⟨S3x16x8192x128, .f32⟩
  | 30 => ⟨S3x8192x16x128, .f32⟩
  | 31 => ⟨S3x8192x2048, .f32⟩
  | 32 => ⟨S1x3x16x8192x128, .f32⟩
  | 33 => ⟨S3x16x8192x128, .f32⟩
  | 34 => ⟨S3x16x8192x128, .f32⟩
  | 35 => ⟨S3x8192x16x128, .f32⟩
  | 36 => ⟨S3x8192x2048, .f32⟩
  | _ => ⟨S3x8192x6144, .bf16⟩

abbrev hbmTy (i : Nat) : BufTy := match i / 128 with
  | 0 => hbmTy0_0 i
  | 1 => hbmTy0_1 i
  | _ => ⟨S3x8192x6144, .bf16⟩

abbrev bufTy : (tb : Table) → Fin (tcTables nBuf tb) → BufTy
  | .hbm, ⟨i, _⟩ => hbmTy i
  | _, _ => ⟨S3x8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_cst_0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_1 : Ref sig .tc := ⟨.hbm, 83, rfl⟩
abbrev main_v64 : Ref sig .tc := ⟨.hbm, 84, rfl⟩
abbrev main_cst_2 : Ref sig .tc := ⟨.hbm, 85, rfl⟩
abbrev main_v65 : Ref sig .tc := ⟨.hbm, 86, rfl⟩
abbrev main_c : Ref sig .tc := ⟨.hbm, 87, rfl⟩
abbrev main_v66_0 : Ref sig .tc := ⟨.hbm, 88, rfl⟩
abbrev main_v66_1 : Ref sig .tc := ⟨.hbm, 89, rfl⟩
abbrev main_v66_2 : Ref sig .tc := ⟨.hbm, 90, rfl⟩
abbrev main_v66_3 : Ref sig .tc := ⟨.hbm, 91, rfl⟩
abbrev main_v66_4 : Ref sig .tc := ⟨.hbm, 92, rfl⟩
abbrev main_v66_5 : Ref sig .tc := ⟨.hbm, 93, rfl⟩
abbrev main_v66_6 : Ref sig .tc := ⟨.hbm, 94, rfl⟩
abbrev main_v66_7 : Ref sig .tc := ⟨.hbm, 95, rfl⟩
abbrev main_while0c_c_10 : Ref sig .tc := ⟨.hbm, 96, rfl⟩
abbrev main_while0c_v77 : Ref sig .tc := ⟨.hbm, 97, rfl⟩
abbrev main_while0b_call6_c : Ref sig .tc := ⟨.hbm, 98, rfl⟩
abbrev main_while0b_call6_c_0 : Ref sig .tc := ⟨.hbm, 99, rfl⟩
abbrev main_while0b_call6_c_1 : Ref sig .tc := ⟨.hbm, 100, rfl⟩
abbrev main_while0b_call6_c_2 : Ref sig .tc := ⟨.hbm, 101, rfl⟩
abbrev main_while0b_call6_v0 : Ref sig .tc := ⟨.hbm, 102, rfl⟩
abbrev main_while0b_v77 : Ref sig .tc := ⟨.hbm, 103, rfl⟩
abbrev main_while0b_call7_c : Ref sig .tc := ⟨.hbm, 104, rfl⟩
abbrev main_while0b_call7_c_0 : Ref sig .tc := ⟨.hbm, 105, rfl⟩
abbrev main_while0b_call7_c_1 : Ref sig .tc := ⟨.hbm, 106, rfl⟩
abbrev main_while0b_call7_c_2 : Ref sig .tc := ⟨.hbm, 107, rfl⟩
abbrev main_while0b_call7_v0 : Ref sig .tc := ⟨.hbm, 108, rfl⟩
abbrev main_while0b_v78 : Ref sig .tc := ⟨.hbm, 109, rfl⟩
abbrev main_while0b_call8_c : Ref sig .tc := ⟨.hbm, 110, rfl⟩
abbrev main_while0b_call8_c_0 : Ref sig .tc := ⟨.hbm, 111, rfl⟩
abbrev main_while0b_call8_c_1 : Ref sig .tc := ⟨.hbm, 112, rfl⟩
abbrev main_while0b_call8_c_2 : Ref sig .tc := ⟨.hbm, 113, rfl⟩
abbrev main_while0b_call8_v0 : Ref sig .tc := ⟨.hbm, 114, rfl⟩
abbrev main_while0b_v79 : Ref sig .tc := ⟨.hbm, 115, rfl⟩
abbrev main_while0b_call9_c : Ref sig .tc := ⟨.hbm, 116, rfl⟩
abbrev main_while0b_call9_c_0 : Ref sig .tc := ⟨.hbm, 117, rfl⟩
abbrev main_while0b_call9_c_1 : Ref sig .tc := ⟨.hbm, 118, rfl⟩
abbrev main_while0b_call9_v0 : Ref sig .tc := ⟨.hbm, 119, rfl⟩
abbrev main_while0b_v80 : Ref sig .tc := ⟨.hbm, 120, rfl⟩
abbrev main_while0b_call10_c : Ref sig .tc := ⟨.hbm, 121, rfl⟩
abbrev main_while0b_call10_c_0 : Ref sig .tc := ⟨.hbm, 122, rfl⟩
abbrev main_while0b_call10_c_1 : Ref sig .tc := ⟨.hbm, 123, rfl⟩
abbrev main_while0b_call10_v0 : Ref sig .tc := ⟨.hbm, 124, rfl⟩
abbrev main_while0b_v81 : Ref sig .tc := ⟨.hbm, 125, rfl⟩
abbrev main_while0b_v82 : Ref sig .tc := ⟨.hbm, 126, rfl⟩
abbrev main_while0b_v83 : Ref sig .tc := ⟨.hbm, 127, rfl⟩
abbrev main_while0b_v84 : Ref sig .tc := ⟨.hbm, 128, rfl⟩
abbrev main_while0b_v85 : Ref sig .tc := ⟨.hbm, 129, rfl⟩
abbrev main_while0b_v86 : Ref sig .tc := ⟨.hbm, 130, rfl⟩
abbrev main_while0b_v87 : Ref sig .tc := ⟨.hbm, 131, rfl⟩
abbrev main_while0b_v88 : Ref sig .tc := ⟨.hbm, 132, rfl⟩
abbrev main_while0b_v89 : Ref sig .tc := ⟨.hbm, 133, rfl⟩
abbrev main_while0b_v90 : Ref sig .tc := ⟨.hbm, 134, rfl⟩
abbrev main_while0b_v91 : Ref sig .tc := ⟨.hbm, 135, rfl⟩
abbrev main_while0b_v92 : Ref sig .tc := ⟨.hbm, 136, rfl⟩
abbrev main_while0b_v93 : Ref sig .tc := ⟨.hbm, 137, rfl⟩
abbrev main_while0b_v94 : Ref sig .tc := ⟨.hbm, 138, rfl⟩
abbrev main_while0b_v95 : Ref sig .tc := ⟨.hbm, 139, rfl⟩
abbrev main_while0b_v96 : Ref sig .tc := ⟨.hbm, 140, rfl⟩
abbrev main_while0b_v97 : Ref sig .tc := ⟨.hbm, 141, rfl⟩
abbrev main_while0b_v98 : Ref sig .tc := ⟨.hbm, 142, rfl⟩
abbrev main_while0b_v99 : Ref sig .tc := ⟨.hbm, 143, rfl⟩
abbrev main_while0b_v100 : Ref sig .tc := ⟨.hbm, 144, rfl⟩
abbrev main_while0b_v101 : Ref sig .tc := ⟨.hbm, 145, rfl⟩
abbrev main_while0b_v102 : Ref sig .tc := ⟨.hbm, 146, rfl⟩
abbrev main_while0b_call11_v0 : Ref sig .tc := ⟨.hbm, 147, rfl⟩
abbrev main_while0b_call11_c : Ref sig .tc := ⟨.hbm, 148, rfl⟩
abbrev main_while0b_call11_c_0 : Ref sig .tc := ⟨.hbm, 149, rfl⟩
abbrev main_while0b_call11_c_1 : Ref sig .tc := ⟨.hbm, 150, rfl⟩
abbrev main_while0b_call11_c_2 : Ref sig .tc := ⟨.hbm, 151, rfl⟩
abbrev main_while0b_v103 : Ref sig .tc := ⟨.hbm, 152, rfl⟩
abbrev main_while0b_c_10 : Ref sig .tc := ⟨.hbm, 153, rfl⟩
abbrev main_while0b_v104 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩

abbrev nD : Nat := 1
abbrev τ : Topo := Topo.v7x

variable {F : FTy → Type} [FloatOps F]

abbrev main_while0_count : Scf.Loop 32 := ⟨0#32, 8192#32, 1#32⟩
-- ==== ProjAttn.lean ====
abbrev S24576x4096 : Shape := ⟨2, ![24576, 4096]⟩
abbrev S4096x22592 : Shape := ⟨2, ![4096, 22592]⟩
abbrev S24576x6144 : Shape := ⟨2, ![24576, 6144]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S24576x4096, .bf16⟩
  | .hbm, ⟨1, _⟩ => ⟨S4096x22592, .bf16⟩
  | .hbm, ⟨2, _⟩ => ⟨S24576x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjAttnRefIdeal.lean ====
abbrev S24576x4096 : Shape := ⟨2, ![24576, 4096]⟩
abbrev S4096x22592 : Shape := ⟨2, ![4096, 22592]⟩
abbrev S24576x22592 : Shape := ⟨2, ![24576, 22592]⟩
abbrev S24576x6144 : Shape := ⟨2, ![24576, 6144]⟩

abbrev nBuf : Space → Nat
  | .hbm => 7
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x22592, .bf16⟩
  | .hbm, ⟨2, _⟩ => ⟨S24576x4096, .f32⟩
  | .hbm, ⟨3, _⟩ => ⟨S4096x22592, .f32⟩
  | .hbm, ⟨4, _⟩ => ⟨S24576x22592, .f32⟩
  | .hbm, ⟨5, _⟩ => ⟨S24576x6144, .f32⟩
  | .hbm, ⟨6, _⟩ => ⟨S24576x6144, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjDn.lean ====
abbrev S24576x4096 : Shape := ⟨2, ![24576, 4096]⟩
abbrev S4096x22592 : Shape := ⟨2, ![4096, 22592]⟩
abbrev S24576x8192 : Shape := ⟨2, ![24576, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S24576x4096, .bf16⟩
  | .hbm, ⟨1, _⟩ => ⟨S4096x22592, .bf16⟩
  | .hbm, ⟨2, _⟩ => ⟨S24576x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjDnRefIdeal.lean ====
abbrev S24576x4096 : Shape := ⟨2, ![24576, 4096]⟩
abbrev S4096x22592 : Shape := ⟨2, ![4096, 22592]⟩
abbrev S24576x22592 : Shape := ⟨2, ![24576, 22592]⟩
abbrev S24576x8192 : Shape := ⟨2, ![24576, 8192]⟩

abbrev nBuf : Space → Nat
  | .hbm => 7
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x22592, .bf16⟩
  | .hbm, ⟨2, _⟩ => ⟨S24576x4096, .f32⟩
  | .hbm, ⟨3, _⟩ => ⟨S4096x22592, .f32⟩
  | .hbm, ⟨4, _⟩ => ⟨S24576x22592, .f32⟩
  | .hbm, ⟨5, _⟩ => ⟨S24576x8192, .f32⟩
  | .hbm, ⟨6, _⟩ => ⟨S24576x8192, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjAb.lean ====
abbrev S24576x4096 : Shape := ⟨2, ![24576, 4096]⟩
abbrev S4096x22592 : Shape := ⟨2, ![4096, 22592]⟩
abbrev S24576x128 : Shape := ⟨2, ![24576, 128]⟩
abbrev S1024x4096 : Shape := ⟨2, ![1024, 4096]⟩
abbrev S4096x128 : Shape := ⟨2, ![4096, 128]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S24576x4096, .bf16⟩
  | .hbm, ⟨1, _⟩ => ⟨S4096x22592, .bf16⟩
  | .hbm, ⟨2, _⟩ => ⟨S24576x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![24, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c112_i32 : BitVec 32 := 112#32
  let v0 : BitVec 32 := Scalar.addi c112_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjAbRefIdeal.lean ====
abbrev S24576x4096 : Shape := ⟨2, ![24576, 4096]⟩
abbrev S4096x22592 : Shape := ⟨2, ![4096, 22592]⟩
abbrev S24576x22592 : Shape := ⟨2, ![24576, 22592]⟩
abbrev S24576x128 : Shape := ⟨2, ![24576, 128]⟩

abbrev nBuf : Space → Nat
  | .hbm => 6
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x22592, .bf16⟩
  | .hbm, ⟨2, _⟩ => ⟨S24576x4096, .f32⟩
  | .hbm, ⟨3, _⟩ => ⟨S4096x22592, .f32⟩
  | .hbm, ⟨4, _⟩ => ⟨S24576x22592, .f32⟩
  | .hbm, ⟨5, _⟩ => ⟨S24576x128, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjGate.lean ====
abbrev S24576x4096 : Shape := ⟨2, ![24576, 4096]⟩
abbrev S4096x22592 : Shape := ⟨2, ![4096, 22592]⟩
abbrev S4096x8192 : Shape := ⟨2, ![4096, 8192]⟩
abbrev S24576x8192 : Shape := ⟨2, ![24576, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S24576x4096, .bf16⟩
  | .hbm, ⟨1, _⟩ => ⟨S4096x22592, .bf16⟩
  | .hbm, ⟨2, _⟩ => ⟨S4096x8192, .bf16⟩
  | .hbm, ⟨3, _⟩ => ⟨S24576x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGateRefIdeal.lean ====
abbrev S24576x4096 : Shape := ⟨2, ![24576, 4096]⟩
abbrev S4096x22592 : Shape := ⟨2, ![4096, 22592]⟩
abbrev S24576x22592 : Shape := ⟨2, ![24576, 22592]⟩
abbrev S24576x8192 : Shape := ⟨2, ![24576, 8192]⟩

abbrev nBuf : Space → Nat
  | .hbm => 7
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x22592, .bf16⟩
  | .hbm, ⟨2, _⟩ => ⟨S24576x4096, .f32⟩
  | .hbm, ⟨3, _⟩ => ⟨S4096x22592, .f32⟩
  | .hbm, ⟨4, _⟩ => ⟨S24576x22592, .f32⟩
  | .hbm, ⟨5, _⟩ => ⟨S24576x8192, .f32⟩
  | .hbm, ⟨6, _⟩ => ⟨S24576x8192, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Merge.lean ====
abbrev S24576x2048 : Shape := ⟨2, ![24576, 2048]⟩
abbrev S2048x4096 : Shape := ⟨2, ![2048, 4096]⟩
abbrev S24576x8192 : Shape := ⟨2, ![24576, 8192]⟩
abbrev S24576x4096 : Shape := ⟨2, ![24576, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 14
  | .smem => 0
  | _ => 0

abbrev bufTy : (tb : Table) → Fin (tcTables nBuf tb) → BufTy
  | .hbm, ⟨0, _⟩ => ⟨S24576x2048, .bf16⟩
  | .hbm, ⟨1, _⟩ => ⟨S24576x2048, .bf16⟩
  | .hbm, ⟨2, _⟩ => ⟨S2048x4096, .bf16⟩
  | .hbm, ⟨3, _⟩ => ⟨S2048x4096, .bf16⟩
  | .hbm, ⟨4, _⟩ => ⟨S24576x8192, .bf16⟩
  | .hbm, ⟨5, _⟩ => ⟨S24576x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S24576x2048 : Shape := ⟨2, ![24576, 2048]⟩
abbrev S2048x4096 : Shape := ⟨2, ![2048, 4096]⟩
abbrev S24576x8192 : Shape := ⟨2, ![24576, 8192]⟩
abbrev S24576x4096 : Shape := ⟨2, ![24576, 4096]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S24576x2048, .bf16⟩
  | .hbm, ⟨2, _⟩ => ⟨S2048x4096, .bf16⟩
  | .hbm, ⟨3, _⟩ => ⟨S2048x4096, .bf16⟩
  | .hbm, ⟨4, _⟩ => ⟨S24576x8192, .bf16⟩
  | .hbm, ⟨5, _⟩ => ⟨S24576x8192, .f32⟩
  | .hbm, ⟨6, _⟩ => ⟨S24576x4096, .f32⟩
  | .hbm, ⟨7, _⟩ => ⟨S24576x4096, .f32⟩
  | .hbm, ⟨8, _⟩ => ⟨S24576x4096, .f32⟩
  | .hbm, ⟨9, _⟩ => ⟨S24576x4096, .f32⟩
  | .hbm, ⟨10, _⟩ => ⟨S_, .f32⟩
  | .hbm, ⟨11, _⟩ => ⟨S24576x4096, .f32⟩
  | .hbm, ⟨12, _⟩ => ⟨S24576x4096, .f32⟩
  | .hbm, ⟨13, _⟩ => ⟨S_, .f32⟩
  | .hbm, ⟨14, _⟩ => ⟨S24576x4096, .f32⟩
  | .hbm, ⟨15, _⟩ => ⟨S24576x4096, .f32⟩
  | .hbm, ⟨16, _⟩ => ⟨S24576x2048, .f32⟩
  | .hbm, ⟨17, _⟩ => ⟨S2048x4096, .f32⟩
  | .hbm, ⟨18, _⟩ => ⟨S24576x4096, .f32⟩
  | .hbm, ⟨19, _⟩ => ⟨S24576x4096, .f32⟩
  | .hbm, ⟨20, _⟩ => ⟨S24576x4096, .f32⟩
  | .hbm, ⟨21, _⟩ => ⟨S24576x4096, .f32⟩
  | .hbm, ⟨22, _⟩ => ⟨S_, .f32⟩
  | .hbm, ⟨23, _⟩ => ⟨S24576x4096, .f32⟩
  | .hbm, ⟨24, _⟩ => ⟨S24576x4096, .f32⟩
  | .hbm, ⟨25, _⟩ => ⟨S_, .f32⟩
  | .hbm, ⟨26, _⟩ => ⟨S24576x4096, .f32⟩
  | .hbm, ⟨27, _⟩ => ⟨S24576x4096, .f32⟩
  | .hbm, ⟨28, _⟩ => ⟨S24576x2048, .f32⟩
  | .hbm, ⟨29, _⟩ => ⟨S2048x4096, .f32⟩
  | .hbm, ⟨30, _⟩ => ⟨S24576x4096, .f32⟩
  | .hbm, ⟨31, _⟩ => ⟨S24576x4096, .f32⟩
  | .hbm, ⟨32, _⟩ => ⟨S24576x4096, .f32⟩
  | .hbm, ⟨33, _⟩ => ⟨S24576x4096, .bf16⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== OutProj.lean ====
abbrev S24576x4096 : Shape := ⟨2, ![24576, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S24576x4096, .bf16⟩
  | .hbm, ⟨1, _⟩ => ⟨S4096x4096, .bf16⟩
  | .hbm, ⟨2, _⟩ => ⟨S24576x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S24576x4096 : Shape := ⟨2, ![24576, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x4096, .bf16⟩
  | .hbm, ⟨2, _⟩ => ⟨S24576x4096, .f32⟩
  | .hbm, ⟨3, _⟩ => ⟨S4096x4096, .f32⟩
  | .hbm, ⟨4, _⟩ => ⟨S24576x4096, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PeerQ.lean ====
abbrev S24576x4096 : Shape := ⟨2, ![24576, 4096]⟩
abbrev S4096x2048 : Shape := ⟨2, ![4096, 2048]⟩
abbrev S24576x2048 : Shape := ⟨2, ![24576, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S24576x4096, .bf16⟩
  | .hbm, ⟨1, _⟩ => ⟨S4096x2048, .bf16⟩
  | .hbm, ⟨2, _⟩ => ⟨S24576x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PeerQRefIdeal.lean ====
abbrev S24576x4096 : Shape := ⟨2, ![24576, 4096]⟩
abbrev S4096x2048 : Shape := ⟨2, ![4096, 2048]⟩
abbrev S24576x2048 : Shape := ⟨2, ![24576, 2048]⟩

abbrev nBuf : Space → Nat
  | .hbm => 5
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x2048, .bf16⟩
  | .hbm, ⟨2, _⟩ => ⟨S24576x4096, .f32⟩
  | .hbm, ⟨3, _⟩ => ⟨S4096x2048, .f32⟩
  | .hbm, ⟨4, _⟩ => ⟨S24576x2048, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LastPrompt.lean ====
abbrev S3x8192x4096 : Shape := ⟨3, ![3, 8192, 4096]⟩
abbrev S3x1x4096 : Shape := ⟨3, ![3, 1, 4096]⟩
abbrev S4096 : Shape := ⟨1, ![4096]⟩
abbrev S1x4096 : Shape := ⟨2, ![1, 4096]⟩
abbrev S2x8192x4096 : Shape := ⟨3, ![2, 8192, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S3x8192x4096, .f32⟩
  | .hbm, ⟨1, _⟩ => ⟨S3x8192x4096, .f32⟩
  | .hbm, ⟨2, _⟩ => ⟨S3x1x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S2x8192x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S1x256x4096, .f32⟩
  | .local _ .vmem, ⟨9, _⟩ => ⟨S1x256x4096, .f32⟩
  | _, _ => ⟨S3x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LastPromptRefIdeal.lean ====
abbrev S3x8192x4096 : Shape := ⟨3, ![3, 8192, 4096]⟩
abbrev S3x1x4096 : Shape := ⟨3, ![3, 1, 4096]⟩
abbrev S4096 : Shape := ⟨1, ![4096]⟩
abbrev S2x8192x4096 : Shape := ⟨3, ![2, 8192, 4096]⟩
abbrev S_ : Shape := ⟨0, ![]⟩
abbrev S2x1x4096 : Shape := ⟨3, ![2, 1, 4096]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S3x8192x4096, .f32⟩
  | .hbm, ⟨1, _⟩ => ⟨S3x8192x4096, .f32⟩
  | .hbm, ⟨2, _⟩ => ⟨S3x1x4096, .f32⟩
  | .hbm, ⟨3, _⟩ => ⟨S4096, .f32⟩
  | .hbm, ⟨4, _⟩ => ⟨S4096, .f32⟩
  | .hbm, ⟨5, _⟩ => ⟨S2x8192x4096, .f32⟩
  | .hbm, ⟨6, _⟩ => ⟨S_, .f32⟩
  | .hbm, ⟨7, _⟩ => ⟨S2x8192x4096, .f32⟩
  | .hbm, ⟨8, _⟩ => ⟨S2x8192x4096, .f32⟩
  | .hbm, ⟨9, _⟩ => ⟨S2x1x4096, .f32⟩
  | .hbm, ⟨10, _⟩ => ⟨S2x8192x4096, .f32⟩
  | .hbm, ⟨11, _⟩ => ⟨S2x8192x4096, .f32⟩
  | .hbm, ⟨12, _⟩ => ⟨S2x8192x4096, .f32⟩
  | .hbm, ⟨13, _⟩ => ⟨S2x8192x4096, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x4096, .f32⟩
  | .hbm, ⟨21, _⟩ => ⟨S2x8192x4096, .f32⟩
  | .hbm, ⟨22, _⟩ => ⟨S2x8192x4096, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x4096, .f32⟩
  | .hbm, ⟨30, _⟩ => ⟨S2x8192x4096, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x1, .f32⟩
  | .hbm, ⟨35, _⟩ => ⟨S2x8192x4096, .f32⟩
  | .hbm, ⟨36, _⟩ => ⟨S2x8192x4096, .f32⟩
  | .hbm, ⟨37, _⟩ => ⟨S1x1x4096, .f32⟩
  | .hbm, ⟨38, _⟩ => ⟨S2x8192x4096, .f32⟩
  | .hbm, ⟨39, _⟩ => ⟨S2x8192x4096, .f32⟩
  | .hbm, ⟨40, _⟩ => ⟨S1x1x4096, .f32⟩
  | .hbm, ⟨41, _⟩ => ⟨S2x8192x4096, .f32⟩
  | .hbm, ⟨42, _⟩ => ⟨S2x8192x4096, .f32⟩
  | _, _ => ⟨S3x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== LastSample.lean ====
abbrev S3x8192x4096 : Shape := ⟨3, ![3, 8192, 4096]⟩
abbrev S3x1x4096 : Shape := ⟨3, ![3, 1, 4096]⟩
abbrev S4096 : Shape := ⟨1, ![4096]⟩
abbrev S1x4096 : Shape := ⟨2, ![1, 4096]⟩
abbrev S1x8192x4096 : Shape := ⟨3, ![1, 8192, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S3x8192x4096, .f32⟩
  | .hbm, ⟨1, _⟩ => ⟨S3x8192x4096, .f32⟩
  | .hbm, ⟨2, _⟩ => ⟨S3x1x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S1x8192x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x1x4096, .f32⟩
  | .local _ .vmem, ⟨5, _⟩ => ⟨S1x4096, .f32⟩
  | .local _ .vmem, ⟨6, _⟩ => ⟨S1x4096, .f32⟩
  | .local _ .vmem, ⟨7, _⟩ => ⟨S1x256x4096, .f32⟩
  | .local _ .vmem, ⟨8, _⟩ => ⟨S1x256x4096, .f32⟩
  | _, _ => ⟨S3x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LastSampleRefIdeal.lean ====
abbrev S3x8192x4096 : Shape := ⟨3, ![3, 8192, 4096]⟩
abbrev S3x1x4096 : Shape := ⟨3, ![3, 1, 4096]⟩
abbrev S4096 : Shape := ⟨1, ![4096]⟩
abbrev S1x8192x4096 : Shape := ⟨3, ![1, 8192, 4096]⟩
abbrev S_ : Shape := ⟨0, ![]⟩
abbrev S1x1x4096 : Shape := ⟨3, ![1, 1, 4096]⟩
abbrev S1x8192 : Shape := ⟨2, ![1, 8192]⟩
abbrev S1x8192x1 : Shape := ⟨3, ![1, 8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S3x8192x4096, .f32⟩
  | .hbm, ⟨1, _⟩ => ⟨S3x8192x4096, .f32⟩
  | .hbm, ⟨2, _⟩ => ⟨S3x1x4096, .f32⟩
  | .hbm, ⟨3, _⟩ => ⟨S4096, .f32⟩
  | .hbm, ⟨4, _⟩ => ⟨S4096, .f32⟩
  | .hbm, ⟨5, _⟩ => ⟨S1x8192x4096, .f32⟩
  | .hbm, ⟨6, _⟩ => ⟨S_, .f32⟩
  | .hbm, ⟨7, _⟩ => ⟨S1x8192x4096, .f32⟩
  | .hbm, ⟨8, _⟩ => ⟨S1x8192x4096, .f32⟩
  | .hbm, ⟨9, _⟩ => ⟨S1x1x4096, .f32⟩
  | .hbm, ⟨10, _⟩ => ⟨S1x8192x4096, .f32⟩
  | .hbm, ⟨11, _⟩ => ⟨S1x8192x4096, .f32⟩
  | .hbm, ⟨12, _⟩ => ⟨S1x8192x4096, .f32⟩
  | .hbm, ⟨13, _⟩ => ⟨S1x8192x4096, .f32⟩
  | .hbm, ⟨14, _⟩ => ⟨S_, .f32⟩
  | .hbm, ⟨15, _⟩ => ⟨S1x8192, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x4096, .f32⟩
  | .hbm, ⟨21, _⟩ => ⟨S1x8192x4096, .f32⟩
  | .hbm, ⟨22, _⟩ => ⟨S1x8192x4096, .f32⟩
  | .hbm, ⟨23, _⟩ => ⟨S_, .f32⟩
  | .hbm, ⟨24, _⟩ => ⟨S1x8192, .f32⟩
  | .hbm, ⟨25, _⟩ => ⟨S1x8192x1, .f32⟩
  | .hbm, ⟨26, _⟩ => ⟨S_, .f32⟩
  | .hbm, ⟨27, _⟩ => ⟨S1x8192x1, .f32⟩
  | .hbm, ⟨28, _⟩ => ⟨S1x8192x1, .f32⟩
  | .hbm, ⟨29, _⟩ => ⟨S1x8192x4096, .f32⟩
  | .hbm, ⟨30, _⟩ => ⟨S1x8192x4096, .f32⟩
  | .hbm, ⟨31, _⟩ => ⟨S_, .f32⟩
  | .hbm, ⟨32, _⟩ => ⟨S1x8192x1, .f32⟩
  | .hbm, ⟨33, _⟩ => ⟨S1x8192x1, .f32⟩
  | .hbm, ⟨34, _⟩ => ⟨S1x8192x1, .f32⟩
  | .hbm, ⟨35, _⟩ => ⟨S1x8192x4096, .f32⟩
  | .hbm, ⟨36, _⟩ => ⟨S1x8192x4096, .f32⟩
  | .hbm, ⟨37, _⟩ => ⟨S1x1x4096, .f32⟩
  | .hbm, ⟨38, _⟩ => ⟨S1x8192x4096, .f32⟩
  | .hbm, ⟨39, _⟩ => ⟨S1x8192x4096, .f32⟩
  | .hbm, ⟨40, _⟩ => ⟨S1x1x4096, .f32⟩
  | .hbm, ⟨41, _⟩ => ⟨S1x8192x4096, .f32⟩
  | .hbm, ⟨42, _⟩ => ⟨S1x8192x4096, .f32⟩
  | _, _ => ⟨S3x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== LnMod.lean ====
abbrev S3x8192x4096 : Shape := ⟨3, ![3, 8192, 4096]⟩
abbrev S3x1x4096 : Shape := ⟨3, ![3, 1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩
abbrev S1x4096 : Shape := ⟨2, ![1, 4096]⟩

abbrev nBuf : Space → Nat
  | .hbm => 4
  | .vmem => 8
  | .smem => 0
  | _ => 0

abbrev bufTy : (tb : Table) → Fin (tcTables nBuf tb) → BufTy
  | .hbm, ⟨0, _⟩ => ⟨S3x8192x4096, .f32⟩
  | .hbm, ⟨1, _⟩ => ⟨S3x1x4096, .f32⟩
  | .hbm, ⟨2, _⟩ => ⟨S3x1x4096, .f32⟩
  | .hbm, ⟨3, _⟩ => ⟨S3x8192x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x256x4096, .bf16⟩
  | .local _ .vmem, ⟨7, _⟩ => ⟨S1x256x4096, .bf16⟩
  | _, _ => ⟨S3x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LnModRefIdeal.lean ====
abbrev S3x8192x4096 : Shape := ⟨3, ![3, 8192, 4096]⟩
abbrev S3x1x4096 : Shape := ⟨3, ![3, 1, 4096]⟩
abbrev S_ : Shape := ⟨0, ![]⟩
abbrev S3x8192 : Shape := ⟨2, ![3, 8192]⟩
abbrev S3x8192x1 : Shape := ⟨3, ![3, 8192, 1]⟩

abbrev nBuf : Space → Nat
  | .hbm => 34
  | .vmem => 0
  | .smem => 0
  | _ => 0

abbrev bufTy : (tb : Table) → Fin (tcTables nBuf tb) → BufTy
  | .hbm, ⟨0, _⟩ => ⟨S3x8192x4096, .f32⟩
  | .hbm, ⟨1, _⟩ => ⟨S3x1x4096, .f32⟩
  | .hbm, ⟨2, _⟩ => ⟨S3x1x4096, .f32⟩
  | .hbm, ⟨3, _⟩ => ⟨S_, .f32⟩
  | .hbm, ⟨4, _⟩ => ⟨S3x8192, .f32⟩
  | .hbm, ⟨5, _⟩ => ⟨S3x8192x1, .f32⟩
  | .hbm, ⟨6, _⟩ => ⟨S_, .f32⟩
  | .hbm, ⟨7, _⟩ => ⟨S3x8192x1, .f32⟩
  | .hbm, ⟨8, _⟩ => ⟨S3x8192x1, .f32⟩
  | .hbm, ⟨9, _⟩ => ⟨S3x8192x4096, .f32⟩
  | .hbm, ⟨10, _⟩ => ⟨S3x8192x4096, .f32⟩
  | .hbm, ⟨11, _⟩ => ⟨S3x8192x4096, .f32⟩
  | .hbm, ⟨12, _⟩ => ⟨S_, .f32⟩
  | .hbm, ⟨13, _⟩ => ⟨S3x8192, .f32⟩
  | .hbm, ⟨14, _⟩ => ⟨S3x8192x1, .f32⟩
  | .hbm, ⟨15, _⟩ => ⟨S_, .f32⟩
  | .hbm, ⟨16, _⟩ => ⟨S3x8192x1, .f32⟩
  | .hbm, ⟨17, _⟩ => ⟨S3x8192x1, .f32⟩
  | .hbm, ⟨18, _⟩ => ⟨S3x8192x4096, .f32⟩
  | .hbm, ⟨19, _⟩ => ⟨S3x8192x4096, .f32⟩
  | .hbm, ⟨20, _⟩ => ⟨S_, .f32⟩
  | .hbm, ⟨21, _⟩ => ⟨S3x8192x1, .f32⟩
  | .hbm, ⟨22, _⟩ => ⟨S3x8192x1, .f32⟩
  | .hbm, ⟨23, _⟩ => ⟨S3x8192x1, .f32⟩
  | .hbm, ⟨24, _⟩ => ⟨S3x8192x4096, .f32⟩
  | .hbm, ⟨25, _⟩ => ⟨S3x8192x4096, .f32⟩
  | .hbm, ⟨26, _⟩ => ⟨S_, .f32⟩
  | .hbm, ⟨27, _⟩ => ⟨S3x1x4096, .f32⟩
  | .hbm, ⟨28, _⟩ => ⟨S3x1x4096, .f32⟩
  | .hbm, ⟨29, _⟩ => ⟨S3x8192x4096, .f32⟩
  | .hbm, ⟨30, _⟩ => ⟨S3x8192x4096, .f32⟩
  | .hbm, ⟨31, _⟩ => ⟨S3x8192x4096, .f32⟩
  | .hbm, ⟨32, _⟩ => ⟨S3x8192x4096, .f32⟩
  | .hbm, ⟨33, _⟩ => ⟨S3x8192x4096, .bf16⟩
  | _, _ => ⟨S3x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== FirstRes.lean ====
abbrev S3x8192x4096 : Shape := ⟨3, ![3, 8192, 4096]⟩
abbrev S3x1x4096 : Shape := ⟨3, ![3, 1, 4096]⟩
abbrev S4096 : Shape := ⟨1, ![4096]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S3x8192x4096, .f32⟩
  | .hbm, ⟨1, _⟩ => ⟨S3x8192x4096, .f32⟩
  | .hbm, ⟨2, _⟩ => ⟨S3x1x4096, .f32⟩
  | .hbm, ⟨3, _⟩ => ⟨S4096, .f32⟩
  | .hbm, ⟨4, _⟩ => ⟨S4096, .f32⟩
  | .hbm, ⟨5, _⟩ => ⟨S3x1x4096, .f32⟩
  | .hbm, ⟨6, _⟩ => ⟨S3x1x4096, .f32⟩
  | .hbm, ⟨7, _⟩ => ⟨S1x4096, .f32⟩
  | .hbm, ⟨8, _⟩ => ⟨S1x4096, .f32⟩
  | .hbm, ⟨9, _⟩ => ⟨S3x8192x4096, .f32⟩
  | .hbm, ⟨10, _⟩ => ⟨S3x8192x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x256x4096, .f32⟩
  | .local _ .vmem, ⟨13, _⟩ => ⟨S1x256x4096, .f32⟩
  | .local _ .vmem, ⟨14, _⟩ => ⟨S1x256x4096, .bf16⟩
  | .local _ .vmem, ⟨15, _⟩ => ⟨S1x256x4096, .bf16⟩
  | _, _ => ⟨S3x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![3, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FirstResRefIdeal.lean ====
abbrev S3x8192x4096 : Shape := ⟨3, ![3, 8192, 4096]⟩
abbrev S3x1x4096 : Shape := ⟨3, ![3, 1, 4096]⟩
abbrev S4096 : Shape := ⟨1, ![4096]⟩
abbrev S_ : Shape := ⟨0, ![]⟩
abbrev S3x8192 : Shape := ⟨2, ![3, 8192]⟩
abbrev S3x8192x1 : Shape := ⟨3, ![3, 8192, 1]⟩
abbrev S1x1x4096 : Shape := ⟨3, ![1, 1, 4096]⟩

abbrev nBuf : Space → Nat
  | .hbm => 73
  | .vmem => 0
  | .smem => 0
  | _ => 0

abbrev bufTy : (tb : Table) → Fin (tcTables nBuf tb) → BufTy
  | .hbm, ⟨0, _⟩ => ⟨S3x8192x4096, .f32⟩
  | .hbm, ⟨1, _⟩ => ⟨S3x8192x4096, .f32⟩
  | .hbm, ⟨2, _⟩ => ⟨S3x1x4096, .f32⟩
  | .hbm, ⟨3, _⟩ => ⟨S4096, .f32⟩
  | .hbm, ⟨4, _⟩ => ⟨S4096, .f32⟩
  | .hbm, ⟨5, _⟩ => ⟨S3x1x4096, .f32⟩
  | .hbm, ⟨6, _⟩ => ⟨S3x1x4096, .f32⟩
  | .hbm, ⟨7, _⟩ => ⟨S_, .f32⟩
  | .hbm, ⟨8, _⟩ => ⟨S3x8192x4096, .f32⟩
  | .hbm, ⟨9, _⟩ => ⟨S3x8192x4096, .f32⟩
  | .hbm, ⟨10, _⟩ => ⟨S3x8192x4096, .f32⟩
  | .hbm, ⟨11, _⟩ => ⟨S3x8192x4096, .f32⟩
  | .hbm, ⟨12, _⟩ => ⟨S3x8192x4096, .f32⟩
  | .hbm, ⟨13, _⟩ => ⟨S_, .f32⟩
  | .hbm, ⟨14, _⟩ => ⟨S3x8192, .f32⟩
  | .hbm, ⟨15, _⟩ => ⟨S3x8192x1, .f32⟩
  | .hbm, ⟨16, _⟩ => ⟨S_, .f32⟩
  | .hbm, ⟨17, _⟩ => ⟨S3x8192x1, .f32⟩
  | .hbm, ⟨18, _⟩ => ⟨S3x8192x1, .f32⟩
  | .hbm, ⟨19, _⟩ => ⟨S3x8192x4096, .f32⟩
  | .hbm, ⟨20, _⟩ => ⟨S3x8192x4096, .f32⟩
  | .hbm, ⟨21, _⟩ => ⟨S3x8192x4096, .f32⟩
  | .hbm, ⟨22, _⟩ => ⟨S_, .f32⟩
  | .hbm, ⟨23, _⟩ => ⟨S3x8192, .f32⟩
  | .hbm, ⟨24, _⟩ => ⟨S3x8192x1, .f32⟩
  | .hbm, ⟨25, _⟩ => ⟨S_, .f32⟩
  | .hbm, ⟨26, _⟩ => ⟨S3x8192x1, .f32⟩
  | .hbm, ⟨27, _⟩ => ⟨S3x8192x1, .f32⟩
  | .hbm, ⟨28, _⟩ => ⟨S3x8192x4096, .f32⟩
  | .hbm, ⟨29, _⟩ => ⟨S3x8192x4096, .f32⟩
  | .hbm, ⟨30, _⟩ => ⟨S_, .f32⟩
  | .hbm, ⟨31, _⟩ => ⟨S3x8192x1, .f32⟩
  | .hbm, ⟨32, _⟩ => ⟨S3x8192x1, .f32⟩
  | .hbm, ⟨33, _⟩ => ⟨S3x8192x1, .f32⟩
  | .hbm, ⟨34, _⟩ => ⟨S3x8192x4096, .f32⟩
  | .hbm, ⟨35, _⟩ => ⟨S3x8192x4096, .f32⟩
  | .hbm, ⟨36, _⟩ => ⟨S1x1x4096, .f32⟩
  | .hbm, ⟨37, _⟩ => ⟨S3x8192x4096, .f32⟩
  | .hbm, ⟨38, _⟩ => ⟨S3x8192x4096, .f32⟩
  | .hbm, ⟨39, _⟩ => ⟨S1x1x4096, .f32⟩
  | .hbm, ⟨40, _⟩ => ⟨S3x8192x4096, .f32⟩
  | .hbm, ⟨41, _⟩ => ⟨S3x8192x4096, .f32⟩
  | .hbm, ⟨42, _⟩ => ⟨S_, .f32⟩
  | .hbm, ⟨43, _⟩ => ⟨S3x8192, .f32⟩
  | .hbm, ⟨44, _⟩ => ⟨S3x8192x1, .f32⟩
  | .hbm, ⟨45, _⟩ => ⟨S_, .f32⟩
  | .hbm, ⟨46, _⟩ => ⟨S3x8192x1, .f32⟩
  | .hbm, ⟨47, _⟩ => ⟨S3x8192x1, .f32⟩
  | .hbm, ⟨48, _⟩ => ⟨S3x8192x4096, .f32⟩
  | .hbm, ⟨49, _⟩ => ⟨S3x8192x4096, .f32⟩
  | .hbm, ⟨50, _⟩ => ⟨S3x8192x4096, .f32⟩
  | .hbm, ⟨51, _⟩ => ⟨S_, .f32⟩
  | .hbm, ⟨52, _⟩ => ⟨S3x8192, .f32⟩
  | .hbm, ⟨53, _⟩ => ⟨S3x8192x1, .f32⟩
  | .hbm, ⟨54, _⟩ => ⟨S_, .f32⟩
  | .hbm, ⟨55, _⟩ => ⟨S3x8192x1, .f32⟩
  | .hbm, ⟨56, _⟩ => ⟨S3x8192x1, .f32⟩
  | .hbm, ⟨57, _⟩ => ⟨S3x8192x4096, .f32⟩
  | .hbm, ⟨58, _⟩ => ⟨S3x8192x4096, .f32⟩
  | .hbm, ⟨59, _⟩ => ⟨S_, .f32⟩
  | .hbm, ⟨60, _⟩ => ⟨S3x8192x1, .f32⟩
  | .hbm, ⟨61, _⟩ => ⟨S3x8192x1, .f32⟩
  | .hbm, ⟨62, _⟩ => ⟨S3x8192x1, .f32⟩
  | .hbm, ⟨63, _⟩ => ⟨S3x8192x4096, .f32⟩
  | .hbm, ⟨64, _⟩ => ⟨S3x8192x4096, .f32⟩
  | .hbm, ⟨65, _⟩ => ⟨S_, .f32⟩
  | .hbm, ⟨66, _⟩ => ⟨S3x1x4096, .f32⟩
  | .hbm, ⟨67, _⟩ => ⟨S3x1x4096, .f32⟩
  | .hbm, ⟨68, _⟩ => ⟨S3x8192x4096, .f32⟩
  | .hbm, ⟨69, _⟩ => ⟨S3x8192x4096, .f32⟩
  | .hbm, ⟨70, _⟩ => ⟨S3x8192x4096, .f32⟩
  | .hbm, ⟨71, _⟩ => ⟨S3x8192x4096, .f32⟩
  | .hbm, ⟨72, _⟩ => ⟨S3x8192x4096, .bf16⟩
  | _, _ => ⟨S3x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Ada.lean ====
abbrev S8x4096 : Shape := ⟨2, ![8, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S8x24576 : Shape := ⟨2, ![8, 24576]⟩
abbrev S1x4096x512 : Shape := ⟨3, ![1, 4096, 512]⟩
abbrev S1x1x512 : Shape := ⟨3, ![1, 1, 512]⟩
abbrev S8x512 : Shape := ⟨2, ![8, 512]⟩
abbrev S4096x512 : Shape := ⟨2, ![4096, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S8x512, .f32⟩
  | .local _ .vmem, ⟨6, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x4096 : Shape := ⟨2, ![8, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩

abbrev nBuf : Space → Nat
  | .hbm => 20
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S1x4096x24576, .f32⟩
  | .hbm, ⟨13, _⟩ => ⟨S4096x24576, .f32⟩
  | .hbm, ⟨14, _⟩ => ⟨S8x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S8x24576, .f32⟩
  | .hbm, ⟨19, _⟩ => ⟨S8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== GdnOut.lean ====
abbrev S3x8192x2048 : Shape := ⟨3, ![3, 8192, 2048]⟩
abbrev S3x8192x8192 : Shape := ⟨3, ![3, 8192, 8192]⟩
abbrev S128 : Shape := ⟨1, ![128]⟩
abbrev S1x128 : Shape := ⟨2, ![1, 128]⟩
abbrev S1x256x2048 : Shape := ⟨3, ![1, 256, 2048]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S3x8192x2048, .f32⟩
  | .hbm, ⟨1, _⟩ => ⟨S3x8192x2048, .f32⟩
  | .hbm, ⟨2, _⟩ => ⟨S3x8192x8192, .bf16⟩
  | .hbm, ⟨3, _⟩ => ⟨S128, .f32⟩
  | .hbm, ⟨4, _⟩ => ⟨S1x128, .f32⟩
  | .hbm, ⟨5, _⟩ => ⟨S3x8192x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .bf16⟩
  | .local _ .vmem, ⟨5, _⟩ => ⟨S1x256x2048, .bf16⟩
  | .local _ .vmem, ⟨6, _⟩ => ⟨S1x128, .f32⟩
  | .local _ .vmem, ⟨7, _⟩ => ⟨S1x256x2048, .bf16⟩
  | .local _ .vmem, ⟨8, _⟩ => ⟨S1x256x2048, .bf16⟩
  | _, _ => ⟨S3x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![3, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GdnOutRefIdeal.lean ====
abbrev S3x8192x2048 : Shape := ⟨3, ![3, 8192, 2048]⟩
abbrev S3x8192x8192 : Shape := ⟨3, ![3, 8192, 8192]⟩
abbrev S128 : Shape := ⟨1, ![128]⟩
abbrev S3x8192x16x128 : Shape := ⟨4, ![3, 8192, 16, 128]⟩
abbrev S_ : Shape := ⟨0, ![]⟩
abbrev S3x8192x16 : Shape := ⟨3, ![3, 8192, 16]⟩
abbrev S3x8192x16x1 : Shape := ⟨4, ![3, 8192, 16, 1]⟩
abbrev S1x1x1x128 : Shape := ⟨4, ![1, 1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S3x8192x2048, .f32⟩
  | .hbm, ⟨1, _⟩ => ⟨S3x8192x2048, .f32⟩
  | .hbm, ⟨2, _⟩ => ⟨S3x8192x8192, .bf16⟩
  | .hbm, ⟨3, _⟩ => ⟨S128, .f32⟩
  | .hbm, ⟨4, _⟩ => ⟨S3x8192x2048, .f32⟩
  | .hbm, ⟨5, _⟩ => ⟨S3x8192x16x128, .f32⟩
  | .hbm, ⟨6, _⟩ => ⟨S3x8192x2048, .bf16⟩
  | .hbm, ⟨7, _⟩ => ⟨S3x8192x2048, .f32⟩
  | .hbm, ⟨8, _⟩ => ⟨S3x8192x16x128, .f32⟩
  | .hbm, ⟨9, _⟩ => ⟨S3x8192x16x128, .f32⟩
  | .hbm, ⟨10, _⟩ => ⟨S_, .f32⟩
  | .hbm, ⟨11, _⟩ => ⟨S3x8192x16, .f32⟩
  | .hbm, ⟨12, _⟩ => ⟨S3x8192x16x1, .f32⟩
  | .hbm, ⟨13, _⟩ => ⟨S_, .f32⟩
  | .hbm, ⟨14, _⟩ => ⟨S3x8192x16x1, .f32⟩
  | .hbm, ⟨15, _⟩ => ⟨S3x8192x16x1, .f32⟩
  | .hbm, ⟨16, _⟩ => ⟨S_, .f32⟩
  | .hbm, ⟨17, _⟩ => ⟨S3x8192x16x1, .f32⟩
  | .hbm, ⟨18, _⟩ => ⟨S3x8192x16x1, .f32⟩
  | .hbm, ⟨19, _⟩ => ⟨S3x8192x16x1, .f32⟩
  | .hbm, ⟨20, _⟩ => ⟨S3x8192x16x128, .f32⟩
  | .hbm, ⟨21, _⟩ => ⟨S3x8192x16x128, .f32⟩
  | .hbm, ⟨22, _⟩ => ⟨S1x1x1x128, .f32⟩
  | .hbm, ⟨23, _⟩ => ⟨S3x8192x16x128, .f32⟩
  | .hbm, ⟨24, _⟩ => ⟨S3x8192x16x128, .f32⟩
  | .hbm, ⟨25, _⟩ => ⟨S3x8192x16x128, .f32⟩
  | .hbm, ⟨26, _⟩ => ⟨S3x8192x16x128, .f32⟩
  | .hbm, ⟨27, _⟩ => ⟨S_, .f32⟩
  | .hbm, ⟨28, _⟩ => ⟨S3x8192x16x128, .f32⟩
  | .hbm, ⟨29, _⟩ => ⟨S3x8192x16x128, .f32⟩
  | .hbm, ⟨30, _⟩ => ⟨S_, .f32⟩
  | .hbm, ⟨31, _⟩ => ⟨S3x8192x16x128, .f32⟩
  | .hbm, ⟨32, _⟩ => ⟨S3x8192x16x128, .f32⟩
  | .hbm, ⟨33, _⟩ => ⟨S3x8192x16x128, .f32⟩
  | .hbm, ⟨34, _⟩ => ⟨S3x8192x16x128, .f32⟩
  | .hbm, ⟨35, _⟩ => ⟨S3x8192x16x128, .bf16⟩
  | .hbm, ⟨36, _⟩ => ⟨S3x8192x2048, .bf16⟩
  | _, _ => ⟨S3x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== PeerDense.lean ====
abbrev S24576x4096 : Shape := ⟨2, ![24576, 4096]⟩
abbrev S16384x4096 : Shape := ⟨2, ![16384, 4096]⟩
abbrev S24576x16384 : Shape := ⟨2, ![24576, 16384]⟩
abbrev S384x4096 : Shape := ⟨2, ![384, 4096]⟩
abbrev S1024x4096 : Shape := ⟨2, ![1024, 4096]⟩
abbrev S384x1024 : Shape := ⟨2, ![384, 1024]⟩

abbrev nBuf : Space → Nat
  | .hbm => 5
  | .vmem => 10
  | .smem => 0
  | _ => 0

abbrev bufTy : (tb : Table) → Fin (tcTables nBuf tb) → BufTy
  | .hbm, ⟨0, _⟩ => ⟨S24576x4096, .bf16⟩
  | .hbm, ⟨1, _⟩ => ⟨S16384x4096, .bf16⟩
  | .hbm, ⟨2, _⟩ => ⟨S16384x4096, .bf16⟩
  | .hbm, ⟨3, _⟩ => ⟨S24576x16384, .bf16⟩
  | .hbm, ⟨4, _⟩ => ⟨S24576x4096, .f32⟩
  | .local _ .vmem, ⟨0, _⟩ => ⟨S384x4096, .bf16⟩
  | .local _ .vmem, ⟨1, _⟩ => ⟨S384x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x4096, .bf16⟩
  | .local _ .vmem, ⟨5, _⟩ => ⟨S1024x4096, .bf16⟩
  | .local _ .vmem, ⟨6, _⟩ => ⟨S384x1024, .bf16⟩
  | .local _ .vmem, ⟨7, _⟩ => ⟨S384x1024, .bf16⟩
  | .local _ .vmem, ⟨8, _⟩ => ⟨S384x4096, .f32⟩
  | .local _ .vmem, ⟨9, _⟩ => ⟨S384x4096, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S384x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== PeerDenseRefIdeal.lean ====
abbrev S24576x4096 : Shape := ⟨2, ![24576, 4096]⟩
abbrev S16384x4096 : Shape := ⟨2, ![16384, 4096]⟩
abbrev S24576x16384 : Shape := ⟨2, ![24576, 16384]⟩
abbrev S4096x16384 : Shape := ⟨2, ![4096, 16384]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S16384x4096, .bf16⟩
  | .hbm, ⟨2, _⟩ => ⟨S16384x4096, .bf16⟩
  | .hbm, ⟨3, _⟩ => ⟨S24576x16384, .bf16⟩
  | .hbm, ⟨4, _⟩ => ⟨S24576x4096, .f32⟩
  | .hbm, ⟨5, _⟩ => ⟨S16384x4096, .f32⟩
  | .hbm, ⟨6, _⟩ => ⟨S4096x16384, .f32⟩
  | .hbm, ⟨7, _⟩ => ⟨S24576x16384, .f32⟩
  | .hbm, ⟨8, _⟩ => ⟨S_, .f32⟩
  | .hbm, ⟨9, _⟩ => ⟨S24576x16384, .f32⟩
  | .hbm, ⟨10, _⟩ => ⟨S24576x16384, .f32⟩
  | .hbm, ⟨11, _⟩ => ⟨S24576x16384, .f32⟩
  | .hbm, ⟨12, _⟩ => ⟨S_, .f32⟩
  | .hbm, ⟨13, _⟩ => ⟨S24576x16384, .f32⟩
  | .hbm, ⟨14, _⟩ => ⟨S24576x16384, .f32⟩
  | .hbm, ⟨15, _⟩ => ⟨S24576x16384, .f32⟩
  | .hbm, ⟨16, _⟩ => ⟨S24576x16384, .f32⟩
  | .hbm, ⟨17, _⟩ => ⟨S24576x16384, .f32⟩
  | .hbm, ⟨18, _⟩ => ⟨S24576x16384, .f32⟩
  | .hbm, ⟨19, _⟩ => ⟨S16384x4096, .f32⟩
  | .hbm, ⟨20, _⟩ => ⟨S24576x4096, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== DnConv.lean ====
abbrev S3x8192x8192 : Shape := ⟨3, ![3, 8192, 8192]⟩
abbrev S5x6144 : Shape := ⟨2, ![5, 6144]⟩
abbrev S3x8192x6144 : Shape := ⟨3, ![3, 8192, 6144]⟩
abbrev S1x16x2048 : Shape := ⟨3, ![1, 16, 2048]⟩
abbrev S1x256x2048 : Shape := ⟨3, ![1, 256, 2048]⟩
abbrev S5x2048 : Shape := ⟨2, ![5, 2048]⟩
abbrev S256x2048 : Shape := ⟨2, ![256, 2048]⟩
abbrev S16x2048 : Shape := ⟨2, ![16, 2048]⟩
abbrev S256x1 : Shape := ⟨2, ![256, 1]⟩
abbrev S1x2048 : Shape := ⟨2, ![1, 2048]⟩
abbrev S256x128 : Shape := ⟨2, ![256, 128]⟩
abbrev S256 : Shape := ⟨1, ![256]⟩
abbrev S1x256x128 : Shape := ⟨3, ![1, 256, 128]⟩

abbrev nBuf : Space → Nat
  | .hbm => 3
  | .vmem => 10
  | .smem => 0
  | _ => 0

abbrev bufTy : (tb : Table) → Fin (tcTables nBuf tb) → BufTy
  | .hbm, ⟨0, _⟩ => ⟨S3x8192x8192, .bf16⟩
  | .hbm, ⟨1, _⟩ => ⟨S5x6144, .f32⟩
  | .hbm, ⟨2, _⟩ => ⟨S3x8192x6144, .bf16⟩
  | .local _ .vmem, ⟨0, _⟩ => ⟨S1x16x2048, .bf16⟩
  | .local _ .vmem, ⟨1, _⟩ => ⟨S1x16x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x16x2048, .bf16⟩
  | .local _ .vmem, ⟨5, _⟩ => ⟨S1x16x2048, .bf16⟩
  | .local _ .vmem, ⟨6, _⟩ => ⟨S5x2048, .f32⟩
  | .local _ .vmem, ⟨7, _⟩ => ⟨S5x2048, .f32⟩
  | .local _ .vmem, ⟨8, _⟩ => ⟨S1x256x2048, .bf16⟩
  | .local _ .vmem, ⟨9, _⟩ => ⟨S1x256x2048, .bf16⟩
  | _, _ => ⟨S3x8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![3, 32, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  ![arg0.toNat, v2.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S5x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== DnConvRefIdeal.lean ====
abbrev S3x8192x8192 : Shape := ⟨3, ![3, 8192, 8192]⟩
abbrev S5x6144 : Shape := ⟨2, ![5, 6144]⟩
abbrev S3x8192x6144 : Shape := ⟨3, ![3, 8192, 6144]⟩
abbrev S_ : Shape := ⟨0, ![]⟩
abbrev S3x8196x6144 : Shape := ⟨3, ![3, 8196, 6144]⟩
abbrev S1x6144 : Shape := ⟨2, ![1, 6144]⟩
abbrev S6144 : Shape := ⟨1, ![6144]⟩
abbrev S1x1x6144 : Shape := ⟨3, ![1, 1, 6144]⟩
abbrev S3x8192x2048 : Shape := ⟨3, ![3, 8192, 2048]⟩
abbrev S3x8192x16x128 : Shape := ⟨4, ![3, 8192, 16, 128]⟩
abbrev S3x8192x16 : Shape := ⟨3, ![3, 8192, 16]⟩
abbrev S3x8192x16x1 : Shape := ⟨4, ![3, 8192, 16, 1]⟩

abbrev nBuf : Space → Nat
  | .hbm => 87
  | .vmem => 0
  | .smem => 0
  | _ => 0

abbrev bufTy : (tb : Table) → Fin (tcTables nBuf tb) → BufTy
  | .hbm, ⟨0, _⟩ => ⟨S3x8192x8192, .bf16⟩
  | .hbm, ⟨1, _⟩ => ⟨S5x6144, .f32⟩
  | .hbm, ⟨2, _⟩ => ⟨S3x8192x6144, .bf16⟩
  | .hbm, ⟨3, _⟩ => ⟨S3x8192x6144, .f32⟩
  | .hbm, ⟨4, _⟩ => ⟨S_, .i32⟩
  | .hbm, ⟨5, _⟩ => ⟨S_, .f32⟩
  | .hbm, ⟨6, _⟩ => ⟨S3x8196x6144, .f32⟩
  | .hbm, ⟨7, _⟩ => ⟨S3x8192x6144, .f32⟩
  | .hbm, ⟨8, _⟩ => ⟨S1x6144, .f32⟩
  | .hbm, ⟨9, _⟩ => ⟨S6144, .f32⟩
  | .hbm, ⟨10, _⟩ => ⟨S1x1x6144, .f32⟩
  | .hbm, ⟨11, _⟩ => ⟨S3x8192x6144, .f32⟩
  | .hbm, ⟨12, _⟩ => ⟨S3x8192x6144, .f32⟩
  | .hbm, ⟨13, _⟩ => ⟨S_, .f32⟩
  | .hbm, ⟨14, _⟩ => ⟨S3x8192x6144, .f32⟩
  | .hbm, ⟨15, _⟩ => ⟨S3x8192x6144, .f32⟩
  | .hbm, ⟨16, _⟩ => ⟨S3x8192x6144, .f32⟩
  | .hbm, ⟨17, _⟩ => ⟨S1x6144, .f32⟩
  | .hbm, ⟨18, _⟩ => ⟨S6144, .f32⟩
  | .hbm, ⟨19, _⟩ => ⟨S1x1x6144, .f32⟩
  | .hbm, ⟨20, _⟩ => ⟨S3x8192x6144, .f32⟩
  | .hbm, ⟨21, _⟩ => ⟨S3x8192x6144, .f32⟩
  | .hbm, ⟨22, _⟩ => ⟨S3x8192x6144, .f32⟩
  | .hbm, ⟨23, _⟩ => ⟨S3x8192x6144, .f32⟩
  | .hbm, ⟨24, _⟩ => ⟨S1x6144, .f32⟩
  | .hbm, ⟨25, _⟩ => ⟨S6144, .f32⟩
  | .hbm, ⟨26, _⟩ => ⟨S1x1x6144, .f32⟩
  | .hbm, ⟨27, _⟩ => ⟨S3x8192x6144, .f32⟩
  | .hbm, ⟨28, _⟩ => ⟨S3x8192x6144, .f32⟩
  | .hbm, ⟨29, _⟩ => ⟨S3x8192x6144, .f32⟩
  | .hbm, ⟨30, _⟩ => ⟨S3x8192x6144, .f32⟩
  | .hbm, ⟨31, _⟩ => ⟨S1x6144, .f32⟩
  | .hbm, ⟨32, _⟩ => ⟨S6144, .f32⟩
  | .hbm, ⟨33, _⟩ => ⟨S1x1x6144, .f32⟩
  | .hbm, ⟨34, _⟩ => ⟨S3x8192x6144, .f32⟩
  | .hbm, ⟨35, _⟩ => ⟨S3x8192x6144, .f32⟩
  | .hbm, ⟨36, _⟩ => ⟨S3x8192x6144, .f32⟩
  | .hbm, ⟨37, _⟩ => ⟨S3x8192x6144, .f32⟩
  | .hbm, ⟨38, _⟩ => ⟨S1x6144, .f32⟩
  | .hbm, ⟨39, _⟩ => ⟨S6144, .f32⟩
  | .hbm, ⟨40, _⟩ => ⟨S1x1x6144, .f32⟩
  | .hbm, ⟨41, _⟩ => ⟨S3x8192x6144, .f32⟩
  | .hbm, ⟨42, _⟩ => ⟨S3x8192x6144, .f32⟩
  | .hbm, ⟨43, _⟩ => ⟨S3x8192x6144, .f32⟩
  | .hbm, ⟨44, _⟩ => ⟨S3x8192x6144, .f32⟩
  | .hbm, ⟨45, _⟩ => ⟨S3x8192x6144, .f32⟩
  | .hbm, ⟨46, _⟩ => ⟨S_, .f32⟩
  | .hbm, ⟨47, _⟩ => ⟨S3x8192x6144, .f32⟩
  | .hbm, ⟨48, _⟩ => ⟨S3x8192x6144, .f32⟩
  | .hbm, ⟨49, _⟩ => ⟨S_, .f32⟩
  | .hbm, ⟨50, _⟩ => ⟨S3x8192x6144, .f32⟩
  | .hbm, ⟨51, _⟩ => ⟨S3x8192x6144, .f32⟩
  | .hbm, ⟨52, _⟩ => ⟨S3x8192x6144, .f32⟩
  | .hbm, ⟨53, _⟩ => ⟨S3x8192x2048, .f32⟩
  | .hbm, ⟨54, _⟩ => ⟨S3x8192x2048, .f32⟩
  | .hbm, ⟨55, _⟩ => ⟨S3x8192x2048, .f32⟩
  | .hbm, ⟨56, _⟩ => ⟨S3x8192x16x128, .f32⟩
  | .hbm, ⟨57, _⟩ => ⟨S3x8192x16x128, .f32⟩
  | .hbm, ⟨58, _⟩ => ⟨S3x8192x16x128, .f32⟩
  | .hbm, ⟨59, _⟩ => ⟨S3x8192x16x128, .f32⟩
  | .hbm, ⟨60, _⟩ => ⟨S_, .f32⟩
  | .hbm, ⟨61, _⟩ => ⟨S3x8192x16, .f32⟩
  | .hbm, ⟨62, _⟩ => ⟨S3x8192x16x1, .f32⟩
  | .hbm, ⟨63, _⟩ => ⟨S_, .f32⟩
  | .hbm, ⟨64, _⟩ => ⟨S3x8192x16x1, .f32⟩
  | .hbm, ⟨65, _⟩ => ⟨S3x8192x16x1, .f32⟩
  | .hbm, ⟨66, _⟩ => ⟨S3x8192x16x1, .f32⟩
  | .hbm, ⟨67, _⟩ => ⟨S3x8192x16x128, .f32⟩
  | .hbm, ⟨68, _⟩ => ⟨S3x8192x16x128, .f32⟩
  | .hbm, ⟨69, _⟩ => ⟨S_, .f32⟩
  | .hbm, ⟨70, _⟩ => ⟨S3x8192x16x128, .f32⟩
  | .hbm, ⟨71, _⟩ => ⟨S3x8192x16x128, .f32⟩
  | .hbm, ⟨72, _⟩ => ⟨S3x8192x16x128, .f32⟩
  | .hbm, ⟨73, _⟩ => ⟨S_, .f32⟩
  | .hbm, ⟨74, _⟩ => ⟨S3x8192x16, .f32⟩
  | .hbm, ⟨75, _⟩ => ⟨S3x8192x16x1, .f32⟩
  | .hbm, ⟨76, _⟩ => ⟨S_, .f32⟩
  | .hbm, ⟨77, _⟩ => ⟨S3x8192x16x1, .f32⟩
  | .hbm, ⟨78, _⟩ => ⟨S3x8192x16x1, .f32⟩
  | .hbm, ⟨79, _⟩ => ⟨S3x8192x16x1, .f32⟩
  | .hbm, ⟨80, _⟩ => ⟨S3x8192x16x128, .f32⟩
  | .hbm, ⟨81, _⟩ => ⟨S3x8192x16x128, .f32⟩
  | .hbm, ⟨82, _⟩ => ⟨S3x8192x2048, .f32⟩
  | .hbm, ⟨83, _⟩ => ⟨S3x8192x2048, .f32⟩
  | .hbm, ⟨84, _⟩ => ⟨S3x8192x2048, .f32⟩
  | .hbm, ⟨85, _⟩ => ⟨S3x8192x6144, .f32⟩
  | .hbm, ⟨86, _⟩ => ⟨S3x8192x6144, .bf16⟩
  | _, _ => ⟨S3x8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_0 : Ref sig .tc := ⟨.hbm, 60, rfl⟩
abbrev main_v47 : Ref sig .tc := ⟨.hbm, 61, rfl⟩
abbrev main_v48 : Ref sig .tc := ⟨.hbm, 62, rfl⟩
abbrev main_cst_1 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_2 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_3 : Ref sig .tc := ⟨.hbm, 73, rfl⟩
abbrev main_v57 : Ref sig .tc := ⟨.hbm, 74, rfl⟩
abbrev main_v58 : Ref sig .tc := ⟨.hbm, 75, rfl⟩
abbrev main_cst_4 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Chunk.lean ====
/- One chain of the recurrence over one block of 256 rows, and the pieces the body leaves in its three written
   buffers, as functions of the data a chain reads: the kernel's own operations in the kernel's own order. -/
module

public import proofs.«01_k».proof.Proof.Gen.KernelIdeal.Frame.Runs

@[expose] public section

set_option maxRecDepth 16384

noncomputable section

namespace Cert.Proof.Chain

open Idealize.ShloMosaic Idealize.ShloMosaic.TcCoe Cert.KernelIdeal Cert.KernelIdeal.Gen

variable {F : FTy → Type} [FloatOps F]

/-! ## The masks of one direction (`true`: the backward one) -/

abbrev rowIx : IVec S256x256 32 := iota .tc S256x256 32 [0] iota_S256x256_d0_w32
abbrev colIx : IVec S256x256 32 := iota .tc S256x256 32 [1] iota_S256x256_d1_w32

/-- The floor of a quotient by 64, as it is printed: the truncated quotient, less one where the signs differ. -/
def floor64 (v : IVec S256x256 32) : IVec S256x256 32 :=
  select
    (andi
      (cmpi .ne
        (subi (extui 32 (cmpi .sgt v (broadcast S256x256 0#32)) natLt_1_32)
          (extui 32 (cmpi .slt v (broadcast S256x256 0#32)) natLt_1_32))
        (broadcast S256x256
          (Scalar.subi (Scalar.extui (Scalar.cmpi .sgt 64#32 0#32)) (Scalar.extui (Scalar.cmpi .slt 64#32 0#32)))))
      (cmpi .ne (remsi v (broadcast S256x256 64#32)) (broadcast S256x256 0#32)))
    (subi (divsi v (broadcast S256x256 64#32)) (broadcast S256x256 1#32))
    (divsi v (broadcast S256x256 64#32))

def sameChunk : IVec S256x256 1 := cmpi .eq (floor64 rowIx) (floor64 colIx)

def incl (d : Bool) : IVec S256x256 1 :=
  andi sameChunk (cond d (cmpi .sge colIx rowIx) (cmpi .sle colIx rowIx))

def strict (d : Bool) : IVec S256x256 1 :=
  andi sameChunk (cond d (cmpi .sgt colIx rowIx) (cmpi .slt colIx rowIx))

def incl01 (d : Bool) : FVec F S256x256 .bf16 :=
  truncf .bf16
    (select (incl d) (broadcast S256x256 (Scalar.ofBits .f32 0x3F800000#32 : F .f32))
      (broadcast S256x256 (Scalar.ofBits .f32 0x00000000#32 : F .f32))) bitsLt_bf16_f32

def eye : FVec F S256x256 .f32 :=
  select (cmpi .eq rowIx colIx) (broadcast S256x256 (Scalar.ofBits .f32 0x3F800000#32 : F .f32))
    (broadcast S256x256 (Scalar.ofBits .f32 0x00000000#32 : F .f32))

def lvl : IVec S256x256 32 := subi (broadcast S256x256 31#32) (ctlz (xori rowIx colIx))

/-! ## What a chain reads of one block of rows -/

/-- The queries, keys and values of 256 rows, the 128 columns that hold the decay and beta inputs, the two scalars of
    the head, the two lanes the head's inputs lie in, and the direction. -/
structure Data (F : FTy → Type) where
  q : Vec F S1x256x128 .bf16
  k : Vec F S1x256x128 .bf16
  v : Vec F S1x256x128 .bf16
  cols : Vec F S1x256x128 .f32
  al : Vec F S1x1x1x1 .f32
  dt : Vec F S1x1x1x1 .f32
  la : BitVec 32
  lb : BitVec 32
  d : Bool

namespace Data
variable (X : Data F)

def qb : FVec F S256x128 .bf16 := shapeCast S256x128 X.q shapeCasts_S1x256x128_S256x128
def kb : FVec F S256x128 .bf16 := shapeCast S256x128 X.k shapeCasts_S1x256x128_S256x128
def vb : FVec F S256x128 .bf16 := shapeCast S256x128 X.v shapeCasts_S1x256x128_S256x128

/-- The column of the lane `l`: the other lanes set to zero, and the row summed. -/
def lane (l : BitVec 32) : FVec F S256x1 .f32 :=
  shapeCast S256x1
    (multiReduction .add [1] S256
      (select
        (broadcastTo S256x128
          (shapeCast S1x128 (cmpi .eq (iota .tc S1x128 32 [1] iota_S1x128_d1_w32) (broadcast S1x128 l)) shapeCasts_S1x128_S1x128)
          broadcasts_S1x128_S256x128)
        (shapeCast S256x128 X.cols shapeCasts_S1x256x128_S256x128 : FVec F S256x128 .f32)
        (broadcast S256x128 (Scalar.ofBits .f32 0x00000000#32 : F .f32)))
      0x00000000#32 reduces_S256x128_S256 (.inl rfl) rfl)
    shapeCasts_S256_S256x1

def negA : FVec F S1x1 .f32 :=
  subf (broadcast S1x1 (Scalar.ofBits .f32 0x00000000#32 : F .f32)) (exp (shapeCast S1x1 X.al shapeCasts_S1x1x1x1_S1x1 : FVec F S1x1 .f32))

def aIn : FVec F S256x1 .f32 :=
  addf (X.lane X.la) (broadcastTo S256x1 (shapeCast S1x1 X.dt shapeCasts_S1x1x1x1_S1x1 : FVec F S1x1 .f32) broadcasts_S1x1_S256x1)

def gcol : FVec F S256x128 .f32 :=
  broadcastTo S256x128
    (shapeCast S256x1
      (mulf (broadcastTo S256x1 X.negA broadcasts_S1x1_S256x1)
        (addf (maximumf X.aIn (broadcast S256x1 (Scalar.ofBits .f32 0x00000000#32 : F .f32)))
          (log1p (exp (subf (broadcast S256x1 (Scalar.ofBits .f32 0x00000000#32 : F .f32)) (absf X.aIn))))))
      shapeCasts_S256x1_S256x1)
    broadcasts_S256x1_S256x128

def beta : FVec F S256x128 .f32 :=
  broadcastTo S256x128
    (shapeCast S256x1
      (divf (broadcast S256x1 (Scalar.ofBits .f32 0x3F800000#32 : F .f32))
        (addf (broadcast S256x1 (Scalar.ofBits .f32 0x3F800000#32 : F .f32))
          (exp (subf (broadcast S256x1 (Scalar.ofBits .f32 0x00000000#32 : F .f32)) (X.lane X.lb)))))
      shapeCasts_S256x1_S256x1)
    broadcasts_S256x1_S256x128

def hi : FVec F S256x128 .bf16 := truncf .bf16 X.gcol bitsLt_bf16_f32
def r1 : FVec F S256x128 .f32 := subf X.gcol (extf .f32 X.hi bitsLt_bf16_f32)
def mid : FVec F S256x128 .bf16 := truncf .bf16 X.r1 bitsLt_bf16_f32
def lo : FVec F S256x128 .bf16 := truncf .bf16 (subf X.r1 (extf .f32 X.mid bitsLt_bf16_f32)) bitsLt_bf16_f32

def cum (t : FVec F S256x128 .bf16) : FVec F S256x128 .f32 :=
  matmul dot_S256x256_S256x128_S256x128_1_0_0_1_n_n none (incl01 X.d) t (constant S256x128 .f32 0x00000000#32)

/-- The running sums of the decay logarithms within the chunks. -/
def gc : FVec F S256x128 .f32 :=
  addf (addf (addf (broadcast S256x128 (Scalar.ofBits .f32 0x00000000#32 : F .f32)) (X.cum X.hi)) (X.cum X.mid)) (X.cum X.lo)

def eg : FVec F S256x128 .f32 := exp X.gc

theorem last_slices (r : Fin 4) (d : Bool) : S256x128.Slices ![cond d (64 * r.val) (64 * r.val + 63), 0] S1x128 := by
  revert r d; decide

def last (r : Fin 4) : FVec F S64x128 .f32 :=
  broadcastTo S64x128
    (shapeCast S1x128 (extractStridedSlice S1x128 ![cond X.d (64 * r.val) (64 * r.val + 63), 0] X.gc (last_slices r X.d) : FVec F S1x128 .f32)
      shapeCasts_S1x128_S1x128)
    broadcasts_S1x128_S64x128

def tot : FVec F S256x128 .f32 :=
  concatenate S256x128 0 [⟨S64x128, X.last 0⟩, ⟨S64x128, X.last 1⟩, ⟨S64x128, X.last 2⟩, ⟨S64x128, X.last 3⟩]
    concatenates_S64x128_S64x128_S64x128_S64x128_S256x128_d0

def decay : FVec F S256x256 .f32 :=
  exp
    (select (incl X.d)
      (subf (concatenate S256x256 1 [⟨S256x128, X.gc⟩, ⟨S256x128, X.gc⟩] concatenates_S256x128_S256x128_S256x256_d1)
        (broadcastTo S256x256
          (extractStridedSlice S1x256 ![0, 0] (transpose S128x256 [1, 0] X.gc transposes_S256x128_p1_0_S128x256) slices_S128x256_o0_0_S1x256)
          broadcasts_S1x256_S256x256))
      (broadcast S256x256 (Scalar.ofBits .f32 0xF149F2CA#32 : F .f32)))

def kbeta : FVec F S256x128 .f32 := mulf (extf .f32 X.kb bitsLt_bf16_f32) X.beta
def vbeta : FVec F S256x128 .f32 := mulf (extf .f32 X.vb bitsLt_bf16_f32) X.beta

/-- The strictly triangular coupling of the rows of a chunk. -/
def mm : FVec F S256x256 .f32 :=
  select (strict X.d)
    (mulf (matmul dot_S256x128_S256x128_S256x256_1_1_0_0_n_n none (truncf .bf16 X.kbeta bitsLt_bf16_f32) X.kb (constant S256x256 .f32 0x00000000#32))
      X.decay)
    (broadcast S256x256 (Scalar.ofBits .f32 0x00000000#32 : F .f32))

/-- The entries of the coupling at one level of the halving. -/
def part (j : BitVec 32) : FVec F S256x256 .f32 :=
  select (cmpi .eq lvl (broadcast S256x256 j)) X.mm (broadcast S256x256 (Scalar.ofBits .f32 0x00000000#32 : F .f32))

def inv0 : FVec F S256x256 .f32 := subf eye (X.part 0#32)

/-- One level more of the inverse. -/
def up (j : BitVec 32) (t : FVec F S256x256 .f32) : FVec F S256x256 .f32 :=
  subf t
    (matmul dot_S256x256_S256x256_S256x256_1_0_0_1_n_n none
      (truncf .bf16
        (matmul dot_S256x256_S256x256_S256x256_1_0_0_1_n_n none (truncf .bf16 t bitsLt_bf16_f32)
          (truncf .bf16 (X.part j) bitsLt_bf16_f32) (constant S256x256 .f32 0x00000000#32))
        bitsLt_bf16_f32)
      (truncf .bf16 t bitsLt_bf16_f32) (constant S256x256 .f32 0x00000000#32))

def inv1 : FVec F S256x256 .f32 := X.up 1#32 X.inv0
def inv2 : FVec F S256x256 .f32 := X.up 2#32 X.inv1
def inv3 : FVec F S256x256 .f32 := X.up 3#32 X.inv2
def inv4 : FVec F S256x256 .f32 := X.up 4#32 X.inv3
def inv5 : FVec F S256x256 .f32 := X.up 5#32 X.inv4

def wub : FVec F S256x256 .bf16 :=
  truncf .bf16
    (matmul dot_S256x256_S256x256_S256x256_1_0_0_1_n_n none (truncf .bf16 X.inv5 bitsLt_bf16_f32)
      (truncf .bf16
        (concatenate S256x256 1 [⟨S256x128, mulf X.kbeta X.eg⟩, ⟨S256x128, X.vbeta⟩] concatenates_S256x128_S256x128_S256x256_d1)
        bitsLt_bf16_f32)
      (constant S256x256 .f32 0x00000000#32))
    bitsLt_bf16_f32

def qk : FVec F S256x256 .f32 :=
  select (incl X.d)
    (mulf (matmul dot_S256x128_S256x128_S256x256_1_1_0_0_n_n none X.qb X.kb (constant S256x256 .f32 0x00000000#32)) X.decay)
    (broadcast S256x256 (Scalar.ofBits .f32 0x00000000#32 : F .f32))

def ab : FVec F S256x256 .f32 :=
  matmul dot_S256x256_S256x256_S256x256_1_0_0_1_n_n none (truncf .bf16 X.qk bitsLt_bf16_f32) X.wub (constant S256x256 .f32 0x00000000#32)

def aq : FVec F S256x128 .bf16 :=
  truncf .bf16
    (subf (mulf (extf .f32 X.qb bitsLt_bf16_f32) X.eg) (extractStridedSlice S256x128 ![0, 0] X.ab slices_S256x256_o0_0_S256x128))
    bitsLt_bf16_f32

def kd : FVec F S256x128 .bf16 :=
  truncf .bf16 (mulf (extf .f32 X.kb bitsLt_bf16_f32) (exp (subf X.tot X.gc))) bitsLt_bf16_f32

/-! ## One chunk of 64 rows, over the state before it -/

/-- The first row of the `c`-th chunk the chain takes. -/
def row (c : Fin 4) : ℕ := 64 * cond X.d (3 - c.val) c.val

theorem slice_out (r : ℕ) (h : r ≤ 192) : S256x128.Slices ![r, 0] S64x128 := ⟨rfl, fun a => by fin_cases a <;> simp [S256x128, S64x128] <;> omega⟩
theorem row_le (c : Fin 4) : X.row c ≤ 192 := by unfold row; cases X.d <;> simp <;> omega
theorem slice_v (r : ℕ) (h : r ≤ 192) : S256x256.Slices ![r, 128] S64x128 := ⟨rfl, fun a => by fin_cases a <;> simp [S256x256, S64x128] <;> omega⟩
theorem slice_w (r : ℕ) (h : r ≤ 192) : S256x256.Slices ![r, 0] S64x256 := ⟨rfl, fun a => by fin_cases a <;> simp [S256x256, S64x256] <;> omega⟩
theorem slice_1 (r : ℕ) (h : r ≤ 192) : S256x128.Slices ![r, 0] S1x128 := ⟨rfl, fun a => by fin_cases a <;> simp [S256x128, S1x128] <;> omega⟩

def st (s : Vec F S1x128x128 .f32) : FVec F S128x128 .f32 := shapeCast S128x128 s shapeCasts_S1x128x128_S128x128
def stb (s : Vec F S1x128x128 .f32) : FVec F S128x128 .bf16 := truncf .bf16 (st s) bitsLt_bf16_f32

/-- The outputs of a chunk. -/
def out (c : Fin 4) (s : Vec F S1x128x128 .f32) : FVec F S1x64x128 .f32 :=
  shapeCast S1x64x128
    (addf
      (matmul dot_S64x128_S128x128_S64x128_1_0_0_1_n_n none
        (extractStridedSlice S64x128 ![X.row c, 0] X.aq (slice_out _ (X.row_le c))) (stb s) (constant S64x128 .f32 0x00000000#32))
      (extractStridedSlice S64x128 ![X.row c, 128] X.ab (slice_v _ (X.row_le c))))
    shapeCasts_S64x128_S1x64x128

def pq (c : Fin 4) : FVec F S128x256 .f32 :=
  matmul dot_S64x128_S64x256_S128x256_0_0_1_1_n_n none
    (extractStridedSlice S64x128 ![X.row c, 0] X.kd (slice_out _ (X.row_le c)))
    (extractStridedSlice S64x256 ![X.row c, 0] X.wub (slice_w _ (X.row_le c))) (constant S128x256 .f32 0x00000000#32)

/-- The state after a chunk. -/
def next (c : Fin 4) (s : Vec F S1x128x128 .f32) : FVec F S1x128x128 .f32 :=
  shapeCast S1x128x128
    (addf
      (subf
        (mulf
          (broadcastTo S128x128 (exp (extractStridedSlice S1x128 ![X.row c, 0] X.tot (slice_1 _ (X.row_le c))) : FVec F S1x128 .f32)
            broadcasts_S1x128_S128x128)
          (st s))
        (matmul dot_S128x128_S128x128_S128x128_1_0_0_1_n_n none
          (truncf .bf16 (extractStridedSlice S128x128 ![0, 0] (X.pq c) slices_S128x256_o0_0_S128x128) bitsLt_bf16_f32) (stb s)
          (constant S128x128 .f32 0x00000000#32)))
      (extractStridedSlice S128x128 ![0, 128] (X.pq c) slices_S128x256_o0_128_S128x128))
    shapeCasts_S128x128_S1x128x128

end Data

/-! ## The data of a chain in one grid point -/

/-- The four input blocks of one direction, in the buffers that hold them. -/
structure Side (F : FTy → Type) where
  aq : Memref sig .tc .vmem S1x1024x256 .bf16
  hq : aq.IsWhole
  q : Vec F S1x1024x256 .bf16
  ak : Memref sig .tc .vmem S1x1024x256 .bf16
  hk : ak.IsWhole
  k : Vec F S1x1024x256 .bf16
  av : Memref sig .tc .vmem S1x1024x256 .bf16
  hv : av.IsWhole
  v : Vec F S1x1024x256 .bf16
  ac : Memref sig .tc .vmem S1x1024x128 .f32
  hc : ac.IsWhole
  c : Vec F S1x1024x128 .f32

theorem inb_tile (r : ℕ) (hh : Fin 2) (h : r ≤ 768) :
    ∀ a, (![0, r, 128 * hh.val] : Fin 3 → ℕ) a + S1x256x128.size a ≤ S1x1024x256.size a := by
  intro a; fin_cases a <;> simp [S1x256x128, S1x1024x256] <;> omega

theorem inb_cols (r : ℕ) (h : r ≤ 768) :
    ∀ a, (![0, r, 0] : Fin 3 → ℕ) a + S1x256x128.size a ≤ S1x1024x128.size a := by
  intro a; fin_cases a <;> simp [S1x256x128, S1x1024x128] <;> omega

theorem inb_par (d hh : Fin 2) :
    ∀ a, (![d.val, hh.val, 0, 0] : Fin 4 → ℕ) a + S1x1x1x1.size a ≤ S2x2x1x1.size a := by
  intro a; fin_cases a <;> simp [S1x1x1x1, S2x2x1x1] <;> omega

theorem inb_st (ci : Fin 4) :
    ∀ a, (![ci.val, 0, 0] : Fin 3 → ℕ) a + S1x128x128.size a ≤ S4x128x128.size a := by
  intro a; fin_cases a <;> simp [S1x128x128, S4x128x128] <;> omega

/-- The block of rows of step `n` in the tile of 1024 rows. -/
def srow (d : Bool) (n : Fin 4) : ℕ := 256 * cond d (3 - n.val) n.val

theorem srow_le (d : Bool) (n : Fin 4) : srow d n ≤ 768 := by unfold srow; cases d <;> simp <;> omega

/-- Everything a grid point reads besides the state. -/
structure Point (F : FTy → Type) where
  side : Bool → Side F
  aal : Memref sig .tc .vmem S2x2x1x1 .f32
  hal : aal.IsWhole
  al : Vec F S2x2x1x1 .f32
  adt : Memref sig .tc .vmem S2x2x1x1 .f32
  hdt : adt.IsWhole
  dt : Vec F S2x2x1x1 .f32
  hg : BitVec 32

namespace Point
variable (P : Point F)

/-- The number of a head: the group's, twice, and the head's own within the group. -/
def head (hh : Fin 2) : BitVec 32 := Scalar.addi (Scalar.muli P.hg 2#32) (BitVec.ofNat 32 hh.val)

def data (d : Bool) (hh : Fin 2) (n : Fin 4) : Data F where
  q := View.readAt (Elt F) (P.side d).aq.view (Rect.unit (s := S1x1024x256) ![0, srow d n, 128 * hh.val] S1x256x128.size (inb_tile _ hh (srow_le d n))).toLoadRect ((P.side d).hq.unread (P.side d).q)
  k := View.readAt (Elt F) (P.side d).ak.view (Rect.unit (s := S1x1024x256) ![0, srow d n, 128 * hh.val] S1x256x128.size (inb_tile _ hh (srow_le d n))).toLoadRect ((P.side d).hk.unread (P.side d).k)
  v := View.readAt (Elt F) (P.side d).av.view (Rect.unit (s := S1x1024x256) ![0, srow d n, 128 * hh.val] S1x256x128.size (inb_tile _ hh (srow_le d n))).toLoadRect ((P.side d).hv.unread (P.side d).v)
  cols := View.readAt (Elt F) (P.side d).ac.view (Rect.unit (s := S1x1024x128) ![0, srow d n, 0] S1x256x128.size (inb_cols _ (srow_le d n))).toLoadRect ((P.side d).hc.unread (P.side d).c)
  al := View.readAt (Elt F) P.aal.view (Rect.unit (s := S2x2x1x1) ![(cond d 1 0 : Fin 2).val, hh.val, 0, 0] S1x1x1x1.size (inb_par _ hh)).toLoadRect (P.hal.unread P.al)
  dt := View.readAt (Elt F) P.adt.view (Rect.unit (s := S2x2x1x1) ![(cond d 1 0 : Fin 2).val, hh.val, 0, 0] S1x1x1x1.size (inb_par _ hh)).toLoadRect (P.hdt.unread P.dt)
  la := Scalar.addi (cond d 16#32 0#32) (P.head hh)
  lb := Scalar.addi (cond d 48#32 32#32) (P.head hh)
  d := d

/-! ## The pieces, latest first: step, chunk, chain -/

/-- The rectangle of a chain's state. -/
abbrev rectS (ci : Fin 4) : Rect S4x128x128 := Rect.unit ![ci.val, 0, 0] S1x128x128.size (inb_st ci)

/-- The step, the chunk, the direction and the head of the `k`-th update of a state. -/
def step (k : ℕ) : Fin 4 := ⟨k / 16 % 4, Nat.mod_lt _ (by decide)⟩
def chunk (k : ℕ) : Fin 4 := ⟨k / 4 % 4, Nat.mod_lt _ (by decide)⟩
def chain (k : ℕ) : Fin 4 := ⟨k % 4, Nat.mod_lt _ (by decide)⟩
def dir (k : ℕ) : Bool := Nat.ble 2 (k % 4)
def hd (k : ℕ) : Fin 2 := ⟨k % 2, Nat.mod_lt _ (by decide)⟩

def at' (k : ℕ) : Data F := P.data (dir k) (hd k) (step k)

/-- The state's pieces after `k` updates: `base` those before the first, `ld k L` what the `k`-th update reads. -/
def stL (base : List (View.Piece (Elt F) S4x128x128 .f32))
    (ld : ℕ → List (View.Piece (Elt F) S4x128x128 .f32) → Vec F S1x128x128 .f32) (k : ℕ) :
    List (View.Piece (Elt F) S4x128x128 .f32) :=
  Nat.rec base (fun k L => ⟨rectS (chain k), (P.at' k).next (chunk k) (ld k L)⟩ :: L) k

theorem inb_out (d : Bool) (n : Fin 4) (r : ℕ) (h : r ≤ 192) (hh : Fin 2) :
    ∀ a, (![0, srow d n + r, 128 * hh.val] : Fin 3 → ℕ) a + S1x64x128.size a ≤ S1x1024x256.size a := by
  have := srow_le d n
  intro a; fin_cases a <;> simp [S1x64x128, S1x1024x256] <;> omega

/-- The update whose chunk's outputs are the `j`-th piece of one direction. -/
def upd (d : Bool) (j : ℕ) : ℕ := 4 * (j / 2) + cond d 2 0 + j % 2

/-- The `j`-th piece of one direction's outputs. -/
def outP (d : Bool) (base : List (View.Piece (Elt F) S4x128x128 .f32))
    (ld : ℕ → List (View.Piece (Elt F) S4x128x128 .f32) → Vec F S1x128x128 .f32) (j : ℕ) :
    View.Piece (Elt F) S1x1024x256 .f32 :=
  ⟨Rect.unit ![0, srow d (step (upd d j)) + (P.data d (hd j) (step (upd d j))).row (chunk (upd d j)), 128 * (hd j).val] S1x64x128.size
      (inb_out d _ _ ((P.data d (hd j) (step (upd d j))).row_le _) _),
    (P.data d (hd j) (step (upd d j))).out (chunk (upd d j)) (ld (upd d j) (P.stL base ld (upd d j)))⟩

def outL (d : Bool) (base : List (View.Piece (Elt F) S4x128x128 .f32))
    (ld : ℕ → List (View.Piece (Elt F) S4x128x128 .f32) → Vec F S1x128x128 .f32) (j : ℕ) :
    List (View.Piece (Elt F) S1x1024x256 .f32) :=
  Nat.rec [] (fun j L => P.outP d base ld j :: L) j

/-- What an update reads in a point that clears the state first. -/
def ldA (a : Memref sig .tc .vmem S4x128x128 .f32) (k : ℕ) (L : List (View.Piece (Elt F) S4x128x128 .f32)) : Vec F S1x128x128 .f32 :=
  a.view.readCov L (rectS (chain k)).toLoadRect

def baseA : List (View.Piece (Elt F) S4x128x128 .f32) :=
  [⟨Rect.unit ![0, 0, 0] S4x128x128.size inb_S4x128x128_S4x128x128_0_0_0, k0_pay3⟩]

/-- What an update reads in a point that goes on from the state `s`. -/
def ldB (a : Memref sig .tc .vmem S4x128x128 .f32) (h : a.IsWhole) (s : Vec F S4x128x128 .f32) (k : ℕ)
    (L : List (View.Piece (Elt F) S4x128x128 .f32)) : Vec F S1x128x128 .f32 :=
  cond (Nat.ble 4 k) (a.view.readCov L (rectS (chain k)).toLoadRect)
    (View.readAt (Elt F) a.view (rectS (chain k)).toLoadRect (h.unread s))

end Point

end Cert.Proof.Chain

end

end
-- ==== Proof.Delta.lean ====
/- The mathematics of the recurrence, over the reals: the states one step of time after the other, the closed form of
   a state within a chunk, and the inverse of a unit triangular matrix by halving. -/
module

public import Mathlib.Analysis.SpecialFunctions.Exp
public import Mathlib.LinearAlgebra.Matrix.NonsingularInverse
public import Mathlib.Tactic.Linarith
public import Mathlib.Tactic.Ring

@[expose] public section

noncomputable section

namespace Cert.Proof.Delta

open Finset

/-- A sequence of queries, keys, values, decay logarithms and step sizes. -/
structure Seq where
  q : ℕ → Fin 128 → ℝ
  k : ℕ → Fin 128 → ℝ
  v : ℕ → Fin 128 → ℝ
  g : ℕ → ℝ
  b : ℕ → ℝ

namespace Seq
variable (s : Seq)

/-- The state after one more step, of the data of step `n`. -/
def step (n : ℕ) (S : Fin 128 → Fin 128 → ℝ) (x y : Fin 128) : ℝ :=
  Real.exp (s.g n) * (S x y - s.k n x * s.b n * ∑ z, s.k n z * S z y) + s.k n x * s.b n * s.v n y

/-- The state after `n` steps. -/
def St : ℕ → Fin 128 → Fin 128 → ℝ
  | 0 => fun _ _ => 0
  | n + 1 => s.step n (St n)

/-- The output of step `n`: the query against the state after the step. -/
def out (n : ℕ) (y : Fin 128) : ℝ := ∑ x, s.q n x * s.St (n + 1) x y

/-- The sum of the decay logarithms of `i` steps from `t`. -/
def G (t i : ℕ) : ℝ := ∑ j ∈ range i, s.g (t + j)

theorem G_succ (t i : ℕ) : s.G t (i + 1) = s.G t i + s.g (t + i) := sum_range_succ _ _

/-- The closed form: where the rows `w` solve the chunk's triangular system, a state within the chunk is the decayed
    first state and the decayed updates. -/
theorem St_chunk (t n : ℕ) (w : ℕ → Fin 128 → ℝ)
    (hw : ∀ i < n, ∀ y, w i y + ∑ j ∈ range i, (∑ x, s.k (t + i) x * s.b (t + i) * s.k (t + j) x) *
        Real.exp (s.G t (i + 1) - s.G t (j + 1)) * w j y
      = s.b (t + i) * (s.v (t + i) y - Real.exp (s.G t (i + 1)) * ∑ x, s.k (t + i) x * s.St t x y)) :
    ∀ i ≤ n, ∀ x y, s.St (t + i) x y = Real.exp (s.G t i) * s.St t x y
      + ∑ j ∈ range i, Real.exp (s.G t i - s.G t (j + 1)) * s.k (t + j) x * w j y := by
  intro i
  induction i with
  | zero => intro _ x y; simp [G]
  | succ i ih =>
    intro hi x y
    have ih := ih (by omega)
    have key : ∀ x, Real.exp (s.g (t + i)) * s.St (t + i) x y = Real.exp (s.G t (i + 1)) * s.St t x y
        + ∑ j ∈ range i, Real.exp (s.G t (i + 1) - s.G t (j + 1)) * s.k (t + j) x * w j y := by
      intro x
      rw [ih, G_succ, mul_add, ← mul_assoc, ← Real.exp_add, mul_sum, add_comm (s.g (t + i))]
      congr 1
      refine sum_congr rfl fun j _ => ?_
      rw [show s.G t i + s.g (t + i) - s.G t (j + 1) = s.g (t + i) + (s.G t i - s.G t (j + 1)) by ring, Real.exp_add]
      ring
    have hs : Real.exp (s.g (t + i)) * ∑ z, s.k (t + i) z * s.St (t + i) z y
        = Real.exp (s.G t (i + 1)) * ∑ z, s.k (t + i) z * s.St t z y
          + ∑ j ∈ range i, (∑ z, s.k (t + i) z * s.k (t + j) z) * Real.exp (s.G t (i + 1) - s.G t (j + 1)) * w j y := by
      have : ∀ z, Real.exp (s.g (t + i)) * (s.k (t + i) z * s.St (t + i) z y)
          = Real.exp (s.G t (i + 1)) * (s.k (t + i) z * s.St t z y)
            + ∑ j ∈ range i, s.k (t + i) z * s.k (t + j) z * Real.exp (s.G t (i + 1) - s.G t (j + 1)) * w j y := by
        intro z
        rw [show Real.exp (s.g (t + i)) * (s.k (t + i) z * s.St (t + i) z y)
          = s.k (t + i) z * (Real.exp (s.g (t + i)) * s.St (t + i) z y) by ring, key, mul_add, mul_sum]
        congr 1
        · ring
        · exact sum_congr rfl fun j _ => by ring
      rw [mul_sum, sum_congr rfl fun z _ => this z, sum_add_distrib, ← mul_sum, sum_comm]
      congr 1
      exact sum_congr rfl fun j _ => by simp only [sum_mul]
    have hwi := hw i (by omega) y
    have e1 : ∑ j ∈ range i, (∑ x, s.k (t + i) x * s.b (t + i) * s.k (t + j) x) *
        Real.exp (s.G t (i + 1) - s.G t (j + 1)) * w j y
        = s.b (t + i) * ∑ j ∈ range i, (∑ z, s.k (t + i) z * s.k (t + j) z) * Real.exp (s.G t (i + 1) - s.G t (j + 1)) * w j y := by
      rw [mul_sum]
      refine sum_congr rfl fun j _ => ?_
      rw [show (∑ x, s.k (t + i) x * s.b (t + i) * s.k (t + j) x) = s.b (t + i) * ∑ z, s.k (t + i) z * s.k (t + j) z by
        rw [mul_sum]; exact sum_congr rfl fun _ _ => by ring]
      ring
    rw [e1] at hwi
    rw [sum_range_succ, sub_self, Real.exp_zero]
    show s.step (t + i) (s.St (t + i)) x y = _
    unfold step
    rw [mul_sub, key, show Real.exp (s.g (t + i)) * (s.k (t + i) x * s.b (t + i) * ∑ z, s.k (t + i) z * s.St (t + i) z y)
      = s.k (t + i) x * s.b (t + i) * (Real.exp (s.g (t + i)) * ∑ z, s.k (t + i) z * s.St (t + i) z y) by ring, hs]
    have e2 : w i y = s.b (t + i) * (s.v (t + i) y - Real.exp (s.G t (i + 1)) * ∑ x, s.k (t + i) x * s.St t x y)
        - s.b (t + i) * ∑ j ∈ range i, (∑ z, s.k (t + i) z * s.k (t + j) z) * Real.exp (s.G t (i + 1) - s.G t (j + 1)) * w j y := by
      linarith
    rw [e2]
    ring

end Seq

/-! ## The inverse by halving -/

/-- Two rows lie in one block of `2^j`. -/
def blk (j : ℕ) (r c : Fin 256) : Prop := r.val / 2 ^ j = c.val / 2 ^ j

instance (j : ℕ) (r c : Fin 256) : Decidable (blk j r c) := inferInstanceAs (Decidable (_ = _))

/-- Two rows separate at level `j`: one block of `2^(j+1)`, but not of `2^j`. -/
abbrev sep (j : ℕ) (r c : Fin 256) : Prop := blk (j + 1) r c ∧ ¬ blk j r c

/-- The entries of a matrix at level `j`. -/
def level (M : Matrix (Fin 256) (Fin 256) ℝ) (j : ℕ) : Matrix (Fin 256) (Fin 256) ℝ :=
  fun r c => if sep j r c then M r c else 0

/-- The inverse of the entries below the first `j + 1` levels. -/
def inv (M : Matrix (Fin 256) (Fin 256) ℝ) : ℕ → Matrix (Fin 256) (Fin 256) ℝ
  | 0 => 1 - level M 0
  | j + 1 => inv M j - inv M j * level M (j + 1) * inv M j

/-- One plus the first `j + 1` levels. -/
def upto (M : Matrix (Fin 256) (Fin 256) ℝ) : ℕ → Matrix (Fin 256) (Fin 256) ℝ
  | 0 => 1 + level M 0
  | j + 1 => upto M j + level M (j + 1)

theorem level_ne {M : Matrix (Fin 256) (Fin 256) ℝ} {j : ℕ} {r c : Fin 256} (h : level M j r c ≠ 0) : sep j r c ∧ M r c ≠ 0 := by
  unfold level at h
  by_cases hs : sep j r c
  · exact ⟨hs, by simpa [hs] using h⟩
  · simp [hs] at h

theorem blk_succ {j : ℕ} {r c : Fin 256} (h : blk j r c) : blk (j + 1) r c := by
  unfold blk at *
  rw [pow_succ, ← Nat.div_div_eq_div_mul, ← Nat.div_div_eq_div_mul, h]

theorem mul_ne {A B : Matrix (Fin 256) (Fin 256) ℝ} {r c : Fin 256} (h : (A * B) r c ≠ 0) : ∃ x, A r x ≠ 0 ∧ B x c ≠ 0 := by
  rw [Matrix.mul_apply] at h
  obtain ⟨x, -, hx⟩ := Finset.exists_ne_zero_of_sum_ne_zero h
  exact ⟨x, left_ne_zero_of_mul hx, right_ne_zero_of_mul hx⟩

theorem inv_supp (M : Matrix (Fin 256) (Fin 256) ℝ) (j : ℕ) : ∀ r c, inv M j r c ≠ 0 → blk (j + 1) r c := by
  induction j with
  | zero =>
    intro r c h
    by_cases e : level M 0 r c = 0
    · have : (1 : Matrix (Fin 256) (Fin 256) ℝ) r c ≠ 0 := by simpa [inv, e] using h
      have : r = c := by by_contra hn; exact this (Matrix.one_apply_ne hn)
      rw [this]; rfl
    · exact (level_ne e).1.1
  | succ j ih =>
    intro r c h
    by_cases e : (inv M j * level M (j + 1) * inv M j) r c = 0
    · exact blk_succ (ih r c (by simpa [inv, e] using h))
    · obtain ⟨y, h1, h2⟩ := mul_ne e
      obtain ⟨x, h0, h1⟩ := mul_ne h1
      exact ((blk_succ (ih _ _ h0)).trans (level_ne h1).1.1).trans (blk_succ (ih _ _ h2))

/-- The order a matrix is strictly triangular in. -/
abbrev before (d : Bool) (r c : Fin 256) : Prop := if d then r < c else c < r

theorem sep_parity {d : Bool} {j : ℕ} {r c : Fin 256} (h : sep j r c) (hb : before d r c) :
    r.val / 2 ^ j % 2 = (if d then 0 else 1) ∧ c.val / 2 ^ j % 2 = (if d then 1 else 0) := by
  obtain ⟨h1, h2⟩ := h
  unfold blk at h1 h2
  rw [pow_succ, ← Nat.div_div_eq_div_mul, ← Nat.div_div_eq_div_mul] at h1
  cases d
  · have hb : c.val ≤ r.val := le_of_lt (by simpa [before] using hb)
    have := Nat.div_le_div_right (c := 2 ^ j) hb
    simp only [Bool.false_eq_true, if_false]
    omega
  · have hb : r.val ≤ c.val := le_of_lt (by simpa [before] using hb)
    have := Nat.div_le_div_right (c := 2 ^ j) hb
    simp only [if_true]
    omega

theorem level_inv_level (M : Matrix (Fin 256) (Fin 256) ℝ) (d : Bool) (hM : ∀ r c, M r c ≠ 0 → before d r c) (j : ℕ) :
    level M (j + 1) * inv M j * level M (j + 1) = 0 := by
  ext r c
  by_contra h
  obtain ⟨y, h1, h2⟩ := mul_ne h
  obtain ⟨x, h0, h1⟩ := mul_ne h1
  have hx := level_ne h0
  have hy := level_ne h2
  have p := (sep_parity hx.1 (hM _ _ hx.2)).2
  have p' := (sep_parity hy.1 (hM _ _ hy.2)).1
  rw [← (inv_supp M j x y h1 : _ = _), p] at p'
  cases d <;> simp at p'

theorem inv_mul_upto (M : Matrix (Fin 256) (Fin 256) ℝ) (d : Bool) (hM : ∀ r c, M r c ≠ 0 → before d r c) (j : ℕ) :
    inv M j * upto M j = 1 := by
  induction j with
  | zero =>
    have : level M 0 * level M 0 = 0 := by
      ext r c
      by_contra h
      obtain ⟨x, h0, h1⟩ := mul_ne h
      have hx := level_ne h0
      have hy := level_ne h1
      have p := (sep_parity hx.1 (hM _ _ hx.2)).2
      have p' := (sep_parity hy.1 (hM _ _ hy.2)).1
      rw [p] at p'
      cases d <;> simp at p'
    simp only [inv, upto]
    rw [sub_mul, one_mul, mul_add, mul_one, this]
    abel
  | succ j ih =>
    have hz := level_inv_level M d hM j
    simp only [inv, upto]
    set t := inv M j
    set P := level M (j + 1)
    have e : t * P * t * (upto M j + P) = t * P := by
      rw [mul_add, mul_assoc (t * P), ih, mul_one, mul_assoc (t * P), mul_assoc t P, ← mul_assoc P, hz, mul_zero, add_zero]
    rw [sub_mul, mul_add, ih, e]
    abel

theorem upto_apply (M : Matrix (Fin 256) (Fin 256) ℝ) (j : ℕ) (r c : Fin 256) :
    upto M j r c = (1 : Matrix (Fin 256) (Fin 256) ℝ) r c + if blk (j + 1) r c ∧ ¬ blk 0 r c then M r c else 0 := by
  induction j with
  | zero => rfl
  | succ j ih =>
    have mono : blk (j + 1) r c → blk (j + 1 + 1) r c := blk_succ
    simp only [upto, Matrix.add_apply, ih, add_assoc, level, sep]
    congr 1
    have up0 : blk 0 r c → blk (j + 1) r c := by
      intro h
      have : r = c := Fin.ext (by simpa [blk] using h)
      rw [this]; rfl
    by_cases h0 : blk 0 r c <;> by_cases h1 : blk (j + 1) r c <;> by_cases h2 : blk (j + 1 + 1) r c <;>
      simp_all

theorem upto_five (M : Matrix (Fin 256) (Fin 256) ℝ) (d : Bool) (hM : ∀ r c, M r c ≠ 0 → blk 6 r c ∧ before d r c) :
    upto M 5 = 1 + M := by
  ext r c
  rw [upto_apply, Matrix.add_apply]
  congr 1
  by_cases h : M r c = 0
  · simp [h]
  · obtain ⟨h6, hb⟩ := hM r c h
    have hne : ¬ blk 0 r c := by
      unfold blk
      cases d <;> simp [before] at hb ⊢ <;> omega
    simp [h6, hne]

/-- After six levels the inverse of one plus a matrix that is strictly triangular within blocks of 64. -/
theorem mul_inv_five (M : Matrix (Fin 256) (Fin 256) ℝ) (d : Bool) (hM : ∀ r c, M r c ≠ 0 → blk 6 r c ∧ before d r c) :
    (1 + M) * inv M 5 = 1 := by
  rw [← upto_five M d hM]
  exact mul_eq_one_comm.mp (inv_mul_upto M d (fun r c h => (hM r c h).2) 5)

end Cert.Proof.Delta

end

end
-- ==== Proof.Block.lean ====
/- One block of 256 rows over the reals: what the kernel's matrices hold, and that they carry the recurrence through the
   block's four chunks, in either direction of time. -/
module

public import proofs.«01_k».proof.Proof.Delta
public import Mathlib.Tactic.FinCases

@[expose] public section

noncomputable section

namespace Cert.Proof.Delta

open Finset

/-- The time of a row within its block: its index, or the reversed index in the backward direction. -/
def tm (d : Bool) (r : Fin 256) : Fin 256 := if d then r.rev else r

theorem tm_tm (d : Bool) (r : Fin 256) : tm d (tm d r) = r := by cases d <;> simp [tm]

/-- Times and rows correspond. -/
def tmE (d : Bool) : Fin 256 ≃ Fin 256 := ⟨tm d, tm d, tm_tm d, tm_tm d⟩

abbrev inclP (d : Bool) (r c : Fin 256) : Prop := blk 6 r c ∧ (if d then r ≤ c else c ≤ r)
abbrev strictP (d : Bool) (r c : Fin 256) : Prop := blk 6 r c ∧ before d r c

theorem inclP_tm (d : Bool) (n m : Fin 256) : inclP d (tm d n) (tm d m) ↔ m.val / 64 = n.val / 64 ∧ m ≤ n := by
  cases d
  · simp only [inclP, tm, blk, Bool.false_eq_true, if_false, Fin.le_def]; constructor <;> rintro ⟨h, h'⟩ <;> constructor <;> omega
  · simp only [inclP, tm, blk, if_true, Fin.le_def, Fin.val_rev]; constructor <;> rintro ⟨h, h'⟩ <;> constructor <;> omega

theorem strictP_tm (d : Bool) (n m : Fin 256) : strictP d (tm d n) (tm d m) ↔ m.val / 64 = n.val / 64 ∧ m < n := by
  cases d
  · simp only [strictP, tm, blk, before, Bool.false_eq_true, if_false, Fin.lt_def]; constructor <;> rintro ⟨h, h'⟩ <;> constructor <;> omega
  · simp only [strictP, tm, blk, before, if_true, Fin.lt_def, Fin.val_rev]; constructor <;> rintro ⟨h, h'⟩ <;> constructor <;> omega

/-- The row of the `j`-th time of the `p`-th chunk in time. -/
def rowOf (d : Bool) (p j : ℕ) : Fin 256 := tm d ⟨(64 * p + j) % 256, Nat.mod_lt _ (by decide)⟩

theorem tm_rowOf (d : Bool) {p j : ℕ} (hp : p < 4) (hj : j < 64) : (tm d (rowOf d p j)).val = 64 * p + j := by
  unfold rowOf
  rw [tm_tm]
  show (64 * p + j) % 256 = _
  omega

theorem sum_window (F : Fin 256 → ℝ) (p i : ℕ) (hp : p < 4) (hi : i ≤ 64) :
    (∑ m : Fin 256, if m.val / 64 = p ∧ m.val < 64 * p + i then F m else 0)
      = ∑ j ∈ range i, F ⟨(64 * p + j) % 256, Nat.mod_lt _ (by decide)⟩ := by
  rw [← sum_filter]
  symm
  refine sum_bij (fun j _ => ⟨(64 * p + j) % 256, Nat.mod_lt _ (by decide)⟩) ?_ ?_ ?_ (fun _ _ => rfl)
  · intro j hj
    have := mem_range.mp hj
    simp only [mem_filter, mem_univ, true_and]
    omega
  · intro a ha b hb h
    have := mem_range.mp ha
    have := mem_range.mp hb
    have := congrArg Fin.val h
    simp only at this
    omega
  · intro m hm
    simp only [mem_filter, mem_univ, true_and] at hm
    exact ⟨m.val - 64 * p, mem_range.mpr (by omega), Fin.ext (by simp only; omega)⟩

theorem sum_incl (d : Bool) (F : Fin 256 → ℝ) (p i : ℕ) (hp : p < 4) (hi : i < 64) :
    (∑ c, if inclP d (rowOf d p i) c then F c else 0) = ∑ j ∈ range (i + 1), F (rowOf d p j) := by
  rw [← (tmE d).sum_comp]
  refine (sum_congr rfl fun m _ => ?_).trans (sum_window (fun m => F (tm d m)) p (i + 1) hp (by omega))
  refine if_congr ((inclP_tm d _ m).trans ?_) rfl rfl
  rw [Fin.le_def]
  show m.val / 64 = (64 * p + i) % 256 / 64 ∧ m.val ≤ (64 * p + i) % 256 ↔ _
  omega

theorem sum_strict (d : Bool) (F : Fin 256 → ℝ) (p i : ℕ) (hp : p < 4) (hi : i < 64) :
    (∑ c, if strictP d (rowOf d p i) c then F c else 0) = ∑ j ∈ range i, F (rowOf d p j) := by
  rw [← (tmE d).sum_comp]
  refine (sum_congr rfl fun m _ => ?_).trans (sum_window (fun m => F (tm d m)) p i hp (by omega))
  refine if_congr ((strictP_tm d _ m).trans ?_) rfl rfl
  rw [Fin.lt_def]
  show m.val / 64 = (64 * p + i) % 256 / 64 ∧ m.val < (64 * p + i) % 256 ↔ _
  omega

/-- The rows of a block: what row `r` holds of the sequence whose block begins at time `t`. -/
structure Rows where
  s : Seq
  t : ℕ
  d : Bool

namespace Rows
variable (R : Rows)

abbrev at' (r : Fin 256) : ℕ := R.t + (tm R.d r).val
def q (r : Fin 256) (x : Fin 128) : ℝ := R.s.q (R.at' r) x
def k (r : Fin 256) (x : Fin 128) : ℝ := R.s.k (R.at' r) x
def v (r : Fin 256) (x : Fin 128) : ℝ := R.s.v (R.at' r) x
def g (r : Fin 256) : ℝ := R.s.g (R.at' r)
def b (r : Fin 256) : ℝ := R.s.b (R.at' r)

def gc (r : Fin 256) : ℝ := ∑ c, if inclP R.d r c then R.g c else 0

def M : Matrix (Fin 256) (Fin 256) ℝ := fun r c =>
  if strictP R.d r c then (∑ x, R.k r x * R.b r * R.k c x) * Real.exp (R.gc r - R.gc c) else 0

/-- The right sides: the keys' 128 columns, then the values'. -/
def rhs : Matrix (Fin 256) (Fin 256) ℝ := fun r c =>
  if h : c.val < 128 then R.k r ⟨c.val, h⟩ * R.b r * Real.exp (R.gc r) else R.v r ⟨c.val - 128, by omega⟩ * R.b r

def X : Matrix (Fin 256) (Fin 256) ℝ := inv R.M 5 * R.rhs

def qk : Matrix (Fin 256) (Fin 256) ℝ := fun r c =>
  if inclP R.d r c then (∑ x, R.q r x * R.k c x) * Real.exp (R.gc r - R.gc c) else 0

def ab : Matrix (Fin 256) (Fin 256) ℝ := R.qk * R.X

/-- A column of the first and of the second half. -/
abbrev lc (x : Fin 128) : Fin 256 := ⟨x.val, by omega⟩
abbrev rc (x : Fin 128) : Fin 256 := ⟨128 + x.val, by omega⟩

/-- The last row in time of the chunk a row lies in. -/
def lastRow (r : Fin 256) : Fin 256 := ⟨64 * (r.val / 64) + (if R.d then 0 else 63), by split <;> omega⟩

def tot (r : Fin 256) : ℝ := R.gc (R.lastRow r)

def out (S : Fin 128 → Fin 128 → ℝ) (r : Fin 256) (y : Fin 128) : ℝ :=
  ∑ x, (R.q r x * Real.exp (R.gc r) - R.ab r (lc x)) * S x y + R.ab r (rc y)

/-- The rows of the `c`-th chunk of rows. -/
abbrev crow (c : Fin 4) (i : Fin 64) : Fin 256 := ⟨64 * c.val + i.val, by omega⟩

def pq (c : Fin 4) (x : Fin 128) (y : Fin 256) : ℝ :=
  ∑ i : Fin 64, R.k (crow c i) x * Real.exp (R.tot (crow c i) - R.gc (crow c i)) * R.X (crow c i) y

def next (c : Fin 4) (S : Fin 128 → Fin 128 → ℝ) (x y : Fin 128) : ℝ :=
  Real.exp (R.tot (crow c 0)) * S x y - ∑ z, R.pq c x (lc z) * S z y + R.pq c x (rc y)

/-! ### The rows solve the triangular system -/

theorem M_ne (r c : Fin 256) (h : R.M r c ≠ 0) : blk 6 r c ∧ before R.d r c := by
  unfold M at h
  by_cases hs : strictP R.d r c
  · exact hs
  · simp [hs] at h

theorem X_eq (r c : Fin 256) : R.X r c + ∑ x, R.M r x * R.X x c = R.rhs r c := by
  have h : (1 + R.M) * R.X = R.rhs := by
    rw [X, ← mul_assoc, mul_inv_five R.M R.d R.M_ne, one_mul]
  have := congrFun (congrFun h r) c
  rwa [add_mul, one_mul, Matrix.add_apply, Matrix.mul_apply] at this

/-- The updates of a chunk, over the state before it. -/
def upd (S : Fin 128 → Fin 128 → ℝ) (r : Fin 256) (y : Fin 128) : ℝ :=
  R.X r (rc y) - ∑ x, R.X r (lc x) * S x y

theorem mul_upd (A : Matrix (Fin 256) (Fin 256) ℝ) (S : Fin 128 → Fin 128 → ℝ) (r : Fin 256) (y : Fin 128) :
    ∑ c, A r c * R.upd S c y = (∑ c, A r c * R.X c (rc y)) - ∑ x, (∑ c, A r c * R.X c (lc x)) * S x y := by
  simp only [upd, mul_sub, sum_sub_distrib, mul_sum, sum_mul]
  rw [sum_comm]
  congr 1
  exact sum_congr rfl fun _ _ => sum_congr rfl fun _ _ => by ring

theorem upd_eq (S : Fin 128 → Fin 128 → ℝ) (r : Fin 256) (y : Fin 128) :
    R.upd S r y + ∑ c, R.M r c * R.upd S c y
      = R.b r * (R.v r y - Real.exp (R.gc r) * ∑ x, R.k r x * S x y) := by
  rw [mul_upd]
  have e1 := R.X_eq r (rc y)
  have e2 : ∀ x, R.X r (lc x) + ∑ c, R.M r c * R.X c (lc x) = R.k r x * R.b r * Real.exp (R.gc r) := fun x => by
    rw [X_eq]; simp [rhs]
  have e3 : R.rhs r (rc y) = R.v r y * R.b r := by simp [rhs]
  rw [e3] at e1
  have e4 : ∑ x, R.X r (lc x) * S x y + ∑ x, (∑ c, R.M r c * R.X c (lc x)) * S x y
      = R.b r * (Real.exp (R.gc r) * ∑ x, R.k r x * S x y) := by
    rw [← sum_add_distrib, mul_sum, mul_sum]
    refine sum_congr rfl fun x _ => ?_
    rw [← add_mul, e2]
    ring
  unfold upd
  linarith

/-! ### The chunks -/

variable {R}

theorem at_rowOf {p i : ℕ} (hp : p < 4) (hi : i < 64) : R.at' (rowOf R.d p i) = R.t + 64 * p + i := by
  simp only [at', tm_rowOf R.d hp hi, Nat.add_assoc]

theorem gc_rowOf {p i : ℕ} (hp : p < 4) (hi : i < 64) : R.gc (rowOf R.d p i) = R.s.G (R.t + 64 * p) (i + 1) := by
  unfold gc Seq.G
  rw [sum_incl R.d _ p i hp hi]
  refine sum_congr rfl fun j hj => ?_
  have := mem_range.mp hj
  rw [g, at_rowOf hp (by omega)]

/-- The closed form for the `p`-th chunk in time, from the state before it. -/
theorem St_eq {p : ℕ} (hp : p < 4) (i : ℕ) (hi : i ≤ 64) (x y : Fin 128) :
    R.s.St (R.t + 64 * p + i) x y = Real.exp (R.s.G (R.t + 64 * p) i) * R.s.St (R.t + 64 * p) x y
      + ∑ j ∈ range i, Real.exp (R.s.G (R.t + 64 * p) i - R.s.G (R.t + 64 * p) (j + 1)) * R.s.k (R.t + 64 * p + j) x
          * R.upd (R.s.St (R.t + 64 * p)) (rowOf R.d p j) y := by
  refine R.s.St_chunk (R.t + 64 * p) 64 (fun j => R.upd (R.s.St (R.t + 64 * p)) (rowOf R.d p j)) ?_ i hi x y
  intro i hi y
  have h := R.upd_eq (R.s.St (R.t + 64 * p)) (rowOf R.d p i) y
  have e : ∑ c, R.M (rowOf R.d p i) c * R.upd (R.s.St (R.t + 64 * p)) c y
      = ∑ j ∈ range i, (∑ x, R.s.k (R.t + 64 * p + i) x * R.s.b (R.t + 64 * p + i) * R.s.k (R.t + 64 * p + j) x) *
        Real.exp (R.s.G (R.t + 64 * p) (i + 1) - R.s.G (R.t + 64 * p) (j + 1)) * R.upd (R.s.St (R.t + 64 * p)) (rowOf R.d p j) y := by
    have : ∀ c, R.M (rowOf R.d p i) c * R.upd (R.s.St (R.t + 64 * p)) c y
        = if strictP R.d (rowOf R.d p i) c then (∑ x, R.k (rowOf R.d p i) x * R.b (rowOf R.d p i) * R.k c x)
            * Real.exp (R.gc (rowOf R.d p i) - R.gc c) * R.upd (R.s.St (R.t + 64 * p)) c y else 0 := by
      intro c
      unfold M
      split <;> simp
    rw [sum_congr rfl fun c _ => this c, sum_strict R.d _ p i hp hi]
    refine sum_congr rfl fun j hj => ?_
    have hj := mem_range.mp hj
    rw [gc_rowOf hp hi, gc_rowOf hp (by omega)]
    simp only [k, b, at_rowOf hp hi, at_rowOf hp (show j < 64 by omega)]
  rw [e] at h
  simp only [k, b, v, gc_rowOf hp hi, at_rowOf hp hi] at h
  exact h

theorem out_rowOf {p i : ℕ} (hp : p < 4) (hi : i < 64) (y : Fin 128) :
    R.out (R.s.St (R.t + 64 * p)) (rowOf R.d p i) y = R.s.out (R.t + 64 * p + i) y := by
  have e : R.out (R.s.St (R.t + 64 * p)) (rowOf R.d p i) y
      = Real.exp (R.gc (rowOf R.d p i)) * ∑ x, R.q (rowOf R.d p i) x * R.s.St (R.t + 64 * p) x y
        + ∑ c, R.qk (rowOf R.d p i) c * R.upd (R.s.St (R.t + 64 * p)) c y := by
    rw [mul_upd]
    unfold out
    simp only [ab, Matrix.mul_apply, sub_mul, sum_sub_distrib]
    rw [mul_sum, sum_congr rfl fun x _ => show R.q (rowOf R.d p i) x * Real.exp (R.gc (rowOf R.d p i)) * R.s.St (R.t + 64 * p) x y
      = Real.exp (R.gc (rowOf R.d p i)) * (R.q (rowOf R.d p i) x * R.s.St (R.t + 64 * p) x y) by ring]
    ring
  have e2 : ∀ c, R.qk (rowOf R.d p i) c * R.upd (R.s.St (R.t + 64 * p)) c y
      = if inclP R.d (rowOf R.d p i) c then (∑ x, R.q (rowOf R.d p i) x * R.k c x)
          * Real.exp (R.gc (rowOf R.d p i) - R.gc c) * R.upd (R.s.St (R.t + 64 * p)) c y else 0 := by
    intro c
    unfold qk
    split <;> simp
  rw [e, sum_congr rfl fun c _ => e2 c, sum_incl R.d _ p i hp hi, gc_rowOf hp hi]
  unfold Seq.out
  rw [show R.t + 64 * p + i + 1 = R.t + 64 * p + (i + 1) by omega]
  simp only [St_eq hp (i + 1) (by omega), mul_add, sum_add_distrib, mul_sum, sum_mul]
  rw [sum_comm (s := univ)]
  simp only [q, k, at_rowOf hp hi]
  congr 1
  · exact sum_congr rfl fun _ _ => by ring
  · refine sum_congr rfl fun j hj => ?_
    have hj := mem_range.mp hj
    refine sum_congr rfl fun x _ => ?_
    rw [gc_rowOf hp (by omega), at_rowOf hp (by omega)]
    ring

/-- The chunk of rows that comes `p`-th in time. -/
def chunkOf (d : Bool) (p : Fin 4) : Fin 4 := if d then p.rev else p

theorem rowOf_chunkOf (d : Bool) (p : Fin 4) (j : Fin 64) :
    rowOf d p.val (if d then j.rev else j).val = crow (chunkOf d p) j := by
  refine Fin.ext ?_
  cases d
  · simp [rowOf, chunkOf, tm]; omega
  · simp [rowOf, chunkOf, tm, Fin.val_rev]; omega

theorem tot_crow (p : Fin 4) (j : Fin 64) : R.tot (crow (chunkOf R.d p) j) = R.s.G (R.t + 64 * p.val) 64 := by
  rw [tot, show R.lastRow (crow (chunkOf R.d p) j) = rowOf R.d p.val 63 from ?_, gc_rowOf p.isLt (by decide)]
  refine Fin.ext ?_
  have h : (crow (chunkOf R.d p) j).val / 64 = (if R.d then 3 - p.val else p.val) := by
    cases R.d <;> simp [chunkOf, Fin.val_rev] <;> omega
  simp only [lastRow, rowOf, tm, h]
  by_cases hd : R.d = true
  · simp only [hd, if_true, Fin.val_rev]; omega
  · simp only [hd, Bool.false_eq_true, if_false]; omega

theorem sum_chunk (p : Fin 4) (F : Fin 256 → ℝ) :
    ∑ i : Fin 64, F (crow (chunkOf R.d p) i) = ∑ j ∈ range 64, F (rowOf R.d p.val j) := by
  rw [← Fin.sum_univ_eq_sum_range (fun j => F (rowOf R.d p.val j)) 64]
  have h := fun j => rowOf_chunkOf R.d p j
  cases hd : R.d
  · rw [hd] at h
    exact sum_congr rfl fun j _ => congrArg F (h j).symm
  · rw [hd] at h
    rw [← Equiv.sum_comp (Fin.revPerm (n := 64)) (fun j : Fin 64 => F (rowOf true p.val j.val))]
    exact sum_congr rfl fun j _ => congrArg F (h j).symm

theorem next_eq (p : Fin 4) (x y : Fin 128) :
    R.next (chunkOf R.d p) (R.s.St (R.t + 64 * p.val)) x y = R.s.St (R.t + 64 * p.val + 64) x y := by
  have e : R.next (chunkOf R.d p) (R.s.St (R.t + 64 * p.val)) x y
      = Real.exp (R.tot (crow (chunkOf R.d p) 0)) * R.s.St (R.t + 64 * p.val) x y
        + ∑ i : Fin 64, R.k (crow (chunkOf R.d p) i) x * Real.exp (R.tot (crow (chunkOf R.d p) i) - R.gc (crow (chunkOf R.d p) i))
          * R.upd (R.s.St (R.t + 64 * p.val)) (crow (chunkOf R.d p) i) y := by
    unfold next pq upd
    simp only [mul_sub, sum_sub_distrib, sum_mul, mul_sum]
    rw [sum_comm (s := univ (α := Fin 128)) (t := univ (α := Fin 64))]
    rw [sum_congr rfl fun i _ => sum_congr rfl fun z _ => mul_assoc _ (R.X (crow (chunkOf R.d p) i) (lc z)) (R.s.St (R.t + 64 * p.val) z y)]
    ring
  rw [e, St_eq p.isLt 64 le_rfl, tot_crow]
  congr 1
  simp only [tot_crow]
  rw [sum_chunk p fun r => R.k r x * Real.exp (R.s.G (R.t + 64 * p.val) 64 - R.gc r) * R.upd (R.s.St (R.t + 64 * p.val)) r y]
  refine sum_congr rfl fun j hj => ?_
  have hj := mem_range.mp hj
  rw [gc_rowOf p.isLt hj, k, at_rowOf p.isLt hj]
  ring

/-- The outputs of the rows of the chunk that comes `p`-th, from the state before it. -/
theorem out_eq (p : Fin 4) (j : Fin 64) (y : Fin 128) :
    R.out (R.s.St (R.t + 64 * p.val)) (crow (chunkOf R.d p) j) y = R.s.out (R.at' (crow (chunkOf R.d p) j)) y := by
  have h := rowOf_chunkOf R.d p j
  rw [← h, out_rowOf p.isLt (Fin.isLt _), at_rowOf p.isLt (Fin.isLt _)]

end Rows

end Cert.Proof.Delta

end

end
-- ==== Proof.Lift.lean ====
/- The values of a chain's arrays over the extended reals, on real data: the matrices of Block. -/
module

public import proofs.«01_k».proof.Proof.Chunk
public import proofs.«01_k».proof.Proof.Block
public import Idealize.ShloMosaic.Lib.Pointwise

@[expose] public section

set_option maxRecDepth 16384

noncomputable section

namespace Cert.Proof.Chain

open Idealize.ShloMosaic Idealize.ShloMosaic.TcCoe Cert.KernelIdeal Cert.KernelIdeal.Gen
open Cert.Proof.Delta
open Cert.Proof.Delta.Rows (lc rc crow chunkOf)

/-! ## The masks -/

/-- The floor of one word's quotient by 64. -/
def floorW (w : BitVec 32) : BitVec 32 := floor64 (fun _ => w) (ix2 0 0)

theorem floor64_apply (v : IVec S256x256 32) (i : S256x256.Idx) : floor64 v i = floorW (v i) := by
  simp only [floorW, floor64, select, andi, cmpi, subi, extui, broadcast, remsi, divsi]

theorem row_apply (r c : Fin 256) : rowIx (ix2 r c) = BitVec.ofNat 32 r.val := by
  show BitVec.ofNat 32 (0 * 256 + r.val) = _
  rw [Nat.zero_mul, Nat.zero_add]

theorem col_apply (r c : Fin 256) : colIx (ix2 r c) = BitVec.ofNat 32 c.val := by
  show BitVec.ofNat 32 (0 * 256 + c.val) = _
  rw [Nat.zero_mul, Nat.zero_add]

theorem floorW_ofNat : ∀ r : Fin 256, floorW (BitVec.ofNat 32 r.val) = BitVec.ofNat 32 (r.val / 64) := by decide +kernel

theorem ofNat_eq {a b : ℕ} (ha : a < 2 ^ 31) (hb : b < 2 ^ 31) : BitVec.ofNat 32 a = BitVec.ofNat 32 b ↔ a = b := by
  constructor
  · intro h
    have := congrArg BitVec.toNat h
    simp only [BitVec.toNat_ofNat] at this
    omega
  · exact fun h => h ▸ rfl

theorem ofNat_sle {a b : ℕ} (ha : a < 2 ^ 31) (hb : b < 2 ^ 31) : (BitVec.ofNat 32 a).sle (BitVec.ofNat 32 b) = decide (a ≤ b) := by
  rw [BitVec.sle, BitVec.toInt_eq_toNat_of_lt (by simp; omega), BitVec.toInt_eq_toNat_of_lt (by simp; omega)]
  simp only [BitVec.toNat_ofNat]
  congr 1
  apply propext
  omega

theorem ofNat_slt {a b : ℕ} (ha : a < 2 ^ 31) (hb : b < 2 ^ 31) : (BitVec.ofNat 32 a).slt (BitVec.ofNat 32 b) = decide (a < b) := by
  rw [BitVec.slt, BitVec.toInt_eq_toNat_of_lt (by simp; omega), BitVec.toInt_eq_toNat_of_lt (by simp; omega)]
  simp only [BitVec.toNat_ofNat]
  congr 1
  apply propext
  omega

theorem ofBool_one (b : Bool) : BitVec.ofBool b = 1 ↔ b = true := by cases b <;> decide
theorem and_one (a b : BitVec 1) : a &&& b = 1 ↔ a = 1 ∧ b = 1 := by revert a b; decide

theorem same_apply (r c : Fin 256) : sameChunk (ix2 r c) = 1 ↔ blk 6 r c := by
  show BitVec.ofBool (floor64 rowIx (ix2 r c) == floor64 colIx (ix2 r c)) = 1 ↔ _
  rw [floor64_apply, floor64_apply, row_apply, col_apply, floorW_ofNat, floorW_ofNat, ofBool_one, beq_iff_eq, ofNat_eq (by omega) (by omega)]
  exact Iff.rfl

theorem incl_apply (d : Bool) (r c : Fin 256) : incl d (ix2 r c) = 1 ↔ inclP d r c := by
  show sameChunk (ix2 r c) &&& (cond d (cmpi .sge colIx rowIx) (cmpi .sle colIx rowIx)) (ix2 r c) = 1 ↔ _
  rw [and_one, same_apply]
  refine and_congr Iff.rfl ?_
  cases d
  · show BitVec.ofBool ((colIx (ix2 r c)).sle (rowIx (ix2 r c))) = 1 ↔ _
    rw [ofBool_one, row_apply, col_apply, ofNat_sle (by omega) (by omega)]
    simp only [Bool.false_eq_true, if_false, if_true, decide_eq_true_eq]
    exact Iff.rfl
  · show BitVec.ofBool ((rowIx (ix2 r c)).sle (colIx (ix2 r c))) = 1 ↔ _
    rw [ofBool_one, row_apply, col_apply, ofNat_sle (by omega) (by omega)]
    simp only [Bool.false_eq_true, if_false, if_true, decide_eq_true_eq]
    exact Iff.rfl

theorem strict_apply (d : Bool) (r c : Fin 256) : strict d (ix2 r c) = 1 ↔ strictP d r c := by
  show sameChunk (ix2 r c) &&& (cond d (cmpi .sgt colIx rowIx) (cmpi .slt colIx rowIx)) (ix2 r c) = 1 ↔ _
  rw [and_one, same_apply]
  refine and_congr Iff.rfl ?_
  cases d
  · show BitVec.ofBool ((colIx (ix2 r c)).slt (rowIx (ix2 r c))) = 1 ↔ _
    rw [ofBool_one, row_apply, col_apply, ofNat_slt (by omega) (by omega)]
    simp only [before, Bool.false_eq_true, if_false, if_true, decide_eq_true_eq]
    exact Iff.rfl
  · show BitVec.ofBool ((rowIx (ix2 r c)).slt (colIx (ix2 r c))) = 1 ↔ _
    rw [ofBool_one, row_apply, col_apply, ofNat_slt (by omega) (by omega)]
    simp only [before, Bool.false_eq_true, if_false, if_true, decide_eq_true_eq]
    exact Iff.rfl

theorem lvl_word : ∀ (j : Fin 6) (a : Fin 256),
    31#32 - IntOp.ctlz (BitVec.ofNat 32 a.val) = BitVec.ofNat 32 j.val ↔ a.val / 2 ^ (j.val + 1) = 0 ∧ a.val / 2 ^ j.val ≠ 0 := by
  decide +kernel

theorem xor_div (a b j : ℕ) : (a ^^^ b) / 2 ^ j = 0 ↔ a / 2 ^ j = b / 2 ^ j := by
  rw [← Nat.shiftRight_eq_div_pow, ← Nat.shiftRight_eq_div_pow, ← Nat.shiftRight_eq_div_pow, Nat.shiftRight_xor_distrib]
  constructor
  · intro h
    refine Nat.eq_of_testBit_eq fun i => ?_
    have := congrArg (fun n => n.testBit i) h
    simpa [Nat.testBit_xor] using this
  · intro h
    rw [h, Nat.xor_self]

theorem lvl_apply (j : Fin 6) (r c : Fin 256) : lvl (ix2 r c) = BitVec.ofNat 32 j.val ↔ sep j.val r c := by
  show 31#32 - IntOp.ctlz (rowIx (ix2 r c) ^^^ colIx (ix2 r c)) = _ ↔ _
  have h : r.val ^^^ c.val < 256 := Nat.xor_lt_two_pow (n := 8) r.isLt c.isLt
  rw [row_apply, col_apply, show BitVec.ofNat 32 r.val ^^^ BitVec.ofNat 32 c.val = BitVec.ofNat 32 (r.val ^^^ c.val) by
    apply BitVec.eq_of_toNat_eq
    rw [BitVec.toNat_xor]
    simp only [BitVec.toNat_ofNat]
    rw [Nat.mod_eq_of_lt (by omega), Nat.mod_eq_of_lt (by omega), Nat.mod_eq_of_lt (by omega)]]
  refine (lvl_word j ⟨_, h⟩).trans ?_
  simp only [sep, blk, ne_eq, xor_div]

/-! ## Real data -/

/-- The coercion of a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sel_ite {α : Type} {c : BitVec 1} {p : Prop} [Decidable p] (h : c = 1 ↔ p) (a b : α) :
    Scalar.select c a b = if p then a else b := by
  unfold Scalar.select
  exact if_congr h rfl rfl

theorem coe_ite (p : Prop) [Decidable p] (a b : ℝ) : ((if p then a else b : ℝ) : EReal) = if p then (a : EReal) else b := by
  split <;> rfl

theorem sel_coe {c : BitVec 1} {p : Prop} [Decidable p] (h : c = 1 ↔ p) (a b : ℝ) :
    Scalar.select c (a : EReal) (b : EReal) = ((if p then a else b : ℝ) : EReal) := by
  rw [sel_ite h, coe_ite]

/-- A chain's data are those of a block of rows. -/
structure Fits (X : Data Ideal) (R : Rows) : Prop where
  d : X.d = R.d
  q : ∀ r x, X.q (ix3 0 r x) = ((R.q r x : ℝ) : EReal)
  k : ∀ r x, X.k (ix3 0 r x) = ((R.k r x : ℝ) : EReal)
  v : ∀ r x, X.v (ix3 0 r x) = ((R.v r x : ℝ) : EReal)
  g : ∀ r x, X.gcol (ix2 r x) = ((R.g r : ℝ) : EReal)
  b : ∀ r x, X.beta (ix2 r x) = ((R.b r : ℝ) : EReal)

variable {X : Data Ideal} {R : Rows}

namespace Fits

theorem cum_eq (X : Data Ideal) (t : FVec Ideal S256x128 .bf16) (f : Fin 256 → ℝ)
    (ht : ∀ r x, t (ix2 r x) = (f r : EReal)) (r : Fin 256) (x : Fin 128) :
    X.cum t (ix2 r x) = ((∑ c, if inclP X.d r c then f c else 0 : ℝ) : EReal) := by
  pointwise [Data.cum, incl01]
  rw [coe_sum]
  refine Finset.sum_congr rfl fun c _ => ?_
  rw [ht, ← EReal.coe_zero, sel_coe (incl_apply X.d r c)]

theorem eye_eq (r c : Fin 256) : (eye : FVec Ideal S256x256 .f32) (ix2 r c) = (((1 : Matrix (Fin 256) (Fin 256) ℝ) r c : ℝ) : EReal) := by
  pointwise [eye]
  have e : IntOp.cmpi .eq (BitVec.ofNat 32 r.val) (BitVec.ofNat 32 c.val) = 1 ↔ r = c := by
    show BitVec.ofBool (BitVec.ofNat 32 r.val == BitVec.ofNat 32 c.val) = 1 ↔ _
    rw [ofBool_one, beq_iff_eq, ofNat_eq (by omega) (by omega), Fin.ext_iff]
  rw [Matrix.one_apply, ← EReal.coe_zero, ← EReal.coe_one, sel_coe e]

variable (h : Fits X R)
include h

theorem qb (r : Fin 256) (x : Fin 128) : X.qb (ix2 r x) = ((R.q r x : ℝ) : EReal) := by
  pointwise [Data.qb]
  exact h.q r x

theorem kb (r : Fin 256) (x : Fin 128) : X.kb (ix2 r x) = ((R.k r x : ℝ) : EReal) := by
  pointwise [Data.kb]
  exact h.k r x

theorem vb (r : Fin 256) (x : Fin 128) : X.vb (ix2 r x) = ((R.v r x : ℝ) : EReal) := by
  pointwise [Data.vb]
  exact h.v r x

theorem hi (r : Fin 256) (x : Fin 128) : X.hi (ix2 r x) = ((R.g r : ℝ) : EReal) := by
  pointwise [Data.hi]
  exact h.g r x

theorem r1 (r : Fin 256) (x : Fin 128) : X.r1 (ix2 r x) = ((0 : ℝ) : EReal) := by
  pointwise [Data.r1]
  rw [h.hi, h.g, ← EReal.coe_sub, sub_self]

theorem mid (r : Fin 256) (x : Fin 128) : X.mid (ix2 r x) = ((0 : ℝ) : EReal) := by
  pointwise [Data.mid]
  exact h.r1 r x

theorem lo (r : Fin 256) (x : Fin 128) : X.lo (ix2 r x) = ((0 : ℝ) : EReal) := by
  pointwise [Data.lo]
  rw [h.r1, h.mid, ← EReal.coe_sub, sub_self]

theorem gc (r : Fin 256) (x : Fin 128) : X.gc (ix2 r x) = ((R.gc r : ℝ) : EReal) := by
  pointwise [Data.gc]
  rw [cum_eq X _ R.g h.hi, cum_eq X _ (fun _ => 0) h.mid, cum_eq X _ (fun _ => 0) h.lo, h.d]
  simp only [← EReal.coe_add, ite_self, Finset.sum_const_zero, zero_add, add_zero]
  rfl

theorem eg (r : Fin 256) (x : Fin 128) : X.eg (ix2 r x) = ((Real.exp (R.gc r) : ℝ) : EReal) := by
  pointwise [Data.eg]
  rw [h.gc, Ideal.exp_coe]

theorem last (a : Fin 4) (j : Fin 64) (x : Fin 128) : X.last a (ix2 j x) = ((R.tot (crow a j) : ℝ) : EReal) := by
  pointwise [Data.last]
  rw [h.gc, Rows.tot]
  congr 2
  refine Fin.ext ?_
  have e : (64 * a.val + j.val) / 64 = a.val := by omega
  simp only [Rows.lastRow, e, h.d]
  cases R.d <;> simp

theorem tot (r : Fin 256) (x : Fin 128) : X.tot (ix2 r x) = ((R.tot r : ℝ) : EReal) := by
  have e : ∀ (a : Fin 4) (j : ℕ) (hj : j < 64), r.val = 64 * a.val + j → X.last a (ix2 ⟨j, hj⟩ x) = ((R.tot r : ℝ) : EReal) := by
    intro a j hj e
    rw [h.last, show crow a ⟨j, hj⟩ = r from Fin.ext e.symm]
  pointwise [Data.tot]
  split
  · exact e 0 _ _ (by simp)
  · split
    · exact e 1 _ _ (by simp; omega)
    · split
      · exact e 2 _ _ (by simp; omega)
      · exact e 3 _ _ (by simp; omega)

theorem decay (r c : Fin 256) (hi : inclP R.d r c) : X.decay (ix2 r c) = ((Real.exp (R.gc r - R.gc c) : ℝ) : EReal) := by
  pointwise [Data.decay]
  simp only [h.gc, dite_eq_ite, ite_self]
  rw [sel_ite (incl_apply X.d r c), if_pos (h.d ▸ hi), ← EReal.coe_sub, Ideal.exp_coe]

theorem kbeta (r : Fin 256) (x : Fin 128) : X.kbeta (ix2 r x) = ((R.k r x * R.b r : ℝ) : EReal) := by
  pointwise [Data.kbeta]
  rw [h.kb, h.b, EReal.coe_mul]

theorem vbeta (r : Fin 256) (x : Fin 128) : X.vbeta (ix2 r x) = ((R.v r x * R.b r : ℝ) : EReal) := by
  pointwise [Data.vbeta]
  rw [h.vb, h.b, EReal.coe_mul]

theorem mm (r c : Fin 256) : X.mm (ix2 r c) = ((R.M r c : ℝ) : EReal) := by
  pointwise [Data.mm]
  rw [sel_ite (strict_apply X.d r c), h.d]
  unfold Rows.M
  rw [coe_ite]
  split
  · rename_i hs
    have hi : inclP R.d r c := ⟨hs.1, by
      have := hs.2
      unfold before at this
      split at this
      · rw [if_pos (by assumption)]; exact this.le
      · rw [if_neg (by assumption)]; exact this.le⟩
    rw [h.decay r c hi, EReal.coe_mul, coe_sum]
    simp only [h.kbeta, h.kb, ← EReal.coe_mul]
  · exact EReal.coe_zero.symm

theorem part (j : Fin 6) (r c : Fin 256) : X.part (BitVec.ofNat 32 j.val) (ix2 r c) = ((level R.M j.val r c : ℝ) : EReal) := by
  have e : IntOp.cmpi .eq (lvl (ix2 r c)) (BitVec.ofNat 32 j.val) = 1 ↔ sep j.val r c := by
    show BitVec.ofBool (lvl (ix2 r c) == BitVec.ofNat 32 j.val) = 1 ↔ _
    rw [ofBool_one, beq_iff_eq, lvl_apply]
  pointwise [Data.part]
  unfold level
  rw [h.mm, ← EReal.coe_zero, sel_coe e]

theorem inv0 (r c : Fin 256) : X.inv0 (ix2 r c) = ((inv R.M 0 r c : ℝ) : EReal) := by
  pointwise [Data.inv0]
  rw [eye_eq, show X.part 0#32 (ix2 r c) = _ from h.part 0 r c, ← EReal.coe_sub]
  rfl

theorem up (j : ℕ) (hj : j + 1 < 6) (t : FVec Ideal S256x256 .f32) (ht : ∀ r c, t (ix2 r c) = ((inv R.M j r c : ℝ) : EReal)) (r c : Fin 256) :
    X.up (BitVec.ofNat 32 (j + 1)) t (ix2 r c) = ((inv R.M (j + 1) r c : ℝ) : EReal) := by
  have hp : ∀ r c, X.part (BitVec.ofNat 32 (j + 1)) (ix2 r c) = _ := h.part ⟨j + 1, hj⟩
  pointwise [Data.up]
  simp only [ht, hp, ← EReal.coe_mul, ← coe_sum, ← EReal.coe_sub]
  rw [show Delta.inv R.M (j + 1) = Delta.inv R.M j - Delta.inv R.M j * level R.M (j + 1) * Delta.inv R.M j from rfl]
  simp only [Matrix.sub_apply, Matrix.mul_apply]

theorem inv5 (r c : Fin 256) : X.inv5 (ix2 r c) = ((inv R.M 5 r c : ℝ) : EReal) :=
  h.up 4 (by decide) _ (h.up 3 (by decide) _ (h.up 2 (by decide) _ (h.up 1 (by decide) _ (h.up 0 (by decide) _ h.inv0)))) r c

theorem wub (r c : Fin 256) : X.wub (ix2 r c) = ((R.X r c : ℝ) : EReal) := by
  pointwise [Data.wub]
  unfold Rows.X
  rw [Matrix.mul_apply, coe_sum]
  refine Finset.sum_congr rfl fun k _ => ?_
  rw [h.inv5, EReal.coe_mul]
  congr 1
  unfold Rows.rhs
  split
  · rw [h.kbeta, h.eg, ← EReal.coe_mul]
  · rw [h.vbeta]

theorem qk (r c : Fin 256) : X.qk (ix2 r c) = ((R.qk r c : ℝ) : EReal) := by
  pointwise [Data.qk]
  rw [sel_ite (incl_apply X.d r c), h.d]
  unfold Rows.qk
  rw [coe_ite]
  split
  · rename_i hs
    rw [h.decay r c hs, EReal.coe_mul, coe_sum]
    simp only [h.qb, h.kb, ← EReal.coe_mul]
  · exact EReal.coe_zero.symm

theorem ab (r c : Fin 256) : X.ab (ix2 r c) = ((R.ab r c : ℝ) : EReal) := by
  pointwise [Data.ab]
  simp only [h.qk, h.wub, ← EReal.coe_mul, ← coe_sum]
  rw [Rows.ab, Matrix.mul_apply]

theorem aq (r : Fin 256) (x : Fin 128) : X.aq (ix2 r x) = ((R.q r x * Real.exp (R.gc r) - R.ab r (lc x) : ℝ) : EReal) := by
  pointwise [Data.aq]
  rw [h.qb, h.eg, EReal.coe_sub, EReal.coe_mul]
  congr 1
  exact h.ab r (lc x)

theorem kd (r : Fin 256) (x : Fin 128) : X.kd (ix2 r x) = ((R.k r x * Real.exp (R.tot r - R.gc r) : ℝ) : EReal) := by
  pointwise [Data.kd]
  rw [h.kb, h.tot, h.gc, ← EReal.coe_sub, Ideal.exp_coe, EReal.coe_mul]

theorem row (c : Fin 4) : X.row c = 64 * (chunkOf R.d c).val := by
  unfold Data.row chunkOf
  rw [h.d]
  cases R.d <;> simp [Fin.val_rev]

variable {s : Vec Ideal S1x128x128 .f32} {S : Fin 128 → Fin 128 → ℝ} (hs : ∀ x y, s (ix3 0 x y) = (S x y : EReal))
include hs

theorem out (c : Fin 4) (j : Fin 64) (y : Fin 128) :
    X.out c s (ix3 0 j y) = ((R.out S (crow (chunkOf R.d c) j) y : ℝ) : EReal) := by
  pointwise [Data.out, Data.stb, Data.st]
  have e : (⟨X.row c + j.val, by have := X.row_le c; omega⟩ : Fin 256) = crow (chunkOf R.d c) j := Fin.ext (by simp [h.row])
  simp only [e, h.aq, h.ab, hs, ← EReal.coe_mul, ← coe_sum, ← EReal.coe_add]
  rfl

theorem next (c : Fin 4) (x y : Fin 128) :
    X.next c s (ix3 0 x y) = ((R.next (chunkOf R.d c) S x y : ℝ) : EReal) := by
  pointwise [Data.next, Data.stb, Data.st, Data.pq]
  have e : ∀ (j : Fin 64) (hj : X.row c + j.val < 256), (⟨X.row c + j.val, hj⟩ : Fin 256) = crow (chunkOf R.d c) j :=
    fun j hj => Fin.ext (by simp [h.row])
  have e0 : ∀ hj : X.row c < 256, (⟨X.row c, hj⟩ : Fin 256) = crow (chunkOf R.d c) 0 := fun hj => Fin.ext (by simp [h.row])
  simp only [e, e0, h.tot, h.kd, h.wub, hs, Ideal.exp_coe, ← EReal.coe_mul, ← coe_sum, ← EReal.coe_add, ← EReal.coe_sub]
  rfl

end Fits

end Cert.Proof.Chain

end

end
-- ==== Proof.Inputs.lean ====
/- The decays and step sizes of a chain's rows, from the columns they are computed of, and the arrays a chain reads of
   the blocks of its grid point. -/
module

public import proofs.«01_k».proof.Proof.Lift
public import Idealize.ShloMosaic.Lib.Pipeline.Value
public import Idealize.ShloMosaic.Lib.Pipeline.ValueKit

@[expose] public section

set_option maxRecDepth 16384

noncomputable section

namespace Cert.Proof.Chain

open Idealize.ShloMosaic Idealize.ShloMosaic.TcCoe Cert.KernelIdeal Cert.KernelIdeal.Gen
open Cert.Proof.Delta

/-- The softplus, and the decay logarithm of one step. -/
def softplus (z : ℝ) : ℝ := max z 0 + Real.log (1 + Real.exp (-|z|))
def decayLog (A T z : ℝ) : ℝ := -Real.exp A * softplus (z + T)
/-- The step size. -/
def stepSize (z : ℝ) : ℝ := 1 / (1 + Real.exp (-z))

theorem coe_max (a b : ℝ) : max (a : EReal) (b : EReal) = ((max a b : ℝ) : EReal) :=
  (EReal.coe_strictMono.monotone.map_max).symm

theorem softplus_coe (z : ℝ) :
    max (z : EReal) 0 + Ideal.log1p (Ideal.exp (0 - FloatOps.absf (F := Ideal) (φ := .f32) (z : EReal))) = ((softplus z : ℝ) : EReal) := by
  rw [Ideal.absf_def, ← EReal.coe_neg, coe_max, ← EReal.coe_zero, coe_max, ← EReal.coe_sub, Ideal.exp_coe]
  unfold Ideal.log1p
  rw [← EReal.coe_one, ← EReal.coe_add, Ideal.log_coe, if_neg (by have := Real.exp_pos (0 - max z (-z)); linarith), ← EReal.coe_add,
    zero_sub]
  rfl

theorem stepSize_coe (z : ℝ) : Ideal.div 1 (1 + Ideal.exp (0 - (z : EReal))) = ((stepSize z : ℝ) : EReal) := by
  have h : (1 + Real.exp (-z)) ≠ 0 := by have := Real.exp_pos (-z); linarith
  rw [← EReal.coe_zero, ← EReal.coe_sub, zero_sub, Ideal.exp_coe, ← EReal.coe_one, ← EReal.coe_add, Ideal.div_coe h, ← EReal.coe_mul, one_mul]
  rfl

namespace Data
variable {X : Data Ideal} {C : Fin 256 → Fin 128 → ℝ} {A T : ℝ}

theorem lane_eq (hC : ∀ r l, X.cols (ix3 0 r l) = (C r l : EReal)) (L : Fin 128) (r : Fin 256) :
    X.lane (BitVec.ofNat 32 L.val) (ix2 r 0) = (C r L : EReal) := by
  have e : ∀ x : Fin 128, IntOp.cmpi .eq (BitVec.ofNat 32 x.val) (BitVec.ofNat 32 L.val) = 1 ↔ x = L := fun x => by
    show BitVec.ofBool (BitVec.ofNat 32 x.val == BitVec.ofNat 32 L.val) = 1 ↔ _
    rw [ofBool_one, beq_iff_eq, ofNat_eq (by omega) (by omega), Fin.ext_iff]
  pointwise [Data.lane]
  simp only [sel_ite (e _)]
  rw [Finset.sum_ite_eq' Finset.univ L, if_pos (Finset.mem_univ _), hC]

theorem gcol_eq (hC : ∀ r l, X.cols (ix3 0 r l) = (C r l : EReal)) (hA : X.al (ix4 0 0 0 0) = (A : EReal))
    (hT : X.dt (ix4 0 0 0 0) = (T : EReal)) (L : Fin 128) (hl : X.la = BitVec.ofNat 32 L.val) (r : Fin 256) (x : Fin 128) :
    X.gcol (ix2 r x) = ((decayLog A T (C r L) : ℝ) : EReal) := by
  have ha : X.aIn (ix2 r 0) = ((C r L + T : ℝ) : EReal) := by
    pointwise [Data.aIn]
    rw [hl, lane_eq hC, hT, EReal.coe_add]
  have hn : X.negA (ix2 0 0) = ((-Real.exp A : ℝ) : EReal) := by
    pointwise [Data.negA]
    rw [hA, Ideal.exp_coe, zero_sub, EReal.coe_neg]
  pointwise [Data.gcol]
  rw [hn, ha, softplus_coe, ← EReal.coe_mul]
  rfl

theorem beta_eq (hC : ∀ r l, X.cols (ix3 0 r l) = (C r l : EReal)) (L : Fin 128) (hl : X.lb = BitVec.ofNat 32 L.val) (r : Fin 256) (x : Fin 128) :
    X.beta (ix2 r x) = ((stepSize (C r L) : ℝ) : EReal) := by
  pointwise [Data.beta]
  rw [hl, lane_eq hC, stepSize_coe]

end Data

namespace Point
variable {F : FTy → Type} [FloatOps F] (P : Point F) (d : Bool) (hh : Fin 2) (n : Fin 4)

theorem ld_apply {s t : Shape} {e : EltTy} {a : Memref sig .tc .vmem s e} (ha : a.IsWhole) (X : Vec F s e) (off size : Fin s.rank → ℕ)
    (inb : ∀ a, off a + size a ≤ s.size a) (x : t.Idx) (ht : (Rect.unit off size inb).shape = t) (i : s.Idx)
    (hi : ∀ a, (i a : ℕ) = off a + ((ht.symm ▸ x : (Rect.unit off size inb).shape.Idx) a : ℕ)) :
    View.readAt (Elt F) a.view (Rect.unit off size inb).toLoadRect (ha.unread X) (ht.symm ▸ x) = X i := by
  rw [View.readAt_eq_ld, ha.read_unread]
  exact View.ld_unit_apply_of X off size inb _ i hi

/-- A row of a step and a head's column, in the block of the grid point. -/
abbrev grow (r : Fin 256) : Fin 1024 := ⟨srow d n + r.val, by have := srow_le d n; omega⟩
abbrev hcol (x : Fin 128) : Fin 256 := ⟨128 * hh.val + x.val, by omega⟩

theorem data_q (r : Fin 256) (x : Fin 128) : (P.data d hh n).q (ix3 0 r x) = (P.side d).q (ix3 0 (grow d n r) (hcol hh x)) :=
  ld_apply (t := S1x256x128) (P.side d).hq (P.side d).q _ _ (inb_tile _ hh (srow_le d n)) (ix3 0 r x) rfl _ fun a => by fin_cases a <;> simp [ix3]

theorem data_k (r : Fin 256) (x : Fin 128) : (P.data d hh n).k (ix3 0 r x) = (P.side d).k (ix3 0 (grow d n r) (hcol hh x)) :=
  ld_apply (t := S1x256x128) (P.side d).hk (P.side d).k _ _ (inb_tile _ hh (srow_le d n)) (ix3 0 r x) rfl _ fun a => by fin_cases a <;> simp [ix3]

theorem data_v (r : Fin 256) (x : Fin 128) : (P.data d hh n).v (ix3 0 r x) = (P.side d).v (ix3 0 (grow d n r) (hcol hh x)) :=
  ld_apply (t := S1x256x128) (P.side d).hv (P.side d).v _ _ (inb_tile _ hh (srow_le d n)) (ix3 0 r x) rfl _ fun a => by fin_cases a <;> simp [ix3]

theorem data_cols (r : Fin 256) (x : Fin 128) : (P.data d hh n).cols (ix3 0 r x) = (P.side d).c (ix3 0 (grow d n r) x) :=
  ld_apply (t := S1x256x128) (P.side d).hc (P.side d).c _ _ (inb_cols _ (srow_le d n)) (ix3 0 r x) rfl _ fun a => by fin_cases a <;> simp [ix3]

theorem data_al : (P.data d hh n).al (ix4 0 0 0 0) = P.al (ix4 (cond d 1 0) hh 0 0) :=
  ld_apply (t := S1x1x1x1) P.hal P.al _ _ (inb_par (cond d 1 0) hh) (ix4 0 0 0 0) rfl _ fun a => by fin_cases a <;> simp [ix4]

theorem data_dt : (P.data d hh n).dt (ix4 0 0 0 0) = P.dt (ix4 (cond d 1 0) hh 0 0) :=
  ld_apply (t := S1x1x1x1) P.hdt P.dt _ _ (inb_par (cond d 1 0) hh) (ix4 0 0 0 0) rfl _ fun a => by fin_cases a <;> simp [ix4]

/-- The lanes of a head, of the group `hg`. -/
theorem data_la (hg : Fin 8) (h : P.hg = BitVec.ofNat 32 hg.val) :
    (P.data d hh n).la = BitVec.ofNat 32 (16 * (cond d 1 0) + (2 * hg.val + hh.val)) := by
  show Scalar.addi (cond d 16#32 0#32) (Scalar.addi (Scalar.muli P.hg 2#32) (BitVec.ofNat 32 hh.val)) = _
  rw [h]
  clear h
  revert d hg hh
  decide

theorem data_lb (hg : Fin 8) (h : P.hg = BitVec.ofNat 32 hg.val) :
    (P.data d hh n).lb = BitVec.ofNat 32 (32 + 16 * (cond d 1 0) + (2 * hg.val + hh.val)) := by
  show Scalar.addi (cond d 48#32 32#32) (Scalar.addi (Scalar.muli P.hg 2#32) (BitVec.ofNat 32 hh.val)) = _
  rw [h]
  clear h
  revert d hg hh
  decide

end Point

end Cert.Proof.Chain

end

end
-- ==== Proof.Pieces.lean ====
/- What one grid point leaves in the state and in its outputs: the recurrence's states and outputs. -/
module

public import proofs.«01_k».proof.Proof.Inputs

@[expose] public section

set_option maxRecDepth 16384

noncomputable section

namespace Cert.Proof.Chain

open Idealize.ShloMosaic Idealize.ShloMosaic.TcCoe Cert.KernelIdeal Cert.KernelIdeal.Gen
open Cert.Proof.Delta
open Cert.Proof.Delta.Rows (lc rc crow chunkOf)

/-- The direction and the head of a chain. -/
def dirC (ci : Fin 4) : Bool := Nat.ble 2 ci.val
def hdC (ci : Fin 4) : Fin 2 := ⟨ci.val % 2, Nat.mod_lt _ (by decide)⟩

namespace Point
variable {P : Point Ideal} {Sq : Bool → Fin 2 → Seq} {T0 : ℕ}

theorem dir_eq (k : ℕ) : dir k = dirC (chain k) := rfl
theorem hd_eq (k : ℕ) : hd k = hdC (chain k) := Fin.ext (show k % 2 = k % 4 % 2 by omega)

/-- The states before the `k`-th update, where they are the recurrence's. -/
def Holds (Sq : Bool → Fin 2 → Seq) (T0 k : ℕ) (w : Fin 4 → Vec Ideal S1x128x128 .f32) : Prop :=
  ∀ ci x y, w ci (ix3 0 x y) = (((Sq (dirC ci) (hdC ci)).St (T0 + 64 * ((k + 3 - ci.val) / 4)) x y : ℝ) : EReal)

/-- The updates follow the recurrence. -/
theorem holds (hf : ∀ d hh n, Fits (P.data d hh n) ⟨Sq d hh, T0 + 256 * n.val, d⟩)
    (rd : ℕ → Fin 4 → Vec Ideal S1x128x128 .f32) (h0 : Holds Sq T0 0 (rd 0))
    (hs : ∀ k, rd (k + 1) (chain k) = (P.at' k).next (chunk k) (rd k (chain k)))
    (ho : ∀ k ci, ci ≠ chain k → rd (k + 1) ci = rd k ci) : ∀ k ≤ 64, Holds Sq T0 k (rd k) := by
  intro k
  induction k with
  | zero => exact fun _ => h0
  | succ k ih =>
    intro hk ci x y
    have hi := ih (by omega)
    by_cases hc : ci = chain k
    · subst hc
      have hc : (chain k).val = k % 4 := rfl
      have hq : (chunk k).val = k / 4 % 4 := rfl
      have hn : (step k).val = k / 16 % 4 := rfl
      have hF : Fits (P.at' k) ⟨Sq (dirC (chain k)) (hdC (chain k)), T0 + 256 * (step k).val, dirC (chain k)⟩ := by
        show Fits (P.data (dir k) (hd k) (step k)) _
        rw [dir_eq, hd_eq]
        exact hf _ _ _
      have e : T0 + 64 * ((k + 3 - (chain k).val) / 4) = T0 + 256 * (step k).val + 64 * (chunk k).val := by omega
      have e' : T0 + 64 * ((k + 1 + 3 - (chain k).val) / 4) = T0 + 256 * (step k).val + 64 * (chunk k).val + 64 := by omega
      have h := hF.next (s := rd k (chain k)) (S := (Sq (dirC (chain k)) (hdC (chain k))).St (T0 + 256 * (step k).val + 64 * (chunk k).val))
        (fun x y => by rw [hi, e]) (chunk k) x y
      rw [hs, h, e']
      exact congrArg _ (Rows.next_eq (R := ⟨Sq (dirC (chain k)) (hdC (chain k)), T0 + 256 * (step k).val, dirC (chain k)⟩) (chunk k) x y)
    · rw [ho k ci hc, hi]
      have : ci.val ≠ k % 4 := fun h => hc (Fin.ext h)
      congr 3
      omega

/-- One output of a grid point: the recurrence's, at the step of its row. -/
def outAt (Sq : Bool → Fin 2 → Seq) (T0 : ℕ) (d : Bool) (Y : Fin 1024) (Z : Fin 256) : ℝ :=
  (Sq d ⟨Z.val / 128, by omega⟩).out (T0 + cond d (1023 - Y.val) Y.val) ⟨Z.val % 128, Nat.mod_lt _ (by decide)⟩

theorem outs (hf : ∀ d hh n, Fits (P.data d hh n) ⟨Sq d hh, T0 + 256 * n.val, d⟩)
    (rd : ℕ → Fin 4 → Vec Ideal S1x128x128 .f32) (hh : ∀ k ≤ 64, Holds Sq T0 k (rd k))
    (base : List (View.Piece (Elt Ideal) S4x128x128 .f32))
    (ld : ℕ → List (View.Piece (Elt Ideal) S4x128x128 .f32) → Vec Ideal S1x128x128 .f32)
    (hl : ∀ k, ld k (P.stL base ld k) = rd k (chain k)) (d : Bool) (Y : Fin 1024) (Z : Fin 256) :
    ∀ j ≤ 32, View.AllAt (P.outL d base ld j) (ix3 0 Y Z : S1x1024x256.Idx) ((outAt Sq T0 d Y Z : ℝ) : EReal) := by
  intro j
  induction j with
  | zero => exact fun _ => View.allAt_nil _ _
  | succ j ih =>
    intro hj
    refine View.allAt_cons_unit _ _ _ _ _ ?_ (ih (by omega))
    intro x hx
    obtain ⟨x0, x1, x2, rfl⟩ : ∃ (a : Fin 1) (b : Fin 64) (c : Fin 128), x = (ix3 a b c : S1x64x128.Idx) := ⟨x 0, x 1, x 2, by
      funext a; fin_cases a <;> rfl⟩
    obtain rfl : x0 = 0 := Subsingleton.elim _ _
    have h1 := hx 1
    have h2 := hx 2
    have hF := hf d (hd j) (step (upd d j))
    rw [hF.row] at h1
    have hu : upd d j = 4 * (j / 2) + cond d 2 0 + j % 2 := rfl
    have hd2 : cond d 2 0 ≤ 2 := by cases d <;> simp
    have hc : (chain (upd d j)).val = upd d j % 4 := rfl
    have hq : (chunk (upd d j)).val = upd d j / 4 % 4 := rfl
    have hn : (step (upd d j)).val = upd d j / 16 % 4 := rfl
    have ed : dirC (chain (upd d j)) = d := by
      cases d
      · exact Bool.eq_false_iff.mpr (fun h => absurd (Nat.le_of_ble_eq_true h) (by simp at hu; omega))
      · exact Nat.ble_eq_true_of_le (by simp at hu; omega)
    have eh : hdC (chain (upd d j)) = hd j := Fin.ext (by
      show upd d j % 4 % 2 = j % 2
      cases d <;> simp at hu <;> omega)
    have hi := hh (upd d j) (by omega) (chain (upd d j))
    rw [ed, eh] at hi
    have e : T0 + 64 * ((upd d j + 3 - (chain (upd d j)).val) / 4) = T0 + 256 * (step (upd d j)).val + 64 * (chunk (upd d j)).val := by omega
    rw [e, ← hl] at hi
    refine (hF.out hi (chunk (upd d j)) x1 x2).trans (congrArg _ ?_)
    refine (Rows.out_eq (R := ⟨Sq d (hd j), T0 + 256 * (step (upd d j)).val, d⟩) (chunk (upd d j)) x1 x2).trans ?_
    have hd' : (hd j).val = j % 2 := rfl
    have eZ : (⟨Z.val / 128, by omega⟩ : Fin 2) = hd j := Fin.ext (by
      have : Z.val = 128 * (hd j).val + x2.val := h2
      show Z.val / 128 = _; omega)
    have ez : (⟨Z.val % 128, Nat.mod_lt _ (by decide)⟩ : Fin 128) = x2 := Fin.ext (by
      have : Z.val = 128 * (hd j).val + x2.val := h2
      show Z.val % 128 = _; omega)
    have eY : Y.val = srow d (step (upd d j)) + 64 * (chunkOf d (chunk (upd d j))).val + x1.val := h1
    unfold outAt
    rw [eZ, ez]
    congr 1
    show T0 + 256 * (step (upd d j)).val + (tm d (crow (chunkOf d (chunk (upd d j))) x1)).val = _
    have hx1 := x1.isLt
    cases d
    · simp only [srow, tm, chunkOf, cond_false, Bool.false_eq_true, if_false] at eY ⊢
      omega
    · simp only [srow, tm, chunkOf, cond_true, if_true, Fin.val_rev] at eY ⊢
      omega

/-! ## A point that clears the state first -/

theorem disj (a b : Fin 4) (h : a ≠ b) : Disjoint (rectS a).set (rectS b).toLoadRect.set := by
  have hv : a.val ≠ b.val := fun e => h (Fin.ext e)
  refine Finset.disjoint_left.mpr fun y h1 h2 => ?_
  have h1 := (Rect.mem_set_unit.mp h1) 0
  have h2 := (Rect.mem_set_unit.mp h2) 0
  simp [S1x128x128] at h1 h2
  omega

theorem idx_eq (ci : Fin 4) (x y : Fin 128) : (rectS ci).toLoadRect.idx (ix3 0 x y) = (ix3 ci x y : S4x128x128.Idx) := by
  funext a; fin_cases a <;> apply Fin.ext <;> simp [ix3, LoadRect.idx, Rect.unit, Rect.toLoadRect]

variable (a : Memref sig .tc .vmem S4x128x128 .f32)

def rdA (P : Point Ideal) (k : ℕ) (ci : Fin 4) : Vec Ideal S1x128x128 .f32 := a.view.readCov (P.stL baseA (ldA a) k) (rectS ci).toLoadRect

theorem holdsA (hf : ∀ d hh n, Fits (P.data d hh n) ⟨Sq d hh, 0 + 256 * n.val, d⟩) : ∀ k ≤ 64, Holds Sq 0 k (rdA a P k) := by
  refine holds hf (rdA a P) (fun ci x y => ?_) (fun k => ?_) (fun k ci h => ?_)
  · unfold rdA
    rw [View.readCov_eq_canon']
    show View.canon baseA ((rectS ci).toLoadRect.idx (ix3 0 x y)) = _
    rw [show 0 + 64 * ((0 + 3 - ci.val) / 4) = 0 by omega, idx_eq]
    refine (congrFun (View.canon_cons_unit_zero (S := S4x128x128) (e := .f32) (Val := Elt Ideal) (off := ![0, 0, 0]) (by funext a; fin_cases a <;> rfl) _ (k0_pay3 (F := Ideal)) []) _).trans ?_
    pointwise [k0_pay3]
    rfl
  · exact View.readCov_cons_toLoadRect _ _ _ _
  · exact View.readCov_cons_of_disjoint _ _ _ _ (disj _ _ h.symm)

theorem stateA (hf : ∀ d hh n, Fits (P.data d hh n) ⟨Sq d hh, 0 + 256 * n.val, d⟩) (ci : Fin 4) (x y : Fin 128) :
    View.canon (P.stL baseA (ldA a) 64) (ix3 ci x y : S4x128x128.Idx) = (((Sq (dirC ci) (hdC ci)).St (0 + 1024) x y : ℝ) : EReal) := by
  have h := holdsA a hf 64 le_rfl ci x y
  unfold rdA at h
  rw [View.readCov_eq_canon'] at h
  rw [show 0 + 64 * ((64 + 3 - ci.val) / 4) = 0 + 1024 by omega] at h
  rw [← h, ← idx_eq]

/-! ## A point that goes on -/

variable (ha : a.IsWhole) (s : Vec Ideal S4x128x128 .f32)

def rdB (P : Point Ideal) (k : ℕ) (ci : Fin 4) : Vec Ideal S1x128x128 .f32 :=
  cond (Nat.ble (ci.val + 1) k) (a.view.readCov (P.stL [] (ldB a ha s) k) (rectS ci).toLoadRect)
    (View.readAt (Elt Ideal) a.view (rectS ci).toLoadRect (ha.unread s))

theorem ldB_eq (P : Point Ideal) (k : ℕ) : ldB a ha s k (P.stL [] (ldB a ha s) k) = rdB a ha s P k (chain k) := by
  unfold rdB
  have : (chain k).val = k % 4 := rfl
  rw [show Nat.ble ((chain k).val + 1) k = Nat.ble 4 k from Bool.eq_iff_iff.mpr (by simp only [Nat.ble_eq]; omega)]
  rfl

theorem holdsB (hf : ∀ d hh n, Fits (P.data d hh n) ⟨Sq d hh, T0 + 256 * n.val, d⟩)
    (hs : ∀ ci x y, s (ix3 ci x y) = (((Sq (dirC ci) (hdC ci)).St T0 x y : ℝ) : EReal)) : ∀ k ≤ 64, Holds Sq T0 k (rdB a ha s P k) := by
  refine holds hf (rdB a ha s P) (fun ci x y => ?_) (fun k => ?_) (fun k ci h => ?_)
  · rw [show T0 + 64 * ((0 + 3 - ci.val) / 4) = T0 by omega, ← hs]
    exact ld_apply (t := S1x128x128) ha s _ _ (inb_st ci) (ix3 0 x y) rfl (ix3 ci x y) fun a => by fin_cases a <;> simp [ix3]
  · rw [← ldB_eq]
    have : (chain k).val = k % 4 := rfl
    unfold rdB
    rw [show Nat.ble ((chain k).val + 1) (k + 1) = true from Nat.ble_eq_true_of_le (by omega)]
    exact View.readCov_cons_toLoadRect _ _ _ _
  · have : ci.val ≠ k % 4 := fun e => h (Fin.ext e)
    unfold rdB
    rw [show Nat.ble (ci.val + 1) (k + 1) = Nat.ble (ci.val + 1) k from Bool.eq_iff_iff.mpr (by simp only [Nat.ble_eq]; omega)]
    exact congrArg (cond _ · _) (View.readCov_cons_of_disjoint _ _ _ _ (disj _ _ h.symm))

theorem stateB (hf : ∀ d hh n, Fits (P.data d hh n) ⟨Sq d hh, T0 + 256 * n.val, d⟩)
    (hs : ∀ ci x y, s (ix3 ci x y) = (((Sq (dirC ci) (hdC ci)).St T0 x y : ℝ) : EReal)) (ci : Fin 4) (x y : Fin 128) :
    View.canon (P.stL [] (ldB a ha s) 64) (ix3 ci x y : S4x128x128.Idx) = (((Sq (dirC ci) (hdC ci)).St (T0 + 1024) x y : ℝ) : EReal) := by
  have h := holdsB a ha s hf hs 64 le_rfl ci x y
  unfold rdB at h
  rw [show Nat.ble (ci.val + 1) 64 = true from Nat.ble_eq_true_of_le (by omega), cond_true, View.readCov_eq_canon'] at h
  rw [show T0 + 64 * ((64 + 3 - ci.val) / 4) = T0 + 1024 by omega] at h
  rw [← h, ← idx_eq]

/-- The outputs of a point that clears the state first, and of one that goes on. -/
theorem outA (hf : ∀ d hh n, Fits (P.data d hh n) ⟨Sq d hh, 0 + 256 * n.val, d⟩) (d : Bool) (Y : Fin 1024) (Z : Fin 256)
    (hc : ∃ p ∈ P.outL d baseA (ldA a) 32, (ix3 0 Y Z : S1x1024x256.Idx) ∈ p.1.set) :
    View.canon (P.outL d baseA (ldA a) 32) (ix3 0 Y Z : S1x1024x256.Idx) = ((outAt Sq 0 d Y Z : ℝ) : EReal) :=
  View.canon_eq_of_allAt _ _ _ hc (outs hf (rdA a P) (holdsA a hf) _ _ (fun _ => rfl) d Y Z 32 le_rfl)

theorem outB (hf : ∀ d hh n, Fits (P.data d hh n) ⟨Sq d hh, T0 + 256 * n.val, d⟩)
    (hs : ∀ ci x y, s (ix3 ci x y) = (((Sq (dirC ci) (hdC ci)).St T0 x y : ℝ) : EReal)) (d : Bool) (Y : Fin 1024) (Z : Fin 256)
    (hc : ∃ p ∈ P.outL d [] (ldB a ha s) 32, (ix3 0 Y Z : S1x1024x256.Idx) ∈ p.1.set) :
    View.canon (P.outL d [] (ldB a ha s) 32) (ix3 0 Y Z : S1x1024x256.Idx) = ((outAt Sq T0 d Y Z : ℝ) : EReal) :=
  View.canon_eq_of_allAt _ _ _ hc (outs hf (rdB a ha s P) (holdsB a ha s hf hs) _ _ (ldB_eq a ha s P) d Y Z 32 le_rfl)

end Point
end Cert.Proof.Chain

end

end
-- ==== Proof.Args.lean ====
/- Real arguments, the recurrences they give, and the data a grid point reads of them. -/
module

public import proofs.«01_k».proof.Proof.Pieces

@[expose] public section

set_option maxRecDepth 16384

noncomputable section

namespace Cert.Proof.Chain

open Idealize.ShloMosaic Idealize.ShloMosaic.TcCoe Cert.KernelIdeal Cert.KernelIdeal.Gen
open Cert.Proof.Delta

/-- Real arguments: the queries, keys and values in one array, the columns of decays and step sizes, and the two
    parameters of every head. -/
structure Inputs where
  X : Fin 3 → Fin 8192 → Fin 6144 → ℝ
  C : Fin 3 → Fin 8192 → Fin 128 → ℝ
  A : Fin 2 → Fin 16 → ℝ
  T : Fin 2 → Fin 16 → ℝ

namespace Inputs

/-- The number of a direction. -/
def dn (d : Bool) : Fin 2 := cond d 1 0

/-- The row of the arguments that is step `n` of a direction. -/
def row (d : Bool) (n : ℕ) : Fin 8192 := ⟨(cond d (8191 - n) n) % 8192, Nat.mod_lt _ (by decide)⟩

variable (I : Inputs)

/-- The recurrence of one direction, batch and head. -/
def seq (d : Bool) (b : Fin 3) (h : Fin 16) : Seq where
  q n x := I.X b (row d n) ⟨128 * h.val + x.val, by omega⟩
  k n x := I.X b (row d n) ⟨2048 + (128 * h.val + x.val), by omega⟩
  v n x := I.X b (row d n) ⟨4096 + (128 * h.val + x.val), by omega⟩
  g n := decayLog (I.A (dn d) h) (I.T (dn d) h) (I.C b (row d n) ⟨16 * (dn d).val + h.val, by omega⟩)
  b n := stepSize (I.C b (row d n) ⟨32 + 16 * (dn d).val + h.val, by omega⟩)

/-- The two results: one direction's outputs, every head's beside the other. -/
def res (d : Bool) : Vec Ideal S3x8192x2048 .f32 := fun i =>
  (((I.seq d (i 0) ⟨(i 2).val / 128, by have : (i 2).val < 2048 := (i 2).isLt; omega⟩).out (cond d (8191 - (i 1).val) (i 1).val)
    ⟨(i 2).val % 128, Nat.mod_lt _ (by decide)⟩ : ℝ) : EReal)

/-- The chains of a grid point. -/
def chains (b : Fin 3) (hg : Fin 8) (d : Bool) (hh : Fin 2) : Seq := I.seq d b ⟨2 * hg.val + hh.val, by omega⟩

/-- A grid point whose blocks are those of the arguments reads the recurrence's data. -/
theorem fits (P : Point Ideal) (b : Fin 3) (hg i : Fin 8) (hP : P.hg = BitVec.ofNat 32 hg.val)
    (hq : ∀ d Y Z, (P.side d).q (ix3 0 Y Z) = (I.X b ⟨1024 * (cond d (7 - i.val) i.val) + Y.val, by cases d <;> simp <;> omega⟩ ⟨256 * hg.val + Z.val, by omega⟩ : EReal))
    (hk : ∀ d Y Z, (P.side d).k (ix3 0 Y Z) = (I.X b ⟨1024 * (cond d (7 - i.val) i.val) + Y.val, by cases d <;> simp <;> omega⟩ ⟨256 * (8 + hg.val) + Z.val, by omega⟩ : EReal))
    (hv : ∀ d Y Z, (P.side d).v (ix3 0 Y Z) = (I.X b ⟨1024 * (cond d (7 - i.val) i.val) + Y.val, by cases d <;> simp <;> omega⟩ ⟨256 * (16 + hg.val) + Z.val, by omega⟩ : EReal))
    (hc : ∀ d Y Z, (P.side d).c (ix3 0 Y Z) = (I.C b ⟨1024 * (cond d (7 - i.val) i.val) + Y.val, by cases d <;> simp <;> omega⟩ Z : EReal))
    (ha : ∀ d hh, P.al (ix4 d hh 0 0) = (I.A d ⟨2 * hg.val + hh.val, by omega⟩ : EReal))
    (ht : ∀ d hh, P.dt (ix4 d hh 0 0) = (I.T d ⟨2 * hg.val + hh.val, by omega⟩ : EReal)) (d : Bool) (hh : Fin 2) (n : Fin 4) :
    Fits (P.data d hh n) ⟨I.chains b hg d hh, 1024 * i.val + 256 * n.val, d⟩ := by
  have hr : ∀ (r : Fin 256) (hr), (⟨1024 * (cond d (7 - i.val) i.val) + (Point.grow d n r).val, hr⟩ : Fin 8192)
      = row d (1024 * i.val + 256 * n.val + (tm d r).val) := fun r hr => Fin.ext (by
    cases d
    · simp only [Point.grow, srow, row, tm, cond_false, Bool.false_eq_true, if_false]; omega
    · simp only [Point.grow, srow, row, tm, cond_true, if_true, Fin.val_rev]; omega)
  have hC : ∀ r l, (P.data d hh n).cols (ix3 0 r l) = ((I.C b (row d (1024 * i.val + 256 * n.val + (tm d r).val)) l : ℝ) : EReal) := fun r l => by
    rw [Point.data_cols, hc, hr]
  refine ⟨rfl, fun r x => ?_, fun r x => ?_, fun r x => ?_, fun r x => ?_, fun r x => ?_⟩
  · rw [Point.data_q, hq, hr]
    refine congrArg (fun z => ((I.X b _ z : ℝ) : EReal)) (Fin.ext ?_)
    show 256 * hg.val + (128 * hh.val + x.val) = 128 * (2 * hg.val + hh.val) + x.val
    omega
  · rw [Point.data_k, hk, hr]
    refine congrArg (fun z => ((I.X b _ z : ℝ) : EReal)) (Fin.ext ?_)
    show 256 * (8 + hg.val) + (128 * hh.val + x.val) = 2048 + (128 * (2 * hg.val + hh.val) + x.val)
    omega
  · rw [Point.data_v, hv, hr]
    refine congrArg (fun z => ((I.X b _ z : ℝ) : EReal)) (Fin.ext ?_)
    show 256 * (16 + hg.val) + (128 * hh.val + x.val) = 4096 + (128 * (2 * hg.val + hh.val) + x.val)
    omega
  · rw [Data.gcol_eq hC ((Point.data_al P d hh n).trans (ha _ _)) ((Point.data_dt P d hh n).trans (ht _ _))
      ⟨16 * (dn d).val + (2 * hg.val + hh.val), by omega⟩ (by rw [Point.data_la P d hh n hg hP]; cases d <;> rfl)]
    rfl
  · rw [Data.beta_eq hC ⟨32 + 16 * (dn d).val + (2 * hg.val + hh.val), by omega⟩ (by rw [Point.data_lb P d hh n hg hP]; cases d <;> rfl)]
    rfl

end Inputs

end Cert.Proof.Chain

end

end
-- ==== Proof.Words.lean ====
/- What the body leaves in its outputs and in the state, in both cases: the pieces of the functions of Chunk. -/
module

public import proofs.«01_k».proof.Proof.Chunk
public import proofs.«01_k».proof.Proof.Gen.KernelIdeal.Frame

@[expose] public section

set_option maxRecDepth 65536

noncomputable section

namespace Cert.Proof.Chain

open Idealize.ShloMosaic Idealize.ShloMosaic.TcCoe Idealize.ShloMosaic.Tactic Cert.KernelIdeal Cert.KernelIdeal.Gen

variable {F : FTy → Type} [FloatOps F]

/-- What a grid point reads, from the buffers its body is called with. -/
def point (i : grid0.Coords) (arg3 arg4 arg5 arg6 arg7 arg8 : Memref sig .tc .vmem S1x1024x256 .bf16)
    (harg3 : arg3.IsWhole) (harg4 : arg4.IsWhole) (harg5 : arg5.IsWhole) (harg6 : arg6.IsWhole) (harg7 : arg7.IsWhole)
    (harg8 : arg8.IsWhole) (arg9 arg10 : Memref sig .tc .vmem S1x1024x128 .f32) (harg9 : arg9.IsWhole) (harg10 : arg10.IsWhole)
    (arg11 arg12 : Memref sig .tc .vmem S2x2x1x1 .f32) (harg11 : arg11.IsWhole) (harg12 : arg12.IsWhole)
    (x0 x1 x2 x3 x4 x5 : Vec F S1x1024x256 .bf16) (x6 x7 : Vec F S1x1024x128 .f32) (x8 x9 : Vec F S2x2x1x1 .f32) : Point F where
  side d := cond d ⟨arg6, harg6, x3, arg7, harg7, x4, arg8, harg8, x5, arg10, harg10, x7⟩
    ⟨arg3, harg3, x0, arg4, harg4, x1, arg5, harg5, x2, arg9, harg9, x6⟩
  aal := arg11
  hal := harg11
  al := x8
  adt := arg12
  hdt := harg12
  dt := x9
  hg := BitVec.ofNat 32 (i 1)

variable (c : Dev nD) (i : grid0.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x1024x256 .bf16) (harg7 : arg7.IsWhole) (arg8 : Memref sig .tc .vmem S1x1024x256 .bf16) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S2x2x1x1 .f32) (harg11 : arg11.IsWhole) (arg12 : Memref sig .tc .vmem S2x2x1x1 .f32) (harg12 : arg12.IsWhole) (arg13 : Memref sig .tc .vmem S1x1024x256 .f32) (harg13 : arg13.IsWhole) (arg14 : Memref sig .tc .vmem S1x1024x256 .f32) (harg14 : arg14.IsWhole) (arg15 : Memref sig .tc .vmem S4x128x128 .f32) (harg15 : arg15.IsWhole)
  (x0 x1 x2 x3 x4 x5 : Vec F S1x1024x256 .bf16) (x6 x7 : Vec F S1x1024x128 .f32) (x8 x9 : Vec F S2x2x1x1 .f32) (xs0 : Vec F S4x128x128 .f32)

local notation "𝐏" => point i arg3 arg4 arg5 arg6 arg7 arg8 harg3 harg4 harg5 harg6 harg7 harg8 arg9 arg10 harg9 harg10 arg11 arg12 harg11 harg12 x0 x1 x2 x3 x4 x5 x6 x7 x8 x9
local notation "𝐑𝐀" => kernelRun0_A c i arg3 harg3 arg4 harg4 arg5 harg5 arg6 harg6 arg7 harg7 arg8 harg8 arg9 harg9 arg10 harg10 arg11 harg11 arg12 harg12 arg13 harg13 arg14 harg14 arg15 harg15
local notation "𝐑𝐁" => kernelRun0_B c i arg3 harg3 arg4 harg4 arg5 harg5 arg6 harg6 arg7 harg7 arg8 harg8 arg9 harg9 arg10 harg10 arg11 harg11 arg12 harg12 arg13 harg13 arg14 harg14 arg15 harg15

/-! ## A point that clears the state first -/

section
variable (hc0 : cond0_0 i)
set_option maxHeartbeats 0

theorem runA_state : (𝐑𝐀 hc0 x0 x1 x2 x3 x4 x5 x6 x7 x8 x9).2.2.1 = (𝐏).stL Point.baseA (Point.ldA arg15) 64 := by sl_kernel_rfl

theorem runA_fwd : (𝐑𝐀 hc0 x0 x1 x2 x3 x4 x5 x6 x7 x8 x9).1 = (𝐏).outL false Point.baseA (Point.ldA arg15) 32 := by sl_kernel_rfl

theorem runA_bwd : (𝐑𝐀 hc0 x0 x1 x2 x3 x4 x5 x6 x7 x8 x9).2.1 = (𝐏).outL true Point.baseA (Point.ldA arg15) 32 := by sl_kernel_rfl

end

/-! ## A point that goes on -/

section
variable (hc0 : ¬ cond0_0 i)
set_option maxHeartbeats 0

theorem runB_state : (𝐑𝐁 hc0 x0 x1 x2 x3 x4 x5 x6 x7 x8 x9 xs0).2.2.1 = (𝐏).stL [] (Point.ldB arg15 harg15 xs0) 64 := by sl_kernel_rfl

theorem runB_fwd : (𝐑𝐁 hc0 x0 x1 x2 x3 x4 x5 x6 x7 x8 x9 xs0).1 = (𝐏).outL false [] (Point.ldB arg15 harg15 xs0) 32 := by sl_kernel_rfl

theorem runB_bwd : (𝐑𝐁 hc0 x0 x1 x2 x3 x4 x5 x6 x7 x8 x9 xs0).2.1 = (𝐏).outL true [] (Point.ldB arg15 harg15 xs0) 32 := by sl_kernel_rfl

end

end Cert.Proof.Chain

end

end
-- ==== Proof.Blocks.lean ====
/- The blocks of a grid point, read of the arguments. -/
module

public import proofs.«01_k».proof.Proof.Args
public import proofs.«01_k».proof.Proof.Words
public import proofs.«01_k».proof.Proof.Gen.KernelIdeal.Value
public import Idealize.ShloMosaic.Lib.Pipeline.ValueKit

@[expose] public section

set_option maxRecDepth 16384

noncomputable section

namespace Cert.Proof.Chain

open Idealize.ShloMosaic Idealize.ShloMosaic.TcCoe Cert.KernelIdeal Cert.KernelIdeal.Gen
open Cert.Proof.Delta

/-! ## The blocks of a grid point -/

section
variable {F : FTy → Type} [FloatOps F] (m : (ℓ : Loc nD τ sig) → Buf (Elt F) ℓ) (c : Dev nD)

def pb (t : Fin cfg0.N) : Fin 3 := ⟨t.val / 64, by have := t.isLt.trans_eq N_0; omega⟩
def pg (t : Fin cfg0.N) : Fin 8 := ⟨t.val / 8 % 8, by omega⟩
def pi (t : Fin cfg0.N) : Fin 8 := ⟨t.val % 8, by omega⟩

/-- What a grid point reads. -/
def pt (t : Fin cfg0.N) : Point F :=
  point (grid0.coords t) (ms0_0 t) (ms0_1 t) (ms0_2 t) (ms0_3 t) (ms0_4 t) (ms0_5 t) (hs0_0 t) (hs0_1 t) (hs0_2 t) (hs0_3 t) (hs0_4 t) (hs0_5 t)
    (ms0_6 t) (ms0_7 t) (hs0_6 t) (hs0_7 t) (ms0_8 t) (ms0_9 t) (hs0_8 t) (hs0_9 t) (iblk m c 0 t) (iblk m c 1 t) (iblk m c 2 t) (iblk m c 3 t)
    (iblk m c 4 t) (iblk m c 5 t) (iblk m c 6 t) (iblk m c 7 t) (iblk m c 8 t) (iblk m c 9 t)

theorem idx0 : ∀ t : Fin cfg0.N, win0_0.index t = ![t.val / 64, t.val % 8, t.val / 8 % 8] :=
  (by decide +kernel : ∀ t : Fin grid0.N, win0_0.index t = ![t.val / 64, t.val % 8, t.val / 8 % 8])
theorem idx1 : ∀ t : Fin cfg0.N, win0_1.index t = ![t.val / 64, t.val % 8, 8 + t.val / 8 % 8] :=
  (by decide +kernel : ∀ t : Fin grid0.N, win0_1.index t = ![t.val / 64, t.val % 8, 8 + t.val / 8 % 8])
theorem idx2 : ∀ t : Fin cfg0.N, win0_2.index t = ![t.val / 64, t.val % 8, 16 + t.val / 8 % 8] :=
  (by decide +kernel : ∀ t : Fin grid0.N, win0_2.index t = ![t.val / 64, t.val % 8, 16 + t.val / 8 % 8])
theorem idx3 : ∀ t : Fin cfg0.N, win0_3.index t = ![t.val / 64, 7 - t.val % 8, t.val / 8 % 8] :=
  (by decide +kernel : ∀ t : Fin grid0.N, win0_3.index t = ![t.val / 64, 7 - t.val % 8, t.val / 8 % 8])
theorem idx4 : ∀ t : Fin cfg0.N, win0_4.index t = ![t.val / 64, 7 - t.val % 8, 8 + t.val / 8 % 8] :=
  (by decide +kernel : ∀ t : Fin grid0.N, win0_4.index t = ![t.val / 64, 7 - t.val % 8, 8 + t.val / 8 % 8])
theorem idx5 : ∀ t : Fin cfg0.N, win0_5.index t = ![t.val / 64, 7 - t.val % 8, 16 + t.val / 8 % 8] :=
  (by decide +kernel : ∀ t : Fin grid0.N, win0_5.index t = ![t.val / 64, 7 - t.val % 8, 16 + t.val / 8 % 8])
theorem idx6 : ∀ t : Fin cfg0.N, win0_6.index t = ![t.val / 64, t.val % 8, 0] :=
  (by decide +kernel : ∀ t : Fin grid0.N, win0_6.index t = ![t.val / 64, t.val % 8, 0])
theorem idx7 : ∀ t : Fin cfg0.N, win0_7.index t = ![t.val / 64, 7 - t.val % 8, 0] :=
  (by decide +kernel : ∀ t : Fin grid0.N, win0_7.index t = ![t.val / 64, 7 - t.val % 8, 0])
theorem idx8 : ∀ t : Fin cfg0.N, win0_8.index t = ![0, t.val / 8 % 8, 0, 0] :=
  (by decide +kernel : ∀ t : Fin grid0.N, win0_8.index t = ![0, t.val / 8 % 8, 0, 0])
theorem idx9 : ∀ t : Fin cfg0.N, win0_9.index t = ![0, t.val / 8 % 8, 0, 0] :=
  (by decide +kernel : ∀ t : Fin grid0.N, win0_9.index t = ![0, t.val / 8 % 8, 0, 0])
theorem idx10 : ∀ t : Fin cfg0.N, win0_10.index t = ![t.val / 64, t.val % 8, t.val / 8 % 8] :=
  (by decide +kernel : ∀ t : Fin grid0.N, win0_10.index t = ![t.val / 64, t.val % 8, t.val / 8 % 8])
theorem idx11 : ∀ t : Fin cfg0.N, win0_11.index t = ![t.val / 64, 7 - t.val % 8, t.val / 8 % 8] :=
  (by decide +kernel : ∀ t : Fin grid0.N, win0_11.index t = ![t.val / 64, 7 - t.val % 8, t.val / 8 % 8])
theorem coord1 : ∀ t : Fin cfg0.N, (grid0.coords t 1).val = t.val / 8 % 8 :=
  (by decide +kernel : ∀ t : Fin grid0.N, (grid0.coords t 1).val = t.val / 8 % 8)

variable (t : Fin cfg0.N)

theorem blk0 (Y : Fin 1024) (Z : Fin 256) : iblk m c 0 t (ix3 0 Y Z : S1x1024x256.Idx)
    = m ((c : Thread nD τ).loc main_arg0) (ix3 (pb t) ⟨1024 * (t.val % 8) + Y.val, by omega⟩ ⟨256 * (t.val / 8 % 8) + Z.val, by omega⟩ : S3x8192x6144.Idx) := by
  rw [← V_main_arg0 m c]
  blk_ext! [iblk, idx0 t]
  rfl

theorem blk1 (Y : Fin 1024) (Z : Fin 256) : iblk m c 1 t (ix3 0 Y Z : S1x1024x256.Idx)
    = m ((c : Thread nD τ).loc main_arg0) (ix3 (pb t) ⟨1024 * (t.val % 8) + Y.val, by omega⟩ ⟨256 * (8 + t.val / 8 % 8) + Z.val, by omega⟩ : S3x8192x6144.Idx) := by
  rw [← V_main_arg0 m c]
  blk_ext! [iblk, idx1 t]
  rfl

theorem blk2 (Y : Fin 1024) (Z : Fin 256) : iblk m c 2 t (ix3 0 Y Z : S1x1024x256.Idx)
    = m ((c : Thread nD τ).loc main_arg0) (ix3 (pb t) ⟨1024 * (t.val % 8) + Y.val, by omega⟩ ⟨256 * (16 + t.val / 8 % 8) + Z.val, by omega⟩ : S3x8192x6144.Idx) := by
  rw [← V_main_arg0 m c]
  blk_ext! [iblk, idx2 t]
  rfl

theorem blk3 (Y : Fin 1024) (Z : Fin 256) : iblk m c 3 t (ix3 0 Y Z : S1x1024x256.Idx)
    = m ((c : Thread nD τ).loc main_arg0) (ix3 (pb t) ⟨1024 * (7 - t.val % 8) + Y.val, by omega⟩ ⟨256 * (t.val / 8 % 8) + Z.val, by omega⟩ : S3x8192x6144.Idx) := by
  rw [← V_main_arg0 m c]
  blk_ext! [iblk, idx3 t]
  rfl

theorem blk4 (Y : Fin 1024) (Z : Fin 256) : iblk m c 4 t (ix3 0 Y Z : S1x1024x256.Idx)
    = m ((c : Thread nD τ).loc main_arg0) (ix3 (pb t) ⟨1024 * (7 - t.val % 8) + Y.val, by omega⟩ ⟨256 * (8 + t.val / 8 % 8) + Z.val, by omega⟩ : S3x8192x6144.Idx) := by
  rw [← V_main_arg0 m c]
  blk_ext! [iblk, idx4 t]
  rfl

theorem blk5 (Y : Fin 1024) (Z : Fin 256) : iblk m c 5 t (ix3 0 Y Z : S1x1024x256.Idx)
    = m ((c : Thread nD τ).loc main_arg0) (ix3 (pb t) ⟨1024 * (7 - t.val % 8) + Y.val, by omega⟩ ⟨256 * (16 + t.val / 8 % 8) + Z.val, by omega⟩ : S3x8192x6144.Idx) := by
  rw [← V_main_arg0 m c]
  blk_ext! [iblk, idx5 t]
  rfl

theorem blk6 (Y : Fin 1024) (Z : Fin 128) : iblk m c 6 t (ix3 0 Y Z : S1x1024x128.Idx)
    = m ((c : Thread nD τ).loc main_arg1) (ix3 (pb t) ⟨1024 * (t.val % 8) + Y.val, by omega⟩ Z : S3x8192x128.Idx) := by
  rw [← V_main_arg1 m c]
  blk_ext! [iblk, idx6 t]
  rfl

theorem blk7 (Y : Fin 1024) (Z : Fin 128) : iblk m c 7 t (ix3 0 Y Z : S1x1024x128.Idx)
    = m ((c : Thread nD τ).loc main_arg1) (ix3 (pb t) ⟨1024 * (7 - t.val % 8) + Y.val, by omega⟩ Z : S3x8192x128.Idx) := by
  rw [← V_main_arg1 m c]
  blk_ext! [iblk, idx7 t]
  rfl

theorem blk8 (d hh : Fin 2) : iblk m c 8 t (ix4 d hh 0 0 : S2x2x1x1.Idx)
    = m ((c : Thread nD τ).loc main_arg2) (ix2 d ⟨2 * (t.val / 8 % 8) + hh.val, by omega⟩ : S2x16.Idx) := by
  blk_simp [iblk, idx8 t]
  entry_read
  pointwise
  blk_ext [idx8 t]

theorem blk9 (d hh : Fin 2) : iblk m c 9 t (ix4 d hh 0 0 : S2x2x1x1.Idx)
    = m ((c : Thread nD τ).loc main_arg3) (ix2 d ⟨2 * (t.val / 8 % 8) + hh.val, by omega⟩ : S2x16.Idx) := by
  blk_simp [iblk, idx9 t]
  entry_read
  pointwise
  blk_ext [idx9 t]

end

end Cert.Proof.Chain

end

end
-- ==== Proof.Grid.lean ====
/- The kernel's two arrays after the run, on real arguments: the recurrence's outputs, forward and backward in time. -/
module

public import proofs.«01_k».proof.Proof.Blocks

@[expose] public section

set_option maxRecDepth 16384

noncomputable section

namespace Cert.Proof.Chain

open Idealize.ShloMosaic Idealize.ShloMosaic.TcCoe Cert.KernelIdeal Cert.KernelIdeal.Gen
open Cert.Proof.Delta

section
variable {F : FTy → Type} [FloatOps F] (m : (ℓ : Loc nD τ sig) → Buf (Elt F) ℓ) (c : Dev nD) (t : Fin cfg0.N)

/-! ## What a point leaves, as the pieces written -/

theorem stateA (h0 : t.val % 8 = 0) : (outsAt0 m c t.val t.isLt).2.2 = View.canon ((pt m c t).stL Point.baseA (Point.ldA scM0_0) 64) := by
  rw [outsAt0_A m c t h0]
  dsimp only
  unfold sout0_A_0
  rw [View.read_writes_junk_eq_canon, runA_state]
  rfl

theorem fwdA (h0 : t.val % 8 = 0) (y : S1x1024x256.Idx) : (outsAt0 m c t.val t.isLt).1 y = View.canon ((pt m c t).outL false Point.baseA (Point.ldA scM0_0) 32) y
    ∧ ∃ p ∈ (pt m c t).outL false Point.baseA (Point.ldA scM0_0) 32, y ∈ p.1.set := by
  have e := runA_fwd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0)
  have hy := cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) y
  rw [outsAt0_A m c t h0]
  dsimp only
  unfold out0_A_10
  rw [View.read_writes_junk_eq_canon, e]
  rw [e] at hy
  exact ⟨rfl, hy⟩

theorem bwdA (h0 : t.val % 8 = 0) (y : S1x1024x256.Idx) : (outsAt0 m c t.val t.isLt).2.1 y = View.canon ((pt m c t).outL true Point.baseA (Point.ldA scM0_0) 32) y
    ∧ ∃ p ∈ (pt m c t).outL true Point.baseA (Point.ldA scM0_0) 32, y ∈ p.1.set := by
  have e := runA_bwd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0)
  have hy := cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) y
  rw [outsAt0_A m c t h0]
  dsimp only
  unfold out0_A_11
  rw [View.read_writes_junk_eq_canon, e]
  rw [e] at hy
  exact ⟨rfl, hy⟩

/-- The state the point before left. -/
abbrev before : Vec F S4x128x128 .f32 := (outsAt0 m c (t.val - 1) (Nat.lt_of_le_of_lt (Nat.sub_le _ _) t.isLt)).2.2

theorem stateB (h0 : ¬t.val % 8 = 0) : (outsAt0 m c t.val t.isLt).2.2 = View.canon ((pt m c t).stL [] (Point.ldB scM0_0 (Memref.isWhole_whole _) (before m c t)) 64) := by
  rw [outsAt0_B m c t h0]
  dsimp only
  unfold sout0_B_0
  rw [View.read_writes_junk_eq_canon, runB_state]
  rfl

theorem fwdB (h0 : ¬t.val % 8 = 0) (y : S1x1024x256.Idx) : (outsAt0 m c t.val t.isLt).1 y = View.canon ((pt m c t).outL false [] (Point.ldB scM0_0 (Memref.isWhole_whole _) (before m c t)) 32) y
    ∧ ∃ p ∈ (pt m c t).outL false [] (Point.ldB scM0_0 (Memref.isWhole_whole _) (before m c t)) 32, y ∈ p.1.set := by
  have e := runB_fwd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (before m c t) (fun h => h0 ((hcond0_0 t).mp h))
  have hy := cover0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (before m c t) y
  rw [outsAt0_B m c t h0]
  dsimp only
  unfold out0_B_10
  rw [View.read_writes_junk_eq_canon, e]
  rw [e] at hy
  exact ⟨rfl, hy⟩

theorem bwdB (h0 : ¬t.val % 8 = 0) (y : S1x1024x256.Idx) : (outsAt0 m c t.val t.isLt).2.1 y = View.canon ((pt m c t).outL true [] (Point.ldB scM0_0 (Memref.isWhole_whole _) (before m c t)) 32) y
    ∧ ∃ p ∈ (pt m c t).outL true [] (Point.ldB scM0_0 (Memref.isWhole_whole _) (before m c t)) 32, y ∈ p.1.set := by
  have e := runB_bwd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (before m c t) (fun h => h0 ((hcond0_0 t).mp h))
  have hy := cover0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (before m c t) y
  rw [outsAt0_B m c t h0]
  dsimp only
  unfold out0_B_11
  rw [View.read_writes_junk_eq_canon, e]
  rw [e] at hy
  exact ⟨rfl, hy⟩

end

/-! ## On real arguments -/

section
variable (m : (ℓ : Loc nD τ sig) → Buf (Elt Ideal) ℓ) (c : Dev nD) (I : Inputs)

/-- The arguments are the real ones. -/
structure Real (X0 : Vec Ideal S3x8192x6144 .bf16) (X1 : Vec Ideal S3x8192x128 .f32) (X2 X3 : Vec Ideal S2x16 .f32) : Prop where
  X : ∀ b r x, X0 (ix3 b r x) = (I.X b r x : EReal)
  C : ∀ b r x, X1 (ix3 b r x) = (I.C b r x : EReal)
  A : ∀ d h, X2 (ix2 d h) = (I.A d h : EReal)
  T : ∀ d h, X3 (ix2 d h) = (I.T d h : EReal)

variable (hI : Real I (m ((c : Thread nD τ).loc main_arg0)) (m ((c : Thread nD τ).loc main_arg1)) (m ((c : Thread nD τ).loc main_arg2))
  (m ((c : Thread nD τ).loc main_arg3)))

include hI

theorem pt_fits (t : Fin cfg0.N) (d : Bool) (hh : Fin 2) (n : Fin 4) :
    Fits ((pt m c t).data d hh n) ⟨I.chains (pb t) (pg t) d hh, 1024 * (pi t).val + 256 * n.val, d⟩ := by
  refine I.fits (pt m c t) (pb t) (pg t) (pi t) (congrArg (BitVec.ofNat 32) (coord1 t)) ?_ ?_ ?_ ?_ ?_ ?_ d hh n
  · intro d Y Z; cases d
    · exact (blk0 m c t Y Z).trans (hI.X _ _ _)
    · exact (blk3 m c t Y Z).trans (hI.X _ _ _)
  · intro d Y Z; cases d
    · exact (blk1 m c t Y Z).trans (hI.X _ _ _)
    · exact (blk4 m c t Y Z).trans (hI.X _ _ _)
  · intro d Y Z; cases d
    · exact (blk2 m c t Y Z).trans (hI.X _ _ _)
    · exact (blk5 m c t Y Z).trans (hI.X _ _ _)
  · intro d Y Z; cases d
    · exact (blk6 m c t Y Z).trans (hI.C _ _ _)
    · exact (blk7 m c t Y Z).trans (hI.C _ _ _)
  · exact fun d hh => (blk8 m c t d hh).trans (hI.A _ _)
  · exact fun d hh => (blk9 m c t d hh).trans (hI.T _ _)

/-- The state after a point. -/
theorem after_point : ∀ (n : ℕ) (hn : n < cfg0.N) (ci : Fin 4) (x y : Fin 128), (outsAt0 m c n hn).2.2 (ix3 ci x y)
    = (((I.chains (pb ⟨n, hn⟩) (pg ⟨n, hn⟩) (dirC ci) (hdC ci)).St (1024 * (n % 8) + 1024) x y : ℝ) : EReal) := by
  intro n
  induction n with
  | zero =>
    intro hn ci x y
    have h := stateA m c ⟨0, hn⟩ (Nat.zero_mod 8)
    refine (congrFun h _).trans ?_
    exact Point.stateA scM0_0 (pt_fits m c I hI ⟨0, hn⟩) ci x y
  | succ n ih =>
    intro hn ci x y
    by_cases h0 : (n + 1) % 8 = 0
    · refine (congrFun (stateA m c ⟨n + 1, hn⟩ h0) _).trans ?_
      have hf := pt_fits m c I hI ⟨n + 1, hn⟩
      rw [show (pi ⟨n + 1, hn⟩).val = 0 from h0] at hf
      rw [Point.stateA scM0_0 hf ci x y, h0]
    · refine (congrFun (stateB m c ⟨n + 1, hn⟩ h0) _).trans ?_
      refine Point.stateB scM0_0 (Memref.isWhole_whole _) _ (pt_fits m c I hI ⟨n + 1, hn⟩) (fun ci x y => ?_) ci x y
      have e1 : pb ⟨n + 1, hn⟩ = pb ⟨n, by omega⟩ := Fin.ext (show (n + 1) / 64 = n / 64 by omega)
      have e2 : pg ⟨n + 1, hn⟩ = pg ⟨n, by omega⟩ := Fin.ext (show (n + 1) / 8 % 8 = n / 8 % 8 by omega)
      have e3 : 1024 * (pi ⟨n + 1, hn⟩).val = 1024 * (n % 8) + 1024 := show 1024 * ((n + 1) % 8) = _ by omega
      rw [e1, e2, e3]
      exact ih (by omega) ci x y

/-- The outputs of a point. -/
theorem out_point (t : Fin cfg0.N) (Y : Fin 1024) (Z : Fin 256) :
    (outsAt0 m c t.val t.isLt).1 (ix3 0 Y Z) = ((Point.outAt (I.chains (pb t) (pg t)) (1024 * (pi t).val) false Y Z : ℝ) : EReal)
    ∧ (outsAt0 m c t.val t.isLt).2.1 (ix3 0 Y Z) = ((Point.outAt (I.chains (pb t) (pg t)) (1024 * (pi t).val) true Y Z : ℝ) : EReal) := by
  have hf := pt_fits m c I hI t
  by_cases h0 : t.val % 8 = 0
  · rw [show 1024 * (pi t).val = 0 by rw [show (pi t).val = 0 from h0]]
    rw [show (pi t).val = 0 from h0] at hf
    have h1 := fwdA m c t h0 (ix3 0 Y Z)
    have h2 := bwdA m c t h0 (ix3 0 Y Z)
    exact ⟨h1.1.trans (Point.outA scM0_0 hf false Y Z h1.2), h2.1.trans (Point.outA scM0_0 hf true Y Z h2.2)⟩
  · have hs : ∀ ci x y, before m c t (ix3 ci x y)
        = (((I.chains (pb t) (pg t) (dirC ci) (hdC ci)).St (1024 * (pi t).val) x y : ℝ) : EReal) := fun ci x y => by
      have h := after_point m c I hI (t.val - 1) (Nat.lt_of_le_of_lt (Nat.sub_le _ _) t.isLt) ci x y
      have hl : t.val - 1 < cfg0.N := Nat.lt_of_le_of_lt (Nat.sub_le _ _) t.isLt
      have e1 : pb ⟨t.val - 1, hl⟩ = pb t := Fin.ext (show (t.val - 1) / 64 = t.val / 64 by omega)
      have e2 : pg ⟨t.val - 1, hl⟩ = pg t := Fin.ext (show (t.val - 1) / 8 % 8 = t.val / 8 % 8 by omega)
      have e3 : 1024 * ((t.val - 1) % 8) + 1024 = 1024 * (pi t).val := show _ = 1024 * (t.val % 8) by omega
      rw [e1, e2, e3] at h
      exact h
    have h1 := fwdB m c t h0 (ix3 0 Y Z)
    have h2 := bwdB m c t h0 (ix3 0 Y Z)
    exact ⟨h1.1.trans (Point.outB scM0_0 _ _ hf hs false Y Z h1.2), h2.1.trans (Point.outB scM0_0 _ _ hf hs true Y Z h2.2)⟩

omit hI in
theorem res_point (b : Fin 3) (hg i : Fin 8) (d : Bool) (Y : Fin 1024) (Z : Fin 256) :
    ((Point.outAt (I.chains b hg) (1024 * i.val) d Y Z : ℝ) : EReal)
      = I.res d (ix3 b ⟨1024 * (cond d (7 - i.val) i.val) + Y.val, by cases d <;> simp <;> omega⟩ ⟨256 * hg.val + Z.val, by omega⟩ : S3x8192x2048.Idx) := by
  unfold Point.outAt Inputs.res Inputs.chains
  simp only [ix3_0, ix3_1, ix3_2]
  congr 2
  · congr 1
    exact Fin.ext (show 2 * hg.val + Z.val / 128 = (256 * hg.val + Z.val) / 128 by omega)
  · cases d
    · show 1024 * i.val + Y.val = 1024 * i.val + Y.val
      rfl
    · show 1024 * i.val + (1023 - Y.val) = 8191 - (1024 * (7 - i.val) + Y.val)
      omega
  · exact Fin.ext (show Z.val % 128 = (256 * hg.val + Z.val) % 128 by omega)

theorem final_fwd : (dats m 0 c).arrAt 10 cfg0.N = I.res false := by
  refine (dats m 0 c).arrAt_eq_of_covers 10 _ (by decide +kernel) fun t hf y => ?_
  obtain ⟨y0, Y, Z, rfl⟩ : ∃ (a : Fin 1) (b : Fin 1024) (c : Fin 256), y = (ix3 a b c : S1x1024x256.Idx) := ⟨y 0, y 1, y 2, by
    funext a; fin_cases a <;> rfl⟩
  obtain rfl : y0 = 0 := Subsingleton.elim _ _
  blk_simp
  rw [after0_10]
  refine ((out_point m c I hI t Y Z).1).trans ((res_point I _ _ _ _ _ _).trans (congrArg (I.res false) ?_))
  blk_ext [idx10 t]
  · rfl
  · show 1024 * (t.val % 8) + Y.val = t.val % 8 * 1024 + Y.val
    omega
  · show 256 * (t.val / 8 % 8) + Z.val = t.val / 8 % 8 * 256 + Z.val
    omega

theorem final_bwd : (dats m 0 c).arrAt 11 cfg0.N = I.res true := by
  refine (dats m 0 c).arrAt_eq_of_covers 11 _ (by decide +kernel) fun t hf y => ?_
  obtain ⟨y0, Y, Z, rfl⟩ : ∃ (a : Fin 1) (b : Fin 1024) (c : Fin 256), y = (ix3 a b c : S1x1024x256.Idx) := ⟨y 0, y 1, y 2, by
    funext a; fin_cases a <;> rfl⟩
  obtain rfl : y0 = 0 := Subsingleton.elim _ _
  blk_simp
  rw [after0_11]
  refine ((out_point m c I hI t Y Z).2).trans ((res_point I _ _ _ _ _ _).trans (congrArg (I.res true) ?_))
  blk_ext [idx11 t]
  · rfl
  · show 1024 * ((7 - t.val % 8)) + Y.val = (7 - t.val % 8) * 1024 + Y.val
    omega
  · show 256 * (t.val / 8 % 8) + Z.val = t.val / 8 % 8 * 256 + Z.val
    omega

end

end Cert.Proof.Chain

end

end
-- ==== Proof.RefEntry.lean ====
/- The reference's arrays when its loop is entered, at an index, on real arguments. -/
module

public import proofs.«01_k».proof.Proof.Grid
public import proofs.«01_k».proof.Proof.Gen.ReferenceIdeal.Run
public import Idealize.ShloMosaic.Lib.Pointwise

@[expose] public section

set_option maxRecDepth 16384

noncomputable section

namespace Cert.Proof.Ref

open Idealize.ShloMosaic Idealize.ShloMosaic.TcCoe Idealize.ShloMosaic.StableHlo Cert.ReferenceIdeal Cert.ReferenceIdeal.Gen Cert.ReferenceIdeal.Value
open Cert.Proof.Delta Cert.Proof.Chain

variable (V : Valuation τ sig (Elt Ideal))

/-! ### The reversals and the two directions' arrays put side by side -/

theorem flip_v31 : after hostOps0_3 V (Proc.devRef .tc main_v31) = Host.reverse [2] (V (Proc.devRef .tc main_v5) : Vec Ideal S3x16x8192x128 .f32) := by
  after_reads_simp
  rfl

theorem flip_v35 : after hostOps0_5 V (Proc.devRef .tc main_v35) = Host.reverse [2] (V (Proc.devRef .tc main_v7) : Vec Ideal S3x16x8192x128 .f32) := by
  after_reads_simp
  rfl

theorem flip_v39 : after hostOps0_7 V (Proc.devRef .tc main_v39) = Host.reverse [2] (V (Proc.devRef .tc main_v9) : Vec Ideal S3x16x8192x128 .f32) := by
  after_reads_simp
  rfl

theorem flip_v47 : after hostOps0_9 V (Proc.devRef .tc main_v47) = Host.reverse [2] (V (Proc.devRef .tc main_v46) : Vec Ideal S3x16x8192 .f32) := by
  after_reads_simp
  rfl

theorem flip_v55 : after hostOps0_11 V (Proc.devRef .tc main_v55) = Host.reverse [2] (V (Proc.devRef .tc main_v54) : Vec Ideal S3x16x8192 .f32) := by
  after_reads_simp
  rfl

theorem both_v34 : after hostOps0_4 V (Proc.devRef .tc main_v34) =
    concatenate S2x3x16x8192x128 0 [⟨S1x3x16x8192x128, broadcastInDim S1x3x16x8192x128 ![1, 2, 3, 4] bcast_S3x16x8192x128_S1x3x16x8192x128_1_2_3_4 (V (Proc.devRef .tc main_v5))⟩,
      ⟨S1x3x16x8192x128, broadcastInDim S1x3x16x8192x128 ![1, 2, 3, 4] bcast_S3x16x8192x128_S1x3x16x8192x128_1_2_3_4 (V (Proc.devRef .tc main_v31))⟩] concatenates_S1x3x16x8192x128_S1x3x16x8192x128_S2x3x16x8192x128_d0 := by
  after_reads_simp
  rfl

theorem both_v38 : after hostOps0_6 V (Proc.devRef .tc main_v38) =
    concatenate S2x3x16x8192x128 0 [⟨S1x3x16x8192x128, broadcastInDim S1x3x16x8192x128 ![1, 2, 3, 4] bcast_S3x16x8192x128_S1x3x16x8192x128_1_2_3_4 (V (Proc.devRef .tc main_v7))⟩,
      ⟨S1x3x16x8192x128, broadcastInDim S1x3x16x8192x128 ![1, 2, 3, 4] bcast_S3x16x8192x128_S1x3x16x8192x128_1_2_3_4 (V (Proc.devRef .tc main_v35))⟩] concatenates_S1x3x16x8192x128_S1x3x16x8192x128_S2x3x16x8192x128_d0 := by
  after_reads_simp
  rfl

theorem both_v42 : after hostOps0_8 V (Proc.devRef .tc main_v42) =
    concatenate S2x3x16x8192x128 0 [⟨S1x3x16x8192x128, broadcastInDim S1x3x16x8192x128 ![1, 2, 3, 4] bcast_S3x16x8192x128_S1x3x16x8192x128_1_2_3_4 (V (Proc.devRef .tc main_v9))⟩,
      ⟨S1x3x16x8192x128, broadcastInDim S1x3x16x8192x128 ![1, 2, 3, 4] bcast_S3x16x8192x128_S1x3x16x8192x128_1_2_3_4 (V (Proc.devRef .tc main_v39))⟩] concatenates_S1x3x16x8192x128_S1x3x16x8192x128_S2x3x16x8192x128_d0 := by
  after_reads_simp
  rfl

theorem both_v50 : after hostOps0_10 V (Proc.devRef .tc main_v50) =
    concatenate S2x3x16x8192 0 [⟨S1x3x16x8192, broadcastInDim S1x3x16x8192 ![1, 2, 3] bcast_S3x16x8192_S1x3x16x8192_1_2_3 (V (Proc.devRef .tc main_v44))⟩,
      ⟨S1x3x16x8192, broadcastInDim S1x3x16x8192 ![1, 2, 3] bcast_S3x16x8192_S1x3x16x8192_1_2_3 (V (Proc.devRef .tc main_v47))⟩] concatenates_S1x3x16x8192_S1x3x16x8192_S2x3x16x8192_d0 := by
  after_reads_simp
  rfl

theorem both_v58 : after hostOps0_12 V (Proc.devRef .tc main_v66_4) =
    transpose S8192x2x3x16 [3, 0, 1, 2] (concatenate S2x3x16x8192 0
      [⟨S1x3x16x8192, broadcastInDim S1x3x16x8192 ![1, 2, 3] bcast_S3x16x8192_S1x3x16x8192_1_2_3 (V (Proc.devRef .tc main_v52))⟩,
      ⟨S1x3x16x8192, broadcastInDim S1x3x16x8192 ![1, 2, 3] bcast_S3x16x8192_S1x3x16x8192_1_2_3 (V (Proc.devRef .tc main_v55))⟩]
      concatenates_S1x3x16x8192_S1x3x16x8192_S2x3x16x8192_d0) transposes_S2x3x16x8192_S8192x2x3x16_3_0_1_2 := by
  after_reads_simp
  rfl

/-! ### From there to the loop: only the step is moved in front -/

theorem late_q : after hostOps0_12 (after hostOps0_11 (after hostOps0_10 (after hostOps0_9 (after hostOps0_8 (after hostOps0_7 (after hostOps0_6 (after hostOps0_5 V))))))) (Proc.devRef .tc main_v66_0) =
    transpose S8192x2x3x16x128 [3, 0, 1, 2, 4] (V (Proc.devRef .tc main_v34)) transposes_S2x3x16x8192x128_S8192x2x3x16x128_3_0_1_2_4 := by
  after_reads_simp
  rfl

theorem late_k : after hostOps0_12 (after hostOps0_11 (after hostOps0_10 (after hostOps0_9 (after hostOps0_8 (after hostOps0_7 V))))) (Proc.devRef .tc main_v66_1) =
    transpose S8192x2x3x16x128 [3, 0, 1, 2, 4] (V (Proc.devRef .tc main_v38)) transposes_S2x3x16x8192x128_S8192x2x3x16x128_3_0_1_2_4 := by
  after_reads_simp
  rfl

theorem late_v : after hostOps0_12 (after hostOps0_11 (after hostOps0_10 (after hostOps0_9 V))) (Proc.devRef .tc main_v66_2) =
    transpose S8192x2x3x16x128 [3, 0, 1, 2, 4] (V (Proc.devRef .tc main_v42)) transposes_S2x3x16x8192x128_S8192x2x3x16x128_3_0_1_2_4 := by
  after_reads_simp
  rfl

theorem late_g : after hostOps0_12 (after hostOps0_11 V) (Proc.devRef .tc main_v66_3) =
    transpose S8192x2x3x16 [3, 0, 1, 2] (V (Proc.devRef .tc main_v50)) transposes_S2x3x16x8192_S8192x2x3x16_3_0_1_2 := by
  after_reads_simp
  rfl

/-! ### The arrays before, at an index -/

theorem reverse4 (X : Vec Ideal S3x16x8192x128 .f32) (b : Fin 3) (h : Fin 16) (n : Fin 8192) (x : Fin 128) :
    Host.reverse [2] X (ix4 b h n x) = X (ix4 b h n.rev x) := by
  unfold Host.reverse
  congr 1
  funext a; fin_cases a <;> rfl

theorem reverse3 (X : Vec Ideal S3x16x8192 .f32) (b : Fin 3) (h : Fin 16) (n : Fin 8192) :
    Host.reverse [2] X (ix3 b h n) = X (ix3 b h n.rev) := by
  unfold Host.reverse
  congr 1
  funext a; fin_cases a <;> rfl

variable (b : Fin 3) (h : Fin 16) (n : Fin 8192) (x : Fin 128) (d : Fin 2)

theorem at_q5 : (after hostOps0_2 (after hostOps0_1 (after hostOps0 V)) (Proc.devRef .tc main_v5) : Vec Ideal S3x16x8192x128 .f32) (ix4 b h n x) =
    (V (Proc.devRef .tc main_arg0) : Vec Ideal S3x8192x6144 .bf16) (ix3 b n ⟨h.1 * 128 + x.1, by omega⟩) := by
  after_reads_simp
  pointwise

theorem at_k7 : (after hostOps0_4 (after hostOps0_3 (after hostOps0_2 (after hostOps0_1 (after hostOps0 V)))) (Proc.devRef .tc main_v7) : Vec Ideal S3x16x8192x128 .f32) (ix4 b h n x) =
    (V (Proc.devRef .tc main_arg0) : Vec Ideal S3x8192x6144 .bf16) (ix3 b n ⟨2048 + (h.1 * 128 + x.1), by omega⟩) := by
  after_reads_simp
  pointwise

theorem at_v9 : (after hostOps0_6 (after hostOps0_5 (after hostOps0_4 (after hostOps0_3 (after hostOps0_2 (after hostOps0_1 (after hostOps0 V)))))) (Proc.devRef .tc main_v9) : Vec Ideal S3x16x8192x128 .f32) (ix4 b h n x) =
    (V (Proc.devRef .tc main_arg0) : Vec Ideal S3x8192x6144 .bf16) (ix3 b n ⟨4096 + (h.1 * 128 + x.1), by omega⟩) := by
  after_reads_simp
  pointwise

theorem at_v44 {y z : EReal} (h1 : (V (Proc.devRef .tc main_v15) : Vec Ideal S2x16 .f32) (ix2 0 h) = y) (h2 : (V (Proc.devRef .tc main_v19) : Vec Ideal S3x8192x2x16 .f32) (ix4 b n 0 h) = z) :
    (after hostOps0_8 (after hostOps0_7 (after hostOps0_6 (after hostOps0_5 (after hostOps0_4 (after hostOps0_3 (after hostOps0_2 V)))))) (Proc.devRef .tc main_v44) : Vec Ideal S3x16x8192 .f32) (ix3 b h n) = y * z := by
  after_reads_simp
  pointwise
  rw [h1, h2]

theorem at_v46 {y z : EReal} (h1 : (V (Proc.devRef .tc main_v15) : Vec Ideal S2x16 .f32) (ix2 1 h) = y) (h2 : (V (Proc.devRef .tc main_v19) : Vec Ideal S3x8192x2x16 .f32) (ix4 b n 1 h) = z) :
    (after hostOps0_8 (after hostOps0_7 (after hostOps0_6 (after hostOps0_5 (after hostOps0_4 (after hostOps0_3 (after hostOps0_2 V)))))) (Proc.devRef .tc main_v46) : Vec Ideal S3x16x8192 .f32) (ix3 b h n) = y * z := by
  after_reads_simp
  pointwise
  rw [h1, h2]

theorem at_v52 {z : EReal} (h1 : (V (Proc.devRef .tc main_v13) : Vec Ideal S3x8192x2x16 .f32) (ix4 b n 0 h) = z) :
    (after hostOps0_10 (after hostOps0_9 (after hostOps0_8 (after hostOps0_7 (after hostOps0_6 (after hostOps0_5 (after hostOps0_4 (after hostOps0_3 (after hostOps0_2 V)))))))) (Proc.devRef .tc main_v52) : Vec Ideal S3x16x8192 .f32) (ix3 b h n) = Ideal.div 1 (1 + Ideal.exp (-z)) := by
  after_reads_simp
  pointwise
  rw [h1]

theorem at_v54 {z : EReal} (h1 : (V (Proc.devRef .tc main_v13) : Vec Ideal S3x8192x2x16 .f32) (ix4 b n 1 h) = z) :
    (after hostOps0_10 (after hostOps0_9 (after hostOps0_8 (after hostOps0_7 (after hostOps0_6 (after hostOps0_5 (after hostOps0_4 (after hostOps0_3 (after hostOps0_2 V)))))))) (Proc.devRef .tc main_v54) : Vec Ideal S3x16x8192 .f32) (ix3 b h n) = Ideal.div 1 (1 + Ideal.exp (-z)) := by
  after_reads_simp
  pointwise
  rw [h1]

theorem at_v15 {z : EReal} (h1 : (V (Proc.devRef .tc main_arg2) : Vec Ideal S2x16 .f32) (ix2 d h) = z) :
    (after hostOps0 V (Proc.devRef .tc main_v15) : Vec Ideal S2x16 .f32) (ix2 d h) = -Ideal.exp z := by
  after_reads_simp
  pointwise
  rw [h1]

theorem at_v18 {y z : EReal} (h1 : (V (Proc.devRef .tc main_arg1) : Vec Ideal S3x8192x128 .f32) (ix3 b n ⟨d.1 * 16 + h.1, by omega⟩) = y) (h2 : (V (Proc.devRef .tc main_arg3) : Vec Ideal S2x16 .f32) (ix2 d h) = z) :
    (after hostOps0 V (Proc.devRef .tc main_v18) : Vec Ideal S3x8192x2x16 .f32) (ix4 b n d h) = y + z := by
  after_reads_simp
  pointwise
  rw [h1, h2]

theorem at_v13 {z : EReal} (h1 : (V (Proc.devRef .tc main_arg1) : Vec Ideal S3x8192x128 .f32) (ix3 b n ⟨32 + (d.1 * 16 + h.1), by omega⟩) = z) :
    (after hostOps0 V (Proc.devRef .tc main_v13) : Vec Ideal S3x8192x2x16 .f32) (ix4 b n d h) = z := by
  after_reads_simp
  pointwise
  rw [h1]

/-- The softplus the reference spells out: the maximum with zero plus `log1p` of the exponential of minus the distance. -/
theorem at_v19 {z : ℝ} (hz : (V (Proc.devRef .tc main_v18) : Vec Ideal S3x8192x2x16 .f32) (ix4 b n d h) = (z : EReal)) : (after hostOps0_1 V (Proc.devRef .tc main_v19) : Vec Ideal S3x8192x2x16 .f32) (ix4 b n d h) =
    (softplus z : EReal) := by
  have e : ∀ X : FVec Ideal S3x8192x2x16 .f32, X = V (Proc.devRef .tc main_v18) →
      ∀ Z : FVec Ideal S3x8192x2x16 .f32, Z = broadcastInDim S3x8192x2x16 ![] bcast_S_S3x8192x2x16 (constant (F := Ideal) S_ .f32 0x00000000#32) →
      after hostOps0_1 V (Proc.devRef .tc main_v19) = (select (cmpf .une (subf X Z) (subf X Z)) (addf X Z : FVec Ideal S3x8192x2x16 .f32)
         (addf (maximumf X Z) (Host.log1p (Host.exp (Host.negf (Host.absf (subf X Z))))) : FVec Ideal S3x8192x2x16 .f32) : Vec Ideal S3x8192x2x16 .f32) := by
    intro X hX Z hZ
    subst hX hZ
    after_reads_simp
    rfl
  rw [e _ rfl _ rfl]
  pointwise
  rw [hz, if_neg (fun w => w rfl), ← softplus_coe, sub_eq_add_neg, zero_add]

/-! ### What the loop starts from -/

theorem zero_sub_e (z : EReal) : 0 - z = -z := by rw [sub_eq_add_neg, zero_add]

variable (m : (ℓ : Loc nD τ sig) → Buf (Elt Ideal) ℓ) (c : Dev nD) (I : Inputs)

theorem row_fwd : Inputs.row false n.1 = n := by
  apply Fin.ext
  show n.1 % 8192 = n.1
  omega

theorem row_bwd : Inputs.row true n.1 = n.rev := by
  apply Fin.ext
  show (8191 - n.1) % 8192 = 8192 - (n.1 + 1)
  omega

variable (hI : Real I (launchContents m c (Proc.devRef .tc main_arg0)) (launchContents m c (Proc.devRef .tc main_arg1))
  (launchContents m c (Proc.devRef .tc main_arg2)) (launchContents m c (Proc.devRef .tc main_arg3)))

include hI

theorem q_entry : (entryContents preI m c (Proc.devRef .tc main_v66_0) : Vec Ideal S8192x2x3x16x128 .f32) (ix5 n d b h x) =
    ((I.seq (d = 1) b h).q n x : EReal) := by
  simp only [entryContents, afterL_cons, afterL_nil]
  rw [late_q, both_v34]
  pointwise
  have keep : ∀ V : Valuation τ sig (Elt Ideal), after hostOps0_3 V (Proc.devRef .tc main_v5) = V (Proc.devRef .tc main_v5) := fun V => by after_reads_simp
  have e : (⟨(h.1 * 128 + x.1), by omega⟩ : Fin 6144) = ⟨(128 * h.1 + x.1), by omega⟩ := Fin.ext (by simp only []; omega)
  rcases (by omega : d = 0 ∨ d = 1) with rfl | rfl
  · rw [dif_pos (by decide), keep, at_q5, hI.X, e]
    show _ = ((I.X b (Inputs.row false n) _ : ℝ) : EReal)
    rw [row_fwd]
  · rw [dif_neg (by decide), flip_v31, reverse4, at_q5, hI.X, e]
    show _ = ((I.X b (Inputs.row true n) _ : ℝ) : EReal)
    rw [row_bwd]

theorem k_entry : (entryContents preI m c (Proc.devRef .tc main_v66_1) : Vec Ideal S8192x2x3x16x128 .f32) (ix5 n d b h x) =
    ((I.seq (d = 1) b h).k n x : EReal) := by
  simp only [entryContents, afterL_cons, afterL_nil]
  rw [late_k, both_v38]
  pointwise
  have keep : ∀ V : Valuation τ sig (Elt Ideal), after hostOps0_5 V (Proc.devRef .tc main_v7) = V (Proc.devRef .tc main_v7) := fun V => by after_reads_simp
  have e : (⟨2048 + (h.1 * 128 + x.1), by omega⟩ : Fin 6144) = ⟨2048 + (128 * h.1 + x.1), by omega⟩ := Fin.ext (by simp only []; omega)
  rcases (by omega : d = 0 ∨ d = 1) with rfl | rfl
  · rw [dif_pos (by decide), keep, at_k7, hI.X, e]
    show _ = ((I.X b (Inputs.row false n) _ : ℝ) : EReal)
    rw [row_fwd]
  · rw [dif_neg (by decide), flip_v35, reverse4, at_k7, hI.X, e]
    show _ = ((I.X b (Inputs.row true n) _ : ℝ) : EReal)
    rw [row_bwd]

theorem v_entry : (entryContents preI m c (Proc.devRef .tc main_v66_2) : Vec Ideal S8192x2x3x16x128 .f32) (ix5 n d b h x) =
    ((I.seq (d = 1) b h).v n x : EReal) := by
  simp only [entryContents, afterL_cons, afterL_nil]
  rw [late_v, both_v42]
  pointwise
  have keep : ∀ V : Valuation τ sig (Elt Ideal), after hostOps0_7 V (Proc.devRef .tc main_v9) = V (Proc.devRef .tc main_v9) := fun V => by after_reads_simp
  have e : (⟨4096 + (h.1 * 128 + x.1), by omega⟩ : Fin 6144) = ⟨4096 + (128 * h.1 + x.1), by omega⟩ := Fin.ext (by simp only []; omega)
  rcases (by omega : d = 0 ∨ d = 1) with rfl | rfl
  · rw [dif_pos (by decide), keep, at_v9, hI.X, e]
    show _ = ((I.X b (Inputs.row false n) _ : ℝ) : EReal)
    rw [row_fwd]
  · rw [dif_neg (by decide), flip_v39, reverse4, at_v9, hI.X, e]
    show _ = ((I.X b (Inputs.row true n) _ : ℝ) : EReal)
    rw [row_bwd]

/-- The decay's logarithm, before it is split into its directions. -/
theorem decay_entry (r : Fin 8192) :
    (after (hostOps0_1 (F := Ideal)) (after (hostOps0 (F := Ideal)) (launchContents m c)) (Proc.devRef .tc main_v15) : Vec Ideal S2x16 .f32) (ix2 d h) = ((-Real.exp (I.A d h) : ℝ) : EReal) ∧
    (after (hostOps0_1 (F := Ideal)) (after (hostOps0 (F := Ideal)) (launchContents m c)) (Proc.devRef .tc main_v19) : Vec Ideal S3x8192x2x16 .f32) (ix4 b r d h) =
      (softplus (I.C b r ⟨d.1 * 16 + h.1, by omega⟩ + I.T d h) : EReal) := by
  constructor
  · have keep : ∀ V : Valuation τ sig (Elt Ideal), after hostOps0_1 V (Proc.devRef .tc main_v15) = V (Proc.devRef .tc main_v15) := fun V => by after_reads_simp
    rw [keep, at_v15 _ _ _ (hI.A d h), Ideal.exp_coe, EReal.coe_neg]
  · refine at_v19 _ _ _ _ _ ?_
    rw [at_v18 _ _ _ _ _ (hI.C _ _ _) (hI.T d h), EReal.coe_add]

theorem g_entry : (entryContents preI m c (Proc.devRef .tc main_v66_3) : Vec Ideal S8192x2x3x16 .f32) (ix4 n d b h) =
    ((I.seq (d = 1) b h).g n : EReal) := by
  simp only [entryContents, afterL_cons, afterL_nil]
  rw [late_g, both_v50]
  pointwise
  have keep : ∀ V : Valuation τ sig (Elt Ideal), after hostOps0_9 V (Proc.devRef .tc main_v44) = V (Proc.devRef .tc main_v44) := fun V => by after_reads_simp
  rcases (by omega : d = 0 ∨ d = 1) with rfl | rfl
  · rw [dif_pos (by decide), keep, at_v44 _ _ _ _ (decay_entry b h 0 m c I hI n).1 (decay_entry b h 0 m c I hI n).2, ← EReal.coe_mul]
    show _ = ((decayLog (I.A 0 h) (I.T 0 h) (I.C b (Inputs.row false n) _) : ℝ) : EReal)
    rw [row_fwd]
    rfl
  · rw [dif_neg (by decide), flip_v47, reverse3, at_v46 _ _ _ _ (decay_entry b h 1 m c I hI n.rev).1 (decay_entry b h 1 m c I hI n.rev).2, ← EReal.coe_mul]
    show _ = ((decayLog (I.A 1 h) (I.T 1 h) (I.C b (Inputs.row true n) _) : ℝ) : EReal)
    rw [row_bwd]
    rfl

theorem beta_entry : (entryContents preI m c (Proc.devRef .tc main_v66_4) : Vec Ideal S8192x2x3x16 .f32) (ix4 n d b h) =
    ((I.seq (d = 1) b h).b n : EReal) := by
  simp only [entryContents, afterL_cons, afterL_nil]
  rw [both_v58]
  pointwise
  have keep : ∀ V : Valuation τ sig (Elt Ideal), after hostOps0_11 V (Proc.devRef .tc main_v52) = V (Proc.devRef .tc main_v52) := fun V => by after_reads_simp
  have at13 : ∀ r (d : Fin 2), (after (hostOps0_1 (F := Ideal)) (after (hostOps0 (F := Ideal)) (launchContents m c)) (Proc.devRef .tc main_v13) : Vec Ideal S3x8192x2x16 .f32) (ix4 b r d h) =
      (I.C b r ⟨32 + (d.1 * 16 + h.1), by omega⟩ : EReal) := by
    intro r d
    have keep : ∀ V : Valuation τ sig (Elt Ideal), after hostOps0_1 V (Proc.devRef .tc main_v13) = V (Proc.devRef .tc main_v13) := fun V => by after_reads_simp
    rw [keep, at_v13 _ _ _ _ _ (hI.C _ _ _)]
  rcases (by omega : d = 0 ∨ d = 1) with rfl | rfl
  · rw [dif_pos (by decide), keep, at_v52 _ _ _ _ (at13 n 0), ← zero_sub_e, stepSize_coe]
    show _ = ((stepSize (I.C b (Inputs.row false n) _) : ℝ) : EReal)
    rw [row_fwd]
    have e : (⟨32 + ((0 : Fin 2).1 * 16 + h.1), by omega⟩ : Fin 128) = ⟨32 + 16 * (Inputs.dn false).val + h.val, by omega⟩ :=
      Fin.ext (by show 32 + (0 * 16 + h.1) = 32 + 16 * 0 + h.1; omega)
    rw [e]
    rfl
  · rw [dif_neg (by decide), flip_v55, reverse3, at_v54 _ _ _ _ (at13 n.rev 1), ← zero_sub_e, stepSize_coe]
    show _ = ((stepSize (I.C b (Inputs.row true n) _) : ℝ) : EReal)
    rw [row_bwd]
    have e : (⟨32 + ((1 : Fin 2).1 * 16 + h.1), by omega⟩ : Fin 128) = ⟨32 + 16 * (Inputs.dn true).val + h.val, by omega⟩ :=
      Fin.ext (by show 32 + (1 * 16 + h.1) = 32 + 16 * 1 + h.1; omega)
    rw [e]
    rfl

omit hI in
theorem state_entry (y : Fin 128) : (entryContents preI m c (Proc.devRef .tc main_v66_6) : Vec Ideal S2x3x16x128x128 .f32) (ix5 d b h x y) = (0 : EReal) := by
  simp only [entryContents, afterL_cons, afterL_nil]
  after_reads_simp
  simp only [id]
  pointwise

end Cert.Proof.Ref

end

end
-- ==== Proof.RefStep.lean ====
/- The reference's loop, one trip after the other, and what it leaves as the two results. -/
module

public import proofs.«01_k».proof.Proof.RefEntry
public import Idealize.ShloMosaic.Lib.Pointwise
public import Idealize.ShloMosaic.Lib.WordCmp

@[expose] public section

set_option maxRecDepth 16384

noncomputable section

namespace Cert.Proof.Ref

open Idealize.ShloMosaic Idealize.ShloMosaic.TcCoe Idealize.ShloMosaic.StableHlo Cert.ReferenceIdeal Cert.ReferenceIdeal.Gen Cert.ReferenceIdeal.Value
open Cert.Proof.Delta Cert.Proof.Chain

/-! ### Reading and writing at the counter -/

/-- A counter, as the loop carries it. -/
abbrev Ctr : Type := (⟨S_, .i32⟩ : BufTy).Contents (Elt Ideal)

/-- The reference's read of a step of the queries, keys or values. -/
def at5 (ctr : Ctr) (X : FVec Ideal S8192x2x3x16x128 .f32) : FVec Ideal S2x3x16x128 .f32 :=
  shapeCast S2x3x16x128 (Host.dynamicSlice S1x2x3x16x128 X (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) sliceFits_S8192x2x3x16x128_S1x2x3x16x128) shapeCasts_S1x2x3x16x128_S2x3x16x128

/-- The reference's read of a step of the decays or step sizes. -/
def at4 (ctr : Ctr) (X : FVec Ideal S8192x2x3x16 .f32) : FVec Ideal S2x3x16 .f32 :=
  shapeCast S2x3x16 (Host.dynamicSlice S1x2x3x16 X (fun k => (((![ctr, constantI S_ 32 0#32, constantI S_ 32 0#32, constantI S_ 32 0#32] : Fin 4 → (⟨S_, .i32⟩ : BufTy).Contents (Elt Ideal))) k (Shape.Idx.first h_S_)).toInt) sliceFits_S8192x2x3x16_S1x2x3x16) shapeCasts_S1x2x3x16_S2x3x16

/-- The keys times the step sizes. -/
def scaled (ctr : Ctr) (K : FVec Ideal S8192x2x3x16x128 .f32) (B : FVec Ideal S8192x2x3x16 .f32) : FVec Ideal S2x3x16x128 .f32 :=
  mulf (at5 ctr K) (broadcastInDim S2x3x16x128 ![0, 1, 2, 3] bcast_S2x3x16x1_S2x3x16x128_0_1_2_3 (broadcastInDim S2x3x16x1 ![0, 1, 2] bcast_S2x3x16_S2x3x16x1_0_1_2 (at4 ctr B)))

/-- The next state. -/
def next (ctr : Ctr) (K V : FVec Ideal S8192x2x3x16x128 .f32) (G B : FVec Ideal S8192x2x3x16 .f32) (S : FVec Ideal S2x3x16x128x128 .f32) :
    FVec Ideal S2x3x16x128x128 .f32 :=
  addf (mulf (broadcastInDim S2x3x16x128x128 ![0, 1, 2, 3, 4] bcast_S2x3x16x1x1_S2x3x16x128x128_0_1_2_3_4 (broadcastInDim S2x3x16x1x1 ![0, 1, 2] bcast_S2x3x16_S2x3x16x1x1_0_1_2 (Host.exp (at4 ctr G)))) (subf S (mulf (broadcastInDim S2x3x16x128x128 ![0, 1, 2, 3, 4] bcast_S2x3x16x128x1_S2x3x16x128x128_0_1_2_3_4 (broadcastInDim S2x3x16x128x1 ![0, 1, 2, 3] bcast_S2x3x16x128_S2x3x16x128x1_0_1_2_3 (scaled ctr K B))) (broadcastInDim S2x3x16x128x128 ![0, 1, 2, 3, 4] bcast_S2x3x16x1x128_S2x3x16x128x128_0_1_2_3_4 (broadcastInDim S2x3x16x1x128 ![0, 1, 2, 4] bcast_S2x3x16x128_S2x3x16x1x128_0_1_2_4 (Host.dotGeneral dot_S2x3x16x128_S2x3x16x128x128_S2x3x16x128_3_3_n_4_012_012 none (at5 ctr K) S)))))) (mulf (broadcastInDim S2x3x16x128x128 ![0, 1, 2, 3, 4] bcast_S2x3x16x128x1_S2x3x16x128x128_0_1_2_3_4 (broadcastInDim S2x3x16x128x1 ![0, 1, 2, 3] bcast_S2x3x16x128_S2x3x16x128x1_0_1_2_3 (scaled ctr K B))) (broadcastInDim S2x3x16x128x128 ![0, 1, 2, 3, 4] bcast_S2x3x16x1x128_S2x3x16x128x128_0_1_2_3_4 (broadcastInDim S2x3x16x1x128 ![0, 1, 2, 4] bcast_S2x3x16x128_S2x3x16x1x128_0_1_2_4 (at5 ctr V))))

/-- The next outputs: the step's row written, of the next state. -/
def write (ctr : Ctr) (Q O : FVec Ideal S8192x2x3x16x128 .f32) (N : FVec Ideal S2x3x16x128x128 .f32) : FVec Ideal S8192x2x3x16x128 .f32 :=
  id (Host.dynamicUpdateSlice O (broadcastInDim S1x2x3x16x128 ![1, 2, 3, 4] bcast_S2x3x16x128_S1x2x3x16x128_1_2_3_4 (Host.dotGeneral dot_S2x3x16x128_S2x3x16x128x128_S2x3x16x128_3_3_n_4_012_012 none (at5 ctr Q) N)) (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) updateFits_S8192x2x3x16x128_S1x2x3x16x128)
set_option maxRecDepth 8192 in
theorem step_main_v66_7_congr {V0 V0' : Valuation τ sig (Elt Ideal)} (h : Agree V0 V0') : step_main_v66_7 V0 = step_main_v66_7 V0' := by
  unfold step_main_v66_7
  rw [res_main_while0b_v101_congr h, h main_v66_7 (by decide), h main_v66_0 (by decide), h main_v66_5 (by decide)]

theorem step6_eq (V : Valuation τ sig (Elt Ideal)) : step_main_v66_6 V =
    next (V (Proc.devRef .tc main_v66_5)) (V (Proc.devRef .tc main_v66_1)) (V (Proc.devRef .tc main_v66_2)) (V (Proc.devRef .tc main_v66_3))
      (V (Proc.devRef .tc main_v66_4)) (V (Proc.devRef .tc main_v66_6)) := rfl

theorem step7_eq (V : Valuation τ sig (Elt Ideal)) : step_main_v66_7 V =
    write (V (Proc.devRef .tc main_v66_5)) (V (Proc.devRef .tc main_v66_0)) (V (Proc.devRef .tc main_v66_7)) (step_main_v66_6 V) := rfl

section Slices

variable (n : Fin 8192) (ctr : Ctr) (hc : ctr = fun _ => BitVec.ofNat 32 n.1)
  (d : Fin 2) (b : Fin 3) (h : Fin 16) (x : Fin 128)

include hc

theorem start5 (a : Fin 5) : (((![ctr, constantI S_ 32 0#32, constantI S_ 32 0#32, constantI S_ 32 0#32, constantI S_ 32 0#32] :
    Fin 5 → (⟨S_, .i32⟩ : BufTy).Contents (Elt Ideal))) a (Shape.Idx.first h_S_)).toInt = ((![n.1, 0, 0, 0, 0] : Fin 5 → ℕ) a : ℤ) := by
  subst hc
  fin_cases a
  · exact WordCmp.toInt_ofNat_of_lt (by omega)
  all_goals rfl

theorem start4 (a : Fin 4) : (((![ctr, constantI S_ 32 0#32, constantI S_ 32 0#32, constantI S_ 32 0#32] :
    Fin 4 → (⟨S_, .i32⟩ : BufTy).Contents (Elt Ideal))) a (Shape.Idx.first h_S_)).toInt = ((![n.1, 0, 0, 0] : Fin 4 → ℕ) a : ℤ) := by
  subst hc
  fin_cases a
  · exact WordCmp.toInt_ofNat_of_lt (by omega)
  all_goals rfl

omit hc in
theorem fits5 : S8192x2x3x16x128.Slices ![n.1, 0, 0, 0, 0] S1x2x3x16x128 := by
  refine ⟨rfl, fun a => ?_⟩
  fin_cases a
  · show n.1 + 1 ≤ 8192
    omega
  all_goals first | exact Nat.le_refl 2 | exact Nat.le_refl 3 | exact Nat.le_refl 16 | exact Nat.le_refl 128

omit hc in
theorem fits4 : S8192x2x3x16.Slices ![n.1, 0, 0, 0] S1x2x3x16 := by
  refine ⟨rfl, fun a => ?_⟩
  fin_cases a
  · show n.1 + 1 ≤ 8192
    omega
  all_goals first | exact Nat.le_refl 2 | exact Nat.le_refl 3 | exact Nat.le_refl 16 | exact Nat.le_refl 128

theorem slice5 (X : Vec Ideal S8192x2x3x16x128 .f32) : at5 ctr X (ix4 d b h x) = X (ix5 n d b h x) := by
  unfold at5
  rw [WordCmp.dynamicSlice_eq_extract _ _ _ _ _ (fits5 n) (start5 n ctr hc)]
  pointwise

theorem slice4 (X : Vec Ideal S8192x2x3x16 .f32) : at4 ctr X (ix3 d b h) = X (ix4 n d b h) := by
  unfold at4
  rw [WordCmp.dynamicSlice_eq_extract _ _ _ _ _ (fits4 n) (start4 n ctr hc)]
  pointwise

theorem write_apply (Q O : FVec Ideal S8192x2x3x16x128 .f32) (N : FVec Ideal S2x3x16x128x128 .f32) (r : Fin 8192) :
    write ctr Q O N (ix5 r d b h x) = if r = n then (∑ z, Q (ix5 n d b h z) * N (ix5 d b h z x) : EReal) else O (ix5 r d b h x) := by
  unfold write
  rw [id, WordCmp.dynamicUpdateSlice_eq_update _ _ _ _ _ (fits5 n) (start5 n ctr hc)]
  unfold updateSlice
  by_cases e : r = n
  · subst e
    rw [dif_pos, if_pos rfl]
    · refine (congrArg _ (?_ : _ = ix5 0 d b h x)).trans ?_
      · funext a
        fin_cases a
        · exact Fin.ext (Nat.sub_self r.1)
        all_goals rfl
      · pointwise
        simp only [slice5 r ctr hc]
    · intro a
      fin_cases a
      · exact ⟨Nat.le_refl _, Nat.lt_succ_self _⟩
      · exact ⟨Nat.zero_le _, (by show d.1 < 0 + 2; omega)⟩
      · exact ⟨Nat.zero_le _, (by show b.1 < 0 + 3; omega)⟩
      · exact ⟨Nat.zero_le _, (by show h.1 < 0 + 16; omega)⟩
      · exact ⟨Nat.zero_le _, (by show x.1 < 0 + 128; omega)⟩
  · rw [dif_neg, if_neg e]
    intro w
    have w0 : n.1 ≤ r.1 ∧ r.1 < n.1 + 1 := w 0
    exact e (Fin.ext (by omega))

theorem next_apply (K V : FVec Ideal S8192x2x3x16x128 .f32) (G B : FVec Ideal S8192x2x3x16 .f32) (S : FVec Ideal S2x3x16x128x128 .f32) (y : Fin 128) :
    next ctr K V G B S (ix5 d b h x y) = Ideal.exp (G (ix4 n d b h)) *
      (S (ix5 d b h x y) - K (ix5 n d b h x) * B (ix4 n d b h) * (∑ z, K (ix5 n d b h z) * S (ix5 d b h z y) : EReal)) +
      K (ix5 n d b h x) * B (ix4 n d b h) * V (ix5 n d b h y) := by
  unfold next scaled
  pointwise
  simp only [slice5 n ctr hc, slice4 n ctr hc]

end Slices

/-! ### The trips -/

/-- What the carried arrays hold before trip `n`. -/
structure At (I : Inputs) (n : ℕ) (V : Valuation τ sig (Elt Ideal)) : Prop where
  q : ∀ n d b h x, (V (Proc.devRef .tc main_v66_0) : Vec Ideal S8192x2x3x16x128 .f32) (ix5 n d b h x) = ((I.seq (d = 1) b h).q n.1 x : EReal)
  k : ∀ n d b h x, (V (Proc.devRef .tc main_v66_1) : Vec Ideal S8192x2x3x16x128 .f32) (ix5 n d b h x) = ((I.seq (d = 1) b h).k n.1 x : EReal)
  v : ∀ n d b h x, (V (Proc.devRef .tc main_v66_2) : Vec Ideal S8192x2x3x16x128 .f32) (ix5 n d b h x) = ((I.seq (d = 1) b h).v n.1 x : EReal)
  g : ∀ n d b h, (V (Proc.devRef .tc main_v66_3) : Vec Ideal S8192x2x3x16 .f32) (ix4 n d b h) = ((I.seq (d = 1) b h).g n.1 : EReal)
  b : ∀ n d b h, (V (Proc.devRef .tc main_v66_4) : Vec Ideal S8192x2x3x16 .f32) (ix4 n d b h) = ((I.seq (d = 1) b h).b n.1 : EReal)
  ctr : V (Proc.devRef .tc main_v66_5) = fun _ => BitVec.ofNat 32 n
  st : ∀ d b h x y, (V (Proc.devRef .tc main_v66_6) : Vec Ideal S2x3x16x128x128 .f32) (ix5 d b h x y) = ((I.seq (d = 1) b h).St n x y : EReal)
  out : ∀ r d b h x, r.1 < n → (V (Proc.devRef .tc main_v66_7) : Vec Ideal S8192x2x3x16x128 .f32) (ix5 r d b h x) = ((I.seq (d = 1) b h).out r.1 x : EReal)

theorem At.succ {I : Inputs} {n : ℕ} {V : Valuation τ sig (Elt Ideal)} (w : At I n V) (hn : n < 8192) : At I (n + 1) (STEP V) := by
  have hs : ∀ d b h x y, (step_main_v66_6 V : Vec Ideal S2x3x16x128x128 .f32) (ix5 d b h x y) = ((I.seq (d = 1) b h).St (n + 1) x y : EReal) := by
    intro d b h x y
    rw [step6_eq, next_apply ⟨n, hn⟩ _ w.ctr, w.g, w.st, w.k, w.b, w.v, Ideal.exp_coe]
    simp only [w.k, w.st, ← EReal.coe_mul, coe_sum, ← EReal.coe_sub, ← EReal.coe_add]
    rfl
  refine ⟨?_, ?_, ?_, ?_, ?_, ?_, ?_, ?_⟩
  · rw [STEP_main_v66_0]; exact w.q
  · rw [STEP_main_v66_1]; exact w.k
  · rw [STEP_main_v66_2]; exact w.v
  · rw [STEP_main_v66_3]; exact w.g
  · rw [STEP_main_v66_4]; exact w.b
  · rw [STEP_main_v66_5]
    unfold step_main_v66_5
    rw [w.ctr]
    funext i
    show BitVec.ofNat 32 n + 1#32 = BitVec.ofNat 32 (n + 1)
    rw [BitVec.ofNat_add]
  · rw [STEP_main_v66_6]; exact hs
  · intro r d b h x hr
    rw [STEP_main_v66_7, step7_eq, write_apply ⟨n, hn⟩ _ w.ctr]
    by_cases e : r = ⟨n, hn⟩
    · rw [if_pos e]
      subst e
      simp only [w.q, hs, ← EReal.coe_mul, coe_sum]
      rfl
    · rw [if_neg e]
      exact w.out r d b h x (by have : r.1 ≠ n := fun q => e (Fin.ext q); omega)

variable (m : (ℓ : Loc nD τ sig) → Buf (Elt Ideal) ℓ) (c : Dev nD) (I : Inputs)

theorem at_iterate {V : Valuation τ sig (Elt Ideal)} (w : At I 0 V) : ∀ n, n ≤ 8192 → At I n (STEP^[n] V)
  | 0, _ => w
  | n + 1, hn => by
    rw [Function.iterate_succ_apply']
    exact (at_iterate w n (by omega)).succ (by omega)

variable (hI : Real I (launchContents m c (Proc.devRef .tc main_arg0)) (launchContents m c (Proc.devRef .tc main_arg1))
  (launchContents m c (Proc.devRef .tc main_arg2)) (launchContents m c (Proc.devRef .tc main_arg3)))

include hI

theorem at_entry : At I 0 (entryContents preI m c) where
  q n d b h x := q_entry b h n x d m c I hI
  k n d b h x := k_entry b h n x d m c I hI
  v n d b h x := v_entry b h n x d m c I hI
  g n d b h := g_entry b h n d m c I hI
  b n d b h := beta_entry b h n d m c I hI
  ctr := ctr_entry m c
  st d b h x y := state_entry b h x d m c y
  out r d b h x hr := absurd hr (Nat.not_lt_zero _)

theorem out_fwd : out_main_v71 (STEP^[8192] (entryContents preI m c)) = I.res false := by
  have w := at_iterate I (at_entry m c I hI) 8192 (Nat.le_refl _)
  generalize STEP^[8192] (entryContents preI m c) = V at w
  funext i
  obtain ⟨b, r, x, rfl⟩ : ∃ (b : Fin 3) (r : Fin 8192) (x : Fin 2048), i = ix3 b r x := ⟨i 0, i 1, i 2, by funext a; fin_cases a <;> rfl⟩
  unfold out_main_v71
  pointwise
  exact w.out r 0 b _ _ r.isLt

theorem out_bwd : out_main_v76 (STEP^[8192] (entryContents preI m c)) = I.res true := by
  have w := at_iterate I (at_entry m c I hI) 8192 (Nat.le_refl _)
  generalize STEP^[8192] (entryContents preI m c) = V at w
  funext i
  obtain ⟨b, r, x, rfl⟩ : ∃ (b : Fin 3) (r : Fin 8192) (x : Fin 2048), i = ix3 b r x := ⟨i 0, i 1, i 2, by funext a; fin_cases a <;> rfl⟩
  unfold out_main_v76
  pointwise
  have e : 8191 - r.1 = r.rev.1 := by
    show 8191 - r.1 = 8192 - (r.1 + 1)
    omega
  show _ = ((I.seq true b _).out (8191 - r.1) _ : EReal)
  rw [e]
  exact w.out r.rev 1 b _ _ r.rev.isLt

end Cert.Proof.Ref

end

end
-- ==== Proof.Finite.lean ====
/- The precondition read: finite arguments are real ones. -/
module

public import proofs.«01_k».proof.Defs
public import proofs.«01_k».proof.Proof.Grid

@[expose] public section

set_option maxRecDepth 16384

noncomputable section

namespace Cert.Proof.Chain

open Idealize.ShloMosaic

/-- The predicate's shapes fit. -/
theorem finite_facts : Cert.Pre_finite.Facts where
  bitsLt_bf16_f32 := by decide
  bcast_S_S3x8192x6144 := by decide
  bcast_S_S3x8192x128 := by decide
  bcast_S_S2x16 := by decide

/-- A value whose magnitude is below infinity is a real number. -/
theorem real_of_lt {x : EReal} (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  have w : max x (-x) < ⊤ := by
    by_contra n
    unfold Ideal.cmp at h
    simp [n] at h
  refine (EReal.coe_toReal (fun e => ?_) (fun e => ?_)).symm
  · subst e; simp at w
  · subst e; simp at w

attribute [local instance] finite_facts

/-- The real numbers of arguments that are finite. -/
def reals (X0 : FVec Ideal Cert.KernelIdeal.S3x8192x6144 .bf16) (X1 : FVec Ideal Cert.KernelIdeal.S3x8192x128 .f32) (X2 X3 : FVec Ideal Cert.KernelIdeal.S2x16 .f32) : Inputs where
  X b r x := EReal.toReal (X0 (ix3 b r x))
  C b r x := EReal.toReal (X1 (ix3 b r x))
  A d h := EReal.toReal (X2 (ix2 d h))
  T d h := EReal.toReal (X3 (ix2 d h))

theorem real_of_finite (X0 : FVec Ideal Cert.KernelIdeal.S3x8192x6144 .bf16) (X1 : FVec Ideal Cert.KernelIdeal.S3x8192x128 .f32) (X2 X3 : FVec Ideal Cert.KernelIdeal.S2x16 .f32)
    (h0 : (Cert.Pre_finite.fn (F := Ideal) X0 X1 X2 X3).1 = fun _ => 1#1)
    (h1 : (Cert.Pre_finite.fn (F := Ideal) X0 X1 X2 X3).2.1 = fun _ => 1#1)
    (h2 : (Cert.Pre_finite.fn (F := Ideal) X0 X1 X2 X3).2.2.1 = fun _ => 1#1)
    (h3 : (Cert.Pre_finite.fn (F := Ideal) X0 X1 X2 X3).2.2.2 = fun _ => 1#1) : Real (reals X0 X1 X2 X3) X0 X1 X2 X3 where
  X b r x := real_of_lt (congrFun h0 (ix3 b r x))
  C b r x := real_of_lt (congrFun h1 (ix3 b r x))
  A d h := real_of_lt (congrFun h2 (ix2 d h))
  T d h := real_of_lt (congrFun h3 (ix2 d h))

end Cert.Proof.Chain

end

end
-- ==== Proof.ProjAttn.lean ====
/- The attention's columns of the input projection: the call's array is the reference's product. -/
module

public import proofs.«01_k».proof.Defs
public import proofs.«01_k».proof.Proof.Gen.ProjAttn.Frame
public import proofs.«01_k».proof.Proof.Gen.ProjAttnIdeal.Points
public import proofs.«01_k».proof.Proof.Gen.ProjAttnIdeal.Frame
public import proofs.«01_k».proof.Proof.Gen.ProjAttnIdeal.Value
public import proofs.«01_k».proof.Proof.Gen.ProjAttnRefIdeal.Run
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.Proof.ProjAttn

open Idealize.ShloMosaic Idealize.ShloMosaic.TcCoe Idealize.SL.Sem Cert.ProjAttnIdeal Cert.ProjAttnIdeal.Gen

/-- The product of the two arguments, columns 0 on. -/
def product (a : FVec Ideal S24576x4096 .bf16) (b : FVec Ideal S4096x22592 .bf16) : FVec Ideal S24576x6144 .bf16 :=
  fun y => ∑ k : Fin 4096, (a (ix2 (y 0) k : S24576x4096.Idx) : EReal) * b (ix2 k ⟨(y 1).val, by have := (y 1).isLt; change (y 1).val < 6144 at this; omega⟩ : S4096x22592.Idx)

variable (m : (ℓ : Loc nD τ sig) → Buf (Elt Ideal) ℓ) (c : Dev nD)

theorem idx0 : ∀ t : Fin cfg0.N, win0_0.index t = ![t.val / 6, 0] :=
  (by decide +kernel : ∀ t : Fin grid0.N, win0_0.index t = ![t.val / 6, 0])
theorem idx1 : ∀ t : Fin cfg0.N, win0_1.index t = ![0, t.val % 6] :=
  (by decide +kernel : ∀ t : Fin grid0.N, win0_1.index t = ![0, t.val % 6])
theorem idx2 : ∀ t : Fin cfg0.N, win0_2.index t = ![t.val / 6, t.val % 6] :=
  (by decide +kernel : ∀ t : Fin grid0.N, win0_2.index t = ![t.val / 6, t.val % 6])

variable (t : Fin cfg0.N)

theorem rows (Y : Fin 1024) : 1024 * (t.val / 6) + Y.val < 24576 := by have := t.isLt.trans_eq N_0; omega

theorem blk0 (Y : Fin 1024) (Z : Fin 4096) : iblk m c 0 t (ix2 Y Z : S1024x4096.Idx)
    = m ((c : Thread nD τ).loc main_arg0) (ix2 ⟨1024 * (t.val / 6) + Y.val, rows t Y⟩ Z : S24576x4096.Idx) := by
  rw [← V_main_arg0 m c]
  blk_ext! [iblk, idx0 t]

theorem blk1 (Y : Fin 4096) (Z : Fin 1024) : X0_1 m c t (ix2 Y Z : S4096x1024.Idx)
    = m ((c : Thread nD τ).loc main_arg1) (ix2 Y ⟨1024 * (t.val % 6) + Z.val, by omega⟩ : S4096x22592.Idx) := by
  rw [← V_main_arg1 m c]
  unfold X0_1 Pipeline.Window.fill
  rw [dif_pos (moved0_1 t _)]
  blk_ext! [iblk, idx1 t]

theorem pieces (arg2 : Memref sig .tc .vmem S1024x4096 .bf16) (harg2 : arg2.IsWhole) (arg3 : Memref sig .tc .vmem S4096x1024 .bf16) (harg3 : arg3.IsWhole)
    (arg4 : Memref sig .tc .vmem S1024x1024 .bf16) (harg4 : arg4.IsWhole) (i : grid0.Coords) (x0 : Vec Ideal S1024x4096 .bf16) (x1 : Vec Ideal S4096x1024 .bf16) :
    (kernelRun0_A c i arg2 harg2 arg3 harg3 arg4 harg4 x0 x1).1
      = [⟨Rect.unit (s := S1024x1024) ![0, 0] S1024x1024.size inb_S1024x1024_S1024x1024_0_0,
          k0_pay1 (View.readAt (Elt Ideal) arg2.view (Rect.unit (s := S1024x4096) ![0, 0] S1024x4096.size inb_S1024x4096_S1024x4096_0_0).toLoadRect (harg2.unread x0))
            (View.readAt (Elt Ideal) arg3.view (Rect.unit (s := S4096x1024) ![0, 0] S4096x1024.size inb_S4096x1024_S4096x1024_0_0).toLoadRect (harg3.unread x1))⟩] := by
  sl_kernel_rfl

theorem out_eq (arg2 : Memref sig .tc .vmem S1024x4096 .bf16) (harg2 : arg2.IsWhole) (arg3 : Memref sig .tc .vmem S4096x1024 .bf16) (harg3 : arg3.IsWhole)
    (arg4 : Memref sig .tc .vmem S1024x1024 .bf16) (harg4 : arg4.IsWhole) (i : grid0.Coords) (x0 : FVec Ideal S1024x4096 .bf16) (x1 : FVec Ideal S4096x1024 .bf16) (Y : Fin 1024) (Z : Fin 1024) :
    out0_A_2 (F := Ideal) c i arg2 harg2 arg3 harg3 arg4 harg4 x0 x1 (ix2 Y Z : S1024x1024.Idx)
      = (∑ k : Fin 4096, (x0 (ix2 Y k : S1024x4096.Idx) : EReal) * x1 (ix2 k Z : S4096x1024.Idx) : EReal) := by
  have hz : (![0, 0] : Fin S1024x1024.rank → Nat) = fun _ => 0 := funext fun a => by fin_cases a <;> rfl
  have hz0 : (![0, 0] : Fin S1024x4096.rank → Nat) = fun _ => 0 := funext fun a => by fin_cases a <;> rfl
  have hz1 : (![0, 0] : Fin S4096x1024.rank → Nat) = fun _ => 0 := funext fun a => by fin_cases a <;> rfl
  unfold out0_A_2
  rw [View.read_writes_junk_eq_canon, pieces, View.canon_unit_zero hz, View.readAt_eq_ld, View.readAt_eq_ld, harg2.read_unread, harg3.read_unread,
    View.ld_unit_zero hz0, View.ld_unit_zero hz1]
  pointwise [k0_pay1]

/-- The array after the run is the product. -/
theorem final : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨Y, Z, rfl⟩ : ∃ (a : Fin 1024) (b : Fin 1024), y = (ix2 a b : S1024x1024.Idx) := ⟨y 0, y 1, by
    funext a; fin_cases a <;> rfl⟩
  blk_simp
  rw [after0_2]
  refine (out_eq c _ _ _ _ _ _ _ _ _ Y Z).trans ?_
  refine (?_ : _ = product _ _ (ix2 ⟨1024 * (t.val / 6) + Y.val, rows t Y⟩ ⟨1024 * (t.val % 6) + Z.val, by omega⟩ : S24576x6144.Idx)).trans (congrArg (product _ _) ?_)
  · exact Finset.sum_congr rfl fun k _ => by rw [blk0, blk1]; rfl
  · blk_ext [idx2 t]

end Cert.Proof.ProjAttn

namespace Cert.Proof.ProjAttn

open Idealize.ShloMosaic Idealize.ShloMosaic.TcCoe Idealize.SL.Sem Cert.ProjAttnRefIdeal Cert.ProjAttnRefIdeal.Gen

/-- The reference's array is the product. -/
theorem ref (a : FVec Ideal S24576x4096 .bf16) (b : FVec Ideal S4096x22592 .bf16) :
    truncf .bf16 (extractStridedSlice S24576x6144 ![0, 0] (Host.dotGeneral dot_S24576x4096_S4096x22592_S24576x22592_1_0_0_1_n_n none (extf .f32 a bitsLt_bf16_f32) (extf .f32 b bitsLt_bf16_f32)) slices_S24576x22592_S24576x6144_0_0) bitsLt_bf16_f32 = product a b := by
  funext y
  obtain ⟨Y, Z, rfl⟩ : ∃ (a : Fin 24576) (b : Fin 6144), y = (ix2 a b : S24576x6144.Idx) := ⟨y 0, y 1, by
    funext a; fin_cases a <;> rfl⟩
  pointwise
  rfl

end Cert.Proof.ProjAttn

namespace Cert.Proof.ProjAttn

open Idealize.ShloMosaic Idealize.SL.Sem

/-- The reference runs to its end, its arguments unchanged and its semaphores at zero: its run's values left out. -/
theorem reference_frame : Cert.quiescent_ProjAttnRefIdeal := fun m ρ _ =>
  (θ_run (Cert.ProjAttnRefIdeal.defs (F := Ideal)) _ _).mono (fun r h => ⟨fun c => (h c).2, Idealize.ShloMosaic.sem_eq_zero_of_no_sems (by decide) r.2⟩)
    (Cert.ProjAttnRefIdeal.Value.run m ρ)

/-- The call's array and the reference's are the product. -/
theorem values : Cert.algebraic_ProjAttnIdeal_ProjAttnRefIdeal := by
  intro m g m' g' _ hargs
  refine ⟨fun c => product (m ((c.tc : Thread Cert.ProjAttnIdeal.nD Cert.ProjAttnIdeal.τ).loc Cert.ProjAttnIdeal.main_arg0)) (m ((c.tc : Thread Cert.ProjAttnIdeal.nD Cert.ProjAttnIdeal.τ).loc Cert.ProjAttnIdeal.main_arg1)), ?_, ?_⟩
  · exact (θ_run (Cert.ProjAttnIdeal.defs (F := Ideal)) _ _).mono (fun r h c => ⟨(h c).1.trans (final m c), (h c).2⟩) (Cert.ProjAttnIdeal.Value.run_blocks m g)
  · refine (θ_run (Cert.ProjAttnRefIdeal.defs (F := Ideal)) _ _).mono (fun r h c => ⟨(h c).1.trans ?_, (h c).2⟩) (Cert.ProjAttnRefIdeal.Value.run m' g')
    exact (ref _ _).trans (congr (congrArg product (hargs c).1) (hargs c).2)

end Cert.Proof.ProjAttn

end

end
-- ==== Proof.ProjDn.lean ====
/- The gated DeltaNet's columns of the input projection: the call's array is the reference's product. -/
module

public import proofs.«01_k».proof.Defs
public import proofs.«01_k».proof.Proof.Gen.ProjDn.Frame
public import proofs.«01_k».proof.Proof.Gen.ProjDnIdeal.Points
public import proofs.«01_k».proof.Proof.Gen.ProjDnIdeal.Frame
public import proofs.«01_k».proof.Proof.Gen.ProjDnIdeal.Value
public import proofs.«01_k».proof.Proof.Gen.ProjDnRefIdeal.Run
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.Proof.ProjDn

open Idealize.ShloMosaic Idealize.ShloMosaic.TcCoe Idealize.SL.Sem Cert.ProjDnIdeal Cert.ProjDnIdeal.Gen

/-- The product of the two arguments, columns 6144 on. -/
def product (a : FVec Ideal S24576x4096 .bf16) (b : FVec Ideal S4096x22592 .bf16) : FVec Ideal S24576x8192 .bf16 :=
  fun y => ∑ k : Fin 4096, (a (ix2 (y 0) k : S24576x4096.Idx) : EReal) * b (ix2 k ⟨6144 + (y 1).val, by have := (y 1).isLt; change (y 1).val < 8192 at this; omega⟩ : S4096x22592.Idx)

variable (m : (ℓ : Loc nD τ sig) → Buf (Elt Ideal) ℓ) (c : Dev nD)

theorem idx0 : ∀ t : Fin cfg0.N, win0_0.index t = ![t.val / 8, 0] :=
  (by decide +kernel : ∀ t : Fin grid0.N, win0_0.index t = ![t.val / 8, 0])
theorem idx1 : ∀ t : Fin cfg0.N, win0_1.index t = ![0, 6 + t.val % 8] :=
  (by decide +kernel : ∀ t : Fin grid0.N, win0_1.index t = ![0, 6 + t.val % 8])
theorem idx2 : ∀ t : Fin cfg0.N, win0_2.index t = ![t.val / 8, t.val % 8] :=
  (by decide +kernel : ∀ t : Fin grid0.N, win0_2.index t = ![t.val / 8, t.val % 8])

variable (t : Fin cfg0.N)

theorem rows (Y : Fin 1024) : 1024 * (t.val / 8) + Y.val < 24576 := by have := t.isLt.trans_eq N_0; omega

theorem blk0 (Y : Fin 1024) (Z : Fin 4096) : iblk m c 0 t (ix2 Y Z : S1024x4096.Idx)
    = m ((c : Thread nD τ).loc main_arg0) (ix2 ⟨1024 * (t.val / 8) + Y.val, rows t Y⟩ Z : S24576x4096.Idx) := by
  rw [← V_main_arg0 m c]
  blk_ext! [iblk, idx0 t]

theorem blk1 (Y : Fin 4096) (Z : Fin 1024) : X0_1 m c t (ix2 Y Z : S4096x1024.Idx)
    = m ((c : Thread nD τ).loc main_arg1) (ix2 Y ⟨6144 + (1024 * (t.val % 8) + Z.val), by omega⟩ : S4096x22592.Idx) := by
  rw [← V_main_arg1 m c]
  unfold X0_1 Pipeline.Window.fill
  rw [dif_pos (moved0_1 t _)]
  blk_ext! [iblk, idx1 t]

theorem pieces (arg2 : Memref sig .tc .vmem S1024x4096 .bf16) (harg2 : arg2.IsWhole) (arg3 : Memref sig .tc .vmem S4096x1024 .bf16) (harg3 : arg3.IsWhole)
    (arg4 : Memref sig .tc .vmem S1024x1024 .bf16) (harg4 : arg4.IsWhole) (i : grid0.Coords) (x0 : Vec Ideal S1024x4096 .bf16) (x1 : Vec Ideal S4096x1024 .bf16) :
    (kernelRun0_A c i arg2 harg2 arg3 harg3 arg4 harg4 x0 x1).1
      = [⟨Rect.unit (s := S1024x1024) ![0, 0] S1024x1024.size inb_S1024x1024_S1024x1024_0_0,
          k0_pay1 (View.readAt (Elt Ideal) arg2.view (Rect.unit (s := S1024x4096) ![0, 0] S1024x4096.size inb_S1024x4096_S1024x4096_0_0).toLoadRect (harg2.unread x0))
            (View.readAt (Elt Ideal) arg3.view (Rect.unit (s := S4096x1024) ![0, 0] S4096x1024.size inb_S4096x1024_S4096x1024_0_0).toLoadRect (harg3.unread x1))⟩] := by
  sl_kernel_rfl

theorem out_eq (arg2 : Memref sig .tc .vmem S1024x4096 .bf16) (harg2 : arg2.IsWhole) (arg3 : Memref sig .tc .vmem S4096x1024 .bf16) (harg3 : arg3.IsWhole)
    (arg4 : Memref sig .tc .vmem S1024x1024 .bf16) (harg4 : arg4.IsWhole) (i : grid0.Coords) (x0 : FVec Ideal S1024x4096 .bf16) (x1 : FVec Ideal S4096x1024 .bf16) (Y : Fin 1024) (Z : Fin 1024) :
    out0_A_2 (F := Ideal) c i arg2 harg2 arg3 harg3 arg4 harg4 x0 x1 (ix2 Y Z : S1024x1024.Idx)
      = (∑ k : Fin 4096, (x0 (ix2 Y k : S1024x4096.Idx) : EReal) * x1 (ix2 k Z : S4096x1024.Idx) : EReal) := by
  have hz : (![0, 0] : Fin S1024x1024.rank → Nat) = fun _ => 0 := funext fun a => by fin_cases a <;> rfl
  have hz0 : (![0, 0] : Fin S1024x4096.rank → Nat) = fun _ => 0 := funext fun a => by fin_cases a <;> rfl
  have hz1 : (![0, 0] : Fin S4096x1024.rank → Nat) = fun _ => 0 := funext fun a => by fin_cases a <;> rfl
  unfold out0_A_2
  rw [View.read_writes_junk_eq_canon, pieces, View.canon_unit_zero hz, View.readAt_eq_ld, View.readAt_eq_ld, harg2.read_unread, harg3.read_unread,
    View.ld_unit_zero hz0, View.ld_unit_zero hz1]
  pointwise [k0_pay1]

/-- The array after the run is the product. -/
theorem final : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨Y, Z, rfl⟩ : ∃ (a : Fin 1024) (b : Fin 1024), y = (ix2 a b : S1024x1024.Idx) := ⟨y 0, y 1, by
    funext a; fin_cases a <;> rfl⟩
  blk_simp
  rw [after0_2]
  refine (out_eq c _ _ _ _ _ _ _ _ _ Y Z).trans ?_
  refine (?_ : _ = product _ _ (ix2 ⟨1024 * (t.val / 8) + Y.val, rows t Y⟩ ⟨1024 * (t.val % 8) + Z.val, by omega⟩ : S24576x8192.Idx)).trans (congrArg (product _ _) ?_)
  · exact Finset.sum_congr rfl fun k _ => by rw [blk0, blk1]; rfl
  · blk_ext [idx2 t]

end Cert.Proof.ProjDn

namespace Cert.Proof.ProjDn

open Idealize.ShloMosaic Idealize.ShloMosaic.TcCoe Idealize.SL.Sem Cert.ProjDnRefIdeal Cert.ProjDnRefIdeal.Gen

/-- The reference's array is the product. -/
theorem ref (a : FVec Ideal S24576x4096 .bf16) (b : FVec Ideal S4096x22592 .bf16) :
    truncf .bf16 (extractStridedSlice S24576x8192 ![0, 6144] (Host.dotGeneral dot_S24576x4096_S4096x22592_S24576x22592_1_0_0_1_n_n none (extf .f32 a bitsLt_bf16_f32) (extf .f32 b bitsLt_bf16_f32)) slices_S24576x22592_S24576x8192_0_6144) bitsLt_bf16_f32 = product a b := by
  funext y
  obtain ⟨Y, Z, rfl⟩ : ∃ (a : Fin 24576) (b : Fin 8192), y = (ix2 a b : S24576x8192.Idx) := ⟨y 0, y 1, by
    funext a; fin_cases a <;> rfl⟩
  pointwise
  rfl

end Cert.Proof.ProjDn

namespace Cert.Proof.ProjDn

open Idealize.ShloMosaic Idealize.SL.Sem

/-- The reference runs to its end, its arguments unchanged and its semaphores at zero: its run's values left out. -/
theorem reference_frame : Cert.quiescent_ProjDnRefIdeal := fun m ρ _ =>
  (θ_run (Cert.ProjDnRefIdeal.defs (F := Ideal)) _ _).mono (fun r h => ⟨fun c => (h c).2, Idealize.ShloMosaic.sem_eq_zero_of_no_sems (by decide) r.2⟩)
    (Cert.ProjDnRefIdeal.Value.run m ρ)

/-- The call's array and the reference's are the product. -/
theorem values : Cert.algebraic_ProjDnIdeal_ProjDnRefIdeal := by
  intro m g m' g' _ hargs
  refine ⟨fun c => product (m ((c.tc : Thread Cert.ProjDnIdeal.nD Cert.ProjDnIdeal.τ).loc Cert.ProjDnIdeal.main_arg0)) (m ((c.tc : Thread Cert.ProjDnIdeal.nD Cert.ProjDnIdeal.τ).loc Cert.ProjDnIdeal.main_arg1)), ?_, ?_⟩
  · exact (θ_run (Cert.ProjDnIdeal.defs (F := Ideal)) _ _).mono (fun r h c => ⟨(h c).1.trans (final m c), (h c).2⟩) (Cert.ProjDnIdeal.Value.run_blocks m g)
  · refine (θ_run (Cert.ProjDnRefIdeal.defs (F := Ideal)) _ _).mono (fun r h c => ⟨(h c).1.trans ?_, (h c).2⟩) (Cert.ProjDnRefIdeal.Value.run m' g')
    exact (ref _ _).trans (congr (congrArg product (hargs c).1) (hargs c).2)

end Cert.Proof.ProjDn

end

end
-- ==== Proof.ProjAb.lean ====
/- The decay and beta columns of the input projection: the call's array is the reference's product. -/
module

public import proofs.«01_k».proof.Defs
public import proofs.«01_k».proof.Proof.Gen.ProjAb.Frame
public import proofs.«01_k».proof.Proof.Gen.ProjAbIdeal.Points
public import proofs.«01_k».proof.Proof.Gen.ProjAbIdeal.Frame
public import proofs.«01_k».proof.Proof.Gen.ProjAbIdeal.Value
public import proofs.«01_k».proof.Proof.Gen.ProjAbRefIdeal.Run
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.Proof.ProjAb

open Idealize.ShloMosaic Idealize.ShloMosaic.TcCoe Idealize.SL.Sem Cert.ProjAbIdeal Cert.ProjAbIdeal.Gen

/-- The product of the two arguments, columns 14336 on. -/
def product (a : FVec Ideal S24576x4096 .bf16) (b : FVec Ideal S4096x22592 .bf16) : FVec Ideal S24576x128 .f32 :=
  fun y => ∑ k : Fin 4096, (a (ix2 (y 0) k : S24576x4096.Idx) : EReal) * b (ix2 k ⟨14336 + (y 1).val, by have := (y 1).isLt; change (y 1).val < 128 at this; omega⟩ : S4096x22592.Idx)

variable (m : (ℓ : Loc nD τ sig) → Buf (Elt Ideal) ℓ) (c : Dev nD)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 112] :=
  (by decide +kernel : ∀ t : Fin grid0.N, win0_1.index t = ![0, 112])
theorem idx2 : ∀ t : Fin cfg0.N, win0_2.index t = ![t.val, 0] :=
  (by decide +kernel : ∀ t : Fin grid0.N, win0_2.index t = ![t.val, 0])

variable (t : Fin cfg0.N)

theorem rows (Y : Fin 1024) : 1024 * (t.val) + Y.val < 24576 := by have := t.isLt.trans_eq N_0; omega

theorem blk0 (Y : Fin 1024) (Z : Fin 4096) : iblk m c 0 t (ix2 Y Z : S1024x4096.Idx)
    = m ((c : Thread nD τ).loc main_arg0) (ix2 ⟨1024 * (t.val) + Y.val, rows t Y⟩ Z : S24576x4096.Idx) := by
  rw [← V_main_arg0 m c]
  blk_ext! [iblk, idx0 t]

theorem blk1 (Y : Fin 4096) (Z : Fin 128) : X0_1 m c t (ix2 Y Z : S4096x128.Idx)
    = m ((c : Thread nD τ).loc main_arg1) (ix2 Y ⟨14336 + (Z.val), by omega⟩ : S4096x22592.Idx) := by
  rw [← V_main_arg1 m c]
  unfold X0_1 Pipeline.Window.fill
  rw [dif_pos (moved0_1 t _)]
  blk_ext! [iblk, idx1 t]

theorem pieces (arg2 : Memref sig .tc .vmem S1024x4096 .bf16) (harg2 : arg2.IsWhole) (arg3 : Memref sig .tc .vmem S4096x128 .bf16) (harg3 : arg3.IsWhole)
    (arg4 : Memref sig .tc .vmem S1024x128 .f32) (harg4 : arg4.IsWhole) (i : grid0.Coords) (x0 : Vec Ideal S1024x4096 .bf16) (x1 : Vec Ideal S4096x128 .bf16) :
    (kernelRun0_A c i arg2 harg2 arg3 harg3 arg4 harg4 x0 x1).1
      = [⟨Rect.unit (s := S1024x128) ![0, 0] S1024x128.size inb_S1024x128_S1024x128_0_0,
          k0_pay1 (View.readAt (Elt Ideal) arg2.view (Rect.unit (s := S1024x4096) ![0, 0] S1024x4096.size inb_S1024x4096_S1024x4096_0_0).toLoadRect (harg2.unread x0))
            (View.readAt (Elt Ideal) arg3.view (Rect.unit (s := S4096x128) ![0, 0] S4096x128.size inb_S4096x128_S4096x128_0_0).toLoadRect (harg3.unread x1))⟩] := by
  sl_kernel_rfl

theorem out_eq (arg2 : Memref sig .tc .vmem S1024x4096 .bf16) (harg2 : arg2.IsWhole) (arg3 : Memref sig .tc .vmem S4096x128 .bf16) (harg3 : arg3.IsWhole)
    (arg4 : Memref sig .tc .vmem S1024x128 .f32) (harg4 : arg4.IsWhole) (i : grid0.Coords) (x0 : FVec Ideal S1024x4096 .bf16) (x1 : FVec Ideal S4096x128 .bf16) (Y : Fin 1024) (Z : Fin 128) :
    out0_A_2 (F := Ideal) c i arg2 harg2 arg3 harg3 arg4 harg4 x0 x1 (ix2 Y Z : S1024x128.Idx)
      = (∑ k : Fin 4096, (x0 (ix2 Y k : S1024x4096.Idx) : EReal) * x1 (ix2 k Z : S4096x128.Idx) : EReal) := by
  have hz : (![0, 0] : Fin S1024x128.rank → Nat) = fun _ => 0 := funext fun a => by fin_cases a <;> rfl
  have hz0 : (![0, 0] : Fin S1024x4096.rank → Nat) = fun _ => 0 := funext fun a => by fin_cases a <;> rfl
  have hz1 : (![0, 0] : Fin S4096x128.rank → Nat) = fun _ => 0 := funext fun a => by fin_cases a <;> rfl
  unfold out0_A_2
  rw [View.read_writes_junk_eq_canon, pieces, View.canon_unit_zero hz, View.readAt_eq_ld, View.readAt_eq_ld, harg2.read_unread, harg3.read_unread,
    View.ld_unit_zero hz0, View.ld_unit_zero hz1]
  pointwise [k0_pay1]

/-- The array after the run is the product. -/
theorem final : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨Y, Z, rfl⟩ : ∃ (a : Fin 1024) (b : Fin 128), y = (ix2 a b : S1024x128.Idx) := ⟨y 0, y 1, by
    funext a; fin_cases a <;> rfl⟩
  blk_simp
  rw [after0_2]
  refine (out_eq c _ _ _ _ _ _ _ _ _ Y Z).trans ?_
  refine (?_ : _ = product _ _ (ix2 ⟨1024 * (t.val) + Y.val, rows t Y⟩ ⟨Z.val, by omega⟩ : S24576x128.Idx)).trans (congrArg (product _ _) ?_)
  · exact Finset.sum_congr rfl fun k _ => by rw [blk0, blk1]; rfl
  · blk_ext [idx2 t]

end Cert.Proof.ProjAb

namespace Cert.Proof.ProjAb

open Idealize.ShloMosaic Idealize.ShloMosaic.TcCoe Idealize.SL.Sem Cert.ProjAbRefIdeal Cert.ProjAbRefIdeal.Gen

/-- The reference's array is the product. -/
theorem ref (a : FVec Ideal S24576x4096 .bf16) (b : FVec Ideal S4096x22592 .bf16) :
    extractStridedSlice S24576x128 ![0, 14336] (Host.dotGeneral dot_S24576x4096_S4096x22592_S24576x22592_1_0_0_1_n_n none (extf .f32 a bitsLt_bf16_f32) (extf .f32 b bitsLt_bf16_f32)) slices_S24576x22592_S24576x128_0_14336 = product a b := by
  funext y
  obtain ⟨Y, Z, rfl⟩ : ∃ (a : Fin 24576) (b : Fin 128), y = (ix2 a b : S24576x128.Idx) := ⟨y 0, y 1, by
    funext a; fin_cases a <;> rfl⟩
  pointwise
  rfl

end Cert.Proof.ProjAb

namespace Cert.Proof.ProjAb

open Idealize.ShloMosaic Idealize.SL.Sem

/-- The reference runs to its end, its arguments unchanged and its semaphores at zero: its run's values left out. -/
theorem reference_frame : Cert.quiescent_ProjAbRefIdeal := fun m ρ _ =>
  (θ_run (Cert.ProjAbRefIdeal.defs (F := Ideal)) _ _).mono (fun r h => ⟨fun c => (h c).2, Idealize.ShloMosaic.sem_eq_zero_of_no_sems (by decide) r.2⟩)
    (Cert.ProjAbRefIdeal.Value.run m ρ)

/-- The call's array and the reference's are the product. -/
theorem values : Cert.algebraic_ProjAbIdeal_ProjAbRefIdeal := by
  intro m g m' g' _ hargs
  refine ⟨fun c => product (m ((c.tc : Thread Cert.ProjAbIdeal.nD Cert.ProjAbIdeal.τ).loc Cert.ProjAbIdeal.main_arg0)) (m ((c.tc : Thread Cert.ProjAbIdeal.nD Cert.ProjAbIdeal.τ).loc Cert.ProjAbIdeal.main_arg1)), ?_, ?_⟩
  · exact (θ_run (Cert.ProjAbIdeal.defs (F := Ideal)) _ _).mono (fun r h c => ⟨(h c).1.trans (final m c), (h c).2⟩) (Cert.ProjAbIdeal.Value.run_blocks m g)
  · refine (θ_run (Cert.ProjAbRefIdeal.defs (F := Ideal)) _ _).mono (fun r h c => ⟨(h c).1.trans ?_, (h c).2⟩) (Cert.ProjAbRefIdeal.Value.run m' g')
    exact (ref _ _).trans (congr (congrArg product (hargs c).1) (hargs c).2)

end Cert.Proof.ProjAb

end

end
-- ==== Proof.ProjGate.lean ====
/- The merge gates' columns of the input projection: the call's array is the reference's product. -/
module

public import proofs.«01_k».proof.Defs
public import proofs.«01_k».proof.Proof.Gen.ProjGate.Frame
public import proofs.«01_k».proof.Proof.Gen.ProjGateIdeal.Points
public import proofs.«01_k».proof.Proof.Gen.ProjGateIdeal.Frame
public import proofs.«01_k».proof.Proof.Gen.ProjGateIdeal.Value
public import proofs.«01_k».proof.Proof.Gen.ProjGateRefIdeal.Run
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.Proof.ProjGate

open Idealize.ShloMosaic Idealize.ShloMosaic.TcCoe Idealize.SL.Sem Cert.ProjGateIdeal Cert.ProjGateIdeal.Gen

/-- The product of the two arguments, columns 14400 on. -/
def product (a : FVec Ideal S24576x4096 .bf16) (b : FVec Ideal S4096x22592 .bf16) : FVec Ideal S24576x8192 .bf16 :=
  fun y => ∑ k : Fin 4096, (a (ix2 (y 0) k : S24576x4096.Idx) : EReal) * b (ix2 k ⟨14400 + (y 1).val, by have := (y 1).isLt; change (y 1).val < 8192 at this; omega⟩ : S4096x22592.Idx)

variable (m : (ℓ : Loc nD τ sig) → Buf (Elt Ideal) ℓ) (c : Dev nD)

theorem idx0 : ∀ t : Fin cfg0.N, win0_0.index t = ![t.val / 8, 0] :=
  (by decide +kernel : ∀ t : Fin grid0.N, win0_0.index t = ![t.val / 8, 0])
theorem idx1 : ∀ t : Fin cfg0.N, win0_1.index t = ![0, t.val % 8] :=
  (by decide +kernel : ∀ t : Fin grid0.N, win0_1.index t = ![0, t.val % 8])
theorem idx2 : ∀ t : Fin cfg0.N, win0_2.index t = ![t.val / 8, t.val % 8] :=
  (by decide +kernel : ∀ t : Fin grid0.N, win0_2.index t = ![t.val / 8, t.val % 8])

variable (t : Fin cfg0.N)

theorem rows (Y : Fin 1024) : 1024 * (t.val / 8) + Y.val < 24576 := by have := t.isLt.trans_eq N_0; omega

theorem blk0 (Y : Fin 1024) (Z : Fin 4096) : iblk m c 0 t (ix2 Y Z : S1024x4096.Idx)
    = m ((c : Thread nD τ).loc main_arg0) (ix2 ⟨1024 * (t.val / 8) + Y.val, rows t Y⟩ Z : S24576x4096.Idx) := by
  rw [← V_main_arg0 m c]
  blk_ext! [iblk, idx0 t]

theorem blk1 (Y : Fin 4096) (Z : Fin 1024) : iblk m c 1 t (ix2 Y Z : S4096x1024.Idx)
    = m ((c : Thread nD τ).loc main_arg1) (ix2 Y ⟨14400 + (1024 * (t.val % 8) + Z.val), by omega⟩ : S4096x22592.Idx) := by
  blk_simp [iblk, idx1 t]
  entry_read
  pointwise
  blk_ext [idx1 t]

theorem out_eq (x0 : FVec Ideal S1024x4096 .bf16) (x1 : FVec Ideal S4096x1024 .bf16) (Y : Fin 1024) (Z : Fin 1024) :
    out0_2 (F := Ideal) x0 x1 (ix2 Y Z : S1024x1024.Idx) = ∑ k : Fin 4096, (x0 (ix2 Y k : S1024x4096.Idx) : EReal) * x1 (ix2 k Z : S4096x1024.Idx) := by
  have hz : (![0, 0] : Fin S1024x1024.rank → Nat) = fun _ => 0 := funext fun a => by fin_cases a <;> rfl
  have hz0 : (![0, 0] : Fin S1024x4096.rank → Nat) = fun _ => 0 := funext fun a => by fin_cases a <;> rfl
  have hz1 : (![0, 0] : Fin S4096x1024.rank → Nat) = fun _ => 0 := funext fun a => by fin_cases a <;> rfl
  unfold out0_2
  rw [View.canon_unit_zero hz, View.ld_unit_zero hz0, View.ld_unit_zero hz1]
  pointwise [k0_pay1]

/-- The array after the run is the product. -/
theorem final : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨Y, Z, rfl⟩ : ∃ (a : Fin 1024) (b : Fin 1024), y = (ix2 a b : S1024x1024.Idx) := ⟨y 0, y 1, by
    funext a; fin_cases a <;> rfl⟩
  blk_simp
  rw [after0_2]
  refine (out_eq _ _ Y Z).trans ?_
  refine (?_ : _ = product _ _ (ix2 ⟨1024 * (t.val / 8) + Y.val, rows t Y⟩ ⟨1024 * (t.val % 8) + Z.val, by omega⟩ : S24576x8192.Idx)).trans (congrArg (product _ _) ?_)
  · exact Finset.sum_congr rfl fun k _ => by rw [blk0, blk1]; rfl
  · blk_ext [idx2 t]

end Cert.Proof.ProjGate

namespace Cert.Proof.ProjGate

open Idealize.ShloMosaic Idealize.ShloMosaic.TcCoe Idealize.SL.Sem Cert.ProjGateRefIdeal Cert.ProjGateRefIdeal.Gen

/-- The reference's array is the product. -/
theorem ref (a : FVec Ideal S24576x4096 .bf16) (b : FVec Ideal S4096x22592 .bf16) :
    truncf .bf16 (extractStridedSlice S24576x8192 ![0, 14400] (Host.dotGeneral dot_S24576x4096_S4096x22592_S24576x22592_1_0_0_1_n_n none (extf .f32 a bitsLt_bf16_f32) (extf .f32 b bitsLt_bf16_f32)) slices_S24576x22592_S24576x8192_0_14400) bitsLt_bf16_f32 = product a b := by
  funext y
  obtain ⟨Y, Z, rfl⟩ : ∃ (a : Fin 24576) (b : Fin 8192), y = (ix2 a b : S24576x8192.Idx) := ⟨y 0, y 1, by
    funext a; fin_cases a <;> rfl⟩
  pointwise
  rfl

end Cert.Proof.ProjGate

namespace Cert.Proof.ProjGate

open Idealize.ShloMosaic Idealize.SL.Sem

/-- The reference runs to its end, its arguments unchanged and its semaphores at zero: its run's values left out. -/
theorem reference_frame : Cert.quiescent_ProjGateRefIdeal := fun m ρ _ =>
  (θ_run (Cert.ProjGateRefIdeal.defs (F := Ideal)) _ _).mono (fun r h => ⟨fun c => (h c).2, Idealize.ShloMosaic.sem_eq_zero_of_no_sems (by decide) r.2⟩)
    (Cert.ProjGateRefIdeal.Value.run m ρ)

/-- The call's array and the reference's are the product. -/
theorem values : Cert.algebraic_ProjGateIdeal_ProjGateRefIdeal := by
  intro m g m' g' _ hargs
  refine ⟨fun c => product (m ((c.tc : Thread Cert.ProjGateIdeal.nD Cert.ProjGateIdeal.τ).loc Cert.ProjGateIdeal.main_arg0)) (m ((c.tc : Thread Cert.ProjGateIdeal.nD Cert.ProjGateIdeal.τ).loc Cert.ProjGateIdeal.main_arg1)), ?_, ?_⟩
  · exact (θ_run (Cert.ProjGateIdeal.defs (F := Ideal)) _ _).mono (fun r h c => ⟨(h c).1.trans (final m c), (h c).2⟩) (Cert.ProjGateIdeal.Value.run_blocks m g)
  · refine (θ_run (Cert.ProjGateRefIdeal.defs (F := Ideal)) _ _).mono (fun r h c => ⟨(h c).1.trans ?_, (h c).2⟩) (Cert.ProjGateRefIdeal.Value.run m' g')
    exact (ref _ _).trans (congr (congrArg product (hargs c).1) (hargs c).2)

end Cert.Proof.ProjGate

end

end
-- ==== Proof.Merge.lean ====
/- The merge of the two branches: the call's array is the reference's, each gate's sigmoid times the projection of its branch, added. -/
module

public import proofs.«01_k».proof.Defs
public import proofs.«01_k».proof.Proof.Gen.Merge.Frame
public import proofs.«01_k».proof.Defs
public import proofs.«01_k».proof.Proof.Gen.Merge.Frame
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import Idealize.ShloMosaic.Adequacy
public import Idealize.ShloMosaic.Init
public import Idealize.ShloMosaic.Adequacy
public import Idealize.ShloMosaic.Init

@[expose] public section

set_option maxRecDepth 16384

noncomputable section

namespace Cert.Proof.Merge

open Idealize.ShloMosaic Idealize.ShloMosaic.TcCoe Idealize.SL.Sem Cert.MergeIdeal Cert.MergeIdeal.Gen

/-- The logistic function as the reference writes it. -/
def logistic (x : EReal) : EReal := Ideal.div 1 (1 + Ideal.exp (-x))

/-- The two gates' sigmoids times the projections of the two branches, added. -/
def merged (oa od : FVec Ideal S24576x2048 .bf16) (wa wd : FVec Ideal S2048x4096 .bf16) (gates : FVec Ideal S24576x8192 .bf16) :
    FVec Ideal S24576x4096 .bf16 := fun y =>
  logistic (gates (ix2 (y 0) ⟨(y 1).val, by have := (y 1).isLt; change (y 1).val < 4096 at this; omega⟩ : S24576x8192.Idx))
      * (∑ k : Fin 2048, (oa (ix2 (y 0) k : S24576x2048.Idx) : EReal) * wa (ix2 k (y 1) : S2048x4096.Idx))
    + logistic (gates (ix2 (y 0) ⟨4096 + (y 1).val, by have := (y 1).isLt; change (y 1).val < 4096 at this; omega⟩ : S24576x8192.Idx))
      * (∑ k : Fin 2048, (od (ix2 (y 0) k : S24576x2048.Idx) : EReal) * wd (ix2 k (y 1) : S2048x4096.Idx))

variable (m : (ℓ : Loc nD τ sig) → Buf (Elt Ideal) ℓ) (c : Dev nD)

theorem idx0 : ∀ t : Fin cfg0.N, win0_0.index t = ![t.val / 4, 0] :=
  (by decide +kernel : ∀ t : Fin grid0.N, win0_0.index t = ![t.val / 4, 0])
theorem idx1 : ∀ t : Fin cfg0.N, win0_1.index t = ![t.val / 4, 0] :=
  (by decide +kernel : ∀ t : Fin grid0.N, win0_1.index t = ![t.val / 4, 0])
theorem idx2 : ∀ t : Fin cfg0.N, win0_2.index t = ![0, t.val % 4] :=
  (by decide +kernel : ∀ t : Fin grid0.N, win0_2.index t = ![0, t.val % 4])
theorem idx3 : ∀ t : Fin cfg0.N, win0_3.index t = ![0, t.val % 4] :=
  (by decide +kernel : ∀ t : Fin grid0.N, win0_3.index t = ![0, t.val % 4])
theorem idx4 : ∀ t : Fin cfg0.N, win0_4.index t = ![t.val / 4, t.val % 4] :=
  (by decide +kernel : ∀ t : Fin grid0.N, win0_4.index t = ![t.val / 4, t.val % 4])
theorem idx5 : ∀ t : Fin cfg0.N, win0_5.index t = ![t.val / 4, 4 + t.val % 4] :=
  (by decide +kernel : ∀ t : Fin grid0.N, win0_5.index t = ![t.val / 4, 4 + t.val % 4])
theorem idx6 : ∀ t : Fin cfg0.N, win0_6.index t = ![t.val / 4, t.val % 4] :=
  (by decide +kernel : ∀ t : Fin grid0.N, win0_6.index t = ![t.val / 4, t.val % 4])

variable (t : Fin cfg0.N)

theorem rows (Y : Fin 1024) : 1024 * (t.val / 4) + Y.val < 24576 := by have := t.isLt.trans_eq N_0; omega

theorem blk0 (Y : Fin 1024) (Z : Fin 2048) : iblk m c 0 t (ix2 Y Z : S1024x2048.Idx)
    = m ((c : Thread nD τ).loc main_arg0) (ix2 ⟨1024 * (t.val / 4) + Y.val, rows t Y⟩ Z : S24576x2048.Idx) := by
  rw [← V_main_arg0 m c]
  blk_ext! [iblk, idx0 t]

theorem blk1 (Y : Fin 1024) (Z : Fin 2048) : iblk m c 1 t (ix2 Y Z : S1024x2048.Idx)
    = m ((c : Thread nD τ).loc main_arg1) (ix2 ⟨1024 * (t.val / 4) + Y.val, rows t Y⟩ Z : S24576x2048.Idx) := by
  rw [← V_main_arg1 m c]
  blk_ext! [iblk, idx1 t]

theorem blk2 (Y : Fin 2048) (Z : Fin 1024) : iblk m c 2 t (ix2 Y Z : S2048x1024.Idx)
    = m ((c : Thread nD τ).loc main_arg2) (ix2 Y ⟨1024 * (t.val % 4) + Z.val, by omega⟩ : S2048x4096.Idx) := by
  rw [← V_main_arg2 m c]
  blk_ext! [iblk, idx2 t]

theorem blk3 (Y : Fin 2048) (Z : Fin 1024) : iblk m c 3 t (ix2 Y Z : S2048x1024.Idx)
    = m ((c : Thread nD τ).loc main_arg3) (ix2 Y ⟨1024 * (t.val % 4) + Z.val, by omega⟩ : S2048x4096.Idx) := by
  rw [← V_main_arg3 m c]
  blk_ext! [iblk, idx3 t]

theorem blk4 (Y : Fin 1024) (Z : Fin 1024) : iblk m c 4 t (ix2 Y Z : S1024x1024.Idx)
    = m ((c : Thread nD τ).loc main_arg4) (ix2 ⟨1024 * (t.val / 4) + Y.val, rows t Y⟩ ⟨1024 * (t.val % 4) + Z.val, by omega⟩ : S24576x8192.Idx) := by
  rw [← V_main_arg4 m c]
  blk_ext! [iblk, idx4 t]

theorem blk5 (Y : Fin 1024) (Z : Fin 1024) : iblk m c 5 t (ix2 Y Z : S1024x1024.Idx)
    = m ((c : Thread nD τ).loc main_arg4) (ix2 ⟨1024 * (t.val / 4) + Y.val, rows t Y⟩ ⟨4096 + (1024 * (t.val % 4) + Z.val), by omega⟩ : S24576x8192.Idx) := by
  rw [← V_main_arg4 m c]
  blk_ext! [iblk, idx5 t]

theorem out_eq (x0 x1 : FVec Ideal S1024x2048 .bf16) (x2 x3 : FVec Ideal S2048x1024 .bf16) (x4 x5 : FVec Ideal S1024x1024 .bf16) (Y Z : Fin 1024) :
    out0_6 (F := Ideal) x0 x1 x2 x3 x4 x5 (ix2 Y Z : S1024x1024.Idx)
      = logistic (x4 (ix2 Y Z : S1024x1024.Idx)) * (∑ k : Fin 2048, (x0 (ix2 Y k : S1024x2048.Idx) : EReal) * x2 (ix2 k Z : S2048x1024.Idx))
        + logistic (x5 (ix2 Y Z : S1024x1024.Idx)) * (∑ k : Fin 2048, (x1 (ix2 Y k : S1024x2048.Idx) : EReal) * x3 (ix2 k Z : S2048x1024.Idx)) := by
  have hz : (![0, 0] : Fin S1024x1024.rank → Nat) = fun _ => 0 := funext fun a => by fin_cases a <;> rfl
  have hz0 : (![0, 0] : Fin S1024x2048.rank → Nat) = fun _ => 0 := funext fun a => by fin_cases a <;> rfl
  have hz1 : (![0, 0] : Fin S2048x1024.rank → Nat) = fun _ => 0 := funext fun a => by fin_cases a <;> rfl
  unfold out0_6
  rw [View.canon_unit_zero hz, View.ld_unit_zero hz0, View.ld_unit_zero hz0, View.ld_unit_zero hz1, View.ld_unit_zero hz1, View.ld_unit_zero hz,
    View.ld_unit_zero hz]
  unfold logistic
  pointwise [k0_pay1]
  simp only [zero_sub]

/-- The array after the run is the merge of the two branches. -/
theorem final : (dats m 0 c).arrAt 6 cfg0.N
    = merged (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t hf y => ?_
  obtain ⟨Y, Z, rfl⟩ : ∃ (a : Fin 1024) (b : Fin 1024), y = (ix2 a b : S1024x1024.Idx) := ⟨y 0, y 1, by
    funext a; fin_cases a <;> rfl⟩
  blk_simp
  rw [after0_6]
  refine (out_eq _ _ _ _ _ _ Y Z).trans ?_
  refine (?_ : _ = merged _ _ _ _ _ (ix2 ⟨1024 * (t.val / 4) + Y.val, rows t Y⟩ ⟨1024 * (t.val % 4) + Z.val, by omega⟩ : S24576x4096.Idx)).trans (congrArg (merged _ _ _ _ _) ?_)
  · refine congr (congrArg _ (congr (congrArg _ (congrArg logistic (blk4 m c t Y Z))) (Finset.sum_congr rfl fun k _ => ?_)))
      (congr (congrArg _ (congrArg logistic (blk5 m c t Y Z))) (Finset.sum_congr rfl fun k _ => ?_))
    · rw [blk0, blk2]; rfl
    · rw [blk1, blk3]; rfl
  · blk_ext [idx6 t]

end Cert.Proof.Merge

namespace Cert.Proof.Merge

open Idealize.ShloMosaic Idealize.ShloMosaic.TcCoe Idealize.SL.Sem Cert.MergeRefIdeal Cert.MergeRefIdeal.Gen

/-- The reference's array is the merge of the two branches. -/
theorem ref (a0 a1 : FVec Ideal S24576x2048 .bf16) (a2 a3 : FVec Ideal S2048x4096 .bf16) (a4 : FVec Ideal S24576x8192 .bf16) :
    truncf .bf16 (addf (mulf (Host.divf (broadcastInDim S24576x4096 ![] bcast_S_S24576x4096 (constant S_ .f32 0x3F800000#32)) (addf (broadcastInDim S24576x4096 ![] bcast_S_S24576x4096 (constant S_ .f32 0x3F800000#32)) (Host.exp (Host.negf (extractStridedSlice S24576x4096 ![0, 0] (extf .f32 a4 bitsLt_bf16_f32) slices_S24576x8192_S24576x4096_0_0))))) (Host.dotGeneral dot_S24576x2048_S2048x4096_S24576x4096_1_0_0_1_n_n none (extf .f32 a0 bitsLt_bf16_f32) (extf .f32 a2 bitsLt_bf16_f32))) (mulf (Host.divf (broadcastInDim S24576x4096 ![] bcast_S_S24576x4096 (constant S_ .f32 0x3F800000#32)) (addf (broadcastInDim S24576x4096 ![] bcast_S_S24576x4096 (constant S_ .f32 0x3F800000#32)) (Host.exp (Host.negf (extractStridedSlice S24576x4096 ![0, 4096] (extf .f32 a4 bitsLt_bf16_f32) slices_S24576x8192_S24576x4096_0_4096))))) (Host.dotGeneral dot_S24576x2048_S2048x4096_S24576x4096_1_0_0_1_n_n none (extf .f32 a1 bitsLt_bf16_f32) (extf .f32 a3 bitsLt_bf16_f32)))) bitsLt_bf16_f32
      = merged a0 a1 a2 a3 a4 := by
  funext y
  obtain ⟨Y, Z, rfl⟩ : ∃ (a : Fin 24576) (b : Fin 4096), y = (ix2 a b : S24576x4096.Idx) := ⟨y 0, y 1, by
    funext a; fin_cases a <;> rfl⟩
  pointwise
  rfl

end Cert.Proof.Merge

namespace Cert.Proof.Merge

open Idealize.ShloMosaic Idealize.SL.Sem

/-- The reference runs to its end, its arguments unchanged and its semaphores at zero: its run's values left out. -/
theorem reference_frame : Cert.quiescent_MergeRefIdeal := fun m ρ _ =>
  (θ_run (Cert.MergeRefIdeal.defs (F := Ideal)) _ _).mono (fun r h => ⟨fun c => (h c).2, Idealize.ShloMosaic.sem_eq_zero_of_no_sems (by decide) r.2⟩)
    (Cert.MergeRefIdeal.Value.run m ρ)

/-- The call's array and the reference's are the merge of the two branches. -/
theorem values : Cert.algebraic_MergeIdeal_MergeRefIdeal := by
  intro m g m' g' _ hargs
  refine ⟨fun c => merged (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)), ?_, ?_⟩
  · exact (θ_run (Cert.MergeIdeal.defs (F := Ideal)) _ _).mono (fun r h c => ⟨(h c).1.trans (final m c), (h c).2⟩) (Cert.MergeIdeal.Value.run_blocks m g)
  · refine (θ_run (Cert.MergeRefIdeal.defs (F := Ideal)) _ _).mono (fun r h c => ⟨(h c).1.trans ?_, (h c).2⟩) (Cert.MergeRefIdeal.Value.run m' g')
    exact (ref _ _ _ _ _).trans (congr (congr (congr (congr (congrArg merged (hargs c).1) (hargs c).2.1) (hargs c).2.2.1) (hargs c).2.2.2.1) (hargs c).2.2.2.2)

end Cert.Proof.Merge

end

end
-- ==== Proof.OutProj.lean ====
/- The output projection: the call's array is the reference's product. -/
module

public import proofs.«01_k».proof.Defs
public import proofs.«01_k».proof.Proof.Gen.OutProj.Frame
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.Proof.OutProj

open Idealize.ShloMosaic Idealize.ShloMosaic.TcCoe Idealize.SL.Sem Cert.OutProjIdeal Cert.OutProjIdeal.Gen

/-- The product of the two arguments. -/
def product (a : FVec Ideal S24576x4096 .bf16) (b : FVec Ideal S4096x4096 .bf16) : FVec Ideal S24576x4096 .f32 :=
  fun y => ∑ k : Fin 4096, (a (ix2 (y 0) k : S24576x4096.Idx) : EReal) * b (ix2 k (y 1) : S4096x4096.Idx)

variable (m : (ℓ : Loc nD τ sig) → Buf (Elt Ideal) ℓ) (c : Dev nD)

theorem idx0 : ∀ t : Fin cfg0.N, win0_0.index t = ![t.val / 4, 0] :=
  (by decide +kernel : ∀ t : Fin grid0.N, win0_0.index t = ![t.val / 4, 0])
theorem idx1 : ∀ t : Fin cfg0.N, win0_1.index t = ![0, t.val % 4] :=
  (by decide +kernel : ∀ t : Fin grid0.N, win0_1.index t = ![0, t.val % 4])
theorem idx2 : ∀ t : Fin cfg0.N, win0_2.index t = ![t.val / 4, t.val % 4] :=
  (by decide +kernel : ∀ t : Fin grid0.N, win0_2.index t = ![t.val / 4, t.val % 4])

variable (t : Fin cfg0.N)

theorem rows (Y : Fin 1024) : 1024 * (t.val / 4) + Y.val < 24576 := by have := t.isLt.trans_eq N_0; omega

theorem blk0 (Y : Fin 1024) (Z : Fin 4096) : iblk m c 0 t (ix2 Y Z : S1024x4096.Idx)
    = m ((c : Thread nD τ).loc main_arg0) (ix2 ⟨1024 * (t.val / 4) + Y.val, rows t Y⟩ Z : S24576x4096.Idx) := by
  rw [← V_main_arg0 m c]
  blk_ext! [iblk, idx0 t]

theorem blk1 (Y : Fin 4096) (Z : Fin 1024) : iblk m c 1 t (ix2 Y Z : S4096x1024.Idx)
    = m ((c : Thread nD τ).loc main_arg1) (ix2 Y ⟨1024 * (t.val % 4) + Z.val, by omega⟩ : S4096x4096.Idx) := by
  rw [← V_main_arg1 m c]
  blk_ext! [iblk, idx1 t]

theorem out_eq (x0 : FVec Ideal S1024x4096 .bf16) (x1 : FVec Ideal S4096x1024 .bf16) (Y : Fin 1024) (Z : Fin 1024) :
    out0_2 (F := Ideal) x0 x1 (ix2 Y Z : S1024x1024.Idx) = ∑ k : Fin 4096, (x0 (ix2 Y k : S1024x4096.Idx) : EReal) * x1 (ix2 k Z : S4096x1024.Idx) := by
  have hz : (![0, 0] : Fin S1024x1024.rank → Nat) = fun _ => 0 := funext fun a => by fin_cases a <;> rfl
  have hz0 : (![0, 0] : Fin S1024x4096.rank → Nat) = fun _ => 0 := funext fun a => by fin_cases a <;> rfl
  have hz1 : (![0, 0] : Fin S4096x1024.rank → Nat) = fun _ => 0 := funext fun a => by fin_cases a <;> rfl
  unfold out0_2
  rw [View.canon_unit_zero hz, View.ld_unit_zero hz0, View.ld_unit_zero hz1]
  pointwise [k0_pay1]

/-- The array after the run is the product. -/
theorem final : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨Y, Z, rfl⟩ : ∃ (a : Fin 1024) (b : Fin 1024), y = (ix2 a b : S1024x1024.Idx) := ⟨y 0, y 1, by
    funext a; fin_cases a <;> rfl⟩
  blk_simp
  rw [after0_2]
  refine (out_eq _ _ Y Z).trans ?_
  refine (?_ : _ = product _ _ (ix2 ⟨1024 * (t.val / 4) + Y.val, rows t Y⟩ ⟨1024 * (t.val % 4) + Z.val, by omega⟩ : S24576x4096.Idx)).trans (congrArg (product _ _) ?_)
  · exact Finset.sum_congr rfl fun k _ => by rw [blk0, blk1]; rfl
  · blk_ext [idx2 t]

end Cert.Proof.OutProj

namespace Cert.Proof.OutProj

open Idealize.ShloMosaic Idealize.ShloMosaic.TcCoe Idealize.SL.Sem Cert.OutProjRefIdeal Cert.OutProjRefIdeal.Gen

/-- The reference's array is the product. -/
theorem ref (a : FVec Ideal S24576x4096 .bf16) (b : FVec Ideal S4096x4096 .bf16) :
    Host.dotGeneral dot_S24576x4096_S4096x4096_S24576x4096_1_0_0_1_n_n none (extf .f32 a bitsLt_bf16_f32) (extf .f32 b bitsLt_bf16_f32) = product a b := by
  funext y
  obtain ⟨Y, Z, rfl⟩ : ∃ (a : Fin 24576) (b : Fin 4096), y = (ix2 a b : S24576x4096.Idx) := ⟨y 0, y 1, by
    funext a; fin_cases a <;> rfl⟩
  pointwise
  rfl

end Cert.Proof.OutProj

namespace Cert.Proof.OutProj

open Idealize.ShloMosaic Idealize.SL.Sem

/-- The reference runs to its end, its arguments unchanged and its semaphores at zero: its run's values left out. -/
theorem reference_frame : Cert.quiescent_OutProjRefIdeal := fun m ρ _ =>
  (θ_run (Cert.OutProjRefIdeal.defs (F := Ideal)) _ _).mono (fun r h => ⟨fun c => (h c).2, Idealize.ShloMosaic.sem_eq_zero_of_no_sems (by decide) r.2⟩)
    (Cert.OutProjRefIdeal.Value.run m ρ)

/-- The call's array and the reference's are the product. -/
theorem values : Cert.algebraic_OutProjIdeal_OutProjRefIdeal := by
  intro m g m' g' _ hargs
  refine ⟨fun c => product (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)), ?_, ?_⟩
  · exact (θ_run (Cert.OutProjIdeal.defs (F := Ideal)) _ _).mono (fun r h c => ⟨(h c).1.trans (final m c), (h c).2⟩) (Cert.OutProjIdeal.Value.run_blocks m g)
  · refine (θ_run (Cert.OutProjRefIdeal.defs (F := Ideal)) _ _).mono (fun r h c => ⟨(h c).1.trans ?_, (h c).2⟩) (Cert.OutProjRefIdeal.Value.run m' g')
    exact (ref _ _).trans (congr (congrArg product (hargs c).1) (hargs c).2)

end Cert.Proof.OutProj

end

end
-- ==== Proof.PeerQ.lean ====
/- The expert queries: the call's array is the reference's product. -/
module

public import proofs.«01_k».proof.Defs
public import proofs.«01_k».proof.Proof.Gen.PeerQ.Frame
public import proofs.«01_k».proof.Proof.Gen.PeerQIdeal.Points
public import proofs.«01_k».proof.Proof.Gen.PeerQIdeal.Frame
public import proofs.«01_k».proof.Proof.Gen.PeerQIdeal.Value
public import proofs.«01_k».proof.Proof.Gen.PeerQRefIdeal.Run
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.Proof.PeerQ

open Idealize.ShloMosaic Idealize.ShloMosaic.TcCoe Idealize.SL.Sem Cert.PeerQIdeal Cert.PeerQIdeal.Gen

/-- The product of the two arguments. -/
def product (a : FVec Ideal S24576x4096 .bf16) (b : FVec Ideal S4096x2048 .bf16) : FVec Ideal S24576x2048 .f32 :=
  fun y => ∑ k : Fin 4096, (a (ix2 (y 0) k : S24576x4096.Idx) : EReal) * b (ix2 k (y 1) : S4096x2048.Idx)

variable (m : (ℓ : Loc nD τ sig) → Buf (Elt Ideal) ℓ) (c : Dev nD)

theorem idx0 : ∀ t : Fin cfg0.N, win0_0.index t = ![t.val / 2, 0] :=
  (by decide +kernel : ∀ t : Fin grid0.N, win0_0.index t = ![t.val / 2, 0])
theorem idx1 : ∀ t : Fin cfg0.N, win0_1.index t = ![0, t.val % 2] :=
  (by decide +kernel : ∀ t : Fin grid0.N, win0_1.index t = ![0, t.val % 2])
theorem idx2 : ∀ t : Fin cfg0.N, win0_2.index t = ![t.val / 2, t.val % 2] :=
  (by decide +kernel : ∀ t : Fin grid0.N, win0_2.index t = ![t.val / 2, t.val % 2])

variable (t : Fin cfg0.N)

theorem rows (Y : Fin 1024) : 1024 * (t.val / 2) + Y.val < 24576 := by have := t.isLt.trans_eq N_0; omega

theorem blk0 (Y : Fin 1024) (Z : Fin 4096) : iblk m c 0 t (ix2 Y Z : S1024x4096.Idx)
    = m ((c : Thread nD τ).loc main_arg0) (ix2 ⟨1024 * (t.val / 2) + Y.val, rows t Y⟩ Z : S24576x4096.Idx) := by
  rw [← V_main_arg0 m c]
  blk_ext! [iblk, idx0 t]

theorem blk1 (Y : Fin 4096) (Z : Fin 1024) : iblk m c 1 t (ix2 Y Z : S4096x1024.Idx)
    = m ((c : Thread nD τ).loc main_arg1) (ix2 Y ⟨1024 * (t.val % 2) + Z.val, by omega⟩ : S4096x2048.Idx) := by
  rw [← V_main_arg1 m c]
  blk_ext! [iblk, idx1 t]

theorem out_eq (x0 : FVec Ideal S1024x4096 .bf16) (x1 : FVec Ideal S4096x1024 .bf16) (Y : Fin 1024) (Z : Fin 1024) :
    out0_2 (F := Ideal) x0 x1 (ix2 Y Z : S1024x1024.Idx) = ∑ k : Fin 4096, (x0 (ix2 Y k : S1024x4096.Idx) : EReal) * x1 (ix2 k Z : S4096x1024.Idx) := by
  have hz : (![0, 0] : Fin S1024x1024.rank → Nat) = fun _ => 0 := funext fun a => by fin_cases a <;> rfl
  have hz0 : (![0, 0] : Fin S1024x4096.rank → Nat) = fun _ => 0 := funext fun a => by fin_cases a <;> rfl
  have hz1 : (![0, 0] : Fin S4096x1024.rank → Nat) = fun _ => 0 := funext fun a => by fin_cases a <;> rfl
  unfold out0_2
  rw [View.canon_unit_zero hz, View.ld_unit_zero hz0, View.ld_unit_zero hz1]
  pointwise [k0_pay1]

/-- The array after the run is the product. -/
theorem final : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  obtain ⟨Y, Z, rfl⟩ : ∃ (a : Fin 1024) (b : Fin 1024), y = (ix2 a b : S1024x1024.Idx) := ⟨y 0, y 1, by
    funext a; fin_cases a <;> rfl⟩
  blk_simp
  rw [after0_2]
  refine (out_eq _ _ Y Z).trans ?_
  refine (?_ : _ = product _ _ (ix2 ⟨1024 * (t.val / 2) + Y.val, rows t Y⟩ ⟨1024 * (t.val % 2) + Z.val, by omega⟩ : S24576x2048.Idx)).trans (congrArg (product _ _) ?_)
  · exact Finset.sum_congr rfl fun k _ => by rw [blk0, blk1]; rfl
  · blk_ext [idx2 t]

end Cert.Proof.PeerQ

namespace Cert.Proof.PeerQ

open Idealize.ShloMosaic Idealize.ShloMosaic.TcCoe Idealize.SL.Sem Cert.PeerQRefIdeal Cert.PeerQRefIdeal.Gen

/-- The reference's array is the product. -/
theorem ref (a : FVec Ideal S24576x4096 .bf16) (b : FVec Ideal S4096x2048 .bf16) :
    Host.dotGeneral dot_S24576x4096_S4096x2048_S24576x2048_1_0_0_1_n_n none (extf .f32 a bitsLt_bf16_f32) (extf .f32 b bitsLt_bf16_f32) = product a b := by
  funext y
  obtain ⟨Y, Z, rfl⟩ : ∃ (a : Fin 24576) (b : Fin 2048), y = (ix2 a b : S24576x2048.Idx) := ⟨y 0, y 1, by
    funext a; fin_cases a <;> rfl⟩
  pointwise
  rfl

end Cert.Proof.PeerQ

namespace Cert.Proof.PeerQ

open Idealize.ShloMosaic Idealize.SL.Sem

/-- The reference runs to its end, its arguments unchanged and its semaphores at zero: its run's values left out. -/
theorem reference_frame : Cert.quiescent_PeerQRefIdeal := fun m ρ _ =>
  (θ_run (Cert.PeerQRefIdeal.defs (F := Ideal)) _ _).mono (fun r h => ⟨fun c => (h c).2, Idealize.ShloMosaic.sem_eq_zero_of_no_sems (by decide) r.2⟩)
    (Cert.PeerQRefIdeal.Value.run m ρ)

/-- The call's array and the reference's are the product. -/
theorem values : Cert.algebraic_PeerQIdeal_PeerQRefIdeal := by
  intro m g m' g' _ hargs
  refine ⟨fun c => product (m ((c.tc : Thread Cert.PeerQIdeal.nD Cert.PeerQIdeal.τ).loc Cert.PeerQIdeal.main_arg0)) (m ((c.tc : Thread Cert.PeerQIdeal.nD Cert.PeerQIdeal.τ).loc Cert.PeerQIdeal.main_arg1)), ?_, ?_⟩
  · exact (θ_run (Cert.PeerQIdeal.defs (F := Ideal)) _ _).mono (fun r h c => ⟨(h c).1.trans (final m c), (h c).2⟩) (Cert.PeerQIdeal.Value.run_blocks m g)
  · refine (θ_run (Cert.PeerQRefIdeal.defs (F := Ideal)) _ _).mono (fun r h c => ⟨(h c).1.trans ?_, (h c).2⟩) (Cert.PeerQRefIdeal.Value.run m' g')
    exact (ref _ _).trans (congr (congrArg product (hargs c).1) (hargs c).2)

end Cert.Proof.PeerQ

end

end
-- ==== Proof.LastPrompt.lean ====
/- The last residual and norm on the first two parts: the call's array is the reference's. -/
module

public import proofs.«01_k».proof.Defs
public import proofs.«01_k».proof.Proof.Gen.LastPrompt.Frame
public import proofs.«01_k».proof.Defs
public import proofs.«01_k».proof.Proof.Gen.LastPrompt.Frame
public import proofs.«01_k».proof.Proof.Gen.LastPromptIdeal.Points
public import proofs.«01_k».proof.Proof.Gen.LastPromptIdeal.Frame
public import proofs.«01_k».proof.Proof.Gen.LastPromptIdeal.Value
public import proofs.«01_k».proof.Proof.Gen.LastPromptRefIdeal.Run
public import Idealize.ShloMosaic.Lib.Pipeline.ValueKit
public import Idealize.ShloMosaic.Lib.Pointwise
public import Idealize.ShloMosaic.Adequacy
public import Idealize.ShloMosaic.Init
public import Idealize.ShloMosaic.Adequacy
public import Idealize.ShloMosaic.Init

@[expose] public section

set_option maxRecDepth 16384

noncomputable section

namespace Cert.Proof.LastPrompt

open Idealize.ShloMosaic Idealize.ShloMosaic.TcCoe Idealize.SL.Sem Cert.LastPromptIdeal Cert.LastPromptIdeal.Gen

/-- The scaled residual plus the gated output. -/
def res (x y g2 : Fin 4096 → EReal) (k : Fin 4096) : EReal := Ideal.ofBits FTy.f32 0x3FB504F3#32 * x k + g2 k * y k

/-- The mean of a row. -/
def mean (f : Fin 4096 → EReal) : EReal := Ideal.div (∑ k : Fin 4096, f k) (Ideal.ofBits FTy.f32 0x45800000#32)

/-- A row normalised to mean zero and variance one, times `g` plus `b`. -/
def norm (f g b : Fin 4096 → EReal) (k : Fin 4096) : EReal :=
  (f k - mean f) * Ideal.rsqrt (mean (fun j => (f j - mean f) * (f j - mean f)) + Ideal.ofBits FTy.f32 0x3727C5AC#32) * g k + b k

/-- The normalised rows of the scaled residual plus the gated output. -/
def normed (x y : FVec Ideal S3x8192x4096 .f32) (g2 : FVec Ideal S3x1x4096 .f32) (g b : FVec Ideal S4096 .f32) :
    FVec Ideal S2x8192x4096 .f32 := fun i =>
  norm (res (fun k => x (ix3 ⟨(i 0).val, by have := (i 0).isLt; change (i 0).val < 2 at this; omega⟩ (i 1) k : S3x8192x4096.Idx))
      (fun k => y (ix3 ⟨(i 0).val, by have := (i 0).isLt; change (i 0).val < 2 at this; omega⟩ (i 1) k : S3x8192x4096.Idx))
      (fun k => g2 (ix3 ⟨(i 0).val, by have := (i 0).isLt; change (i 0).val < 2 at this; omega⟩ 0 k : S3x1x4096.Idx)))
    (fun k => g (ix1 k : S4096.Idx)) (fun k => b (ix1 k : S4096.Idx)) (i 2)

variable (m : (ℓ : Loc nD τ sig) → Buf (Elt Ideal) ℓ) (c : Dev nD)

theorem idx0 : ∀ t : Fin cfg0.N, win0_0.index t = ![t.val / 32, t.val % 32, 0] :=
  (by decide +kernel : ∀ t : Fin grid0.N, win0_0.index t = ![t.val / 32, t.val % 32, 0])
theorem idx1 : ∀ t : Fin cfg0.N, win0_1.index t = ![t.val / 32, t.val % 32, 0] :=
  (by decide +kernel : ∀ t : Fin grid0.N, win0_1.index t = ![t.val / 32, t.val % 32, 0])
theorem idx2 : ∀ t : Fin cfg0.N, win0_2.index t = ![t.val / 32, 0, 0] :=
  (by decide +kernel : ∀ t : Fin grid0.N, win0_2.index t = ![t.val / 32, 0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val / 32, t.val % 32, 0] :=
  (by decide +kernel : ∀ t : Fin grid0.N, win0_5.index t = ![t.val / 32, t.val % 32, 0])

variable (t : Fin cfg0.N)

theorem rows (Y : Fin 256) : 256 * (t.val % 32) + Y.val < 8192 := by have := t.isLt.trans_eq N_0; omega
theorem part : t.val / 32 < 3 := by have := t.isLt.trans_eq N_0; omega
theorem part' : t.val / 32 < 2 := by have := t.isLt.trans_eq N_0; omega

theorem blk0 (Y : Fin 256) (Z : Fin 4096) : iblk m c 0 t (ix3 0 Y Z : S1x256x4096.Idx)
    = m ((c : Thread nD τ).loc main_arg0) (ix3 ⟨t.val / 32, part t⟩ ⟨256 * (t.val % 32) + Y.val, rows t Y⟩ Z : S3x8192x4096.Idx) := by
  rw [← V_main_arg0 m c]
  blk_ext! [iblk, idx0 t]

theorem blk1 (Y : Fin 256) (Z : Fin 4096) : iblk m c 1 t (ix3 0 Y Z : S1x256x4096.Idx)
    = m ((c : Thread nD τ).loc main_arg1) (ix3 ⟨t.val / 32, part t⟩ ⟨256 * (t.val % 32) + Y.val, rows t Y⟩ Z : S3x8192x4096.Idx) := by
  rw [← V_main_arg1 m c]
  blk_ext! [iblk, idx1 t]

theorem blk2 (Z : Fin 4096) : iblk m c 2 t (ix3 0 0 Z : S1x1x4096.Idx)
    = m ((c : Thread nD τ).loc main_arg2) (ix3 ⟨t.val / 32, part t⟩ 0 Z : S3x1x4096.Idx) := by
  rw [← V_main_arg2 m c]
  blk_ext! [iblk, idx2 t]

theorem blk3 (Z : Fin 4096) : iblk m c 3 t (ix2 0 Z : S1x4096.Idx)
    = m ((c : Thread nD τ).loc main_arg3) (ix1 Z : S4096.Idx) := by
  blk_simp [iblk, idx3 t]
  entry_read
  pointwise
  blk_ext [idx3 t]

theorem blk4 (Z : Fin 4096) : iblk m c 4 t (ix2 0 Z : S1x4096.Idx)
    = m ((c : Thread nD τ).loc main_arg4) (ix1 Z : S4096.Idx) := by
  blk_simp [iblk, idx4 t]
  entry_read
  pointwise
  blk_ext [idx4 t]

theorem out_eq (x0 x1 : FVec Ideal S1x256x4096 .f32) (x2 : FVec Ideal S1x1x4096 .f32) (x3 x4 : FVec Ideal S1x4096 .f32) (Y : Fin 256) (Z : Fin 4096) :
    out0_5 (F := Ideal) x0 x1 x2 x3 x4 (ix3 0 Y Z : S1x256x4096.Idx)
      = norm (res (fun k => x0 (ix3 0 Y k : S1x256x4096.Idx)) (fun k => x1 (ix3 0 Y k : S1x256x4096.Idx)) (fun k => x2 (ix3 0 0 k : S1x1x4096.Idx)))
        (fun k => x3 (ix2 0 k : S1x4096.Idx)) (fun k => x4 (ix2 0 k : S1x4096.Idx)) Z := by
  have hz : (![0, 0, 0] : Fin S1x256x4096.rank → Nat) = fun _ => 0 := funext fun a => by fin_cases a <;> rfl
  have hz1 : (![0, 0, 0] : Fin S1x1x4096.rank → Nat) = fun _ => 0 := funext fun a => by fin_cases a <;> rfl
  have hz2 : (![0, 0] : Fin S1x4096.rank → Nat) = fun _ => 0 := funext fun a => by fin_cases a <;> rfl
  unfold out0_5
  rw [View.canon_unit_zero hz, View.ld_unit_zero hz, View.ld_unit_zero hz1, View.ld_unit_zero hz, View.ld_unit_zero hz2, View.ld_unit_zero hz2]
  pointwise [k0_pay1, k0_pay2]
  rfl

/-- The array after the run is the normalised residual. -/
theorem final : (dats m 0 c).arrAt 5 cfg0.N
    = normed (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  obtain ⟨Y, Z, rfl⟩ : ∃ (a : Fin 256) (b : Fin 4096), y = (ix3 0 a b : S1x256x4096.Idx) := ⟨y 1, y 2, by
    funext a; fin_cases a
    · exact Subsingleton.elim (α := Fin 1) _ _
    · rfl
    · rfl⟩
  blk_simp
  rw [after0_5]
  refine (out_eq _ _ _ _ _ Y Z).trans ?_
  refine (?_ : _ = normed _ _ _ _ _ (ix3 ⟨t.val / 32, part' t⟩ ⟨256 * (t.val % 32) + Y.val, rows t Y⟩ Z : S2x8192x4096.Idx)).trans (congrArg (normed _ _ _ _ _) ?_)
  · rw [funext fun k => blk0 m c t Y k, funext fun k => blk1 m c t Y k, funext fun k => blk2 m c t k, funext fun k => blk3 m c t k,
      funext fun k => blk4 m c t k]
    rfl
  · blk_ext [idx5 t]

end Cert.Proof.LastPrompt

namespace Cert.Proof.LastPrompt

open Idealize.ShloMosaic Idealize.ShloMosaic.TcCoe Idealize.SL.Sem Cert.LastPromptRefIdeal Cert.LastPromptRefIdeal.Gen Cert.LastPromptRefIdeal.Value

/-- The reference's array is the normalised residual. -/
theorem ref (m : (ℓ : Loc nD τ sig) → Buf (Elt Ideal) ℓ) (c : Dev nD) :
    res_out0 m c = normed (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  funext y
  obtain ⟨X, Y, Z, rfl⟩ : ∃ (a : Fin 2) (b : Fin 8192) (d : Fin 4096), y = (ix3 a b d : S2x8192x4096.Idx) := ⟨y 0, y 1, y 2, by
    funext a; fin_cases a <;> rfl⟩
  unfold res_out0
  pointwise [res_main_v31]
  rfl

end Cert.Proof.LastPrompt

namespace Cert.Proof.LastPrompt

open Idealize.ShloMosaic Idealize.SL.Sem

/-- The reference runs to its end, its arguments unchanged and its semaphores at zero: its run's values left out. -/
theorem reference_frame : Cert.quiescent_LastPromptRefIdeal := fun m ρ _ =>
  (θ_run (Cert.LastPromptRefIdeal.defs (F := Ideal)) _ _).mono (fun r h => ⟨fun c => (h c).2, Idealize.ShloMosaic.sem_eq_zero_of_no_sems (by decide) r.2⟩)
    (Cert.LastPromptRefIdeal.Value.run m ρ)

/-- The call's array and the reference's are the normalised residual. -/
theorem values : Cert.algebraic_LastPromptIdeal_LastPromptRefIdeal := by
  intro m g m' g' _ hargs
  refine ⟨fun c => normed (m ((c.tc : Thread Cert.LastPromptIdeal.nD Cert.LastPromptIdeal.τ).loc Cert.LastPromptIdeal.main_arg0)) (m ((c.tc : Thread Cert.LastPromptIdeal.nD Cert.LastPromptIdeal.τ).loc Cert.LastPromptIdeal.main_arg1)) (m ((c.tc : Thread Cert.LastPromptIdeal.nD Cert.LastPromptIdeal.τ).loc Cert.LastPromptIdeal.main_arg2)) (m ((c.tc : Thread Cert.LastPromptIdeal.nD Cert.LastPromptIdeal.τ).loc Cert.LastPromptIdeal.main_arg3)) (m ((c.tc : Thread Cert.LastPromptIdeal.nD Cert.LastPromptIdeal.τ).loc Cert.LastPromptIdeal.main_arg4)), ?_, ?_⟩
  · exact (θ_run (Cert.LastPromptIdeal.defs (F := Ideal)) _ _).mono (fun r h c => ⟨(h c).1.trans (final m c), (h c).2⟩) (Cert.LastPromptIdeal.Value.run_blocks m g)
  · refine (θ_run (Cert.LastPromptRefIdeal.defs (F := Ideal)) _ _).mono (fun r h c => ⟨(h c).1.trans ?_, (h c).2⟩) (Cert.LastPromptRefIdeal.Value.run m' g')
    exact (ref m' c).trans (congr (congr (congr (congr (congrArg normed (hargs c).1) (hargs c).2.1) (hargs c).2.2.1) (hargs c).2.2.2.1) (hargs c).2.2.2.2)

end Cert.Proof.LastPrompt

end

end
-- ==== Proof.LastSample.lean ====
/- The last residual and norm on the third part: the call's array is the reference's. -/
module

public import proofs.«01_k».proof.Defs
public import proofs.«01_k».proof.Proof.Gen.LastSample.Frame
public import proofs.«01_k».proof.Defs
public import proofs.«01_k».proof.Proof.Gen.LastSample.Frame
public import proofs.«01_k».proof.Proof.Gen.LastSampleIdeal.Points
public import proofs.«01_k».proof.Proof.Gen.LastSampleIdeal.Frame
public import proofs.«01_k».proof.Proof.Gen.LastSampleIdeal.Value
public import proofs.«01_k».proof.Proof.Gen.LastSampleRefIdeal.Run
public import Idealize.ShloMosaic.Lib.Pipeline.ValueKit
public import Idealize.ShloMosaic.Lib.Pointwise
public import Idealize.ShloMosaic.Adequacy
public import Idealize.ShloMosaic.Init
public import Idealize.ShloMosaic.Adequacy
public import Idealize.ShloMosaic.Init

@[expose] public section

set_option maxRecDepth 16384

noncomputable section

namespace Cert.Proof.LastSample

open Idealize.ShloMosaic Idealize.ShloMosaic.TcCoe Idealize.SL.Sem Cert.LastSampleIdeal Cert.LastSampleIdeal.Gen

/-- The scaled residual plus the gated output. -/
def res (x y g2 : Fin 4096 → EReal) (k : Fin 4096) : EReal := Ideal.ofBits FTy.f32 0x3FB504F3#32 * x k + g2 k * y k

/-- The mean of a row. -/
def mean (f : Fin 4096 → EReal) : EReal := Ideal.div (∑ k : Fin 4096, f k) (Ideal.ofBits FTy.f32 0x45800000#32)

/-- A row normalised to mean zero and variance one, times `g` plus `b`. -/
def norm (f g b : Fin 4096 → EReal) (k : Fin 4096) : EReal :=
  (f k - mean f) * Ideal.rsqrt (mean (fun j => (f j - mean f) * (f j - mean f)) + Ideal.ofBits FTy.f32 0x3727C5AC#32) * g k + b k

/-- The normalised rows of the scaled residual plus the gated output. -/
def normed (x y : FVec Ideal S3x8192x4096 .f32) (g2 : FVec Ideal S3x1x4096 .f32) (g b : FVec Ideal S4096 .f32) :
    FVec Ideal S1x8192x4096 .f32 := fun i =>
  norm (res (fun k => x (ix3 2 (i 1) k : S3x8192x4096.Idx))
      (fun k => y (ix3 2 (i 1) k : S3x8192x4096.Idx))
      (fun k => g2 (ix3 2 0 k : S3x1x4096.Idx)))
    (fun k => g (ix1 k : S4096.Idx)) (fun k => b (ix1 k : S4096.Idx)) (i 2)

variable (m : (ℓ : Loc nD τ sig) → Buf (Elt Ideal) ℓ) (c : Dev nD)

theorem idx0 : ∀ t : Fin cfg0.N, win0_0.index t = ![2, t.val, 0] :=
  (by decide +kernel : ∀ t : Fin grid0.N, win0_0.index t = ![2, t.val, 0])
theorem idx1 : ∀ t : Fin cfg0.N, win0_1.index t = ![2, t.val, 0] :=
  (by decide +kernel : ∀ t : Fin grid0.N, win0_1.index t = ![2, t.val, 0])
theorem idx2 : ∀ t : Fin cfg0.N, win0_2.index t = ![2, 0, 0] :=
  (by decide +kernel : ∀ t : Fin grid0.N, win0_2.index t = ![2, 0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, t.val, 0] :=
  (by decide +kernel : ∀ t : Fin grid0.N, win0_5.index t = ![0, t.val, 0])

variable (t : Fin cfg0.N)

theorem rows (Y : Fin 256) : 256 * (t.val) + Y.val < 8192 := by have := t.isLt.trans_eq N_0; omega

theorem blk0 (Y : Fin 256) (Z : Fin 4096) : iblk m c 0 t (ix3 0 Y Z : S1x256x4096.Idx)
    = m ((c : Thread nD τ).loc main_arg0) (ix3 2 ⟨256 * (t.val) + Y.val, rows t Y⟩ Z : S3x8192x4096.Idx) := by
  rw [← V_main_arg0 m c]
  blk_ext! [iblk, idx0 t]

theorem blk1 (Y : Fin 256) (Z : Fin 4096) : iblk m c 1 t (ix3 0 Y Z : S1x256x4096.Idx)
    = m ((c : Thread nD τ).loc main_arg1) (ix3 2 ⟨256 * (t.val) + Y.val, rows t Y⟩ Z : S3x8192x4096.Idx) := by
  rw [← V_main_arg1 m c]
  blk_ext! [iblk, idx1 t]

theorem blk2 (Z : Fin 4096) : iblk m c 2 t (ix3 0 0 Z : S1x1x4096.Idx)
    = m ((c : Thread nD τ).loc main_arg2) (ix3 2 0 Z : S3x1x4096.Idx) := by
  rw [← V_main_arg2 m c]
  blk_ext! [iblk, idx2 t]

theorem blk3 (Z : Fin 4096) : iblk m c 3 t (ix2 0 Z : S1x4096.Idx)
    = m ((c : Thread nD τ).loc main_arg3) (ix1 Z : S4096.Idx) := by
  blk_simp [iblk, idx3 t]
  entry_read
  pointwise
  blk_ext [idx3 t]

theorem blk4 (Z : Fin 4096) : iblk m c 4 t (ix2 0 Z : S1x4096.Idx)
    = m ((c : Thread nD τ).loc main_arg4) (ix1 Z : S4096.Idx) := by
  blk_simp [iblk, idx4 t]
  entry_read
  pointwise
  blk_ext [idx4 t]

theorem out_eq (x0 x1 : FVec Ideal S1x256x4096 .f32) (x2 : FVec Ideal S1x1x4096 .f32) (x3 x4 : FVec Ideal S1x4096 .f32) (Y : Fin 256) (Z : Fin 4096) :
    out0_5 (F := Ideal) x0 x1 x2 x3 x4 (ix3 0 Y Z : S1x256x4096.Idx)
      = norm (res (fun k => x0 (ix3 0 Y k : S1x256x4096.Idx)) (fun k => x1 (ix3 0 Y k : S1x256x4096.Idx)) (fun k => x2 (ix3 0 0 k : S1x1x4096.Idx)))
        (fun k => x3 (ix2 0 k : S1x4096.Idx)) (fun k => x4 (ix2 0 k : S1x4096.Idx)) Z := by
  have hz : (![0, 0, 0] : Fin S1x256x4096.rank → Nat) = fun _ => 0 := funext fun a => by fin_cases a <;> rfl
  have hz1 : (![0, 0, 0] : Fin S1x1x4096.rank → Nat) = fun _ => 0 := funext fun a => by fin_cases a <;> rfl
  have hz2 : (![0, 0] : Fin S1x4096.rank → Nat) = fun _ => 0 := funext fun a => by fin_cases a <;> rfl
  unfold out0_5
  rw [View.canon_unit_zero hz, View.ld_unit_zero hz, View.ld_unit_zero hz1, View.ld_unit_zero hz, View.ld_unit_zero hz2, View.ld_unit_zero hz2]
  pointwise [k0_pay1, k0_pay2]
  rfl

/-- The array after the run is the normalised residual. -/
theorem final : (dats m 0 c).arrAt 5 cfg0.N
    = normed (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  obtain ⟨Y, Z, rfl⟩ : ∃ (a : Fin 256) (b : Fin 4096), y = (ix3 0 a b : S1x256x4096.Idx) := ⟨y 1, y 2, by
    funext a; fin_cases a
    · exact Subsingleton.elim (α := Fin 1) _ _
    · rfl
    · rfl⟩
  blk_simp
  rw [after0_5]
  refine (out_eq _ _ _ _ _ Y Z).trans ?_
  refine (?_ : _ = normed _ _ _ _ _ (ix3 0 ⟨256 * (t.val) + Y.val, rows t Y⟩ Z : S1x8192x4096.Idx)).trans (congrArg (normed _ _ _ _ _) ?_)
  · rw [funext fun k => blk0 m c t Y k, funext fun k => blk1 m c t Y k, funext fun k => blk2 m c t k, funext fun k => blk3 m c t k,
      funext fun k => blk4 m c t k]
    rfl
  · blk_ext [idx5 t]

end Cert.Proof.LastSample

namespace Cert.Proof.LastSample

open Idealize.ShloMosaic Idealize.ShloMosaic.TcCoe Idealize.SL.Sem Cert.LastSampleRefIdeal Cert.LastSampleRefIdeal.Gen Cert.LastSampleRefIdeal.Value

/-- The reference's array is the normalised residual. -/
theorem ref (m : (ℓ : Loc nD τ sig) → Buf (Elt Ideal) ℓ) (c : Dev nD) :
    res_out0 m c = normed (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  funext y
  obtain ⟨X, Y, Z, rfl⟩ : ∃ (a : Fin 1) (b : Fin 8192) (d : Fin 4096), y = (ix3 a b d : S1x8192x4096.Idx) := ⟨y 0, y 1, y 2, by
    funext a; fin_cases a <;> rfl⟩
  unfold res_out0
  pointwise [res_main_v31]
  rfl

end Cert.Proof.LastSample

namespace Cert.Proof.LastSample

open Idealize.ShloMosaic Idealize.SL.Sem

/-- The reference runs to its end, its arguments unchanged and its semaphores at zero: its run's values left out. -/
theorem reference_frame : Cert.quiescent_LastSampleRefIdeal := fun m ρ _ =>
  (θ_run (Cert.LastSampleRefIdeal.defs (F := Ideal)) _ _).mono (fun r h => ⟨fun c => (h c).2, Idealize.ShloMosaic.sem_eq_zero_of_no_sems (by decide) r.2⟩)
    (Cert.LastSampleRefIdeal.Value.run m ρ)

/-- The call's array and the reference's are the normalised residual. -/
theorem values : Cert.algebraic_LastSampleIdeal_LastSampleRefIdeal := by
  intro m g m' g' _ hargs
  refine ⟨fun c => normed (m ((c.tc : Thread Cert.LastSampleIdeal.nD Cert.LastSampleIdeal.τ).loc Cert.LastSampleIdeal.main_arg0)) (m ((c.tc : Thread Cert.LastSampleIdeal.nD Cert.LastSampleIdeal.τ).loc Cert.LastSampleIdeal.main_arg1)) (m ((c.tc : Thread Cert.LastSampleIdeal.nD Cert.LastSampleIdeal.τ).loc Cert.LastSampleIdeal.main_arg2)) (m ((c.tc : Thread Cert.LastSampleIdeal.nD Cert.LastSampleIdeal.τ).loc Cert.LastSampleIdeal.main_arg3)) (m ((c.tc : Thread Cert.LastSampleIdeal.nD Cert.LastSampleIdeal.τ).loc Cert.LastSampleIdeal.main_arg4)), ?_, ?_⟩
  · exact (θ_run (Cert.LastSampleIdeal.defs (F := Ideal)) _ _).mono (fun r h c => ⟨(h c).1.trans (final m c), (h c).2⟩) (Cert.LastSampleIdeal.Value.run_blocks m g)
  · refine (θ_run (Cert.LastSampleRefIdeal.defs (F := Ideal)) _ _).mono (fun r h c => ⟨(h c).1.trans ?_, (h c).2⟩) (Cert.LastSampleRefIdeal.Value.run m' g')
    exact (ref m' c).trans (congr (congr (congr (congr (congrArg normed (hargs c).1) (hargs c).2.1) (hargs c).2.2.1) (hargs c).2.2.2.1) (hargs c).2.2.2.2)

end Cert.Proof.LastSample

end

end
-- ==== Proof.LnMod.lean ====
/- The first norm of the layer with its modulation: the call's array is the reference's. -/
module

public import proofs.«01_k».proof.Defs
public import proofs.«01_k».proof.Proof.Gen.LnMod.Frame
public import proofs.«01_k».proof.Proof.Gen.LnModIdeal.Points
public import proofs.«01_k».proof.Proof.Gen.LnModIdeal.Frame
public import proofs.«01_k».proof.Proof.Gen.LnModIdeal.Value
public import proofs.«01_k».proof.Proof.Gen.LnModRefIdeal.Run
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.Proof.LnMod

open Idealize.ShloMosaic Idealize.ShloMosaic.TcCoe Idealize.SL.Sem Cert.LnModIdeal Cert.LnModIdeal.Gen

/-- The mean of a row. -/
def mean (f : Fin 4096 → EReal) : EReal := Ideal.div (∑ k : Fin 4096, f k) (Ideal.ofBits FTy.f32 0x45800000#32)

/-- A row normalised to mean zero and variance one. -/
def norm (f : Fin 4096 → EReal) (k : Fin 4096) : EReal :=
  (f k - mean f) * Ideal.rsqrt (mean (fun j => (f j - mean f) * (f j - mean f)) + Ideal.ofBits FTy.f32 0x3727C5AC#32)

/-- A normalised row, scaled by one plus `sc` and shifted by `sh`. -/
def modulate (f sc sh : Fin 4096 → EReal) (k : Fin 4096) : EReal := norm f k * (1 + sc k) + sh k

/-- The modulated normalised rows. -/
def modulated (x : FVec Ideal S3x8192x4096 .f32) (sc sh : FVec Ideal S3x1x4096 .f32) : FVec Ideal S3x8192x4096 .bf16 := fun i =>
  modulate (fun k => x (ix3 (i 0) (i 1) k : S3x8192x4096.Idx)) (fun k => sc (ix3 (i 0) 0 k : S3x1x4096.Idx))
    (fun k => sh (ix3 (i 0) 0 k : S3x1x4096.Idx)) (i 2)

variable (m : (ℓ : Loc nD τ sig) → Buf (Elt Ideal) ℓ) (c : Dev nD)

theorem idx0 : ∀ t : Fin cfg0.N, win0_0.index t = ![t.val / 32, t.val % 32, 0] :=
  (by decide +kernel : ∀ t : Fin grid0.N, win0_0.index t = ![t.val / 32, t.val % 32, 0])
theorem idx1 : ∀ t : Fin cfg0.N, win0_1.index t = ![t.val / 32, 0, 0] :=
  (by decide +kernel : ∀ t : Fin grid0.N, win0_1.index t = ![t.val / 32, 0, 0])
theorem idx2 : ∀ t : Fin cfg0.N, win0_2.index t = ![t.val / 32, 0, 0] :=
  (by decide +kernel : ∀ t : Fin grid0.N, win0_2.index t = ![t.val / 32, 0, 0])
theorem idx3 : ∀ t : Fin cfg0.N, win0_3.index t = ![t.val / 32, t.val % 32, 0] :=
  (by decide +kernel : ∀ t : Fin grid0.N, win0_3.index t = ![t.val / 32, t.val % 32, 0])

variable (t : Fin cfg0.N)

theorem rows (Y : Fin 256) : 256 * (t.val % 32) + Y.val < 8192 := by have := t.isLt.trans_eq N_0; omega
theorem part : t.val / 32 < 3 := by have := t.isLt.trans_eq N_0; omega

theorem blk0 (Y : Fin 256) (Z : Fin 4096) : iblk m c 0 t (ix3 0 Y Z : S1x256x4096.Idx)
    = m ((c : Thread nD τ).loc main_arg0) (ix3 ⟨t.val / 32, part t⟩ ⟨256 * (t.val % 32) + Y.val, rows t Y⟩ Z : S3x8192x4096.Idx) := by
  rw [← V_main_arg0 m c]
  blk_ext! [iblk, idx0 t]

theorem blk1 (Z : Fin 4096) : iblk m c 1 t (ix3 0 0 Z : S1x1x4096.Idx)
    = m ((c : Thread nD τ).loc main_arg1) (ix3 ⟨t.val / 32, part t⟩ 0 Z : S3x1x4096.Idx) := by
  rw [← V_main_arg1 m c]
  blk_ext! [iblk, idx1 t]

theorem blk2 (Z : Fin 4096) : iblk m c 2 t (ix3 0 0 Z : S1x1x4096.Idx)
    = m ((c : Thread nD τ).loc main_arg2) (ix3 ⟨t.val / 32, part t⟩ 0 Z : S3x1x4096.Idx) := by
  rw [← V_main_arg2 m c]
  blk_ext! [iblk, idx2 t]

theorem out_eq (x0 : FVec Ideal S1x256x4096 .f32) (x1 x2 : FVec Ideal S1x1x4096 .f32) (Y : Fin 256) (Z : Fin 4096) :
    out0_3 (F := Ideal) x0 x1 x2 (ix3 0 Y Z : S1x256x4096.Idx)
      = modulate (fun k => x0 (ix3 0 Y k : S1x256x4096.Idx)) (fun k => x1 (ix3 0 0 k : S1x1x4096.Idx)) (fun k => x2 (ix3 0 0 k : S1x1x4096.Idx)) Z := by
  have hz : (![0, 0, 0] : Fin S1x256x4096.rank → Nat) = fun _ => 0 := funext fun a => by fin_cases a <;> rfl
  have hz1 : (![0, 0, 0] : Fin S1x1x4096.rank → Nat) = fun _ => 0 := funext fun a => by fin_cases a <;> rfl
  unfold out0_3
  rw [View.canon_unit_zero hz, View.ld_unit_zero hz, View.ld_unit_zero hz1, View.ld_unit_zero hz1]
  pointwise [k0_pay1]
  rfl

/-- The array after the run holds the modulated normalised rows. -/
theorem final : (dats m 0 c).arrAt 3 cfg0.N
    = modulated (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨Y, Z, rfl⟩ : ∃ (a : Fin 256) (b : Fin 4096), y = (ix3 0 a b : S1x256x4096.Idx) := ⟨y 1, y 2, by
    funext a; fin_cases a
    · exact Subsingleton.elim (α := Fin 1) _ _
    · rfl
    · rfl⟩
  blk_simp
  rw [after0_3]
  refine (out_eq _ _ _ Y Z).trans ?_
  refine (?_ : _ = modulated _ _ _ (ix3 ⟨t.val / 32, part t⟩ ⟨256 * (t.val % 32) + Y.val, rows t Y⟩ Z : S3x8192x4096.Idx)).trans (congrArg (modulated _ _ _) ?_)
  · rw [funext fun k => blk0 m c t Y k, funext fun k => blk1 m c t k, funext fun k => blk2 m c t k]
    rfl
  · blk_ext [idx3 t]

end Cert.Proof.LnMod

namespace Cert.Proof.LnMod

open Idealize.ShloMosaic Idealize.SL.Sem

/-- The reference runs to its end, its arguments unchanged and its semaphores at zero: its run's values left out. -/
theorem reference_frame : Cert.quiescent_LnModRefIdeal := fun m ρ _ =>
  (θ_run (Cert.LnModRefIdeal.defs (F := Ideal)) _ _).mono (fun r h => ⟨fun c => (h c).2, Idealize.ShloMosaic.sem_eq_zero_of_no_sems (by decide) r.2⟩)
    (Cert.LnModRefIdeal.Value.run m ρ)

/-- The call's array and the reference's are the modulated normalised rows. -/
theorem values : Cert.algebraic_LnModIdeal_LnModRefIdeal := by
  intro m g m' g' _ hargs
  refine ⟨fun c => modulated (m ((c.tc : Thread Cert.LnModIdeal.nD Cert.LnModIdeal.τ).loc Cert.LnModIdeal.main_arg0)) (m ((c.tc : Thread Cert.LnModIdeal.nD Cert.LnModIdeal.τ).loc Cert.LnModIdeal.main_arg1)) (m ((c.tc : Thread Cert.LnModIdeal.nD Cert.LnModIdeal.τ).loc Cert.LnModIdeal.main_arg2)), ?_, ?_⟩
  · exact (θ_run (Cert.LnModIdeal.defs (F := Ideal)) _ _).mono (fun r h c => ⟨(h c).1.trans (final m c), (h c).2⟩) (Cert.LnModIdeal.Value.run_blocks m g)
  · refine (θ_run (Cert.LnModRefIdeal.defs (F := Ideal)) _ _).mono (fun r h c => ⟨(h c).1.trans ?_, (h c).2⟩) (Cert.LnModRefIdeal.Value.run m' g')
    refine (?_ : _ = modulated (m' ((c.tc : Thread Cert.LnModRefIdeal.nD Cert.LnModRefIdeal.τ).loc Cert.LnModRefIdeal.main_arg0)) (m' ((c.tc : Thread Cert.LnModRefIdeal.nD Cert.LnModRefIdeal.τ).loc Cert.LnModRefIdeal.main_arg1)) (m' ((c.tc : Thread Cert.LnModRefIdeal.nD Cert.LnModRefIdeal.τ).loc Cert.LnModRefIdeal.main_arg2))).trans (congr (congr (congrArg modulated (hargs c).1) (hargs c).2.1) (hargs c).2.2)
    funext y
    obtain ⟨X, Y, Z, rfl⟩ : ∃ (a : Fin 3) (b : Fin 8192) (d : Fin 4096), y = (ix3 a b d : Cert.LnModRefIdeal.S3x8192x4096.Idx) := ⟨y 0, y 1, y 2, by
      funext a; fin_cases a <;> rfl⟩
    pointwise
    rfl

end Cert.Proof.LnMod

end

end
-- ==== Proof.FirstRes.lean ====
/- The residual and norm after the mixers with the second norm and its modulation: the call's two arrays are the reference's. -/
module

public import proofs.«01_k».proof.Defs
public import proofs.«01_k».proof.Proof.Gen.FirstRes.Frame
public import proofs.«01_k».proof.Proof.Gen.FirstResIdeal.Points
public import proofs.«01_k».proof.Proof.Gen.FirstResIdeal.Frame
public import proofs.«01_k».proof.Proof.Gen.FirstResIdeal.Value
public import proofs.«01_k».proof.Proof.Gen.FirstResRefIdeal.Run
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.Proof.FirstRes

open Idealize.ShloMosaic Idealize.ShloMosaic.TcCoe Idealize.SL.Sem Cert.FirstResIdeal Cert.FirstResIdeal.Gen

/-- The mean of a row. -/
def mean (f : Fin 4096 → EReal) : EReal := Ideal.div (∑ k : Fin 4096, f k) (Ideal.ofBits FTy.f32 0x45800000#32)

/-- A row normalised to mean zero and variance one. -/
def norm (f : Fin 4096 → EReal) (k : Fin 4096) : EReal :=
  (f k - mean f) * Ideal.rsqrt (mean (fun j => (f j - mean f) * (f j - mean f)) + Ideal.ofBits FTy.f32 0x3727C5AC#32)

/-- A normalised row, scaled by one plus `sc` and shifted by `sh`. -/
def modulate (f sc sh : Fin 4096 → EReal) (k : Fin 4096) : EReal := norm f k * (1 + sc k) + sh k

/-- The scaled residual plus the gated output, normalised, times `g` plus `b`. -/
def after (x y g1 g b : Fin 4096 → EReal) (k : Fin 4096) : EReal :=
  norm (fun j => Ideal.ofBits FTy.f32 0x3FB504F3#32 * x j + g1 j * y j) k * g k + b k

/-- The rows of the residual stream. -/
def stream (x y : FVec Ideal S3x8192x4096 .f32) (g1 : FVec Ideal S3x1x4096 .f32) (g b : FVec Ideal S4096 .f32) (_sc _sh : FVec Ideal S3x1x4096 .f32) :
    FVec Ideal S3x8192x4096 .f32 := fun i =>
  after (fun k => x (ix3 (i 0) (i 1) k : S3x8192x4096.Idx)) (fun k => y (ix3 (i 0) (i 1) k : S3x8192x4096.Idx))
    (fun k => g1 (ix3 (i 0) 0 k : S3x1x4096.Idx)) (fun k => g (ix1 k : S4096.Idx)) (fun k => b (ix1 k : S4096.Idx)) (i 2)

/-- The modulated normalised rows of the residual stream. -/
def modulated (x y : FVec Ideal S3x8192x4096 .f32) (g1 : FVec Ideal S3x1x4096 .f32) (g b : FVec Ideal S4096 .f32) (sc sh : FVec Ideal S3x1x4096 .f32) :
    FVec Ideal S3x8192x4096 .bf16 := fun i =>
  modulate (after (fun k => x (ix3 (i 0) (i 1) k : S3x8192x4096.Idx)) (fun k => y (ix3 (i 0) (i 1) k : S3x8192x4096.Idx))
      (fun k => g1 (ix3 (i 0) 0 k : S3x1x4096.Idx)) (fun k => g (ix1 k : S4096.Idx)) (fun k => b (ix1 k : S4096.Idx)))
    (fun k => sc (ix3 (i 0) 0 k : S3x1x4096.Idx)) (fun k => sh (ix3 (i 0) 0 k : S3x1x4096.Idx)) (i 2)

variable (m : (ℓ : Loc nD τ sig) → Buf (Elt Ideal) ℓ) (c : Dev nD)

theorem idx0 : ∀ t : Fin cfg0.N, win0_0.index t = ![t.val / 32, t.val % 32, 0] :=
  (by decide +kernel : ∀ t : Fin grid0.N, win0_0.index t = ![t.val / 32, t.val % 32, 0])
theorem idx1 : ∀ t : Fin cfg0.N, win0_1.index t = ![t.val / 32, t.val % 32, 0] :=
  (by decide +kernel : ∀ t : Fin grid0.N, win0_1.index t = ![t.val / 32, t.val % 32, 0])
theorem idx2 : ∀ t : Fin cfg0.N, win0_2.index t = ![t.val / 32, 0, 0] :=
  (by decide +kernel : ∀ t : Fin grid0.N, win0_2.index t = ![t.val / 32, 0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val / 32, 0, 0] :=
  (by decide +kernel : ∀ t : Fin grid0.N, win0_5.index t = ![t.val / 32, 0, 0])
theorem idx6 : ∀ t : Fin cfg0.N, win0_6.index t = ![t.val / 32, 0, 0] :=
  (by decide +kernel : ∀ t : Fin grid0.N, win0_6.index t = ![t.val / 32, 0, 0])
theorem idx7 : ∀ t : Fin cfg0.N, win0_7.index t = ![t.val / 32, t.val % 32, 0] :=
  (by decide +kernel : ∀ t : Fin grid0.N, win0_7.index t = ![t.val / 32, t.val % 32, 0])
theorem idx8 : ∀ t : Fin cfg0.N, win0_8.index t = ![t.val / 32, t.val % 32, 0] :=
  (by decide +kernel : ∀ t : Fin grid0.N, win0_8.index t = ![t.val / 32, t.val % 32, 0])

variable (t : Fin cfg0.N)

theorem rows (Y : Fin 256) : 256 * (t.val % 32) + Y.val < 8192 := by have := t.isLt.trans_eq N_0; omega
theorem part : t.val / 32 < 3 := by have := t.isLt.trans_eq N_0; omega

theorem blk0 (Y : Fin 256) (Z : Fin 4096) : iblk m c 0 t (ix3 0 Y Z : S1x256x4096.Idx)
    = m ((c : Thread nD τ).loc main_arg0) (ix3 ⟨t.val / 32, part t⟩ ⟨256 * (t.val % 32) + Y.val, rows t Y⟩ Z : S3x8192x4096.Idx) := by
  rw [← V_main_arg0 m c]
  blk_ext! [iblk, idx0 t]

theorem blk1 (Y : Fin 256) (Z : Fin 4096) : iblk m c 1 t (ix3 0 Y Z : S1x256x4096.Idx)
    = m ((c : Thread nD τ).loc main_arg1) (ix3 ⟨t.val / 32, part t⟩ ⟨256 * (t.val % 32) + Y.val, rows t Y⟩ Z : S3x8192x4096.Idx) := by
  rw [← V_main_arg1 m c]
  blk_ext! [iblk, idx1 t]

theorem blk2 (Z : Fin 4096) : iblk m c 2 t (ix3 0 0 Z : S1x1x4096.Idx)
    = m ((c : Thread nD τ).loc main_arg2) (ix3 ⟨t.val / 32, part t⟩ 0 Z : S3x1x4096.Idx) := by
  rw [← V_main_arg2 m c]
  blk_ext! [iblk, idx2 t]

theorem blk3 (Z : Fin 4096) : iblk m c 3 t (ix2 0 Z : S1x4096.Idx)
    = m ((c : Thread nD τ).loc main_arg3) (ix1 Z : S4096.Idx) := by
  blk_simp [iblk, idx3 t]
  entry_read
  pointwise
  blk_ext [idx3 t]

theorem blk4 (Z : Fin 4096) : iblk m c 4 t (ix2 0 Z : S1x4096.Idx)
    = m ((c : Thread nD τ).loc main_arg4) (ix1 Z : S4096.Idx) := by
  blk_simp [iblk, idx4 t]
  entry_read
  pointwise
  blk_ext [idx4 t]

theorem blk5 (Z : Fin 4096) : iblk m c 5 t (ix3 0 0 Z : S1x1x4096.Idx)
    = m ((c : Thread nD τ).loc main_arg5) (ix3 ⟨t.val / 32, part t⟩ 0 Z : S3x1x4096.Idx) := by
  rw [← V_main_arg5 m c]
  blk_ext! [iblk, idx5 t]

theorem blk6 (Z : Fin 4096) : iblk m c 6 t (ix3 0 0 Z : S1x1x4096.Idx)
    = m ((c : Thread nD τ).loc main_arg6) (ix3 ⟨t.val / 32, part t⟩ 0 Z : S3x1x4096.Idx) := by
  rw [← V_main_arg6 m c]
  blk_ext! [iblk, idx6 t]

theorem stream_eq (x0 x1 : FVec Ideal S1x256x4096 .f32) (x2 : FVec Ideal S1x1x4096 .f32) (x3 x4 : FVec Ideal S1x4096 .f32) (x5 x6 : FVec Ideal S1x1x4096 .f32) (Y : Fin 256) (Z : Fin 4096) :
    out0_7 (F := Ideal) x0 x1 x2 x3 x4 x5 x6 (ix3 0 Y Z : S1x256x4096.Idx)
      = after (fun k => x0 (ix3 0 Y k : S1x256x4096.Idx)) (fun k => x1 (ix3 0 Y k : S1x256x4096.Idx)) (fun k => x2 (ix3 0 0 k : S1x1x4096.Idx))
        (fun k => x3 (ix2 0 k : S1x4096.Idx)) (fun k => x4 (ix2 0 k : S1x4096.Idx)) Z := by
  have hz : (![0, 0, 0] : Fin S1x256x4096.rank → Nat) = fun _ => 0 := funext fun a => by fin_cases a <;> rfl
  have hz1 : (![0, 0, 0] : Fin S1x1x4096.rank → Nat) = fun _ => 0 := funext fun a => by fin_cases a <;> rfl
  have hz2 : (![0, 0] : Fin S1x4096.rank → Nat) = fun _ => 0 := funext fun a => by fin_cases a <;> rfl
  unfold out0_7 k0_pay5
  rw [View.canon_unit_zero hz, View.ld_unit_zero hz, View.ld_unit_zero hz1, View.ld_unit_zero hz, View.ld_unit_zero hz2, View.ld_unit_zero hz2]
  pointwise [k0_pay2, k0_pay3]
  rfl

theorem modulated_eq (x0 x1 : FVec Ideal S1x256x4096 .f32) (x2 : FVec Ideal S1x1x4096 .f32) (x3 x4 : FVec Ideal S1x4096 .f32) (x5 x6 : FVec Ideal S1x1x4096 .f32) (Y : Fin 256) (Z : Fin 4096) :
    out0_8 (F := Ideal) x0 x1 x2 x3 x4 x5 x6 (ix3 0 Y Z : S1x256x4096.Idx)
      = modulate (after (fun k => x0 (ix3 0 Y k : S1x256x4096.Idx)) (fun k => x1 (ix3 0 Y k : S1x256x4096.Idx)) (fun k => x2 (ix3 0 0 k : S1x1x4096.Idx))
        (fun k => x3 (ix2 0 k : S1x4096.Idx)) (fun k => x4 (ix2 0 k : S1x4096.Idx)))
        (fun k => x5 (ix3 0 0 k : S1x1x4096.Idx)) (fun k => x6 (ix3 0 0 k : S1x1x4096.Idx)) Z := by
  have hz : (![0, 0, 0] : Fin S1x256x4096.rank → Nat) = fun _ => 0 := funext fun a => by fin_cases a <;> rfl
  have hz1 : (![0, 0, 0] : Fin S1x1x4096.rank → Nat) = fun _ => 0 := funext fun a => by fin_cases a <;> rfl
  have hz2 : (![0, 0] : Fin S1x4096.rank → Nat) = fun _ => 0 := funext fun a => by fin_cases a <;> rfl
  unfold out0_8 k0_pay5
  rw [View.canon_unit_zero hz, View.ld_unit_zero hz, View.ld_unit_zero hz1, View.ld_unit_zero hz, View.ld_unit_zero hz2, View.ld_unit_zero hz2,
    View.ld_unit_zero hz1, View.ld_unit_zero hz1]
  pointwise [k0_pay1, k0_pay4, k0_pay3]
  rfl

theorem final0 : (dats m 0 c).arrAt 7 cfg0.N
    = stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  obtain ⟨Y, Z, rfl⟩ : ∃ (a : Fin 256) (b : Fin 4096), y = (ix3 0 a b : S1x256x4096.Idx) := ⟨y 1, y 2, by
    funext a; fin_cases a
    · exact Subsingleton.elim (α := Fin 1) _ _
    · rfl
    · rfl⟩
  blk_simp
  rw [after0_7]
  refine (stream_eq _ _ _ _ _ _ _ Y Z).trans ?_
  refine (?_ : _ = stream _ _ _ _ _ _ _ (ix3 ⟨t.val / 32, part t⟩ ⟨256 * (t.val % 32) + Y.val, rows t Y⟩ Z : S3x8192x4096.Idx)).trans (congrArg (stream _ _ _ _ _ _ _) ?_)
  · rw [funext fun k => blk0 m c t Y k, funext fun k => blk1 m c t Y k, funext fun k => blk2 m c t k, funext fun k => blk3 m c t k, funext fun k => blk4 m c t k]
    rfl
  · blk_ext [idx7 t]

theorem final1 : (dats m 0 c).arrAt 8 cfg0.N
    = modulated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  obtain ⟨Y, Z, rfl⟩ : ∃ (a : Fin 256) (b : Fin 4096), y = (ix3 0 a b : S1x256x4096.Idx) := ⟨y 1, y 2, by
    funext a; fin_cases a
    · exact Subsingleton.elim (α := Fin 1) _ _
    · rfl
    · rfl⟩
  blk_simp
  rw [after0_8]
  refine (modulated_eq _ _ _ _ _ _ _ Y Z).trans ?_
  refine (?_ : _ = modulated _ _ _ _ _ _ _ (ix3 ⟨t.val / 32, part t⟩ ⟨256 * (t.val % 32) + Y.val, rows t Y⟩ Z : S3x8192x4096.Idx)).trans (congrArg (modulated _ _ _ _ _ _ _) ?_)
  · rw [funext fun k => blk0 m c t Y k, funext fun k => blk1 m c t Y k, funext fun k => blk2 m c t k, funext fun k => blk3 m c t k, funext fun k => blk4 m c t k, funext fun k => blk5 m c t k, funext fun k => blk6 m c t k]
    rfl
  · blk_ext [idx8 t]

end Cert.Proof.FirstRes

namespace Cert.Proof.FirstRes

open Idealize.ShloMosaic Idealize.SL.Sem

/-- The reference runs to its end, its arguments unchanged and its semaphores at zero: its run's values left out. -/
theorem reference_frame : Cert.quiescent_FirstResRefIdeal := fun m ρ _ =>
  (θ_run (Cert.FirstResRefIdeal.defs (F := Ideal)) _ _).mono (fun r h => ⟨fun c => (h c).2.2, Idealize.ShloMosaic.sem_eq_zero_of_no_sems (by decide) r.2⟩)
    (Cert.FirstResRefIdeal.Value.run m ρ)

/-- The call's two arrays and the reference's are the residual stream and its modulated normalised rows. -/
theorem values : Cert.algebraic_FirstResIdeal_FirstResRefIdeal := by
  intro m g m' g' _ hargs
  refine ⟨fun c => stream (m ((c.tc : Thread Cert.FirstResIdeal.nD Cert.FirstResIdeal.τ).loc Cert.FirstResIdeal.main_arg0)) (m ((c.tc : Thread Cert.FirstResIdeal.nD Cert.FirstResIdeal.τ).loc Cert.FirstResIdeal.main_arg1)) (m ((c.tc : Thread Cert.FirstResIdeal.nD Cert.FirstResIdeal.τ).loc Cert.FirstResIdeal.main_arg2)) (m ((c.tc : Thread Cert.FirstResIdeal.nD Cert.FirstResIdeal.τ).loc Cert.FirstResIdeal.main_arg3)) (m ((c.tc : Thread Cert.FirstResIdeal.nD Cert.FirstResIdeal.τ).loc Cert.FirstResIdeal.main_arg4)) (m ((c.tc : Thread Cert.FirstResIdeal.nD Cert.FirstResIdeal.τ).loc Cert.FirstResIdeal.main_arg5)) (m ((c.tc : Thread Cert.FirstResIdeal.nD Cert.FirstResIdeal.τ).loc Cert.FirstResIdeal.main_arg6)), fun c => modulated (m ((c.tc : Thread Cert.FirstResIdeal.nD Cert.FirstResIdeal.τ).loc Cert.FirstResIdeal.main_arg0)) (m ((c.tc : Thread Cert.FirstResIdeal.nD Cert.FirstResIdeal.τ).loc Cert.FirstResIdeal.main_arg1)) (m ((c.tc : Thread Cert.FirstResIdeal.nD Cert.FirstResIdeal.τ).loc Cert.FirstResIdeal.main_arg2)) (m ((c.tc : Thread Cert.FirstResIdeal.nD Cert.FirstResIdeal.τ).loc Cert.FirstResIdeal.main_arg3)) (m ((c.tc : Thread Cert.FirstResIdeal.nD Cert.FirstResIdeal.τ).loc Cert.FirstResIdeal.main_arg4)) (m ((c.tc : Thread Cert.FirstResIdeal.nD Cert.FirstResIdeal.τ).loc Cert.FirstResIdeal.main_arg5)) (m ((c.tc : Thread Cert.FirstResIdeal.nD Cert.FirstResIdeal.τ).loc Cert.FirstResIdeal.main_arg6)), ?_, ?_⟩
  · exact (θ_run (Cert.FirstResIdeal.defs (F := Ideal)) _ _).mono (fun r h c => ⟨(h c).1.trans (final0 m c), (h c).2.1.trans (final1 m c), (h c).2.2⟩) (Cert.FirstResIdeal.Value.run_blocks m g)
  · refine (θ_run (Cert.FirstResRefIdeal.defs (F := Ideal)) _ _).mono (fun r h c => ⟨(h c).1.trans ?_, (h c).2.1.trans ?_, (h c).2.2⟩) (Cert.FirstResRefIdeal.Value.run m' g')
    · refine (?_ : _ = stream (m' ((c.tc : Thread Cert.FirstResRefIdeal.nD Cert.FirstResRefIdeal.τ).loc Cert.FirstResRefIdeal.main_arg0)) (m' ((c.tc : Thread Cert.FirstResRefIdeal.nD Cert.FirstResRefIdeal.τ).loc Cert.FirstResRefIdeal.main_arg1)) (m' ((c.tc : Thread Cert.FirstResRefIdeal.nD Cert.FirstResRefIdeal.τ).loc Cert.FirstResRefIdeal.main_arg2)) (m' ((c.tc : Thread Cert.FirstResRefIdeal.nD Cert.FirstResRefIdeal.τ).loc Cert.FirstResRefIdeal.main_arg3)) (m' ((c.tc : Thread Cert.FirstResRefIdeal.nD Cert.FirstResRefIdeal.τ).loc Cert.FirstResRefIdeal.main_arg4)) (m' ((c.tc : Thread Cert.FirstResRefIdeal.nD Cert.FirstResRefIdeal.τ).loc Cert.FirstResRefIdeal.main_arg5)) (m' ((c.tc : Thread Cert.FirstResRefIdeal.nD Cert.FirstResRefIdeal.τ).loc Cert.FirstResRefIdeal.main_arg6))).trans (congr (congr (congr (congr (congr (congr (congrArg stream (hargs c).1) (hargs c).2.1) (hargs c).2.2.1) (hargs c).2.2.2.1) (hargs c).2.2.2.2.1) (hargs c).2.2.2.2.2.1) (hargs c).2.2.2.2.2.2)
      funext y
      obtain ⟨X, Y, Z, rfl⟩ : ∃ (a : Fin 3) (b : Fin 8192) (d : Fin 4096), y = (ix3 a b d : Cert.FirstResRefIdeal.S3x8192x4096.Idx) := ⟨y 0, y 1, y 2, by
        funext a; fin_cases a <;> rfl⟩
      pointwise
      rfl
    · refine (?_ : _ = modulated (m' ((c.tc : Thread Cert.FirstResRefIdeal.nD Cert.FirstResRefIdeal.τ).loc Cert.FirstResRefIdeal.main_arg0)) (m' ((c.tc : Thread Cert.FirstResRefIdeal.nD Cert.FirstResRefIdeal.τ).loc Cert.FirstResRefIdeal.main_arg1)) (m' ((c.tc : Thread Cert.FirstResRefIdeal.nD Cert.FirstResRefIdeal.τ).loc Cert.FirstResRefIdeal.main_arg2)) (m' ((c.tc : Thread Cert.FirstResRefIdeal.nD Cert.FirstResRefIdeal.τ).loc Cert.FirstResRefIdeal.main_arg3)) (m' ((c.tc : Thread Cert.FirstResRefIdeal.nD Cert.FirstResRefIdeal.τ).loc Cert.FirstResRefIdeal.main_arg4)) (m' ((c.tc : Thread Cert.FirstResRefIdeal.nD Cert.FirstResRefIdeal.τ).loc Cert.FirstResRefIdeal.main_arg5)) (m' ((c.tc : Thread Cert.FirstResRefIdeal.nD Cert.FirstResRefIdeal.τ).loc Cert.FirstResRefIdeal.main_arg6))).trans (congr (congr (congr (congr (congr (congr (congrArg modulated (hargs c).1) (hargs c).2.1) (hargs c).2.2.1) (hargs c).2.2.2.1) (hargs c).2.2.2.2.1) (hargs c).2.2.2.2.2.1) (hargs c).2.2.2.2.2.2)
      funext y
      obtain ⟨X, Y, Z, rfl⟩ : ∃ (a : Fin 3) (b : Fin 8192) (d : Fin 4096), y = (ix3 a b d : Cert.FirstResRefIdeal.S3x8192x4096.Idx) := ⟨y 0, y 1, y 2, by
        funext a; fin_cases a <;> rfl⟩
      pointwise [Cert.FirstResRefIdeal.Value.res_main_v53]
      rfl

end Cert.Proof.FirstRes

end

end
-- ==== Proof.Ada.lean ====
/- The adaLN modulation of the first layer: the call's array is the reference's. -/
module

public import proofs.«01_k».proof.Defs
public import proofs.«01_k».proof.Proof.Gen.Ada.Frame
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal.Run
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.Proof.Ada

open Idealize.ShloMosaic Idealize.ShloMosaic.TcCoe Idealize.SL.Sem Cert.AdaIdeal Cert.AdaIdeal.Gen

/-- `x` times its logistic function. -/
def silu (x : EReal) : EReal := x * Ideal.div 1 (1 + Ideal.exp (-x))

/-- The modulation: silu of the condition times the first layer's weight, plus its bias. -/
def modulation (x : FVec Ideal S8x4096 .f32) (w : FVec Ideal S2x4096x24576 .f32) (b : FVec Ideal S2x24576 .f32) : FVec Ideal S8x24576 .f32 := fun i =>
  (∑ k : Fin 4096, silu (x (ix2 (i 0) k : S8x4096.Idx)) * w (ix3 0 k (i 1) : S2x4096x24576.Idx)) + b (ix2 0 (i 1) : S2x24576.Idx)

variable (m : (ℓ : Loc nD τ sig) → Buf (Elt Ideal) ℓ) (c : Dev nD)

theorem idx0 : ∀ t : Fin cfg0.N, win0_0.index t = ![0, 0] :=
  (by decide +kernel : ∀ t : Fin grid0.N, win0_0.index t = ![0, 0])
theorem idx1 : ∀ t : Fin cfg0.N, win0_1.index t = ![0, 0, t.val] :=
  (by decide +kernel : ∀ t : Fin grid0.N, win0_1.index t = ![0, 0, t.val])
theorem idx2 : ∀ t : Fin cfg0.N, win0_2.index t = ![0, 0, t.val] :=
  (by decide +kernel : ∀ t : Fin grid0.N, win0_2.index t = ![0, 0, t.val])
theorem idx3 : ∀ t : Fin cfg0.N, win0_3.index t = ![0, t.val] :=
  (by decide +kernel : ∀ t : Fin grid0.N, win0_3.index t = ![0, t.val])

variable (t : Fin cfg0.N)

theorem cols (Z : Fin 512) : 512 * t.val + Z.val < 24576 := by have := t.isLt.trans_eq N_0; omega

theorem blk0 (Y : Fin 8) (Z : Fin 4096) : iblk m c 0 t (ix2 Y Z : S8x4096.Idx)
    = m ((c : Thread nD τ).loc main_arg0) (ix2 Y Z : S8x4096.Idx) := by
  rw [← V_main_arg0 m c]
  blk_ext! [iblk, idx0 t]

theorem blk1 (Y : Fin 4096) (Z : Fin 512) : iblk m c 1 t (ix3 0 Y Z : S1x4096x512.Idx)
    = m ((c : Thread nD τ).loc main_arg1) (ix3 0 Y ⟨512 * t.val + Z.val, cols t Z⟩ : S2x4096x24576.Idx) := by
  rw [← V_main_arg1 m c]
  blk_ext! [iblk, idx1 t]

theorem blk2 (Z : Fin 512) : iblk m c 2 t (ix3 0 0 Z : S1x1x512.Idx)
    = m ((c : Thread nD τ).loc main_arg2) (ix2 0 ⟨512 * t.val + Z.val, cols t Z⟩ : S2x24576.Idx) := by
  blk_simp [iblk, idx2 t]
  entry_read
  pointwise
  blk_ext [idx2 t]

theorem out_eq (x0 : FVec Ideal S8x4096 .f32) (x1 : FVec Ideal S1x4096x512 .f32) (x2 : FVec Ideal S1x1x512 .f32) (Y : Fin 8) (Z : Fin 512) :
    out0_3 (F := Ideal) x0 x1 x2 (ix2 Y Z : S8x512.Idx)
      = (∑ k : Fin 4096, silu (x0 (ix2 Y k : S8x4096.Idx)) * x1 (ix3 0 k Z : S1x4096x512.Idx)) + x2 (ix3 0 0 Z : S1x1x512.Idx) := by
  have hz : (![0, 0] : Fin S8x512.rank → Nat) = fun _ => 0 := funext fun a => by fin_cases a <;> rfl
  have hz0 : (![0, 0] : Fin S8x4096.rank → Nat) = fun _ => 0 := funext fun a => by fin_cases a <;> rfl
  have hz1 : (![0, 0, 0] : Fin S1x4096x512.rank → Nat) = fun _ => 0 := funext fun a => by fin_cases a <;> rfl
  have hz2 : (![0, 0, 0] : Fin S1x1x512.rank → Nat) = fun _ => 0 := funext fun a => by fin_cases a <;> rfl
  unfold out0_3
  rw [View.canon_unit_zero hz, View.ld_unit_zero hz0, View.ld_unit_zero hz1, View.ld_unit_zero hz2]
  pointwise [k0_pay1]
  simp only [zero_sub]
  rfl

/-- The array after the run is the modulation. -/
theorem final : (dats m 0 c).arrAt 3 cfg0.N
    = modulation (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨Y, Z, rfl⟩ : ∃ (a : Fin 8) (b : Fin 512), y = (ix2 a b : S8x512.Idx) := ⟨y 0, y 1, by
    funext a; fin_cases a <;> rfl⟩
  blk_simp
  rw [after0_3]
  refine (out_eq _ _ _ Y Z).trans ?_
  refine (?_ : _ = modulation _ _ _ (ix2 Y ⟨512 * t.val + Z.val, cols t Z⟩ : S8x24576.Idx)).trans (congrArg (modulation _ _ _) ?_)
  · rw [blk2]
    refine congrArg (· + _) (Finset.sum_congr rfl fun k _ => ?_)
    rw [blk0, blk1]
    rfl
  · blk_ext [idx3 t]

end Cert.Proof.Ada

namespace Cert.Proof.Ada

open Idealize.ShloMosaic Idealize.SL.Sem

/-- The reference runs to its end, its arguments unchanged and its semaphores at zero: its run's values left out. -/
theorem reference_frame : Cert.quiescent_AdaRefIdeal := fun m ρ _ =>
  (θ_run (Cert.AdaRefIdeal.defs (F := Ideal)) _ _).mono (fun r h => ⟨fun c => (h c).2, Idealize.ShloMosaic.sem_eq_zero_of_no_sems (by decide) r.2⟩)
    (Cert.AdaRefIdeal.Value.run m ρ)

/-- The call's array and the reference's are the modulation. -/
theorem values : Cert.algebraic_AdaIdeal_AdaRefIdeal := by
  intro m g m' g' _ hargs
  refine ⟨fun c => modulation (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)), ?_, ?_⟩
  · exact (θ_run (Cert.AdaIdeal.defs (F := Ideal)) _ _).mono (fun r h c => ⟨(h c).1.trans (final m c), (h c).2⟩) (Cert.AdaIdeal.Value.run_blocks m g)
  · refine (θ_run (Cert.AdaRefIdeal.defs (F := Ideal)) _ _).mono (fun r h c => ⟨(h c).1.trans ?_, (h c).2⟩) (Cert.AdaRefIdeal.Value.run m' g')
    refine (?_ : _ = modulation (m' ((c.tc : Thread Cert.AdaRefIdeal.nD Cert.AdaRefIdeal.τ).loc Cert.AdaRefIdeal.main_arg0)) (m' ((c.tc : Thread Cert.AdaRefIdeal.nD Cert.AdaRefIdeal.τ).loc Cert.AdaRefIdeal.main_arg1)) (m' ((c.tc : Thread Cert.AdaRefIdeal.nD Cert.AdaRefIdeal.τ).loc Cert.AdaRefIdeal.main_arg2))).trans (congr (congr (congrArg modulation (hargs c).1) (hargs c).2.1) (hargs c).2.2)
    funext y
    obtain ⟨Y, Z, rfl⟩ : ∃ (a : Fin 8) (b : Fin 24576), y = (ix2 a b : Cert.AdaRefIdeal.S8x24576.Idx) := ⟨y 0, y 1, by
      funext a; fin_cases a <;> rfl⟩
    pointwise
    rfl

end Cert.Proof.Ada

end

end
-- ==== Proof.GdnOut.lean ====
/- The mixer's normalised and gated heads: the call's array is the reference's. -/
module

public import proofs.«01_k».proof.Defs
public import proofs.«01_k».proof.Proof.Gen.GdnOut.Frame
public import proofs.«01_k».proof.Proof.Gen.GdnOutIdeal.Points
public import proofs.«01_k».proof.Proof.Gen.GdnOutIdeal.Frame
public import proofs.«01_k».proof.Proof.Gen.GdnOutIdeal.Value
public import proofs.«01_k».proof.Proof.Gen.GdnOutRefIdeal.Run
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.Proof.GdnOut

open Idealize.ShloMosaic Idealize.ShloMosaic.TcCoe Idealize.SL.Sem Cert.GdnOutIdeal Cert.GdnOutIdeal.Gen

/-- The logistic function as the reference writes it. -/
def logistic (x : EReal) : EReal := Ideal.div 1 (1 + Ideal.exp (-x))

/-- A head's row divided by its root mean square, scaled by the weights and gated. -/
def gated (o z w : Fin 128 → EReal) (k : Fin 128) : EReal :=
  o k * Ideal.rsqrt (Ideal.div (∑ j : Fin 128, o j * o j) (Ideal.ofBits FTy.f32 0x43000000#32) + Ideal.ofBits FTy.f32 0x358637BD#32) * w k
    * (z k * logistic (z k))

/-- Entry `k` of head `h` of a row of heads. -/
def lane (h : Fin 16) (k : Fin 128) : Fin 2048 := ⟨h.val * 128 + k.val, by omega⟩

/-- The same in a row of the projection, whose gates are its last heads. -/
def gateLane (h : Fin 16) (k : Fin 128) : Fin 8192 := ⟨6144 + (h.val * 128 + k.val), by omega⟩

def headOf (z : Fin 2048) : Fin 16 := ⟨z.val / 128, by omega⟩
def within (z : Fin 2048) : Fin 128 := ⟨z.val % 128, Nat.mod_lt _ (by decide)⟩

theorem headOf_lane (h : Fin 16) (k : Fin 128) : headOf (lane h k) = h := Fin.ext (by show (h.val * 128 + k.val) / 128 = _; omega)
theorem within_lane (h : Fin 16) (k : Fin 128) : within (lane h k) = k := Fin.ext (by show (h.val * 128 + k.val) % 128 = _; omega)
theorem lane_split (z : Fin 2048) : lane (headOf z) (within z) = z := Fin.ext (by show z.val / 128 * 128 + z.val % 128 = z.val; omega)

/-- The heads of both directions' outputs added, normalised and gated. -/
def heads (a b : FVec Ideal S3x8192x2048 .f32) (dn : FVec Ideal S3x8192x8192 .bf16) (w : FVec Ideal S128 .f32) : FVec Ideal S3x8192x2048 .bf16 := fun y =>
  gated (fun k => (a (ix3 (y 0) (y 1) (lane (headOf (y 2)) k) : S3x8192x2048.Idx) : EReal) + b (ix3 (y 0) (y 1) (lane (headOf (y 2)) k) : S3x8192x2048.Idx))
    (fun k => dn (ix3 (y 0) (y 1) (gateLane (headOf (y 2)) k) : S3x8192x8192.Idx)) (fun k => w (ix1 k : S128.Idx)) (within (y 2))

theorem heads_at (a b : FVec Ideal S3x8192x2048 .f32) (dn : FVec Ideal S3x8192x8192 .bf16) (w : FVec Ideal S128 .f32) (X : Fin 3) (Y : Fin 8192) (Z : Fin 2048) :
    heads a b dn w (ix3 X Y Z : S3x8192x2048.Idx)
      = ((a (ix3 X Y Z : S3x8192x2048.Idx) : EReal) + b (ix3 X Y Z : S3x8192x2048.Idx))
          * Ideal.rsqrt (Ideal.div (∑ j : Fin 128,
              ((a (ix3 X Y (lane (headOf Z) j) : S3x8192x2048.Idx) : EReal) + b (ix3 X Y (lane (headOf Z) j) : S3x8192x2048.Idx))
                * ((a (ix3 X Y (lane (headOf Z) j) : S3x8192x2048.Idx) : EReal) + b (ix3 X Y (lane (headOf Z) j) : S3x8192x2048.Idx)))
            (Ideal.ofBits FTy.f32 0x43000000#32) + Ideal.ofBits FTy.f32 0x358637BD#32) * w (ix1 (within Z) : S128.Idx)
        * (dn (ix3 X Y ⟨6144 + Z.val, by omega⟩ : S3x8192x8192.Idx) * logistic (dn (ix3 X Y ⟨6144 + Z.val, by omega⟩ : S3x8192x8192.Idx))) := by
  have e : gateLane (headOf Z) (within Z) = ⟨6144 + Z.val, by omega⟩ := Fin.ext (congrArg (6144 + ·) (congrArg Fin.val (lane_split Z)))
  rw [← e]
  conv_rhs => rw [← lane_split Z, headOf_lane, within_lane]
  rfl

/-- One head of a block of rows. -/
def head (x0 x1 : FVec Ideal S1x256x2048 .f32) (x2 : FVec Ideal S1x256x2048 .bf16) (x3 : FVec Ideal S1x128 .f32) (h : Fin 16) (Y : Fin 256) (Z : Fin 128) : EReal :=
  gated (fun k => (x0 (ix3 0 Y (lane h k) : S1x256x2048.Idx) : EReal) + x1 (ix3 0 Y (lane h k) : S1x256x2048.Idx))
    (fun k => x2 (ix3 0 Y (lane h k) : S1x256x2048.Idx)) (fun k => x3 (ix2 0 k : S1x128.Idx)) Z

/-- A block of rows, all its heads. -/
def block (x0 x1 : FVec Ideal S1x256x2048 .f32) (x2 : FVec Ideal S1x256x2048 .bf16) (x3 : FVec Ideal S1x128 .f32) : S1x256x2048.Idx → EReal := fun y =>
  head x0 x1 x2 x3 (headOf (y 2)) (y 1) (within (y 2))

variable (x0 x1 : FVec Ideal S1x256x2048 .f32) (x2 : FVec Ideal S1x256x2048 .bf16) (x3 : FVec Ideal S1x128 .f32) (Y : Fin 256) (Z : Fin 128)

theorem emb_lane (h : Fin 16) (n : ℕ) (hn : n = h.val * 128)
    (inb : ∀ a, (![0, 0, n] : Fin 3 → ℕ) a + S1x256x128.size a ≤ S1x256x2048.size a) :
    (Rect.unit (s := S1x256x2048) ![0, 0, n] S1x256x128.size inb).emb (ix3 0 Y Z : S1x256x128.Idx) = (ix3 0 Y (lane h Z) : S1x256x2048.Idx) := by
  subst hn
  refine funext fun a => Fin.ext ((Rect.emb_apply _ _ _).trans ?_)
  fin_cases a <;> simp [ix3, Rect.unit, lane]

theorem hz3 : (![0, 0] : Fin S1x128.rank → Nat) = fun _ => 0 := funext fun a => by fin_cases a <;> rfl

theorem block_lane (h : Fin 16) : block x0 x1 x2 x3 (ix3 0 Y (lane h Z) : S1x256x2048.Idx) = head x0 x1 x2 x3 h Y Z := by
  show head x0 x1 x2 x3 (headOf (lane h Z)) Y (within (lane h Z)) = _
  rw [headOf_lane, within_lane]

/-- One head's rows. -/
def row (a b : FVec Ideal S1x256x128 .f32) (z : FVec Ideal S1x256x128 .bf16) (w : FVec Ideal S1x128 .f32) (Y : Fin 256) (Z : Fin 128) : EReal :=
  gated (fun k => (a (ix3 0 Y k : S1x256x128.Idx) : EReal) + b (ix3 0 Y k : S1x256x128.Idx)) (fun k => z (ix3 0 Y k : S1x256x128.Idx)) (fun k => w (ix2 0 k : S1x128.Idx)) Z

section pays

variable (a b : FVec Ideal S1x256x128 .f32) (z : FVec Ideal S1x256x128 .bf16) (w : FVec Ideal S1x128 .f32) (Y : Fin 256) (Z : Fin 128)

theorem pay0 : (k0_pay3 w a b z : FVec Ideal S1x256x128 .bf16) (ix3 0 Y Z : S1x256x128.Idx) = row a b z w Y Z := by
  pointwise [k0_pay2, k0_pay3]
  simp only [zero_sub]
  rfl

theorem pay1 : (k0_pay4 (k0_pay2 w) a b z : FVec Ideal S1x256x128 .bf16) (ix3 0 Y Z : S1x256x128.Idx) = row a b z w Y Z := by
  pointwise [k0_pay2, k0_pay4]
  simp only [zero_sub]
  rfl

theorem pay2 : (k0_pay7 (k0_pay2 w) (k0_pay5 a) (k0_pay6 b) z : FVec Ideal S1x256x128 .bf16) (ix3 0 Y Z : S1x256x128.Idx) = row a b z w Y Z := by
  pointwise [k0_pay2, k0_pay5, k0_pay6, k0_pay7]
  simp only [zero_sub]
  rfl

theorem pay3 : (k0_pay11 (k0_pay2 w) (k0_pay8 a b) (k0_pay9 z) (k0_pay10 a b) : FVec Ideal S1x256x128 .bf16) (ix3 0 Y Z : S1x256x128.Idx) = row a b z w Y Z := by
  pointwise [k0_pay2, k0_pay8, k0_pay9, k0_pay10, k0_pay11]
  simp only [zero_sub]
  rfl

theorem pay4 : (k0_pay16 (k0_pay2 w) (k0_pay12 a b) (k0_pay13 z) (k0_pay14 a b) (k0_pay15 (F := Ideal)) : FVec Ideal S1x256x128 .bf16) (ix3 0 Y Z : S1x256x128.Idx) = row a b z w Y Z := by
  pointwise [k0_pay2, k0_pay12, k0_pay13, k0_pay14, k0_pay15, k0_pay16]
  simp only [zero_sub]
  rfl

theorem pay5 : (k0_pay20 (k0_pay17 z) (k0_pay18 (k0_pay2 w) a b) (k0_pay19 (F := Ideal)) : FVec Ideal S1x256x128 .bf16) (ix3 0 Y Z : S1x256x128.Idx) = row a b z w Y Z := by
  pointwise [k0_pay2, k0_pay17, k0_pay18, k0_pay19, k0_pay20]
  simp only [zero_sub]
  rfl

theorem pay6 : (k0_pay24 (k0_pay21 z) (k0_pay22 (k0_pay2 w) a b) (k0_pay23 z) : FVec Ideal S1x256x128 .bf16) (ix3 0 Y Z : S1x256x128.Idx) = row a b z w Y Z := by
  pointwise [k0_pay2, k0_pay21, k0_pay22, k0_pay23, k0_pay24]
  simp only [zero_sub]
  rfl

theorem pay7 : (k0_pay26 (k0_pay25 (k0_pay2 w) a b z) : FVec Ideal S1x256x128 .bf16) (ix3 0 Y Z : S1x256x128.Idx) = row a b z w Y Z := by
  pointwise [k0_pay2, k0_pay25, k0_pay26]
  simp only [zero_sub]
  rfl

theorem pay8 : (k0_pay27 (k0_pay2 w) a b z : FVec Ideal S1x256x128 .bf16) (ix3 0 Y Z : S1x256x128.Idx) = row a b z w Y Z := by
  pointwise [k0_pay2, k0_pay27]
  simp only [zero_sub]
  rfl

theorem pay9 : (k0_pay29 (k0_pay2 w) (k0_pay28 a) b z : FVec Ideal S1x256x128 .bf16) (ix3 0 Y Z : S1x256x128.Idx) = row a b z w Y Z := by
  pointwise [k0_pay2, k0_pay28, k0_pay29]
  simp only [zero_sub]
  rfl

theorem pay10 : (k0_pay31 (k0_pay2 w) (k0_pay30 a b) z : FVec Ideal S1x256x128 .bf16) (ix3 0 Y Z : S1x256x128.Idx) = row a b z w Y Z := by
  pointwise [k0_pay2, k0_pay30, k0_pay31]
  simp only [zero_sub]
  rfl

theorem pay11 : (k0_pay35 (k0_pay2 w) (k0_pay32 a b) (k0_pay33 z) (k0_pay34 a b) (Scalar.ofBits (F := Ideal) .f32 0x43000000#32) : FVec Ideal S1x256x128 .bf16) (ix3 0 Y Z : S1x256x128.Idx) = row a b z w Y Z := by
  pointwise [k0_pay2, k0_pay32, k0_pay33, k0_pay34, k0_pay35]
  simp only [zero_sub]
  rfl

theorem pay12 : (k0_pay38 (k0_pay2 w) (k0_pay36 z) (k0_pay37 a b) : FVec Ideal S1x256x128 .bf16) (ix3 0 Y Z : S1x256x128.Idx) = row a b z w Y Z := by
  pointwise [k0_pay2, k0_pay36, k0_pay37, k0_pay38]
  simp only [zero_sub]
  rfl

theorem pay13 : (k0_pay43 (k0_pay39 z) (k0_pay40 (k0_pay2 w) a b) (k0_pay41 z) (k0_pay42 (F := Ideal)) : FVec Ideal S1x256x128 .bf16) (ix3 0 Y Z : S1x256x128.Idx) = row a b z w Y Z := by
  pointwise [k0_pay2, k0_pay39, k0_pay40, k0_pay41, k0_pay42, k0_pay43]
  simp only [zero_sub]
  rfl

theorem pay14 : (k0_pay45 (k0_pay44 (k0_pay2 w) a b z) : FVec Ideal S1x256x128 .bf16) (ix3 0 Y Z : S1x256x128.Idx) = row a b z w Y Z := by
  pointwise [k0_pay2, k0_pay44, k0_pay45]
  simp only [zero_sub]
  rfl

theorem pay15 : (k0_pay1 (k0_pay46 z) (k0_pay47 (k0_pay2 w) a b) (k0_pay48 z) (k0_pay49 (F := Ideal)) : FVec Ideal S1x256x128 .bf16) (ix3 0 Y Z : S1x256x128.Idx) = row a b z w Y Z := by
  pointwise [k0_pay1, k0_pay2, k0_pay46, k0_pay47, k0_pay48, k0_pay49]
  simp only [zero_sub]
  rfl

end pays

theorem row_eq (h : Fin 16) (n : ℕ) (hn : n = h.val * 128) (inb : ∀ a, (![0, 0, n] : Fin 3 → ℕ) a + S1x256x128.size a ≤ S1x256x2048.size a) :
    row (View.ld (Val := Elt Ideal) (e' := .f32) x0 (Rect.unit (s := S1x256x2048) ![0, 0, n] S1x256x128.size inb)) (View.ld (Val := Elt Ideal) (e' := .f32) x1 (Rect.unit (s := S1x256x2048) ![0, 0, n] S1x256x128.size inb))
        (View.ld (Val := Elt Ideal) (e' := .bf16) x2 (Rect.unit (s := S1x256x2048) ![0, 0, n] S1x256x128.size inb)) (View.ld (Val := Elt Ideal) (e' := .f32) x3 r0_0) Y Z
      = block x0 x1 x2 x3 ((Rect.unit (s := S1x256x2048) ![0, 0, n] S1x256x128.size inb).emb (ix3 0 Y Z : S1x256x128.Idx)) := by
  rw [emb_lane Y Z h n hn inb, block_lane]
  unfold row head
  rw [View.ld_unit_zero (S := S1x128) hz3]
  congr 1
  · funext k
    exact congr (congrArg _ (congrArg x0 (emb_lane Y k h n hn inb))) (congrArg x1 (emb_lane Y k h n hn inb))
  · exact funext fun k => congrArg x2 (emb_lane Y k h n hn inb)

theorem idx3_eq (x : S1x256x128.Idx) : x = (ix3 0 (x 1) (x 2) : S1x256x128.Idx) := by
  funext a; fin_cases a
  · exact Subsingleton.elim (α := Fin 1) _ _
  · rfl
  · rfl

/-- What a point leaves in the output's block: its heads, normalised and gated. -/
theorem out_eq : out0_4 (F := Ideal) x0 x1 x2 x3 = block x0 x1 x2 x3 := by
  funext y
  unfold out0_4
  refine View.canon_apply_of_pieces (Val := Elt Ideal) (e := .bf16) (block x0 x1 x2 x3) _ ?_ y (cover0_4 _ _ _ _ _ _ _ _ _ _ _ _ _ _ _ _ y)
  refine List.forall_mem_cons.mpr ⟨fun x => ?_, ?_⟩
  · rw [idx3_eq x]
    exact (pay15 _ _ _ _ _ _).trans (row_eq x0 x1 x2 x3 (x 1) (x 2) 15 1920 rfl inb_S1x256x2048_S1x256x128_0_0_1920)
  refine List.forall_mem_cons.mpr ⟨fun x => ?_, ?_⟩
  · rw [idx3_eq x]
    exact (pay14 _ _ _ _ _ _).trans (row_eq x0 x1 x2 x3 (x 1) (x 2) 14 1792 rfl inb_S1x256x2048_S1x256x128_0_0_1792)
  refine List.forall_mem_cons.mpr ⟨fun x => ?_, ?_⟩
  · rw [idx3_eq x]
    exact (pay13 _ _ _ _ _ _).trans (row_eq x0 x1 x2 x3 (x 1) (x 2) 13 1664 rfl inb_S1x256x2048_S1x256x128_0_0_1664)
  refine List.forall_mem_cons.mpr ⟨fun x => ?_, ?_⟩
  · rw [idx3_eq x]
    exact (pay12 _ _ _ _ _ _).trans (row_eq x0 x1 x2 x3 (x 1) (x 2) 12 1536 rfl inb_S1x256x2048_S1x256x128_0_0_1536)
  refine List.forall_mem_cons.mpr ⟨fun x => ?_, ?_⟩
  · rw [idx3_eq x]
    exact (pay11 _ _ _ _ _ _).trans (row_eq x0 x1 x2 x3 (x 1) (x 2) 11 1408 rfl inb_S1x256x2048_S1x256x128_0_0_1408)
  refine List.forall_mem_cons.mpr ⟨fun x => ?_, ?_⟩
  · rw [idx3_eq x]
    exact (pay10 _ _ _ _ _ _).trans (row_eq x0 x1 x2 x3 (x 1) (x 2) 10 1280 rfl inb_S1x256x2048_S1x256x128_0_0_1280)
  refine List.forall_mem_cons.mpr ⟨fun x => ?_, ?_⟩
  · rw [idx3_eq x]
    exact (pay9 _ _ _ _ _ _).trans (row_eq x0 x1 x2 x3 (x 1) (x 2) 9 1152 rfl inb_S1x256x2048_S1x256x128_0_0_1152)
  refine List.forall_mem_cons.mpr ⟨fun x => ?_, ?_⟩
  · rw [idx3_eq x]
    exact (pay8 _ _ _ _ _ _).trans (row_eq x0 x1 x2 x3 (x 1) (x 2) 8 1024 rfl inb_S1x256x2048_S1x256x128_0_0_1024)
  refine List.forall_mem_cons.mpr ⟨fun x => ?_, ?_⟩
  · rw [idx3_eq x]
    exact (pay7 _ _ _ _ _ _).trans (row_eq x0 x1 x2 x3 (x 1) (x 2) 7 896 rfl inb_S1x256x2048_S1x256x128_0_0_896)
  refine List.forall_mem_cons.mpr ⟨fun x => ?_, ?_⟩
  · rw [idx3_eq x]
    exact (pay6 _ _ _ _ _ _).trans (row_eq x0 x1 x2 x3 (x 1) (x 2) 6 768 rfl inb_S1x256x2048_S1x256x128_0_0_768)
  refine List.forall_mem_cons.mpr ⟨fun x => ?_, ?_⟩
  · rw [idx3_eq x]
    exact (pay5 _ _ _ _ _ _).trans (row_eq x0 x1 x2 x3 (x 1) (x 2) 5 640 rfl inb_S1x256x2048_S1x256x128_0_0_640)
  refine List.forall_mem_cons.mpr ⟨fun x => ?_, ?_⟩
  · rw [idx3_eq x]
    exact (pay4 _ _ _ _ _ _).trans (row_eq x0 x1 x2 x3 (x 1) (x 2) 4 512 rfl inb_S1x256x2048_S1x256x128_0_0_512)
  refine List.forall_mem_cons.mpr ⟨fun x => ?_, ?_⟩
  · rw [idx3_eq x]
    exact (pay3 _ _ _ _ _ _).trans (row_eq x0 x1 x2 x3 (x 1) (x 2) 3 384 rfl inb_S1x256x2048_S1x256x128_0_0_384)
  refine List.forall_mem_cons.mpr ⟨fun x => ?_, ?_⟩
  · rw [idx3_eq x]
    exact (pay2 _ _ _ _ _ _).trans (row_eq x0 x1 x2 x3 (x 1) (x 2) 2 256 rfl inb_S1x256x2048_S1x256x128_0_0_256)
  refine List.forall_mem_cons.mpr ⟨fun x => ?_, ?_⟩
  · rw [idx3_eq x]
    exact (pay1 _ _ _ _ _ _).trans (row_eq x0 x1 x2 x3 (x 1) (x 2) 1 128 rfl inb_S1x256x2048_S1x256x128_0_0_128)
  refine List.forall_mem_cons.mpr ⟨fun x => ?_, fun p hp => absurd hp List.not_mem_nil⟩
  · rw [idx3_eq x]
    exact (pay0 _ _ _ _ _ _).trans (row_eq x0 x1 x2 x3 (x 1) (x 2) 0 0 rfl inb_S1x256x2048_S1x256x128_0_0_0)

variable (m : (ℓ : Loc nD τ sig) → Buf (Elt Ideal) ℓ) (c : Dev nD)

theorem idx0 : ∀ t : Fin cfg0.N, win0_0.index t = ![t.val / 32, t.val % 32, 0] :=
  (by decide +kernel : ∀ t : Fin grid0.N, win0_0.index t = ![t.val / 32, t.val % 32, 0])
theorem idx1 : ∀ t : Fin cfg0.N, win0_1.index t = ![t.val / 32, t.val % 32, 0] :=
  (by decide +kernel : ∀ t : Fin grid0.N, win0_1.index t = ![t.val / 32, t.val % 32, 0])
theorem idx2 : ∀ t : Fin cfg0.N, win0_2.index t = ![t.val / 32, t.val % 32, 3] :=
  (by decide +kernel : ∀ t : Fin grid0.N, win0_2.index t = ![t.val / 32, t.val % 32, 3])
theorem idx3 : ∀ t : Fin cfg0.N, win0_3.index t = ![0, 0] :=
  (by decide +kernel : ∀ t : Fin grid0.N, win0_3.index t = ![0, 0])
theorem idx4 : ∀ t : Fin cfg0.N, win0_4.index t = ![t.val / 32, t.val % 32, 0] :=
  (by decide +kernel : ∀ t : Fin grid0.N, win0_4.index t = ![t.val / 32, t.val % 32, 0])

variable (t : Fin cfg0.N)

theorem rows (Y : Fin 256) : 256 * (t.val % 32) + Y.val < 8192 := by have := t.isLt.trans_eq N_0; omega
theorem part : t.val / 32 < 3 := by have := t.isLt.trans_eq N_0; omega

theorem blk0 (Y : Fin 256) (Z : Fin 2048) : iblk m c 0 t (ix3 0 Y Z : S1x256x2048.Idx)
    = m ((c : Thread nD τ).loc main_arg0) (ix3 ⟨t.val / 32, part t⟩ ⟨256 * (t.val % 32) + Y.val, rows t Y⟩ Z : S3x8192x2048.Idx) := by
  rw [← V_main_arg0 m c]
  blk_ext! [iblk, idx0 t]

theorem blk1 (Y : Fin 256) (Z : Fin 2048) : iblk m c 1 t (ix3 0 Y Z : S1x256x2048.Idx)
    = m ((c : Thread nD τ).loc main_arg1) (ix3 ⟨t.val / 32, part t⟩ ⟨256 * (t.val % 32) + Y.val, rows t Y⟩ Z : S3x8192x2048.Idx) := by
  rw [← V_main_arg1 m c]
  blk_ext! [iblk, idx1 t]

theorem blk2 (Y : Fin 256) (Z : Fin 2048) : iblk m c 2 t (ix3 0 Y Z : S1x256x2048.Idx)
    = m ((c : Thread nD τ).loc main_arg2) (ix3 ⟨t.val / 32, part t⟩ ⟨256 * (t.val % 32) + Y.val, rows t Y⟩ ⟨6144 + Z.val, by omega⟩ : S3x8192x8192.Idx) := by
  rw [← V_main_arg2 m c]
  blk_ext! [iblk, idx2 t]

theorem blk3 (Z : Fin 128) : iblk m c 3 t (ix2 0 Z : S1x128.Idx)
    = m ((c : Thread nD τ).loc main_arg3) (ix1 Z : S128.Idx) := by
  blk_simp [iblk, idx3 t]
  entry_read
  pointwise
  blk_ext [idx3 t]

theorem block_eq (Y : Fin 256) (Z : Fin 2048) :
    block (iblk m c 0 t) (iblk m c 1 t) (iblk m c 2 t) (iblk m c 3 t) (ix3 0 Y Z : S1x256x2048.Idx)
      = heads (m ((c : Thread nD τ).loc main_arg0)) (m ((c : Thread nD τ).loc main_arg1)) (m ((c : Thread nD τ).loc main_arg2)) (m ((c : Thread nD τ).loc main_arg3)) (ix3 ⟨t.val / 32, part t⟩ ⟨256 * (t.val % 32) + Y.val, rows t Y⟩ Z : S3x8192x2048.Idx) := by
  show head (iblk m c 0 t) (iblk m c 1 t) (iblk m c 2 t) (iblk m c 3 t) (headOf Z) Y (within Z) = _
  unfold head
  simp only [blk0, blk1, blk2, blk3]
  rfl

/-- The array after the run holds the normalised and gated heads. -/
theorem final : (dats m 0 c).arrAt 4 cfg0.N = heads (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨Y, Z, rfl⟩ : ∃ (a : Fin 256) (b : Fin 2048), y = (ix3 0 a b : S1x256x2048.Idx) := ⟨y 1, y 2, by
    funext a; fin_cases a
    · exact Subsingleton.elim (α := Fin 1) _ _
    · rfl
    · rfl⟩
  blk_simp
  rw [after0_4, out_eq]
  refine (?_ : _ = heads _ _ _ _ (ix3 ⟨t.val / 32, part t⟩ ⟨256 * (t.val % 32) + Y.val, rows t Y⟩ Z : S3x8192x2048.Idx)).trans (congrArg (heads _ _ _ _) ?_)
  · exact block_eq m c t Y Z
  · blk_ext [idx4 t]

end Cert.Proof.GdnOut

namespace Cert.Proof.GdnOut

open Idealize.ShloMosaic Idealize.SL.Sem

/-- The reference runs to its end, its arguments unchanged and its semaphores at zero: its run's values left out. -/
theorem reference_frame : Cert.quiescent_GdnOutRefIdeal := fun m ρ _ =>
  (θ_run (Cert.GdnOutRefIdeal.defs (F := Ideal)) _ _).mono (fun r h => ⟨fun c => (h c).2, Idealize.ShloMosaic.sem_eq_zero_of_no_sems (by decide) r.2⟩)
    (Cert.GdnOutRefIdeal.Value.run m ρ)

/-- The call's array and the reference's are the normalised and gated heads. -/
theorem values : Cert.algebraic_GdnOutIdeal_GdnOutRefIdeal := by
  intro m g m' g' _ hargs
  refine ⟨fun c => heads (m ((c.tc : Thread Cert.GdnOutIdeal.nD Cert.GdnOutIdeal.τ).loc Cert.GdnOutIdeal.main_arg0)) (m ((c.tc : Thread Cert.GdnOutIdeal.nD Cert.GdnOutIdeal.τ).loc Cert.GdnOutIdeal.main_arg1)) (m ((c.tc : Thread Cert.GdnOutIdeal.nD Cert.GdnOutIdeal.τ).loc Cert.GdnOutIdeal.main_arg2)) (m ((c.tc : Thread Cert.GdnOutIdeal.nD Cert.GdnOutIdeal.τ).loc Cert.GdnOutIdeal.main_arg3)), ?_, ?_⟩
  · exact (θ_run (Cert.GdnOutIdeal.defs (F := Ideal)) _ _).mono (fun r h c => ⟨(h c).1.trans (final m c), (h c).2⟩) (Cert.GdnOutIdeal.Value.run_blocks m g)
  · refine (θ_run (Cert.GdnOutRefIdeal.defs (F := Ideal)) _ _).mono (fun r h c => ⟨(h c).1.trans ?_, (h c).2⟩) (Cert.GdnOutRefIdeal.Value.run m' g')
    refine (?_ : _ = heads (m' ((c.tc : Thread Cert.GdnOutRefIdeal.nD Cert.GdnOutRefIdeal.τ).loc Cert.GdnOutRefIdeal.main_arg0)) (m' ((c.tc : Thread Cert.GdnOutRefIdeal.nD Cert.GdnOutRefIdeal.τ).loc Cert.GdnOutRefIdeal.main_arg1)) (m' ((c.tc : Thread Cert.GdnOutRefIdeal.nD Cert.GdnOutRefIdeal.τ).loc Cert.GdnOutRefIdeal.main_arg2)) (m' ((c.tc : Thread Cert.GdnOutRefIdeal.nD Cert.GdnOutRefIdeal.τ).loc Cert.GdnOutRefIdeal.main_arg3))).trans (congr (congr (congr (congrArg heads (hargs c).1) (hargs c).2.1) (hargs c).2.2.1) (hargs c).2.2.2)
    funext y
    obtain ⟨X, Y, Z, rfl⟩ : ∃ (a : Fin 3) (b : Fin 8192) (d : Fin 2048), y = (ix3 a b d : Cert.GdnOutRefIdeal.S3x8192x2048.Idx) := ⟨y 0, y 1, y 2, by
      funext a; fin_cases a <;> rfl⟩
    pointwise
    exact (heads_at _ _ _ _ X Y Z).symm

end Cert.Proof.GdnOut

end

end
-- ==== Proof.PeerDense.lean ====
/- The experts' outputs from their gate matrix: the call's array, summed up over the blocks of experts, is the reference's. -/
module

public import proofs.«01_k».proof.Defs
public import proofs.«01_k».proof.Proof.Gen.PeerDense.Frame
public import proofs.«01_k».proof.Proof.Gen.PeerDenseIdeal.Points
public import proofs.«01_k».proof.Proof.Gen.PeerDenseIdeal.Frame
public import proofs.«01_k».proof.Proof.Gen.PeerDenseIdeal.Value
public import proofs.«01_k».proof.Proof.Gen.PeerDenseRefIdeal.Run
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.Proof.PeerDense

open Idealize.ShloMosaic Idealize.ShloMosaic.TcCoe Idealize.SL.Sem Cert.PeerDenseIdeal Cert.PeerDenseIdeal.Gen

/-- The exact gelu, with the constants' words. -/
def gelu (h : EReal) : EReal :=
  Ideal.ofBits FTy.f32 0x3F000000#32 * h * (1 + Ideal.erf (h * Ideal.ofBits FTy.f32 0x3F3504F3#32))

variable (x : FVec Ideal S24576x4096 .bf16) (u v : FVec Ideal S16384x4096 .bf16) (g : FVec Ideal S24576x16384 .bf16)

/-- What expert `e` adds to entry (r, z). -/
def part (r : Fin 24576) (z : Fin 4096) (e : Fin 16384) : EReal :=
  (g (ix2 r e : S24576x16384.Idx) : EReal) * gelu (∑ k : Fin 4096, (x (ix2 r k : S24576x4096.Idx) : EReal) * u (ix2 e k : S16384x4096.Idx))
    * v (ix2 e z : S16384x4096.Idx)

/-- The same for any number, zero past the experts. -/
def partN (r : Fin 24576) (z : Fin 4096) (e : ℕ) : EReal := if h : e < 16384 then part x u v g r z ⟨e, h⟩ else 0

/-- The experts' outputs, each times its gate and its activation, added up. -/
def mixed : FVec Ideal S24576x4096 .f32 := fun y => ∑ e : Fin 16384, part x u v g (y 0) (y 1) e

theorem mixed_eq (r : Fin 24576) (z : Fin 4096) :
    ∑ e ∈ Finset.range 16384, partN x u v g r z e = mixed x u v g (ix2 r z : S24576x4096.Idx) := by
  rw [Finset.sum_range]
  exact Finset.sum_congr rfl fun e _ => dif_pos e.isLt

theorem range_block (f : ℕ → EReal) (k : ℕ) :
    ∑ e ∈ Finset.range (1024 * (k + 1)), f e = ∑ e ∈ Finset.range (1024 * k), f e + ∑ j : Fin 1024, f (1024 * k + j.val) := by
  rw [Nat.mul_succ, Finset.sum_range_add, Finset.sum_range fun j => f (1024 * k + j)]

variable (m : (ℓ : Loc nD τ sig) → Buf (Elt Ideal) ℓ) (c : Dev nD)

theorem idx0 : ∀ t : Fin cfg0.N, win0_0.index t = ![t.val / 16, 0] :=
  (by decide +kernel : ∀ t : Fin grid0.N, win0_0.index t = ![t.val / 16, 0])
theorem idx1 : ∀ t : Fin cfg0.N, win0_1.index t = ![t.val % 16, 0] :=
  (by decide +kernel : ∀ t : Fin grid0.N, win0_1.index t = ![t.val % 16, 0])
theorem idx2 : ∀ t : Fin cfg0.N, win0_2.index t = ![t.val % 16, 0] :=
  (by decide +kernel : ∀ t : Fin grid0.N, win0_2.index t = ![t.val % 16, 0])
theorem idx3 : ∀ t : Fin cfg0.N, win0_3.index t = ![t.val / 16, t.val % 16] :=
  (by decide +kernel : ∀ t : Fin grid0.N, win0_3.index t = ![t.val / 16, t.val % 16])
theorem idx4 : ∀ t : Fin cfg0.N, win0_4.index t = ![t.val / 16, 0] :=
  (by decide +kernel : ∀ t : Fin grid0.N, win0_4.index t = ![t.val / 16, 0])

theorem hz0 : (![0, 0] : Fin S384x4096.rank → Nat) = fun _ => 0 := funext fun a => by fin_cases a <;> rfl
theorem hz1 : (![0, 0] : Fin S1024x4096.rank → Nat) = fun _ => 0 := funext fun a => by fin_cases a <;> rfl
theorem hz3 : (![0, 0] : Fin S384x1024.rank → Nat) = fun _ => 0 := funext fun a => by fin_cases a <;> rfl

/-- What a block of experts adds to entry (Y, Z) of a block of rows. -/
def step (x0 : FVec Ideal S384x4096 .bf16) (x1 x2 : FVec Ideal S1024x4096 .bf16) (x3 : FVec Ideal S384x1024 .bf16) (Y : Fin 384) (Z : Fin 4096) : EReal :=
  ∑ j : Fin 1024, (x3 (ix2 Y j : S384x1024.Idx) : EReal)
      * gelu (∑ k : Fin 4096, (x0 (ix2 Y k : S384x4096.Idx) : EReal) * x1 (ix2 j k : S1024x4096.Idx))
    * x2 (ix2 j Z : S1024x4096.Idx)

theorem pay (x0 : FVec Ideal S384x4096 .bf16) (x1 x2 : FVec Ideal S1024x4096 .bf16) (x3 : FVec Ideal S384x1024 .bf16) (xo : FVec Ideal S384x4096 .f32)
    (Y : Fin 384) (Z : Fin 4096) :
    k0_pay2 (F := Ideal) x0 x1 x3 xo x2 (ix2 Y Z : S384x4096.Idx) = xo (ix2 Y Z : S384x4096.Idx) + step x0 x1 x2 x3 Y Z := by
  unfold k0_pay2
  rw [shapeCast_self]
  pointwise
  rfl

theorem pay_zero (Y : Fin 384) (Z : Fin 4096) : k0_pay1 (F := Ideal) (ix2 Y Z : S384x4096.Idx) = 0 := by
  unfold k0_pay1
  pointwise

section cases

variable (i : grid0.Coords) (arg2 : Memref sig .tc .vmem S384x4096 .bf16) (harg2 : arg2.IsWhole) (arg3 : Memref sig .tc .vmem S1024x4096 .bf16) (harg3 : arg3.IsWhole)
  (arg4 : Memref sig .tc .vmem S1024x4096 .bf16) (harg4 : arg4.IsWhole) (arg5 : Memref sig .tc .vmem S384x1024 .bf16) (harg5 : arg5.IsWhole)
  (arg6 : Memref sig .tc .vmem S384x4096 .f32) (harg6 : arg6.IsWhole)
  (x0 : FVec Ideal S384x4096 .bf16) (x1 x2 : FVec Ideal S1024x4096 .bf16) (x3 : FVec Ideal S384x1024 .bf16) (xo : FVec Ideal S384x4096 .f32)
  (Y : Fin 384) (Z : Fin 4096)

/-- A later point of a row block adds its experts to what the point before left. -/
theorem out_later (hc : ¬cond0_0 i) :
    out0_B_4 (F := Ideal) c i arg2 harg2 arg3 harg3 arg4 harg4 arg5 harg5 arg6 harg6 hc x0 x1 x2 x3 xo (ix2 Y Z : S384x4096.Idx)
      = xo (ix2 Y Z : S384x4096.Idx) + step x0 x1 x2 x3 Y Z := by
  unfold out0_B_4
  rw [View.read_writes_eq_canon _ _ _ (cover0_B_4 (F := Ideal) c i arg2 harg2 arg3 harg3 arg4 harg4 arg5 harg5 arg6 harg6 hc x0 x1 x2 x3 xo)]
  unfold kernelRun0_B
  dsimp only
  rw [View.canon_unit_zero hz0]
  simp only [View.readAt_eq_ld, harg2.read_unread, harg3.read_unread, harg4.read_unread, harg5.read_unread, harg6.read_unread,
    View.ld_unit_zero (S := S384x4096) hz0, View.ld_unit_zero (S := S1024x4096) hz1, View.ld_unit_zero (S := S384x1024) hz3]
  exact pay x0 x1 x2 x3 xo Y Z

/-- The first point of a row block starts from zero. -/
theorem out_first (hc : cond0_0 i) :
    out0_A_4 (F := Ideal) c i arg2 harg2 arg3 harg3 arg4 harg4 arg5 harg5 arg6 harg6 hc x0 x1 x2 x3 (ix2 Y Z : S384x4096.Idx)
      = step x0 x1 x2 x3 Y Z := by
  unfold out0_A_4
  rw [View.read_writes_eq_canon _ _ _ (cover0_A_4 (F := Ideal) c i arg2 harg2 arg3 harg3 arg4 harg4 arg5 harg5 arg6 harg6 hc x0 x1 x2 x3)]
  unfold kernelRun0_A
  dsimp only
  sl_unfold_words
  rw [View.canon_cons_unit_zero (S := S384x4096) hz0, View.readCov_unit_zero (S := S384x4096) _ hz0]
  simp only [View.readAt_eq_ld, harg2.read_unread, harg3.read_unread, harg4.read_unread, harg5.read_unread,
    View.ld_unit_zero (S := S384x4096) hz0, View.ld_unit_zero (S := S1024x4096) hz1, View.ld_unit_zero (S := S384x1024) hz3]
  refine (pay x0 x1 x2 x3 _ Y Z).trans ?_
  rw [pay_zero, zero_add]

end cases

variable (t : Fin cfg0.N)

theorem rows (Y : Fin 384) : 384 * (t.val / 16) + Y.val < 24576 := by have := t.isLt.trans_eq N_0; omega
theorem experts (Y : Fin 1024) : 1024 * (t.val % 16) + Y.val < 16384 := by omega

theorem blk0 (Y : Fin 384) (Z : Fin 4096) : iblk m c 0 t (ix2 Y Z : S384x4096.Idx)
    = m ((c : Thread nD τ).loc main_arg0) (ix2 ⟨384 * (t.val / 16) + Y.val, rows t Y⟩ Z : S24576x4096.Idx) := by
  rw [← V_main_arg0 m c]
  blk_ext! [iblk, idx0 t]

theorem blk1 (Y : Fin 1024) (Z : Fin 4096) : iblk m c 1 t (ix2 Y Z : S1024x4096.Idx)
    = m ((c : Thread nD τ).loc main_arg1) (ix2 ⟨1024 * (t.val % 16) + Y.val, experts t Y⟩ Z : S16384x4096.Idx) := by
  rw [← V_main_arg1 m c]
  blk_ext! [iblk, idx1 t]

theorem blk2 (Y : Fin 1024) (Z : Fin 4096) : iblk m c 2 t (ix2 Y Z : S1024x4096.Idx)
    = m ((c : Thread nD τ).loc main_arg2) (ix2 ⟨1024 * (t.val % 16) + Y.val, experts t Y⟩ Z : S16384x4096.Idx) := by
  rw [← V_main_arg2 m c]
  blk_ext! [iblk, idx2 t]

theorem blk3 (Y : Fin 384) (Z : Fin 1024) : iblk m c 3 t (ix2 Y Z : S384x1024.Idx)
    = m ((c : Thread nD τ).loc main_arg3) (ix2 ⟨384 * (t.val / 16) + Y.val, rows t Y⟩ ⟨1024 * (t.val % 16) + Z.val, experts t Z⟩ : S24576x16384.Idx) := by
  rw [← V_main_arg3 m c]
  blk_ext! [iblk, idx3 t]

/-- A point's experts. -/
theorem step_eq (Y : Fin 384) (Z : Fin 4096) :
    step (iblk m c 0 t) (iblk m c 1 t) (iblk m c 2 t) (iblk m c 3 t) Y Z
      = ∑ j : Fin 1024, partN (m ((c : Thread nD τ).loc main_arg0)) (m ((c : Thread nD τ).loc main_arg1)) (m ((c : Thread nD τ).loc main_arg2)) (m ((c : Thread nD τ).loc main_arg3)) ⟨384 * (t.val / 16) + Y.val, rows t Y⟩ Z (1024 * (t.val % 16) + j.val) := by
  refine Finset.sum_congr rfl fun j _ => ?_
  rw [blk3, blk2]
  simp only [blk0, blk1]
  unfold partN
  rw [dif_pos (experts t j)]
  rfl

/-- After a point the output's block holds the sum over the experts so far. -/
theorem outs_eq : ∀ (n : ℕ) (h : n < cfg0.N) (Y : Fin 384) (Z : Fin 4096),
    outsAt0 m c n h (ix2 Y Z : S384x4096.Idx)
      = ∑ e ∈ Finset.range (1024 * (n % 16 + 1)), partN (m ((c : Thread nD τ).loc main_arg0)) (m ((c : Thread nD τ).loc main_arg1)) (m ((c : Thread nD τ).loc main_arg2)) (m ((c : Thread nD τ).loc main_arg3)) ⟨384 * (n / 16) + Y.val, rows ⟨n, h⟩ Y⟩ Z e := by
  intro n
  induction n with
  | zero =>
    intro h Y Z
    rw [outsAt0_A m c ⟨0, h⟩ rfl, out_first, step_eq, range_block]
    simp
  | succ n ih =>
    intro h Y Z
    by_cases h0 : (n + 1) % 16 = 0
    · rw [outsAt0_A m c ⟨n + 1, h⟩ h0, out_first, step_eq, range_block]
      simp [h0]
    · rw [outsAt0_B m c ⟨n + 1, h⟩ h0, out_later, step_eq, range_block]
      have e1 : n % 16 + 1 = (n + 1) % 16 := by omega
      have e2 : n / 16 = (n + 1) / 16 := by omega
      refine congrArg (· + _) ((ih (Nat.lt_of_succ_lt h) Y Z).trans ?_)
      rw [e1]
      simp only [e2]

/-- The array after the run holds the experts' outputs. -/
theorem final : (dats m 0 c).arrAt 4 cfg0.N = mixed (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨Y, Z, rfl⟩ : ∃ (a : Fin 384) (b : Fin 4096), y = (ix2 a b : S384x4096.Idx) := ⟨y 0, y 1, by
    funext a; fin_cases a <;> rfl⟩
  have h15 : t.val % 16 + 1 = 16 := congrArg (· + 1) ((flush0_4 t).mp hf)
  blk_simp
  rw [after0_4]
  refine (outs_eq m c t.val t.isLt Y Z).trans ?_
  rw [h15]
  refine (mixed_eq _ _ _ _ _ Z).trans (congrArg (mixed _ _ _ _) ?_)
  blk_ext [idx4 t]

end Cert.Proof.PeerDense

namespace Cert.Proof.PeerDense

open Idealize.ShloMosaic Idealize.SL.Sem

/-- The reference runs to its end, its arguments unchanged and its semaphores at zero: its run's values left out. -/
theorem reference_frame : Cert.quiescent_PeerDenseRefIdeal := fun m ρ _ =>
  (θ_run (Cert.PeerDenseRefIdeal.defs (F := Ideal)) _ _).mono (fun r h => ⟨fun c => (h c).2, Idealize.ShloMosaic.sem_eq_zero_of_no_sems (by decide) r.2⟩)
    (Cert.PeerDenseRefIdeal.Value.run m ρ)

/-- The call's array and the reference's are the experts' outputs. -/
theorem values : Cert.algebraic_PeerDenseIdeal_PeerDenseRefIdeal := by
  intro m g m' g' _ hargs
  refine ⟨fun c => mixed (m ((c.tc : Thread Cert.PeerDenseIdeal.nD Cert.PeerDenseIdeal.τ).loc Cert.PeerDenseIdeal.main_arg0)) (m ((c.tc : Thread Cert.PeerDenseIdeal.nD Cert.PeerDenseIdeal.τ).loc Cert.PeerDenseIdeal.main_arg1)) (m ((c.tc : Thread Cert.PeerDenseIdeal.nD Cert.PeerDenseIdeal.τ).loc Cert.PeerDenseIdeal.main_arg2)) (m ((c.tc : Thread Cert.PeerDenseIdeal.nD Cert.PeerDenseIdeal.τ).loc Cert.PeerDenseIdeal.main_arg3)), ?_, ?_⟩
  · exact (θ_run (Cert.PeerDenseIdeal.defs (F := Ideal)) _ _).mono (fun r h c => ⟨(h c).1.trans (final m c), (h c).2⟩) (Cert.PeerDenseIdeal.Value.run_blocks m g)
  · refine (θ_run (Cert.PeerDenseRefIdeal.defs (F := Ideal)) _ _).mono (fun r h c => ⟨(h c).1.trans ?_, (h c).2⟩) (Cert.PeerDenseRefIdeal.Value.run m' g')
    refine (?_ : _ = mixed (m' ((c.tc : Thread Cert.PeerDenseRefIdeal.nD Cert.PeerDenseRefIdeal.τ).loc Cert.PeerDenseRefIdeal.main_arg0)) (m' ((c.tc : Thread Cert.PeerDenseRefIdeal.nD Cert.PeerDenseRefIdeal.τ).loc Cert.PeerDenseRefIdeal.main_arg1)) (m' ((c.tc : Thread Cert.PeerDenseRefIdeal.nD Cert.PeerDenseRefIdeal.τ).loc Cert.PeerDenseRefIdeal.main_arg2)) (m' ((c.tc : Thread Cert.PeerDenseRefIdeal.nD Cert.PeerDenseRefIdeal.τ).loc Cert.PeerDenseRefIdeal.main_arg3))).trans (congr (congr (congr (congrArg mixed (hargs c).1) (hargs c).2.1) (hargs c).2.2.1) (hargs c).2.2.2)
    funext y
    obtain ⟨Y, Z, rfl⟩ : ∃ (a : Fin 24576) (b : Fin 4096), y = (ix2 a b : Cert.PeerDenseRefIdeal.S24576x4096.Idx) := ⟨y 0, y 1, by
      funext a; fin_cases a <;> rfl⟩
    pointwise
    simp only [neg_mul, Ideal.erfc_neg]
    rfl

end Cert.Proof.PeerDense

end

end
-- ==== Proof.DnConv.lean ====
/- The convolution along the sequence with its silu and the heads' normalisation: the call's array is the reference's. -/
module

public import proofs.«01_k».proof.Defs
public import proofs.«01_k».proof.Proof.Gen.DnConv.Frame
public import proofs.«01_k».proof.Proof.Gen.DnConvIdeal.Points
public import proofs.«01_k».proof.Proof.Gen.DnConvIdeal.Frame
public import proofs.«01_k».proof.Proof.Gen.DnConvIdeal.Value
public import proofs.«01_k».proof.Proof.Gen.DnConvRefIdeal.Run
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.Proof.DnConv

open Idealize.ShloMosaic Idealize.ShloMosaic.TcCoe Idealize.SL.Sem Cert.DnConvIdeal Cert.DnConvIdeal.Gen

/-- The logistic function as the reference writes it. -/
def logistic (x : EReal) : EReal := Ideal.div 1 (1 + Ideal.exp (-x))

/-- Five taps of a column, weighted and added from the left. -/
def five (w f : Fin 5 → EReal) : EReal := f 0 * w 0 + f 1 * w 1 + f 2 * w 2 + f 3 * w 3 + f 4 * w 4

/-- The silu. -/
def act (x : EReal) : EReal := x * logistic x

/-- One over the square root of the sum of a head's squares. -/
def scaleOf (f : Fin 128 → EReal) : EReal := Ideal.rsqrt (∑ j : Fin 128, f j * f j + Ideal.ofBits FTy.f32 0x358637BD#32)

/-- A head: of the first part normalised and divided by the root of its length, of the second normalised, of the third as it is. -/
def scaled (part : ℕ) (f : Fin 128 → EReal) (k : Fin 128) : EReal :=
  if part = 0 then f k * scaleOf f * Ideal.ofBits FTy.f32 0x3DB504F3#32 else if part = 1 then f k * scaleOf f else f k

theorem scaled_zero (n : ℕ) (h : n = 0) (f : Fin 128 → EReal) (k : Fin 128) : scaled n f k = f k * scaleOf f * Ideal.ofBits FTy.f32 0x3DB504F3#32 := by
  subst h; rfl
theorem scaled_one (n : ℕ) (h : n = 1) (f : Fin 128 → EReal) (k : Fin 128) : scaled n f k = f k * scaleOf f := by
  subst h; rfl
theorem scaled_two (n : ℕ) (h : n = 2) (f : Fin 128 → EReal) (k : Fin 128) : scaled n f k = f k := by
  subst h; rfl

/-- Entry `k` of head `h` of a row of heads. -/
def lane (h : Fin 48) (k : Fin 128) : Fin 6144 := ⟨h.val * 128 + k.val, by omega⟩
def headOf (z : Fin 6144) : Fin 48 := ⟨z.val / 128, by omega⟩
def within (z : Fin 6144) : Fin 128 := ⟨z.val % 128, Nat.mod_lt _ (by decide)⟩
theorem lane_split (z : Fin 6144) : lane (headOf z) (within z) = z := Fin.ext (by show z.val / 128 * 128 + z.val % 128 = z.val; omega)

/-- Row `j` of a sequence with two rows of zeros before and after it, in column `z`. -/
def padded (x : FVec Ideal S3x8192x8192 .bf16) (X : Fin 3) (z : Fin 6144) (j : ℕ) : EReal :=
  if h : 2 ≤ j ∧ j - 2 < 8192 then x (ix3 X ⟨j - 2, h.2⟩ ⟨z.val, by omega⟩ : S3x8192x8192.Idx) else 0

/-- The convolution of a column over five rows of the padded sequence, at row `Y`. -/
def conv (x : FVec Ideal S3x8192x8192 .bf16) (w : FVec Ideal S5x6144 .f32) (X : Fin 3) (Y : Fin 8192) (z : Fin 6144) : EReal :=
  five (fun i => w (ix2 i z : S5x6144.Idx)) (fun i => padded x X z (i.val + Y.val))

/-- The heads after convolution, silu and normalisation. -/
def mixed (x : FVec Ideal S3x8192x8192 .bf16) (w : FVec Ideal S5x6144 .f32) : FVec Ideal S3x8192x6144 .bf16 := fun y =>
  scaled ((headOf (y 2)).val / 16) (fun k => act (conv x w (y 0) (y 1) (lane (headOf (y 2)) k))) (within (y 2))

end Cert.Proof.DnConv

namespace Cert.Proof.DnConvHost

open Idealize.ShloMosaic Idealize.ShloMosaic.TcCoe Idealize.SL.Sem Idealize.ShloMosaic.StableHlo Cert.DnConvRefIdeal Cert.DnConvRefIdeal.Gen
open Cert.Proof.DnConv (logistic five act scaleOf scaled scaled_zero scaled_one scaled_two lane headOf within padded conv mixed)

variable {F : FTy → Type} [FloatOps F]

/-- The reference's convolution. -/
def hostConv (x : FVec F S3x8192x8192 .bf16) (w : FVec F S5x6144 .f32) : FVec F S3x8192x6144 .f32 :=
  (addf (addf (addf (addf (addf (broadcastInDim S3x8192x6144 ![] bcast_S_S3x8192x6144 (constant S_ .f32 0x00000000#32)) (mulf (extractStridedSlice S3x8192x6144 ![0, 0, 0] (pad S3x8196x6144 ![0, 2, 0] ![0, 2, 0] ![0, 0, 0] (extf .f32 (extractStridedSlice S3x8192x6144 ![0, 0, 0] x slices_S3x8192x8192_S3x8192x6144_0_0_0) bitsLt_bf16_f32) (sitofp .f32 (constantI S_ 32 0#32)) pads_S3x8192x6144_S3x8196x6144_000_220_000 h_S_) slices_S3x8196x6144_S3x8192x6144_0_0_0) (broadcastInDim S3x8192x6144 ![0, 1, 2] bcast_S1x1x6144_S3x8192x6144_0_1_2 (broadcastInDim S1x1x6144 ![2] bcast_S6144_S1x1x6144_2 (shapeCast _ (extractStridedSlice S1x6144 ![0, 0] w slices_S5x6144_S1x6144_0_0) shapeCasts_S1x6144_S6144))))) (mulf (extractStridedSlice S3x8192x6144 ![0, 1, 0] (pad S3x8196x6144 ![0, 2, 0] ![0, 2, 0] ![0, 0, 0] (extf .f32 (extractStridedSlice S3x8192x6144 ![0, 0, 0] x slices_S3x8192x8192_S3x8192x6144_0_0_0) bitsLt_bf16_f32) (sitofp .f32 (constantI S_ 32 0#32)) pads_S3x8192x6144_S3x8196x6144_000_220_000 h_S_) slices_S3x8196x6144_S3x8192x6144_0_1_0) (broadcastInDim S3x8192x6144 ![0, 1, 2] bcast_S1x1x6144_S3x8192x6144_0_1_2 (broadcastInDim S1x1x6144 ![2] bcast_S6144_S1x1x6144_2 (shapeCast _ (extractStridedSlice S1x6144 ![1, 0] w slices_S5x6144_S1x6144_1_0) shapeCasts_S1x6144_S6144))))) (mulf (extractStridedSlice S3x8192x6144 ![0, 2, 0] (pad S3x8196x6144 ![0, 2, 0] ![0, 2, 0] ![0, 0, 0] (extf .f32 (extractStridedSlice S3x8192x6144 ![0, 0, 0] x slices_S3x8192x8192_S3x8192x6144_0_0_0) bitsLt_bf16_f32) (sitofp .f32 (constantI S_ 32 0#32)) pads_S3x8192x6144_S3x8196x6144_000_220_000 h_S_) slices_S3x8196x6144_S3x8192x6144_0_2_0) (broadcastInDim S3x8192x6144 ![0, 1, 2] bcast_S1x1x6144_S3x8192x6144_0_1_2 (broadcastInDim S1x1x6144 ![2] bcast_S6144_S1x1x6144_2 (shapeCast _ (extractStridedSlice S1x6144 ![2, 0] w slices_S5x6144_S1x6144_2_0) shapeCasts_S1x6144_S6144))))) (mulf (extractStridedSlice S3x8192x6144 ![0, 3, 0] (pad S3x8196x6144 ![0, 2, 0] ![0, 2, 0] ![0, 0, 0] (extf .f32 (extractStridedSlice S3x8192x6144 ![0, 0, 0] x slices_S3x8192x8192_S3x8192x6144_0_0_0) bitsLt_bf16_f32) (sitofp .f32 (constantI S_ 32 0#32)) pads_S3x8192x6144_S3x8196x6144_000_220_000 h_S_) slices_S3x8196x6144_S3x8192x6144_0_3_0) (broadcastInDim S3x8192x6144 ![0, 1, 2] bcast_S1x1x6144_S3x8192x6144_0_1_2 (broadcastInDim S1x1x6144 ![2] bcast_S6144_S1x1x6144_2 (shapeCast _ (extractStridedSlice S1x6144 ![3, 0] w slices_S5x6144_S1x6144_3_0) shapeCasts_S1x6144_S6144))))) (mulf (extractStridedSlice S3x8192x6144 ![0, 4, 0] (pad S3x8196x6144 ![0, 2, 0] ![0, 2, 0] ![0, 0, 0] (extf .f32 (extractStridedSlice S3x8192x6144 ![0, 0, 0] x slices_S3x8192x8192_S3x8192x6144_0_0_0) bitsLt_bf16_f32) (sitofp .f32 (constantI S_ 32 0#32)) pads_S3x8192x6144_S3x8196x6144_000_220_000 h_S_) slices_S3x8196x6144_S3x8192x6144_0_4_0) (broadcastInDim S3x8192x6144 ![0, 1, 2] bcast_S1x1x6144_S3x8192x6144_0_1_2 (broadcastInDim S1x1x6144 ![2] bcast_S6144_S1x1x6144_2 (shapeCast _ (extractStridedSlice S1x6144 ![4, 0] w slices_S5x6144_S1x6144_4_0) shapeCasts_S1x6144_S6144)))))

/-- The reference's silu. -/
def hostAct (A : FVec F S3x8192x6144 .f32) : FVec F S3x8192x6144 .f32 :=
  mulf A (Host.divf (broadcastInDim S3x8192x6144 ![] bcast_S_S3x8192x6144 (constant S_ .f32 0x3F800000#32)) (addf (broadcastInDim S3x8192x6144 ![] bcast_S_S3x8192x6144 (constant S_ .f32 0x3F800000#32)) (Host.exp (Host.negf A))))

/-- The reference's normalisation. -/
def hostNorm (B : FVec F S3x8192x6144 .f32) : FVec F S3x8192x6144 .bf16 :=
  truncf .bf16 ((concatenate S3x8192x6144 2 [⟨S3x8192x2048, ((shapeCast _ (mulf (mulf (shapeCast _ (extractStridedSlice S3x8192x2048 ![0, 0, 0] B slices_S3x8192x6144_S3x8192x2048_0_0_0) shapeCasts_S3x8192x2048_S3x8192x16x128) (broadcastInDim S3x8192x16x128 ![0, 1, 2, 3] bcast_S3x8192x16x1_S3x8192x16x128_0_1_2_3 (Host.rsqrt (addf (broadcastInDim S3x8192x16x1 ![0, 1, 2] bcast_S3x8192x16_S3x8192x16x1_0_1_2 (Host.reduceAdd (mulf (shapeCast _ (extractStridedSlice S3x8192x2048 ![0, 0, 0] B slices_S3x8192x6144_S3x8192x2048_0_0_0) shapeCasts_S3x8192x2048_S3x8192x16x128) (shapeCast _ (extractStridedSlice S3x8192x2048 ![0, 0, 0] B slices_S3x8192x6144_S3x8192x2048_0_0_0) shapeCasts_S3x8192x2048_S3x8192x16x128)) (constant S_ .f32 0x00000000#32) reducesTo_S3x8192x16x128_S3x8192x16_d3 h_S_)) (broadcastInDim S3x8192x16x1 ![] bcast_S_S3x8192x16x1 (constant S_ .f32 0x358637BD#32)))))) (broadcastInDim S3x8192x16x128 ![] bcast_S_S3x8192x16x128 (constant S_ .f32 0x3DB504F3#32))) shapeCasts_S3x8192x16x128_S3x8192x2048) : (⟨S3x8192x2048, .f32⟩ : BufTy).Contents (Elt F))⟩, ⟨S3x8192x2048, ((shapeCast _ (mulf (shapeCast _ (extractStridedSlice S3x8192x2048 ![0, 0, 2048] B slices_S3x8192x6144_S3x8192x2048_0_0_2048) shapeCasts_S3x8192x2048_S3x8192x16x128) (broadcastInDim S3x8192x16x128 ![0, 1, 2, 3] bcast_S3x8192x16x1_S3x8192x16x128_0_1_2_3 (Host.rsqrt (addf (broadcastInDim S3x8192x16x1 ![0, 1, 2] bcast_S3x8192x16_S3x8192x16x1_0_1_2 (Host.reduceAdd (mulf (shapeCast _ (extractStridedSlice S3x8192x2048 ![0, 0, 2048] B slices_S3x8192x6144_S3x8192x2048_0_0_2048) shapeCasts_S3x8192x2048_S3x8192x16x128) (shapeCast _ (extractStridedSlice S3x8192x2048 ![0, 0, 2048] B slices_S3x8192x6144_S3x8192x2048_0_0_2048) shapeCasts_S3x8192x2048_S3x8192x16x128)) (constant S_ .f32 0x00000000#32) reducesTo_S3x8192x16x128_S3x8192x16_d3 h_S_)) (broadcastInDim S3x8192x16x1 ![] bcast_S_S3x8192x16x1 (constant S_ .f32 0x358637BD#32)))))) shapeCasts_S3x8192x16x128_S3x8192x2048) : (⟨S3x8192x2048, .f32⟩ : BufTy).Contents (Elt F))⟩, ⟨S3x8192x2048, ((shapeCast _ (shapeCast _ (extractStridedSlice S3x8192x2048 ![0, 0, 4096] B slices_S3x8192x6144_S3x8192x2048_0_0_4096) shapeCasts_S3x8192x2048_S3x8192x16x128) shapeCasts_S3x8192x16x128_S3x8192x2048) : (⟨S3x8192x2048, .f32⟩ : BufTy).Contents (Elt F))⟩] concatenates_S3x8192x2048_S3x8192x2048_S3x8192x2048_S3x8192x6144_d2 : (⟨S3x8192x6144, .f32⟩ : BufTy).Contents (Elt F))) bitsLt_bf16_f32

theorem host_eq (m : (ℓ : Loc nD τ sig) → Buf (Elt F) ℓ) (c : Dev nD) :
    Cert.DnConvRefIdeal.Value.res_main_v68 m c = hostNorm (hostAct (hostConv (m ((c.tc : Thread nD τ).loc main_arg0)) (m ((c.tc : Thread nD τ).loc main_arg1)))) := rfl

theorem sitofp_zero : (FloatOps.sitofp FTy.f32 0#32 : Ideal FTy.f32) = (0 : EReal) := by
  show (((0#32 : BitVec 32).toInt : ℝ) : EReal) = 0
  simp

theorem hostConv_at (x : FVec Ideal S3x8192x8192 .bf16) (w : FVec Ideal S5x6144 .f32) (X : Fin 3) (Y : Fin 8192) (Z : Fin 6144) :
    hostConv x w (ix3 X Y Z : S3x8192x6144.Idx) = conv x w X Y Z := by
  pointwise [hostConv]
  simp only [sitofp_zero, Z.isLt, and_true]
  have e2 : padded x X Z (2 + Y.val) = x (ix3 X Y ⟨Z.val, by omega⟩ : S3x8192x8192.Idx) := by
    unfold padded
    rw [dif_pos ⟨by omega, by omega⟩]
    congr 2
    exact Fin.ext (by show 2 + Y.val - 2 = Y.val; omega)
  unfold conv five
  show _ = padded x X Z (0 + Y.val) * _ + padded x X Z (1 + Y.val) * _ + padded x X Z (2 + Y.val) * _ + padded x X Z (3 + Y.val) * _ + padded x X Z (4 + Y.val) * _
  rw [e2, Nat.zero_add]
  rfl

theorem hostNorm_at (x : FVec Ideal S3x8192x6144 .f32) (X : Fin 3) (Y : Fin 8192) (Z : Fin 6144) :
    hostNorm (hostAct x) (ix3 X Y Z : S3x8192x6144.Idx)
      = scaled ((headOf Z).val / 16) (fun k => act (x (ix3 X Y (lane (headOf Z) k) : S3x8192x6144.Idx))) (within Z) := by
  pointwise [hostNorm, hostAct]
  have hZ := Z.isLt
  by_cases h : Z.val < 2048
  · rw [dif_pos h]
    refine Eq.trans ?_ (scaled_zero _ (by show Z.val / 128 / 16 = 0; omega) _ _).symm
    rfl
  rw [dif_neg h]
  by_cases h' : Z.val - 2048 < 2048
  · rw [dif_pos h']
    have e (k : Fin 128) (p) : (⟨2048 + ((Z.val - 2048) / 128 * 128 + k.val), p⟩ : Fin 6144) = lane (headOf Z) k :=
      Fin.ext (by show 2048 + ((Z.val - 2048) / 128 * 128 + k.val) = Z.val / 128 * 128 + k.val; omega)
    have e' (p) : (⟨2048 + ((Z.val - 2048) / 128 * 128 + (Z.val - 2048) % 128), p⟩ : Fin 6144) = lane (headOf Z) (within Z) :=
      Fin.ext (by show 2048 + ((Z.val - 2048) / 128 * 128 + (Z.val - 2048) % 128) = Z.val / 128 * 128 + Z.val % 128; omega)
    refine Eq.trans ?_ (scaled_one _ (by show Z.val / 128 / 16 = 1; omega) _ _).symm
    simp only [e, e']
    rfl
  · rw [dif_neg h']
    have e' (p) : (⟨4096 + (Z.val - 2048 - 2048), p⟩ : Fin 6144) = lane (headOf Z) (within Z) :=
      Fin.ext (by show 4096 + (Z.val - 2048 - 2048) = Z.val / 128 * 128 + Z.val % 128; omega)
    refine Eq.trans ?_ (scaled_two _ (by show Z.val / 128 / 16 = 2; omega) _ _).symm
    simp only [e']
    rfl

/-- The reference's array is the heads after convolution, silu and normalisation. -/
theorem host_at (x : FVec Ideal S3x8192x8192 .bf16) (w : FVec Ideal S5x6144 .f32) (X : Fin 3) (Y : Fin 8192) (Z : Fin 6144) :
    hostNorm (hostAct (hostConv x w)) (ix3 X Y Z : S3x8192x6144.Idx) = mixed x w (ix3 X Y Z : S3x8192x6144.Idx) := by
  rw [hostNorm_at]
  simp only [hostConv_at]
  rfl

end Cert.Proof.DnConvHost

namespace Cert.Proof.DnConv

open Idealize.ShloMosaic Idealize.ShloMosaic.TcCoe Idealize.SL.Sem Cert.DnConvIdeal Cert.DnConvIdeal.Gen

/-- Row `j` of a block of rows with two rows before and after it, those before the first block and after the last being zero. -/
def framed (g : ℕ) (x0 : FVec Ideal S1x16x2048 .bf16) (x1 : FVec Ideal S1x256x2048 .bf16) (x2 : FVec Ideal S1x16x2048 .bf16) (Z : Fin 2048) (j : ℕ) : EReal :=
  if h : j < 2 then (if 0 < g then x0 (ix3 0 ⟨14 + j, by omega⟩ Z : S1x16x2048.Idx) else 0)
  else if h' : j < 258 then x1 (ix3 0 ⟨j - 2, by omega⟩ Z : S1x256x2048.Idx)
  else if g < 31 then x2 (ix3 0 ⟨(j - 258) % 16, by omega⟩ Z : S1x16x2048.Idx) else 0

/-- The convolution of a column of a block, at row `Y`. -/
def blockConv (g : ℕ) (x0 : FVec Ideal S1x16x2048 .bf16) (x1 : FVec Ideal S1x256x2048 .bf16) (x2 : FVec Ideal S1x16x2048 .bf16) (x3 : FVec Ideal S5x2048 .f32)
    (Y : Fin 256) (Z : Fin 2048) : EReal :=
  five (fun i => x3 (ix2 i Z : S5x2048.Idx)) (fun i => framed g x0 x1 x2 Z (i.val + Y.val))

theorem select_eq (c : BitVec 1) (p : Prop) [Decidable p] (a b : EReal) (h : c = if p then 1#1 else 0#1) : Scalar.select c a b = if p then a else b := by
  subst h
  by_cases q : p
  · rw [if_pos q, if_pos q]; rfl
  · rw [if_neg q, if_neg q]; rfl

theorem row0 : ∀ Y : Fin 256, IntOp.cmpi CmpIPredicate.eq (BitVec.ofNat 32 Y.val) 0#32 = if Y.val = 0 then 1#1 else 0#1 := by decide +kernel
theorem row1 : ∀ Y : Fin 256, IntOp.cmpi CmpIPredicate.eq (BitVec.ofNat 32 Y.val) 1#32 = if Y.val = 1 then 1#1 else 0#1 := by decide +kernel
theorem row254 : ∀ Y : Fin 256, IntOp.cmpi CmpIPredicate.eq (BitVec.ofNat 32 Y.val) 254#32 = if Y.val = 254 then 1#1 else 0#1 := by decide +kernel
theorem row255 : ∀ Y : Fin 256, IntOp.cmpi CmpIPredicate.eq (BitVec.ofNat 32 Y.val) 255#32 = if Y.val = 255 then 1#1 else 0#1 := by decide +kernel
theorem first : ∀ g : Fin 32, Scalar.cmpi CmpIPredicate.sgt (BitVec.ofNat 32 g.val) 0#32 = if 0 < g.val then 1#1 else 0#1 := by decide +kernel
theorem last : ∀ g : Fin 32, Scalar.cmpi CmpIPredicate.slt (BitVec.ofNat 32 g.val) 31#32 = if g.val < 31 then 1#1 else 0#1 := by decide +kernel

section taps

variable (g : ℕ) (x0 : FVec Ideal S1x16x2048 .bf16) (x1 : FVec Ideal S1x256x2048 .bf16) (x2 : FVec Ideal S1x16x2048 .bf16) (Y : Fin 256) (Z : Fin 2048)

theorem tap_before (j : ℕ) (h : j < 2) (k : Fin 16) (hk : k.val = 14 + j) :
    framed g x0 x1 x2 Z j = if 0 < g then (x0 (ix3 0 k Z : S1x16x2048.Idx) : EReal) else 0 := by
  unfold framed
  rw [dif_pos h, show (⟨14 + j, by omega⟩ : Fin 16) = k from Fin.ext hk.symm]

theorem tap_in (j : ℕ) (h : 2 ≤ j) (h' : j < 258) (k : Fin 256) (hk : k.val = j - 2) :
    framed g x0 x1 x2 Z j = (x1 (ix3 0 k Z : S1x256x2048.Idx) : EReal) := by
  unfold framed
  rw [dif_neg (by omega), dif_pos h', show (⟨j - 2, by omega⟩ : Fin 256) = k from Fin.ext hk.symm]

theorem tap_after (j : ℕ) (h : 258 ≤ j) (h' : j < 260) (k : Fin 16) (hk : k.val = j - 258) :
    framed g x0 x1 x2 Z j = if g < 31 then (x2 (ix3 0 k Z : S1x16x2048.Idx) : EReal) else 0 := by
  unfold framed
  rw [dif_neg (by omega), dif_neg (by omega), show (⟨(j - 258) % 16, by omega⟩ : Fin 16) = k from Fin.ext (by show _ % 16 = _; omega)]

theorem tap0 (p) : framed g x0 x1 x2 Z (0 + Y.val)
    = if Y.val = 0 then (if 0 < g then (x0 (ix3 0 14 Z : S1x16x2048.Idx) : EReal) else 0)
      else if Y.val = 1 then (if 0 < g then (x0 (ix3 0 15 Z : S1x16x2048.Idx) : EReal) else 0)
      else x1 (ix3 0 ⟨(Y.val + 256 - 2) % 256, p⟩ Z : S1x256x2048.Idx) := by
  have hY := Y.isLt
  split_ifs with a b
  · rw [tap_before _ _ _ _ _ _ (by omega) 14 (by show 14 = _; omega)]; simp only [*, if_true]
  · rw [tap_before _ _ _ _ _ _ (by omega) 14 (by show 14 = _; omega)]; simp only [*, if_false]
  · rw [tap_before _ _ _ _ _ _ (by omega) 15 (by show 15 = _; omega)]; simp only [*, if_true]
  · rw [tap_before _ _ _ _ _ _ (by omega) 15 (by show 15 = _; omega)]; simp only [*, if_false]
  · exact tap_in _ _ _ _ _ _ (by omega) (by omega) _ (by show _ % 256 = _; omega)

theorem tap1 (p) : framed g x0 x1 x2 Z (1 + Y.val)
    = if Y.val = 0 then (if 0 < g then (x0 (ix3 0 15 Z : S1x16x2048.Idx) : EReal) else 0)
      else x1 (ix3 0 ⟨(Y.val + 256 - 1) % 256, p⟩ Z : S1x256x2048.Idx) := by
  have hY := Y.isLt
  by_cases a : Y.val = 0
  · rw [if_pos a, tap_before _ _ _ _ _ _ (by omega) 15 (by show 15 = _; omega)]
  · rw [if_neg a]
    exact tap_in _ _ _ _ _ _ (by omega) (by omega) _ (by show _ % 256 = _; omega)

theorem tap2 : framed g x0 x1 x2 Z (2 + Y.val) = (x1 (ix3 0 Y Z : S1x256x2048.Idx) : EReal) :=
  tap_in _ _ _ _ _ _ (by omega) (by omega) _ (by omega)

theorem tap3 (p) : framed g x0 x1 x2 Z (3 + Y.val)
    = if Y.val = 255 then (if g < 31 then (x2 (ix3 0 0 Z : S1x16x2048.Idx) : EReal) else 0)
      else x1 (ix3 0 ⟨(Y.val + 256 - 255) % 256, p⟩ Z : S1x256x2048.Idx) := by
  have hY := Y.isLt
  by_cases a : Y.val = 255
  · rw [if_pos a, tap_after _ _ _ _ _ _ (by omega) (by omega) 0 (by show 0 = _; omega)]
  · rw [if_neg a]
    exact tap_in _ _ _ _ _ _ (by omega) (by omega) _ (by show _ % 256 = _; omega)

theorem tap4 (p) : framed g x0 x1 x2 Z (4 + Y.val)
    = if Y.val = 254 then (if g < 31 then (x2 (ix3 0 0 Z : S1x16x2048.Idx) : EReal) else 0)
      else if Y.val = 255 then (if g < 31 then (x2 (ix3 0 1 Z : S1x16x2048.Idx) : EReal) else 0)
      else x1 (ix3 0 ⟨(Y.val + 256 - 254) % 256, p⟩ Z : S1x256x2048.Idx) := by
  have hY := Y.isLt
  by_cases a : Y.val = 254
  · rw [if_pos a, tap_after _ _ _ _ _ _ (by omega) (by omega) 0 (by show 0 = _; omega)]
  · rw [if_neg a]
    by_cases b : Y.val = 255
    · rw [if_pos b, tap_after _ _ _ _ _ _ (by omega) (by omega) 1 (by show 1 = _; omega)]
    · rw [if_neg b]
      exact tap_in _ _ _ _ _ _ (by omega) (by omega) _ (by show _ % 256 = _; omega)

end taps

section body

variable (i : grid0.Coords) (g : Fin 32) (hg : (i 1).val = g.val)
  (x0 : FVec Ideal S1x16x2048 .bf16) (x1 : FVec Ideal S1x256x2048 .bf16) (x2 : FVec Ideal S1x16x2048 .bf16) (x3 : FVec Ideal S5x2048 .f32) (Y : Fin 256)

include hg in
theorem conv_eq (Z : Fin 2048) : k0_pay51 (F := Ideal) i x0 x1 x2 x3 (ix2 Y Z : S256x2048.Idx) = blockConv g.val x0 x1 x2 x3 Y Z := by
  pointwise [k0_pay51, k0_pay50, k0_pay49, k0_pay48, k0_pay47, k0_pay46, k0_pay45, k0_pay44, k0_pay43, k0_pay42, k0_pay2, k0_pay3, k0_pay4, k0_pay5, k0_pay6, k0_pay7, k0_pay8, k0_pay9, k0_pay10, k0_pay11]
  simp only [hg, select_eq _ _ _ _ (row0 Y), select_eq _ _ _ _ (row1 Y), select_eq _ _ _ _ (row254 Y), select_eq _ _ _ _ (row255 Y),
    select_eq _ _ _ _ (first g), select_eq _ _ _ _ (last g)]
  unfold blockConv five
  show _ = framed g.val x0 x1 x2 Z (0 + Y.val) * _ + framed g.val x0 x1 x2 Z (1 + Y.val) * _ + framed g.val x0 x1 x2 Z (2 + Y.val) * _
    + framed g.val x0 x1 x2 Z (3 + Y.val) * _ + framed g.val x0 x1 x2 Z (4 + Y.val) * _
  rw [tap0 _ _ _ _ _ _ (Nat.mod_lt _ (by decide)), tap1 _ _ _ _ _ _ (Nat.mod_lt _ (by decide)), tap2, tap3 _ _ _ _ _ _ (Nat.mod_lt _ (by decide)), tap4 _ _ _ _ _ _ (Nat.mod_lt _ (by decide))]
  exact congr (congrArg _ (congr (congrArg _ (congr (congrArg _ (congr (congrArg _ (mul_comm _ _)) (mul_comm _ _))) (mul_comm _ _))) (mul_comm _ _))) (mul_comm _ _)

include hg in
theorem act_eq (Z : Fin 2048) : k0_pay53 (F := Ideal) i x0 x1 x2 x3 (ix2 Y Z : S256x2048.Idx) = act (blockConv g.val x0 x1 x2 x3 Y Z) := by
  pointwise [k0_pay53, k0_pay52, k0_pay12, k0_pay13]
  rw [zero_sub]
  show act (k0_pay51 (F := Ideal) i x0 x1 x2 x3 (ix2 Y Z : S256x2048.Idx)) = _
  rw [conv_eq i g hg]

end body

/-- Entry `k` of head `h` of a block's row. -/
def at16 (h : Fin 16) (k : Fin 128) : Fin 2048 := ⟨h.val * 128 + k.val, by omega⟩

/-- A head of a block, scaled as the part asks for. -/
def headPay (n : ℕ) (hs : S256x2048.Slices ![0, n] S256x128) (p : BitVec 32) (a : FVec Ideal S256x2048 .f32) : FVec Ideal S1x256x128 .bf16 :=
  shapeCast S1x256x128 (truncf .bf16 (mulf (extractStridedSlice S256x128 ![0, n] a hs) (broadcastTo S256x128
    (Scalar.select (Scalar.cmpi .eq p 2#32) (broadcast S256x1 (Scalar.ofBits (F := Ideal) .f32 0x3F800000#32))
      (mulf (rsqrt (addf (shapeCast S256x1 (multiReduction .add [1] S256 (mulf (extractStridedSlice S256x128 ![0, n] a hs) (extractStridedSlice S256x128 ![0, n] a hs)) 0x00000000#32 reduces_S256x128_S256 (.inl rfl) rfl) shapeCasts_S256_S256x1)
        (broadcast S256x1 (Scalar.ofBits (F := Ideal) .f32 0x358637BD#32)))) (broadcast S256x1 (k0_pay14 (F := Ideal) p))))
    broadcasts_S256x1_S256x128)) bitsLt_bf16_f32) shapeCasts_S256x128_S1x256x128

theorem part_cases (p : Fin 3) (a s c : EReal) :
    a * Scalar.select (Scalar.cmpi CmpIPredicate.eq (BitVec.ofNat 32 p.val) 2#32) 1 (s * Scalar.select (Scalar.cmpi CmpIPredicate.eq (BitVec.ofNat 32 p.val) 0#32) c 1)
      = if p.val = 0 then a * s * c else if p.val = 1 then a * s else a := by
  match p with
  | 0 => exact (mul_assoc a s c).symm
  | 1 => exact congrArg (a * ·) (mul_one s)
  | 2 => exact mul_one a

theorem head_at (h : Fin 16) (n : ℕ) (hn : n = h.val * 128) (hs : S256x2048.Slices ![0, n] S256x128) (p : Fin 3) (a : FVec Ideal S256x2048 .f32) (Y : Fin 256) (Z : Fin 128) :
    headPay n hs (BitVec.ofNat 32 p.val) a (ix3 0 Y Z : S1x256x128.Idx) = scaled p.val (fun k => a (ix2 Y (at16 h k) : S256x2048.Idx)) Z := by
  subst hn
  pointwise [headPay, k0_pay14]
  rw [part_cases]
  rfl

def headOf16 (z : Fin 2048) : Fin 16 := ⟨z.val / 128, by omega⟩
def within16 (z : Fin 2048) : Fin 128 := ⟨z.val % 128, Nat.mod_lt _ (by decide)⟩
theorem headOf16_at (h : Fin 16) (k : Fin 128) : headOf16 (at16 h k) = h := Fin.ext (by show (h.val * 128 + k.val) / 128 = _; omega)
theorem within16_at (h : Fin 16) (k : Fin 128) : within16 (at16 h k) = k := Fin.ext (by show (h.val * 128 + k.val) % 128 = _; omega)

/-- A block of rows, all its heads. -/
def block (p g : ℕ) (x0 : FVec Ideal S1x16x2048 .bf16) (x1 : FVec Ideal S1x256x2048 .bf16) (x2 : FVec Ideal S1x16x2048 .bf16) (x3 : FVec Ideal S5x2048 .f32) :
    S1x256x2048.Idx → EReal := fun y =>
  scaled p (fun k => act (blockConv g x0 x1 x2 x3 (y 1) (at16 (headOf16 (y 2)) k))) (within16 (y 2))

theorem emb_at (h : Fin 16) (n : ℕ) (hn : n = h.val * 128) (Y : Fin 256) (Z : Fin 128)
    (inb : ∀ a, (![0, 0, n] : Fin 3 → ℕ) a + S1x256x128.size a ≤ S1x256x2048.size a) :
    (Rect.unit (s := S1x256x2048) ![0, 0, n] S1x256x128.size inb).emb (ix3 0 Y Z : S1x256x128.Idx) = (ix3 0 Y (at16 h Z) : S1x256x2048.Idx) := by
  subst hn
  refine funext fun a => Fin.ext ((Rect.emb_apply _ _ _).trans ?_)
  fin_cases a <;> simp [ix3, Rect.unit, at16]

theorem idx3_eq (x : S1x256x128.Idx) : x = (ix3 0 (x 1) (x 2) : S1x256x128.Idx) := by
  funext a; fin_cases a
  · exact Subsingleton.elim (α := Fin 1) _ _
  · rfl
  · rfl

section out

variable (i : grid0.Coords) (g : Fin 32) (hg : (i 1).val = g.val) (p : Fin 3) (hp : (i 2).val = p.val)
  (x0 : FVec Ideal S1x16x2048 .bf16) (x1 : FVec Ideal S1x256x2048 .bf16) (x2 : FVec Ideal S1x16x2048 .bf16) (x3 : FVec Ideal S5x2048 .f32)

include hg hp in
/-- A head's store holds the block's entries under it. -/
theorem piece_eq (h : Fin 16) (n : ℕ) (hn : n = h.val * 128) (hs : S256x2048.Slices ![0, n] S256x128)
    (inb : ∀ a, (![0, 0, n] : Fin 3 → ℕ) a + S1x256x128.size a ≤ S1x256x2048.size a) (x : S1x256x128.Idx) :
    headPay n hs (BitVec.ofNat 32 (i 2).val) (k0_pay53 (F := Ideal) i x0 x1 x2 x3) x
      = block (i 2).val g.val x0 x1 x2 x3 ((Rect.unit (s := S1x256x2048) ![0, 0, n] S1x256x128.size inb).emb x) := by
  obtain ⟨Y, Z, rfl⟩ : ∃ (a : Fin 256) (b : Fin 128), x = (ix3 0 a b : S1x256x128.Idx) := ⟨x 1, x 2, idx3_eq x⟩
  rw [hp, head_at h n hn, emb_at h n hn]
  show _ = scaled p.val (fun k => act (blockConv g.val x0 x1 x2 x3 Y (at16 (headOf16 (at16 h Z)) k))) (within16 (at16 h Z))
  rw [headOf16_at, within16_at]
  simp only [act_eq i g hg]

include hg hp in
/-- What a point leaves in the output's block: its heads after convolution, silu and normalisation. -/
theorem out_eq : out0_4 (F := Ideal) i x0 x1 x2 x3 = block (i 2).val g.val x0 x1 x2 x3 := by
  funext y
  unfold out0_4
  refine View.canon_apply_of_pieces (Val := Elt Ideal) (e := .bf16) (block (i 2).val g.val x0 x1 x2 x3) _ ?_ y (cover0_4 _ _ _ _ _ _ _ _ _ _ _ _ _ _ _ _ y)
  refine List.forall_mem_cons.mpr ⟨piece_eq i g hg p hp x0 x1 x2 x3 15 1920 rfl slices_S256x2048_o0_1920_S256x128 inb_S1x256x2048_S1x256x128_0_0_1920, ?_⟩
  refine List.forall_mem_cons.mpr ⟨piece_eq i g hg p hp x0 x1 x2 x3 14 1792 rfl slices_S256x2048_o0_1792_S256x128 inb_S1x256x2048_S1x256x128_0_0_1792, ?_⟩
  refine List.forall_mem_cons.mpr ⟨piece_eq i g hg p hp x0 x1 x2 x3 13 1664 rfl slices_S256x2048_o0_1664_S256x128 inb_S1x256x2048_S1x256x128_0_0_1664, ?_⟩
  refine List.forall_mem_cons.mpr ⟨piece_eq i g hg p hp x0 x1 x2 x3 12 1536 rfl slices_S256x2048_o0_1536_S256x128 inb_S1x256x2048_S1x256x128_0_0_1536, ?_⟩
  refine List.forall_mem_cons.mpr ⟨piece_eq i g hg p hp x0 x1 x2 x3 11 1408 rfl slices_S256x2048_o0_1408_S256x128 inb_S1x256x2048_S1x256x128_0_0_1408, ?_⟩
  refine List.forall_mem_cons.mpr ⟨piece_eq i g hg p hp x0 x1 x2 x3 10 1280 rfl slices_S256x2048_o0_1280_S256x128 inb_S1x256x2048_S1x256x128_0_0_1280, ?_⟩
  refine List.forall_mem_cons.mpr ⟨piece_eq i g hg p hp x0 x1 x2 x3 9 1152 rfl slices_S256x2048_o0_1152_S256x128 inb_S1x256x2048_S1x256x128_0_0_1152, ?_⟩
  refine List.forall_mem_cons.mpr ⟨piece_eq i g hg p hp x0 x1 x2 x3 8 1024 rfl slices_S256x2048_o0_1024_S256x128 inb_S1x256x2048_S1x256x128_0_0_1024, ?_⟩
  refine List.forall_mem_cons.mpr ⟨piece_eq i g hg p hp x0 x1 x2 x3 7 896 rfl slices_S256x2048_o0_896_S256x128 inb_S1x256x2048_S1x256x128_0_0_896, ?_⟩
  refine List.forall_mem_cons.mpr ⟨piece_eq i g hg p hp x0 x1 x2 x3 6 768 rfl slices_S256x2048_o0_768_S256x128 inb_S1x256x2048_S1x256x128_0_0_768, ?_⟩
  refine List.forall_mem_cons.mpr ⟨piece_eq i g hg p hp x0 x1 x2 x3 5 640 rfl slices_S256x2048_o0_640_S256x128 inb_S1x256x2048_S1x256x128_0_0_640, ?_⟩
  refine List.forall_mem_cons.mpr ⟨piece_eq i g hg p hp x0 x1 x2 x3 4 512 rfl slices_S256x2048_o0_512_S256x128 inb_S1x256x2048_S1x256x128_0_0_512, ?_⟩
  refine List.forall_mem_cons.mpr ⟨piece_eq i g hg p hp x0 x1 x2 x3 3 384 rfl slices_S256x2048_o0_384_S256x128 inb_S1x256x2048_S1x256x128_0_0_384, ?_⟩
  refine List.forall_mem_cons.mpr ⟨piece_eq i g hg p hp x0 x1 x2 x3 2 256 rfl slices_S256x2048_o0_256_S256x128 inb_S1x256x2048_S1x256x128_0_0_256, ?_⟩
  refine List.forall_mem_cons.mpr ⟨piece_eq i g hg p hp x0 x1 x2 x3 1 128 rfl slices_S256x2048_o0_128_S256x128 inb_S1x256x2048_S1x256x128_0_0_128, ?_⟩
  refine List.forall_mem_cons.mpr ⟨piece_eq i g hg p hp x0 x1 x2 x3 0 0 rfl slices_S256x2048_o0_0_S256x128 inb_S1x256x2048_S1x256x128_0_0_0, fun p hp => absurd hp List.not_mem_nil⟩

end out

variable (m : (ℓ : Loc nD τ sig) → Buf (Elt Ideal) ℓ) (c : Dev nD)

theorem idx0 : ∀ t : Fin cfg0.N, win0_0.index t = ![t.val / 96, 16 * (t.val / 3 % 32) - 1, t.val % 3] :=
  (by decide +kernel : ∀ t : Fin grid0.N, win0_0.index t = ![t.val / 96, 16 * (t.val / 3 % 32) - 1, t.val % 3])
theorem idx1 : ∀ t : Fin cfg0.N, win0_1.index t = ![t.val / 96, t.val / 3 % 32, t.val % 3] :=
  (by decide +kernel : ∀ t : Fin grid0.N, win0_1.index t = ![t.val / 96, t.val / 3 % 32, t.val % 3])
theorem idx2 : ∀ t : Fin cfg0.N, win0_2.index t = ![t.val / 96, min (16 * (t.val / 3 % 32) + 16) 511, t.val % 3] :=
  (by decide +kernel : ∀ t : Fin grid0.N, win0_2.index t = ![t.val / 96, min (16 * (t.val / 3 % 32) + 16) 511, t.val % 3])
theorem idx3 : ∀ t : Fin cfg0.N, win0_3.index t = ![0, t.val % 3] :=
  (by decide +kernel : ∀ t : Fin grid0.N, win0_3.index t = ![0, t.val % 3])
theorem idx4 : ∀ t : Fin cfg0.N, win0_4.index t = ![t.val / 96, t.val / 3 % 32, t.val % 3] :=
  (by decide +kernel : ∀ t : Fin grid0.N, win0_4.index t = ![t.val / 96, t.val / 3 % 32, t.val % 3])
theorem coord1 : ∀ t : Fin cfg0.N, (grid0.coords t 1).val = t.val / 3 % 32 :=
  (by decide +kernel : ∀ t : Fin grid0.N, (grid0.coords t 1).val = t.val / 3 % 32)
theorem coord2 : ∀ t : Fin cfg0.N, (grid0.coords t 2).val = t.val % 3 :=
  (by decide +kernel : ∀ t : Fin grid0.N, (grid0.coords t 2).val = t.val % 3)

variable (t : Fin cfg0.N)

theorem part : t.val / 96 < 3 := by have := t.isLt.trans_eq N_0; omega
/-- A column of the point's part in the array. -/
def col (Z : Fin 2048) : Fin 6144 := ⟨2048 * (t.val % 3) + Z.val, by omega⟩
/-- A row of the point's block in the array. -/
def rowOf (Y : Fin 256) : Fin 8192 := ⟨256 * (t.val / 3 % 32) + Y.val, by omega⟩

theorem blk0 (Y : Fin 16) (Z : Fin 2048) : iblk m c 0 t (ix3 0 Y Z : S1x16x2048.Idx)
    = m ((c : Thread nD τ).loc main_arg0) (ix3 ⟨t.val / 96, part t⟩ ⟨16 * (16 * (t.val / 3 % 32) - 1) + Y.val, by omega⟩ ⟨(col t Z).val, by omega⟩ : S3x8192x8192.Idx) := by
  rw [← V_main_arg0 m c]
  blk_ext! [iblk, idx0 t, col, rowOf]

theorem blk1 (Y : Fin 256) (Z : Fin 2048) : iblk m c 1 t (ix3 0 Y Z : S1x256x2048.Idx)
    = m ((c : Thread nD τ).loc main_arg0) (ix3 ⟨t.val / 96, part t⟩ (rowOf t Y) ⟨(col t Z).val, by omega⟩ : S3x8192x8192.Idx) := by
  rw [← V_main_arg0 m c]
  blk_ext! [iblk, idx1 t, col, rowOf]

theorem blk2 (Y : Fin 16) (Z : Fin 2048) : iblk m c 2 t (ix3 0 Y Z : S1x16x2048.Idx)
    = m ((c : Thread nD τ).loc main_arg0) (ix3 ⟨t.val / 96, part t⟩ ⟨16 * min (16 * (t.val / 3 % 32) + 16) 511 + Y.val, by omega⟩ ⟨(col t Z).val, by omega⟩ : S3x8192x8192.Idx) := by
  rw [← V_main_arg0 m c]
  blk_ext! [iblk, idx2 t, col, rowOf]

theorem blk3 (Y : Fin 5) (Z : Fin 2048) : iblk m c 3 t (ix2 Y Z : S5x2048.Idx)
    = m ((c : Thread nD τ).loc main_arg1) (ix2 Y (col t Z) : S5x6144.Idx) := by
  rw [← V_main_arg1 m c]
  blk_ext! [iblk, idx3 t, col, rowOf]

/-- A row of the point's framed block is one of the padded sequence. -/
theorem framed_eq (Z : Fin 2048) (j : ℕ) (hj : j < 260) :
    framed (t.val / 3 % 32) (iblk m c 0 t) (iblk m c 1 t) (iblk m c 2 t) Z j
      = padded (m ((c : Thread nD τ).loc main_arg0)) ⟨t.val / 96, part t⟩ (col t Z) (256 * (t.val / 3 % 32) + j) := by
  unfold padded
  by_cases h : j < 2
  · rw [tap_before _ _ _ _ _ j h ⟨14 + j, by omega⟩ rfl]
    by_cases g : 0 < t.val / 3 % 32
    · rw [if_pos g, dif_pos ⟨by omega, by omega⟩, blk0]
      congr 2
      exact Fin.ext (by show 16 * (16 * (t.val / 3 % 32) - 1) + (14 + j) = 256 * (t.val / 3 % 32) + j - 2; omega)
    · rw [if_neg g, dif_neg (by omega)]
  by_cases h' : j < 258
  · rw [tap_in _ _ _ _ _ j (by omega) h' ⟨j - 2, by omega⟩ rfl, dif_pos ⟨by omega, by omega⟩, blk1]
    congr 2
    exact Fin.ext (by show 256 * (t.val / 3 % 32) + (j - 2) = 256 * (t.val / 3 % 32) + j - 2; omega)
  · rw [tap_after _ _ _ _ _ j (by omega) hj ⟨j - 258, by omega⟩ rfl]
    by_cases g : t.val / 3 % 32 < 31
    · rw [if_pos g, dif_pos ⟨by omega, by omega⟩, blk2]
      congr 2
      exact Fin.ext (by show 16 * min (16 * (t.val / 3 % 32) + 16) 511 + (j - 258) = 256 * (t.val / 3 % 32) + j - 2; omega)
    · rw [if_neg g, dif_neg (by omega)]

theorem conv_at (Y : Fin 256) (Z : Fin 2048) :
    blockConv (t.val / 3 % 32) (iblk m c 0 t) (iblk m c 1 t) (iblk m c 2 t) (iblk m c 3 t) Y Z = conv (m ((c : Thread nD τ).loc main_arg0)) (m ((c : Thread nD τ).loc main_arg1)) ⟨t.val / 96, part t⟩ (rowOf t Y) (col t Z) := by
  unfold blockConv conv
  congr 1
  · exact funext fun k => blk3 m c t k Z
  · funext k
    rw [framed_eq m c t Z _ (by omega)]
    congr 1
    show 256 * (t.val / 3 % 32) + (k.val + Y.val) = k.val + (256 * (t.val / 3 % 32) + Y.val)
    omega

theorem block_eq (Y : Fin 256) (Z : Fin 2048) :
    block (t.val % 3) (t.val / 3 % 32) (iblk m c 0 t) (iblk m c 1 t) (iblk m c 2 t) (iblk m c 3 t) (ix3 0 Y Z : S1x256x2048.Idx)
      = mixed (m ((c : Thread nD τ).loc main_arg0)) (m ((c : Thread nD τ).loc main_arg1)) (ix3 ⟨t.val / 96, part t⟩ (rowOf t Y) (col t Z) : S3x8192x6144.Idx) := by
  show scaled (t.val % 3) (fun k => act (blockConv (t.val / 3 % 32) (iblk m c 0 t) (iblk m c 1 t) (iblk m c 2 t) (iblk m c 3 t) Y (at16 (headOf16 Z) k))) (within16 Z)
    = scaled ((headOf (col t Z)).val / 16) (fun k => act (conv (m ((c : Thread nD τ).loc main_arg0)) (m ((c : Thread nD τ).loc main_arg1)) ⟨t.val / 96, part t⟩ (rowOf t Y) (lane (headOf (col t Z)) k))) (within (col t Z))
  rw [show (headOf (col t Z)).val / 16 = t.val % 3 by show (2048 * (t.val % 3) + Z.val) / 128 / 16 = _; omega,
    show within (col t Z) = within16 Z from Fin.ext (by show (2048 * (t.val % 3) + Z.val) % 128 = Z.val % 128; omega)]
  congr 1
  funext k
  rw [conv_at, show lane (headOf (col t Z)) k = col t (at16 (headOf16 Z) k) from
    Fin.ext (by show (2048 * (t.val % 3) + Z.val) / 128 * 128 + k.val = 2048 * (t.val % 3) + (Z.val / 128 * 128 + k.val); omega)]

/-- The array after the run holds the heads after convolution, silu and normalisation. -/
theorem final : (dats m 0 c).arrAt 4 cfg0.N = mixed (m ((c : Thread nD τ).loc main_arg0)) (m ((c : Thread nD τ).loc main_arg1)) := by
  refine (dats m 0 c).arrAt_eq_of_covers 4 _ (by decide +kernel) fun t hf y => ?_
  obtain ⟨Y, Z, rfl⟩ : ∃ (a : Fin 256) (b : Fin 2048), y = (ix3 0 a b : S1x256x2048.Idx) := ⟨y 1, y 2, by
    funext a; fin_cases a
    · exact Subsingleton.elim (α := Fin 1) _ _
    · rfl
    · rfl⟩
  blk_simp
  rw [after0_4, out_eq (grid0.coords t) ⟨t.val / 3 % 32, by omega⟩ (coord1 t) ⟨t.val % 3, by omega⟩ (coord2 t), coord2 t]
  refine (?_ : _ = mixed _ _ (ix3 ⟨t.val / 96, part t⟩ (rowOf t Y) (col t Z) : S3x8192x6144.Idx)).trans (congrArg (mixed _ _) ?_)
  · exact block_eq m c t Y Z
  · blk_ext [idx4 t, col, rowOf]

end Cert.Proof.DnConv

namespace Cert.Proof.DnConv

open Idealize.ShloMosaic Idealize.SL.Sem

/-- The reference runs to its end, its arguments unchanged and its semaphores at zero: its run's values left out. -/
theorem reference_frame : Cert.quiescent_DnConvRefIdeal := fun m ρ _ =>
  (θ_run (Cert.DnConvRefIdeal.defs (F := Ideal)) _ _).mono (fun r h => ⟨fun c => (h c).2, Idealize.ShloMosaic.sem_eq_zero_of_no_sems (by decide) r.2⟩)
    (Cert.DnConvRefIdeal.Value.run m ρ)

/-- The call's array and the reference's are the heads after convolution, silu and normalisation. -/
theorem values : Cert.algebraic_DnConvIdeal_DnConvRefIdeal := by
  intro m g m' g' _ hargs
  refine ⟨fun c => mixed (m ((c.tc : Thread Cert.DnConvIdeal.nD Cert.DnConvIdeal.τ).loc Cert.DnConvIdeal.main_arg0)) (m ((c.tc : Thread Cert.DnConvIdeal.nD Cert.DnConvIdeal.τ).loc Cert.DnConvIdeal.main_arg1)), ?_, ?_⟩
  · exact (θ_run (Cert.DnConvIdeal.defs (F := Ideal)) _ _).mono (fun r h c => ⟨(h c).1.trans (final m c), (h c).2⟩) (Cert.DnConvIdeal.Value.run_blocks m g)
  · refine (θ_run (Cert.DnConvRefIdeal.defs (F := Ideal)) _ _).mono (fun r h c => ⟨(h c).1.trans ?_, (h c).2⟩) (Cert.DnConvRefIdeal.Value.run m' g')
    refine (?_ : _ = mixed (m' ((c.tc : Thread Cert.DnConvRefIdeal.nD Cert.DnConvRefIdeal.τ).loc Cert.DnConvRefIdeal.main_arg0)) (m' ((c.tc : Thread Cert.DnConvRefIdeal.nD Cert.DnConvRefIdeal.τ).loc Cert.DnConvRefIdeal.main_arg1))).trans (congr (congrArg mixed (hargs c).1) (hargs c).2)
    rw [Cert.Proof.DnConvHost.host_eq]
    funext y
    obtain ⟨X, Y, Z, rfl⟩ : ∃ (a : Fin 3) (b : Fin 8192) (d : Fin 6144), y = (ix3 a b d : Cert.DnConvRefIdeal.S3x8192x6144.Idx) := ⟨y 0, y 1, y 2, by
      funext a; fin_cases a <;> rfl⟩
    exact Cert.Proof.DnConvHost.host_at _ _ X Y Z

end Cert.Proof.DnConv

end

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Grid
public import proofs.«01_k».proof.Proof.RefStep
public import proofs.«01_k».proof.Proof.Finite
public import proofs.«01_k».proof.Proof.ProjAttn
public import proofs.«01_k».proof.Proof.ProjDn
public import proofs.«01_k».proof.Proof.ProjAb
public import proofs.«01_k».proof.Proof.ProjGate
public import proofs.«01_k».proof.Proof.Merge
public import proofs.«01_k».proof.Proof.OutProj
public import proofs.«01_k».proof.Proof.PeerQ
public import proofs.«01_k».proof.Proof.LastPrompt
public import proofs.«01_k».proof.Proof.LastSample
public import proofs.«01_k».proof.Proof.LnMod
public import proofs.«01_k».proof.Proof.FirstRes
public import proofs.«01_k».proof.Proof.Ada
public import proofs.«01_k».proof.Proof.GdnOut
public import proofs.«01_k».proof.Proof.PeerDense
public import proofs.«01_k».proof.Proof.DnConv
public import Idealize.ShloMosaic.Adequacy
public import Idealize.ShloMosaic.Init

@[expose] public section

noncomputable section

namespace Cert.Proof

open Idealize.ShloMosaic Idealize.SL.Sem Cert.Kernel

attribute [local instance] Cert.Proof.Chain.finite_facts

/-- The reference runs to its end, its arguments unchanged and its semaphores at zero: its run's values left out. -/
theorem reference_frame : Cert.quiescent_ReferenceIdeal := fun m ρ _ =>
  (θ_run (Cert.ReferenceIdeal.defs (F := Ideal)) _ _).mono (fun r h => ⟨fun c => (h c).2.2, Idealize.ShloMosaic.sem_eq_zero_of_no_sems (by decide) r.2⟩)
    (Cert.ReferenceIdeal.Value.run m ρ)

/-- On finite arguments the kernel's two results are the reference's: both are the recurrence's outputs. -/
theorem values : Cert.algebraic_KernelIdeal_ReferenceIdeal_pre_finite := by
  intro m g m' g' hfin hargs
  have hreal : ∀ c : Dev Cert.KernelIdeal.nD, ∃ I : Chain.Inputs, Chain.Real I
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) :=
    fun c => ⟨_, Chain.real_of_finite _ _ _ _ (hfin c).1 (hfin c).2.1 (hfin c).2.2.1 (hfin c).2.2.2⟩
  choose I hI using hreal
  refine ⟨fun c => (I c).res false, fun c => (I c).res true, ?_, ?_⟩
  · refine (θ_run (Cert.KernelIdeal.defs (F := Ideal)) _ _).mono (fun r h c => ?_) (Cert.KernelIdeal.Value.run_blocks m g)
    exact ⟨(h c).1.trans (Chain.final_fwd m c (I c) (hI c)), (h c).2.1.trans (Chain.final_bwd m c (I c) (hI c)), (h c).2.2⟩
  · refine (θ_run (Cert.ReferenceIdeal.defs (F := Ideal)) _ _).mono (fun r h c => ?_) (Cert.ReferenceIdeal.Value.run m' g')
    have hI' : Chain.Real (I c) (StableHlo.launchContents m' c (Proc.devRef .tc Cert.ReferenceIdeal.main_arg0))
        (StableHlo.launchContents m' c (Proc.devRef .tc Cert.ReferenceIdeal.main_arg1))
        (StableHlo.launchContents m' c (Proc.devRef .tc Cert.ReferenceIdeal.main_arg2))
        (StableHlo.launchContents m' c (Proc.devRef .tc Cert.ReferenceIdeal.main_arg3)) := by
      have e := hargs c
      refine ⟨fun b r x => ?_, fun b r x => ?_, fun d h => ?_, fun d h => ?_⟩
      · exact (congrFun e.1 _).trans ((hI c).X b r x)
      · exact (congrFun e.2.1 _).trans ((hI c).C b r x)
      · exact (congrFun e.2.2.1 _).trans ((hI c).A d h)
      · exact (congrFun e.2.2.2 _).trans ((hI c).T d h)
    exact ⟨(h c).1.trans (Ref.out_fwd m' c (I c) hI'), (h c).2.1.trans (Ref.out_bwd m' c (I c) hI'), (h c).2.2⟩

theorem claim : Cert.Claim := ⟨Cert.Kernel.Gen.facts, Cert.KernelIdeal.Gen.facts, Cert.ReferenceIdeal.Gen.facts,
  Cert.ProjAttn.Gen.facts, Cert.ProjAttnIdeal.Gen.facts, Cert.ProjAttnRefIdeal.Gen.facts, Cert.ProjDn.Gen.facts, Cert.ProjDnIdeal.Gen.facts, Cert.ProjDnRefIdeal.Gen.facts, Cert.ProjAb.Gen.facts, Cert.ProjAbIdeal.Gen.facts, Cert.ProjAbRefIdeal.Gen.facts, Cert.ProjGate.Gen.facts, Cert.ProjGateIdeal.Gen.facts, Cert.ProjGateRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.PeerQ.Gen.facts, Cert.PeerQIdeal.Gen.facts, Cert.PeerQRefIdeal.Gen.facts, Cert.LastPrompt.Gen.facts, Cert.LastPromptIdeal.Gen.facts, Cert.LastPromptRefIdeal.Gen.facts, Cert.LastSample.Gen.facts, Cert.LastSampleIdeal.Gen.facts, Cert.LastSampleRefIdeal.Gen.facts,
  Cert.LnMod.Gen.facts, Cert.LnModIdeal.Gen.facts, Cert.LnModRefIdeal.Gen.facts, Cert.FirstRes.Gen.facts, Cert.FirstResIdeal.Gen.facts, Cert.FirstResRefIdeal.Gen.facts, Cert.Ada.Gen.facts, Cert.AdaIdeal.Gen.facts, Cert.AdaRefIdeal.Gen.facts, Cert.GdnOut.Gen.facts, Cert.GdnOutIdeal.Gen.facts, Cert.GdnOutRefIdeal.Gen.facts, Cert.PeerDense.Gen.facts, Cert.PeerDenseIdeal.Gen.facts, Cert.PeerDenseRefIdeal.Gen.facts, Cert.DnConv.Gen.facts, Cert.DnConvIdeal.Gen.facts, Cert.DnConvRefIdeal.Gen.facts,
  Chain.finite_facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.ProjAttn.Gen.frame m ρ, fun m ρ _ => Cert.ProjAttnIdeal.Gen.frame m ρ, ProjAttn.reference_frame,
  fun m ρ _ => Cert.ProjDn.Gen.frame m ρ, fun m ρ _ => Cert.ProjDnIdeal.Gen.frame m ρ, ProjDn.reference_frame,
  fun m ρ _ => Cert.ProjAb.Gen.frame m ρ, fun m ρ _ => Cert.ProjAbIdeal.Gen.frame m ρ, ProjAb.reference_frame,
  fun m ρ _ => Cert.ProjGate.Gen.frame m ρ, fun m ρ _ => Cert.ProjGateIdeal.Gen.frame m ρ, ProjGate.reference_frame,
  fun m ρ _ => Cert.Merge.Gen.frame m ρ, fun m ρ _ => Cert.MergeIdeal.Gen.frame m ρ, Merge.reference_frame,
  fun m ρ _ => Cert.OutProj.Gen.frame m ρ, fun m ρ _ => Cert.OutProjIdeal.Gen.frame m ρ, OutProj.reference_frame,
  fun m ρ _ => Cert.PeerQ.Gen.frame m ρ, fun m ρ _ => Cert.PeerQIdeal.Gen.frame m ρ, PeerQ.reference_frame,
  fun m ρ _ => Cert.LastPrompt.Gen.frame m ρ, fun m ρ _ => Cert.LastPromptIdeal.Gen.frame m ρ, LastPrompt.reference_frame,
  fun m ρ _ => Cert.LastSample.Gen.frame m ρ, fun m ρ _ => Cert.LastSampleIdeal.Gen.frame m ρ, LastSample.reference_frame,
  fun m ρ _ => Cert.LnMod.Gen.frame m ρ, fun m ρ _ => Cert.LnModIdeal.Gen.frame m ρ, LnMod.reference_frame,
  fun m ρ _ => Cert.FirstRes.Gen.frame m ρ, fun m ρ _ => Cert.FirstResIdeal.Gen.frame m ρ, FirstRes.reference_frame,
  fun m ρ _ => Cert.Ada.Gen.frame m ρ, fun m ρ _ => Cert.AdaIdeal.Gen.frame m ρ, Ada.reference_frame,
  fun m ρ _ => Cert.GdnOut.Gen.frame m ρ, fun m ρ _ => Cert.GdnOutIdeal.Gen.frame m ρ, GdnOut.reference_frame,
  fun m ρ _ => Cert.PeerDense.Gen.frame m ρ, fun m ρ _ => Cert.PeerDenseIdeal.Gen.frame m ρ, PeerDense.reference_frame,
  fun m ρ _ => Cert.DnConv.Gen.frame m ρ, fun m ρ _ => Cert.DnConvIdeal.Gen.frame m ρ, DnConv.reference_frame,
  trivial, values, trivial, ProjAttn.values, trivial, ProjDn.values, trivial, ProjAb.values, trivial, ProjGate.values, trivial, Merge.values, trivial, OutProj.values, trivial, PeerQ.values, trivial, LastPrompt.values, trivial, LastSample.values,
  trivial, LnMod.values, trivial, FirstRes.values, trivial, Ada.values, trivial, GdnOut.values, trivial, PeerDense.values, trivial, DnConv.values⟩

end Cert.Proof

end
